-- ==== Defs.lean ====
def Pre_Kernel (m : (ℓ : Loc Cert.Kernel.nD Cert.Kernel.τ Cert.Kernel.sig) → Buf (Elt Bits) ℓ) : Prop :=
  True

def Pre_Kernel_finite [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.1 = (fun _ => 1#1)
    ∧ (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2.2.2 = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4_finite4 [hPre_finite4 : Cert.Pre_finite4.Facts] (m : (ℓ : Loc Cert.Kernel4.nD Cert.Kernel4.τ Cert.Kernel4.sig) → Buf (Elt Bits) ℓ) : Prop :=
  ∀ c : Dev Cert.Kernel4.nD,
    (Cert.Pre_finite4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2))).1 = (fun _ => 1#1)
    ∧ (Cert.Pre_finite4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2))).2.1 = (fun _ => 1#1)
    ∧ (Cert.Pre_finite4.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2))).2.2 = (fun _ => 1#1)

def Pre_Kernel4Ideal [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))).2.2 = (fun _ => 1#1)

def Pre_Kernel5 (m : (ℓ : Loc Cert.Kernel5.nD Cert.Kernel5.τ Cert.Kernel5.sig) → Buf (Elt Bits) ℓ) : Prop :=
  True

def Pre_Kernel5_finite5 [hPre_finite5 : Cert.Pre_finite5.Facts] (m : (ℓ : Loc Cert.Kernel5.nD Cert.Kernel5.τ Cert.Kernel5.sig) → Buf (Elt Bits) ℓ) : Prop :=
  ∀ c : Dev Cert.Kernel5.nD,
    (Cert.Pre_finite5.fn (F := Bits) (m ((c.tc : Thread Cert.Kernel5.nD Cert.Kernel5.τ).loc Cert.Kernel5.main_arg0)) (m ((c.tc : Thread Cert.Kernel5.nD Cert.Kernel5.τ).loc Cert.Kernel5.main_arg1))).1 = (fun _ => 1#1)
    ∧ (Cert.Pre_finite5.fn (F := Bits) (m ((c.tc : Thread Cert.Kernel5.nD Cert.Kernel5.τ).loc Cert.Kernel5.main_arg0)) (m ((c.tc : Thread Cert.Kernel5.nD Cert.Kernel5.τ).loc Cert.Kernel5.main_arg1))).2 = (fun _ => 1#1)

def Pre_Kernel5Ideal [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))).2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_finite [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel_finite m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4_pre_finite4 [hKernel4 : Cert.Kernel4.Facts] [hPre_finite4 : Cert.Pre_finite4.Facts] : Prop :=
  ∀ (m : (ℓ : Loc Cert.Kernel4.nD Cert.Kernel4.τ Cert.Kernel4.sig) → Buf (Elt Bits) ℓ) (g : Dev Cert.Kernel4.nD → PrngReg), Pre_Kernel4_finite4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5_pre_finite5 [hKernel5 : Cert.Kernel5.Facts] [hPre_finite5 : Cert.Pre_finite5.Facts] : Prop :=
  ∀ (m : (ℓ : Loc Cert.Kernel5.nD Cert.Kernel5.τ Cert.Kernel5.sig) → Buf (Elt Bits) ℓ) (g : Dev Cert.Kernel5.nD → PrngReg), Pre_Kernel5_finite5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)) (v2 : (c : Dev Cert.KernelIdeal.nD) → Buf (Elt Ideal) ((c.tc : Thread Cert.KernelIdeal.nD Cert.KernelIdeal.τ).loc Cert.KernelIdeal.main_v94_2)) (v3 : (c : Dev Cert.KernelIdeal.nD) → Buf (Elt Ideal) ((c.tc : Thread Cert.KernelIdeal.nD Cert.KernelIdeal.τ).loc Cert.KernelIdeal.main_v94_3)) (v4 : (c : Dev Cert.KernelIdeal.nD) → Buf (Elt Ideal) ((c.tc : Thread Cert.KernelIdeal.nD Cert.KernelIdeal.τ).loc Cert.KernelIdeal.main_v94_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94_0) = v0 c
          ∧ r.2.mem ((c.tc : Thread Cert.KernelIdeal.nD Cert.KernelIdeal.τ).loc Cert.KernelIdeal.main_v94_1) = v1 c
          ∧ r.2.mem ((c.tc : Thread Cert.KernelIdeal.nD Cert.KernelIdeal.τ).loc Cert.KernelIdeal.main_v94_2) = v2 c
          ∧ r.2.mem ((c.tc : Thread Cert.KernelIdeal.nD Cert.KernelIdeal.τ).loc Cert.KernelIdeal.main_v94_3) = v3 c
          ∧ r.2.mem ((c.tc : Thread Cert.KernelIdeal.nD Cert.KernelIdeal.τ).loc Cert.KernelIdeal.main_v94_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v19) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v33) = v0 c
          ∧ r.2.mem ((c.tc : Thread Cert.Reference6Ideal.nD Cert.Reference6Ideal.τ).loc Cert.Reference6Ideal.main_v35) = v1 c
          ∧ r.2.mem ((c.tc : Thread Cert.Reference6Ideal.nD Cert.Reference6Ideal.τ).loc Cert.Reference6Ideal.main_v37) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0_0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v50) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite4 : Cert.Pre_finite4.Facts) (hPre_finite5 : Cert.Pre_finite5.Facts),
    quiescent_Kernel (hKernel := hKernel)
    ∧ quiescent_Kernel_pre_finite (hKernel := hKernel) (hPre_finite := hPre_finite)
    ∧ quiescent_KernelIdeal (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4_pre_finite4 (hKernel4 := hKernel4) (hPre_finite4 := hPre_finite4)
    ∧ quiescent_Kernel4Ideal (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5_pre_finite5 (hKernel5 := hKernel5) (hPre_finite5 := hPre_finite5)
    ∧ quiescent_Kernel5Ideal (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S8192x256 : Shape := ⟨2, ![8192, 256]⟩
abbrev S2x4096x256 : Shape := ⟨3, ![2, 4096, 256]⟩
abbrev S2x4096x2688 : Shape := ⟨3, ![2, 4096, 2688]⟩
abbrev S8192x128 : Shape := ⟨2, ![8192, 128]⟩
abbrev S8192x4 : Shape := ⟨2, ![8192, 4]⟩
abbrev S_ : Shape := ⟨0, ![]⟩

class Facts : Prop where
  slices_S2x4096x2688_S2x4096x256_0_0_2304 : S2x4096x2688.Slices ![0, 0, 2304] S2x4096x256
  slices_S8192x128_S8192x4_0_0 : S8192x128.Slices ![0, 0] S8192x4
  bcast_S_S8192x256 : S_.BroadcastsInDim S8192x256 (![] : Fin 0 → Fin S8192x256.rank)
  bitsLt_bf16_f32 : FTy.bits .bf16 < FTy.bits .f32
  bcast_S_S2x4096x256 : S_.BroadcastsInDim S2x4096x256 (![] : Fin 0 → Fin S2x4096x256.rank)
  bcast_S_S8192x4 : S_.BroadcastsInDim S8192x4 (![] : Fin 0 → Fin S8192x4.rank)

variable [Facts]

def fn_part1 {F : FTy → Type} [FloatOps F] (main_v4 : IVec S8192x256 1) (main_v8 : IVec S2x4096x256 1) (main_v12 : IVec S2x4096x256 1) (main_v16 : IVec S2x4096x256 1) (main_v17 : FVec F S8192x4 .f32) (main_v18 : FVec F S8192x4 .f32) : IVec S8192x256 1 × IVec S2x4096x256 1 × IVec S2x4096x256 1 × IVec S2x4096x256 1 × IVec S8192x4 1 :=
  let main_v19 : IVec S8192x4 1 := cmpf .olt main_v17 main_v18
  (main_v4, main_v8, main_v12, main_v16, main_v19)

def fn {F : FTy → Type} [FloatOps F] (main_arg0 : FVec F S8192x256 .f32) (main_arg1 : FVec F S2x4096x256 .bf16) (main_arg2 : FVec F S2x4096x256 .bf16) (main_arg3 : FVec F S2x4096x2688 .bf16) (main_arg4 : FVec F S8192x128 .f32) : IVec S8192x256 1 × IVec S2x4096x256 1 × IVec S2x4096x256 1 × IVec S2x4096x256 1 × IVec S8192x4 1 :=
  let main_v0 : FVec F S2x4096x256 .bf16 := (extractStridedSlice S2x4096x256 ![0, 0, 2304] · slices_S2x4096x2688_S2x4096x256_0_0_2304) main_arg3
  let main_v1 : FVec F S8192x4 .f32 := (extractStridedSlice S8192x4 ![0, 0] · slices_S8192x128_S8192x4_0_0) main_arg4
  let main_v2 : FVec F S8192x256 .f32 := Host.absf main_arg0
  let main_cst : FVec F S_ .f32 := constant S_ .f32 0x7F800000#32
  let main_v3 : FVec F S8192x256 .f32 := broadcastInDim S8192x256 ![] bcast_S_S8192x256 main_cst
  let main_v4 : IVec S8192x256 1 := cmpf .olt main_v2 main_v3
  let main_v5 : FVec F S2x4096x256 .f32 := (extf .f32 · bitsLt_bf16_f32) main_arg1
  let main_v6 : FVec F S2x4096x256 .f32 := Host.absf main_v5
  let main_cst_0 : FVec F S_ .f32 := constant S_ .f32 0x7F800000#32
  let main_v7 : FVec F S2x4096x256 .f32 := broadcastInDim S2x4096x256 ![] bcast_S_S2x4096x256 main_cst_0
  let main_v8 : IVec S2x4096x256 1 := cmpf .olt main_v6 main_v7
  let main_v9 : FVec F S2x4096x256 .f32 := (extf .f32 · bitsLt_bf16_f32) main_arg2
  let main_v10 : FVec F S2x4096x256 .f32 := Host.absf main_v9
  let main_cst_1 : FVec F S_ .f32 := constant S_ .f32 0x7F800000#32
  let main_v11 : FVec F S2x4096x256 .f32 := broadcastInDim S2x4096x256 ![] bcast_S_S2x4096x256 main_cst_1
  let main_v12 : IVec S2x4096x256 1 := cmpf .olt main_v10 main_v11
  let main_v13 : FVec F S2x4096x256 .f32 := (extf .f32 · bitsLt_bf16_f32) main_v0
  let main_v14 : FVec F S2x4096x256 .f32 := Host.absf main_v13
  let main_cst_2 : FVec F S_ .f32 := constant S_ .f32 0x7F800000#32
  let main_v15 : FVec F S2x4096x256 .f32 := broadcastInDim S2x4096x256 ![] bcast_S_S2x4096x256 main_cst_2
  let main_v16 : IVec S2x4096x256 1 := cmpf .olt main_v14 main_v15
  let main_v17 : FVec F S8192x4 .f32 := Host.absf main_v1
  let main_cst_3 : FVec F S_ .f32 := constant S_ .f32 0x7F800000#32
  let main_v18 : FVec F S8192x4 .f32 := broadcastInDim S8192x4 ![] bcast_S_S8192x4 main_cst_3
  fn_part1 (F := F) main_v4 main_v8 main_v12 main_v16 main_v17 main_v18
-- ==== Pre_finite4.lean ====
abbrev S8192x1024 : Shape := ⟨2, ![8192, 1024]⟩
abbrev S8192x5632 : Shape := ⟨2, ![8192, 5632]⟩
abbrev S2816x1024 : Shape := ⟨2, ![2816, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8192x5632 : S_.BroadcastsInDim S8192x5632 (![] : Fin 0 → Fin S8192x5632.rank)
  bcast_S_S2816x1024 : S_.BroadcastsInDim S2816x1024 (![] : Fin 0 → Fin S2816x1024.rank)

variable [Facts]

def fn {F : FTy → Type} [FloatOps F] (main_arg0 : FVec F S8192x1024 .bf16) (main_arg1 : FVec F S8192x5632 .f32) (main_arg2 : FVec F S2816x1024 .bf16) : IVec S8192x1024 1 × IVec S8192x5632 1 × IVec S2816x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x5632 .f32 := Host.absf main_arg1
  let main_cst_0 : FVec F S_ .f32 := constant S_ .f32 0x7F800000#32
  let main_v5 : FVec F S8192x5632 .f32 := broadcastInDim S8192x5632 ![] bcast_S_S8192x5632 main_cst_0
  let main_v6 : IVec S8192x5632 1 := cmpf .olt main_v4 main_v5
  let main_v7 : FVec F S2816x1024 .f32 := (extf .f32 · bitsLt_bf16_f32) main_arg2
  let main_v8 : FVec F S2816x1024 .f32 := Host.absf main_v7
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  (main_v3, main_v6, main_v10)
-- ==== Pre_finite5.lean ====
abbrev S8192x1024 : Shape := ⟨2, ![8192, 1024]⟩
abbrev S8x1024x704 : Shape := ⟨3, ![8, 1024, 704]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S8x1024x704 : S_.BroadcastsInDim S8x1024x704 (![] : Fin 0 → Fin S8x1024x704.rank)

variable [Facts]

def fn {F : FTy → Type} [FloatOps F] (main_arg0 : FVec F S8192x1024 .bf16) (main_arg1 : FVec F S8x1024x704 .bf16) : IVec S8192x1024 1 × IVec S8x1024x704 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8x1024x704 .f32 := (extf .f32 · bitsLt_bf16_f32) main_arg1
  let main_v5 : FVec F S8x1024x704 .f32 := Host.absf main_v4
  let main_cst_0 : FVec F S_ .f32 := constant S_ .f32 0x7F800000#32
  let main_v6 : FVec F S8x1024x704 .f32 := broadcastInDim S8x1024x704 ![] bcast_S_S8x1024x704 main_cst_0
  let main_v7 : IVec S8x1024x704 1 := cmpf .olt main_v5 main_v6
  (main_v3, main_v7)
-- ==== Kernel.lean ====
abbrev S8192x256 : Shape := ⟨2, ![8192, 256]⟩
abbrev S2x4096x256 : Shape := ⟨3, ![2, 4096, 256]⟩
abbrev S2x4096x2688 : Shape := ⟨3, ![2, 4096, 2688]⟩
abbrev S8192x128 : Shape := ⟨2, ![8192, 128]⟩
abbrev S8192x4 : Shape := ⟨2, ![8192, 4]⟩
abbrev S2x4096x4 : Shape := ⟨3, ![2, 4096, 4]⟩
abbrev S2x4x4096 : Shape := ⟨3, ![2, 4, 4096]⟩
abbrev S2x4096x4x64 : Shape := ⟨4, ![2, 4096, 4, 64]⟩
abbrev S2x4x4096x64 : Shape := ⟨4, ![2, 4, 4096, 64]⟩
abbrev S2x4x4096x4096 : Shape := ⟨4, ![2, 4, 4096, 4096]⟩
abbrev S_ : Shape := ⟨0, ![]⟩
abbrev S2x4x4096x1 : Shape := ⟨4, ![2, 4, 4096, 1]⟩
abbrev S2x4x1x4096 : Shape := ⟨4, ![2, 4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x2x2x4096 : Shape := ⟨4, ![2, 2, 2, 4096]⟩
abbrev S2x2x4096x2 : Shape := ⟨4, ![2, 2, 4096, 2]⟩
abbrev S2x2x4096x2x1 : Shape := ⟨5, ![2, 2, 4096, 2, 1]⟩
abbrev S2x2x4096x2x64 : Shape := ⟨5, ![2, 2, 4096, 2, 64]⟩
abbrev S2x4096x2x2 : Shape := ⟨4, ![2, 4096, 2, 2]⟩
abbrev S2x8192x128 : Shape := ⟨3, ![2, 8192, 128]⟩
abbrev S2x2x8x4096 : Shape := ⟨4, ![2, 2, 8, 4096]⟩
abbrev S512x128 : Shape := ⟨2, ![512, 128]⟩
abbrev S1x512x128 : Shape := ⟨3, ![1, 512, 128]⟩
abbrev S1x4096x128 : Shape := ⟨3, ![1, 4096, 128]⟩
abbrev S1x1x512x2 : Shape := ⟨4, ![1, 1, 512, 2]⟩
abbrev S1x1x2x4096 : Shape := ⟨4, ![1, 1, 2, 4096]⟩
abbrev S1x1x8x4096 : Shape := ⟨4, ![1, 1, 8, 4096]⟩
abbrev S1x128 : Shape := ⟨2, ![1, 128]⟩
abbrev S512x2 : Shape := ⟨2, ![512, 2]⟩
abbrev S1024x128 : Shape := ⟨2, ![1024, 128]⟩
abbrev S512 : Shape := ⟨1, ![512]⟩
abbrev S512x1 : Shape := ⟨2, ![512, 1]⟩
abbrev S1024x1 : Shape := ⟨2, ![1024, 1]⟩
abbrev S1x256x128 : Shape := ⟨3, ![1, 256, 128]⟩
abbrev S256x128 : Shape := ⟨2, ![256, 128]⟩
abbrev S1x1x1x256 : Shape := ⟨4, ![1, 1, 1, 256]⟩
abbrev S1x256 : Shape := ⟨2, ![1, 256]⟩
abbrev S1024x256 : Shape := ⟨2, ![1024, 256]⟩
abbrev S512x256 : Shape := ⟨2, ![512, 256]⟩
abbrev S256 : Shape := ⟨1, ![256]⟩
abbrev S1024 : Shape := ⟨1, ![1024]⟩

abbrev nBuf : Space → Nat
  | .hbm => 122
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S2x4096x256, .bf16⟩
  | .hbm, ⟨2, _⟩ => ⟨S2x4096x256, .bf16⟩
  | .hbm, ⟨3, _⟩ => ⟨S2x4096x2688, .bf16⟩
  | .hbm, ⟨4, _⟩ => ⟨S8192x128, .f32⟩
  | .hbm, ⟨5, _⟩ => ⟨S2x4096x256, .f32⟩
  | .hbm, ⟨6, _⟩ => ⟨S2x4096x256, .f32⟩
  | .hbm, ⟨7, _⟩ => ⟨S2x4096x256, .bf16⟩
  | .hbm, ⟨8, _⟩ => ⟨S2x4096x256, .f32⟩
  | .hbm, ⟨9, _⟩ => ⟨S8192x4, .f32⟩
  | .hbm, ⟨10, _⟩ => ⟨S2x4096x4, .f32⟩
  | .hbm, ⟨11, _⟩ => ⟨S2x4x4096, .f32⟩
  | .hbm, ⟨12, _⟩ => ⟨S2x4096x4x64, .f32⟩
  | .hbm, ⟨13, _⟩ => ⟨S2x4x4096x64, .f32⟩
  | .hbm, ⟨14, _⟩ => ⟨S2x4096x4x64, .f32⟩
  | .hbm, ⟨15, _⟩ => ⟨S2x4x4096x64, .f32⟩
  | .hbm, ⟨16, _⟩ => ⟨S2x4x4096x4096, .f32⟩
  | .hbm, ⟨17, _⟩ => ⟨S_, .f32⟩
  | .hbm, ⟨18, _⟩ => ⟨S2x4x4096x4096, .f32⟩
  | .hbm, ⟨19, _⟩ => ⟨S2x4x4096x4096, .f32⟩
  | .hbm, ⟨20, _⟩ => ⟨S2x4x4096x1, .f32⟩
  | .hbm, ⟨21, _⟩ => ⟨S2x4x4096x4096, .f32⟩
  | .hbm, ⟨22, _⟩ => ⟨S2x4x4096x4096, .f32⟩
  | .hbm, ⟨23, _⟩ => ⟨S2x4x1x4096, .f32⟩
  | .hbm, ⟨24, _⟩ => ⟨S2x4x4096x4096, .f32⟩
  | .hbm, ⟨25, _⟩ => ⟨S2x4x4096x4096, .f32⟩
  | .hbm, ⟨26, _⟩ => ⟨S4096, .i32⟩
  | .hbm, ⟨27, _⟩ => ⟨S1x4096, .i32⟩
  | .hbm, ⟨28, _⟩ => ⟨S4096, .i32⟩
  | .hbm, ⟨29, _⟩ => ⟨S4096x1, .i32⟩
  | .hbm, ⟨30, _⟩ => ⟨S4096x4096, .i32⟩
  | .hbm, ⟨31, _⟩ => ⟨S4096x4096, .i32⟩
  | .hbm, ⟨32, _⟩ => ⟨S4096x4096, .i1⟩
  | .hbm, ⟨33, _⟩ => ⟨S_, .f32⟩
  | .hbm, ⟨34, _⟩ => ⟨S_, .f32⟩
  | .hbm, ⟨35, _⟩ => ⟨S2x4x4096x4096, .i1⟩
  | .hbm, ⟨36, _⟩ => ⟨S2x4x4096x4096, .f32⟩
  | .hbm, ⟨37, _⟩ => ⟨S2x4x4096x4096, .f32⟩
  | .hbm, ⟨38, _⟩ => ⟨S_, .f32⟩
  | .hbm, ⟨39, _⟩ => ⟨S2x4x4096, .f32⟩
  | .hbm, ⟨40, _⟩ => ⟨S_, .f32⟩
  | .hbm, ⟨41, _⟩ => ⟨S2x4x4096, .f32⟩
  | .hbm, ⟨42, _⟩ => ⟨S2x4x4096, .f32⟩
  | .hbm, ⟨43, _⟩ => ⟨S2x4x4096x1, .f32⟩
  | .hbm, ⟨44, _⟩ => ⟨S2x4x4096x4096, .f32⟩
  | .hbm, ⟨45, _⟩ => ⟨S2x4x4096x4096, .f32⟩
  | .hbm, ⟨46, _⟩ => ⟨S2x4x4096x4096, .f32⟩
  | .hbm, ⟨47, _⟩ => ⟨S_, .f32⟩
  | .hbm, ⟨48, _⟩ => ⟨S2x4x4096, .f32⟩
  | .hbm, ⟨49, _⟩ => ⟨S2x4x4096x1, .f32⟩
  | .hbm, ⟨50, _⟩ => ⟨S2x4x4096x4096, .f32⟩
  | .hbm, ⟨51, _⟩ => ⟨S2x4x4096x4096, .f32⟩
  | .hbm, ⟨52, _⟩ => ⟨S2x4096x4x64, .f32⟩
  | .hbm, ⟨53, _⟩ => ⟨S2x4x4096x64, .f32⟩
  | .hbm, ⟨54, _⟩ => ⟨S2x4096x4x64, .f32⟩
  | .hbm, ⟨55, _⟩ => ⟨S2x4x4096x64, .f32⟩
  | .hbm, ⟨56, _⟩ => ⟨S2x4x4096x4096, .f32⟩
  | .hbm, ⟨57, _⟩ => ⟨S_, .f32⟩
  | .hbm, ⟨58, _⟩ => ⟨S2x4x4096x4096, .f32⟩
  | .hbm, ⟨59, _⟩ => ⟨S2x4x4096x4096, .f32⟩
  | .hbm, ⟨60, _⟩ => ⟨S2x4x4096x1, .f32⟩
  | .hbm, ⟨61, _⟩ => ⟨S2x4x4096x4096, .f32⟩
  | .hbm, ⟨62, _⟩ => ⟨S2x4x4096x4096, .f32⟩
  | .hbm, ⟨63, _⟩ => ⟨S2x4x1x4096, .f32⟩
  | .hbm, ⟨64, _⟩ => ⟨S2x4x4096x4096, .f32⟩
  | .hbm, ⟨65, _⟩ => ⟨S2x4x4096x4096, .f32⟩
  | .hbm, ⟨66, _⟩ => ⟨S4096, .i32⟩
  | .hbm, ⟨67, _⟩ => ⟨S1x4096, .i32⟩
  | .hbm, ⟨68, _⟩ => ⟨S4096, .i32⟩
  | .hbm, ⟨69, _⟩ => ⟨S4096x1, .i32⟩
  | .hbm, ⟨70, _⟩ => ⟨S4096x4096, .i32⟩
  | .hbm, ⟨71, _⟩ => ⟨S4096x4096, .i32⟩
  | .hbm, ⟨72, _⟩ => ⟨S4096x4096, .i1⟩
  | .hbm, ⟨73, _⟩ => ⟨S_, .f32⟩
  | .hbm, ⟨74, _⟩ => ⟨S_, .f32⟩
  | .hbm, ⟨75, _⟩ => ⟨S2x4x4096x4096, .i1⟩
  | .hbm, ⟨76, _⟩ => ⟨S2x4x4096x4096, .f32⟩
  | .hbm, ⟨77, _⟩ => ⟨S2x4x4096x4096, .f32⟩
  | .hbm, ⟨78, _⟩ => ⟨S_, .f32⟩
  | .hbm, ⟨79, _⟩ => ⟨S2x4x4096, .f32⟩
  | .hbm, ⟨80, _⟩ => ⟨S_, .f32⟩
  | .hbm, ⟨81, _⟩ => ⟨S2x4x4096, .f32⟩
  | .hbm, ⟨82, _⟩ => ⟨S2x4x4096, .f32⟩
  | .hbm, ⟨83, _⟩ => ⟨S2x4x4096x1, .f32⟩
  | .hbm, ⟨84, _⟩ => ⟨S2x4x4096x4096, .f32⟩
  | .hbm, ⟨85, _⟩ => ⟨S2x4x4096x4096, .f32⟩
  | .hbm, ⟨86, _⟩ => ⟨S2x4x4096x4096, .f32⟩
  | .hbm, ⟨87, _⟩ => ⟨S_, .f32⟩
  | .hbm, ⟨88, _⟩ => ⟨S2x4x4096, .f32⟩
  | .hbm, ⟨89, _⟩ => ⟨S2x4x4096x1, .f32⟩
  | .hbm, ⟨90, _⟩ => ⟨S2x4x4096x4096, .f32⟩
  | .hbm, ⟨91, _⟩ => ⟨S2x4x4096x4096, .f32⟩
  | .hbm, ⟨92, _⟩ => ⟨S2x4096x4x64, .f32⟩
  | .hbm, ⟨93, _⟩ => ⟨S2x4x4096x64, .f32⟩
  | .hbm, ⟨94, _⟩ => ⟨S2x4x4096x64, .f32⟩
  | .hbm, ⟨95, _⟩ => ⟨S2x4096x4x64, .f32⟩
  | .hbm, ⟨96, _⟩ => ⟨S2x4096x256, .f32⟩
  | .hbm, ⟨97, _⟩ => ⟨S8192x256, .f32⟩
  | .hbm, ⟨98, _⟩ => ⟨S_, .f32⟩
  | .hbm, ⟨99, _⟩ => ⟨S2x4x4096, .f32⟩
  | .hbm, ⟨100, _⟩ => ⟨S2x4x4096x1, .f32⟩
  | .hbm, ⟨101, _⟩ => ⟨S2x4x4096x4096, .f32⟩
  | .hbm, ⟨102, _⟩ => ⟨S2x4x4096x4096, .f32⟩
  | .hbm, ⟨103, _⟩ => ⟨S2x4x4096x4096, .f32⟩
  | .hbm, ⟨104, _⟩ => ⟨S_, .f32⟩
  | .hbm, ⟨105, _⟩ => ⟨S2x4x4096, .f32⟩
  | .hbm, ⟨106, _⟩ => ⟨S2x4x4096, .f32⟩
  | .hbm, ⟨107, _⟩ => ⟨S2x4x4096, .f32⟩
  | .hbm, ⟨108, _⟩ => ⟨S2x2x2x4096, .f32⟩
  | .hbm, ⟨109, _⟩ => ⟨S2x2x4096x2, .f32⟩
  | .hbm, ⟨110, _⟩ => ⟨S2x2x4096x2x1, .f32⟩
  | .hbm, ⟨111, _⟩ => ⟨S2x2x4096x2x64, .f32⟩
  | .hbm, ⟨112, _⟩ => ⟨S8192x4, .f32⟩
  | .hbm, ⟨113, _⟩ => ⟨S2x4096x2x2, .f32⟩
  | .hbm, ⟨114, _⟩ => ⟨S2x2x4096x2, .f32⟩
  | .hbm, ⟨115, _⟩ => ⟨S2x2x2x4096, .f32⟩
  | .hbm, ⟨116, _⟩ => ⟨S2x8192x128, .f32⟩
  | .hbm, ⟨117, _⟩ => ⟨S8192x256, .f32⟩
  | .hbm, ⟨118, _⟩ => ⟨S2x4096x256, .f32⟩
  | .hbm, ⟨119, _⟩ => ⟨S2x4096x256, .f32⟩
  | .hbm, ⟨120, _⟩ => ⟨S2x2x8x4096, .f32⟩
  | .hbm, ⟨121, _⟩ => ⟨S2x8192x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .bf16⟩
  | .local _ .vmem, ⟨7, _⟩ => ⟨S1x512x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x1x512x2, .f32⟩
  | .local _ .vmem, ⟨13, _⟩ => ⟨S1x1x512x2, .f32⟩
  | .local _ .vmem, ⟨14, _⟩ => ⟨S1x1x2x4096, .f32⟩
  | .local _ .vmem, ⟨15, _⟩ => ⟨S1x1x2x4096, .f32⟩
  | .local _ .vmem, ⟨16, _⟩ => ⟨S512x128, .f32⟩
  | .local _ .vmem, ⟨17, _⟩ => ⟨S512x128, .f32⟩
  | .local _ .vmem, ⟨18, _⟩ => ⟨S1x4096x128, .f32⟩
  | .local _ .vmem, ⟨19, _⟩ => ⟨S1x4096x128, .f32⟩
  | .local _ .vmem, ⟨20, _⟩ => ⟨S1x4096x128, .f32⟩
  | .local _ .vmem, ⟨21, _⟩ => ⟨S1x4096x128, .f32⟩
  | .local _ .vmem, ⟨22, _⟩ => ⟨S1x1x8x4096, .f32⟩
  | .local _ .vmem, ⟨23, _⟩ => ⟨S1x1x8x4096, .f32⟩
  | .local _ .vmem, ⟨24, _⟩ => ⟨S1x512x128, .f32⟩
  | .local _ .vmem, ⟨25, _⟩ => ⟨S1x512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_5 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v59 : Ref sig .tc := ⟨.hbm, 77, rfl⟩
abbrev main_cst_6 : Ref sig .tc := ⟨.hbm, 78, rfl⟩
abbrev main_v60 : Ref sig .tc := ⟨.hbm, 79, rfl⟩
abbrev main_cst_7 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_8 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_9 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94_0 : Ref sig .tc := ⟨.hbm, 117, rfl⟩
abbrev main_v94_1 : Ref sig .tc := ⟨.hbm, 118, rfl⟩
abbrev main_v94_2 : Ref sig .tc := ⟨.hbm, 119, rfl⟩
abbrev main_v94_3 : Ref sig .tc := ⟨.hbm, 120, rfl⟩
abbrev main_v94_4 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 2, 8], ![false, false, false]⟩

@[reducible] def k0_t1_loop (i : grid0.Coords) : Scf.Loop 32 :=
  let c0_i32_23 : BitVec 32 := 0#32
  let arg2 : BitVec 32 := BitVec.ofNat 32 (i 2).val
  let v65 : BitVec 32 := Scalar.subi arg2 c0_i32_23
  let c1_i32 : BitVec 32 := 1#32
  let v67 : BitVec 32 := Scalar.divsi v65 c1_i32
  let v68 : BitVec 32 := Scalar.muli v67 c1_i32
  let v69 : BitVec 32 := Scalar.addi c0_i32_23 v68
  let c1_i32_24 : BitVec 32 := 1#32
  ⟨c0_i32_23, v69, c1_i32_24⟩
def k0_mult1 (i : grid0.Coords) (k0_t1 : Fin (k0_t1_loop i).trips) : BitVec 32 :=
  let c0_i32_23 : BitVec 32 := 0#32
  let c1_i32_24 : BitVec 32 := 1#32
  let arg16 : BitVec 32 := Scf.iv c0_i32_23 c1_i32_24 k0_t1
  let c2_i32_124 : BitVec 32 := 2#32
  let v295 : BitVec 32 := Scalar.muli arg16 c2_i32_124
  let c0_i32_125 : BitVec 32 := 0#32
  let v296 : BitVec 32 := Scalar.addi v295 c0_i32_125
  let c256_i32_128 : BitVec 32 := 256#32
  let v299 : BitVec 32 := Scalar.muli v296 c256_i32_128
  v299
def k0_mult2 (i : grid0.Coords) (k0_t1 : Fin (k0_t1_loop i).trips) : BitVec 32 :=
  let c0_i32_23 : BitVec 32 := 0#32
  let c1_i32_24 : BitVec 32 := 1#32
  let arg16 : BitVec 32 := Scf.iv c0_i32_23 c1_i32_24 k0_t1
  let c2_i32_126 : BitVec 32 := 2#32
  let v297 : BitVec 32 := Scalar.muli arg16 c2_i32_126
  let c1_i32_127 : BitVec 32 := 1#32
  let v298 : BitVec 32 := Scalar.addi v297 c1_i32_127
  let c256_i32_129 : BitVec 32 := 256#32
  let v301 : BitVec 32 := Scalar.muli v298 c256_i32_129
  v301
def k0_off1 (i : grid0.Coords) (k0_t1 : Fin (k0_t1_loop i).trips) (c0_i32_125 : BitVec 32) : Fin 3 → Nat :=
  let c0_130 : Index := 0#32
  let c0_i32_23 : BitVec 32 := 0#32
  let c1_i32_24 : BitVec 32 := 1#32
  let arg16 : BitVec 32 := Scf.iv c0_i32_23 c1_i32_24 k0_t1
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v303 : Index := Scalar.indexCast v300
  let c0_131 : Index := 0#32
  ![0, v303.toNat, 0]
def k0_off2 (i : grid0.Coords) (k0_t1 : Fin (k0_t1_loop i).trips) (c0_i32_125 : BitVec 32) : Fin 4 → Nat :=
  let c0_138 : Index := 0#32
  let c0_139 : Index := 0#32
  let c0_140 : Index := 0#32
  let c0_i32_23 : BitVec 32 := 0#32
  let c1_i32_24 : BitVec 32 := 1#32
  let arg16 : BitVec 32 := Scf.iv c0_i32_23 c1_i32_24 k0_t1
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v315 : Index := Scalar.indexCast v300
  ![0, 0, 0, v315.toNat]
def k0_off3 (i : grid0.Coords) (k0_t1 : Fin (k0_t1_loop i).trips) (c0_i32_125 : BitVec 32) : Fin 4 → Nat :=
  let c0_141 : Index := 0#32
  let c0_142 : Index := 0#32
  let c1_143 : Index := 1#32
  let c0_i32_23 : BitVec 32 := 0#32
  let c1_i32_24 : BitVec 32 := 1#32
  let arg16 : BitVec 32 := Scf.iv c0_i32_23 c1_i32_24 k0_t1
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v318 : Index := Scalar.indexCast v300
  ![0, 0, 1, v318.toNat]
def k0_off4 (i : grid0.Coords) (k0_t1 : Fin (k0_t1_loop i).trips) (c0_i32_125 : BitVec 32) : Fin 4 → Nat :=
  let c0_167 : Index := 0#32
  let c0_168 : Index := 0#32
  let c0_169 : Index := 0#32
  let c0_i32_23 : BitVec 32 := 0#32
  let c1_i32_24 : BitVec 32 := 1#32
  let arg16 : BitVec 32 := Scf.iv c0_i32_23 c1_i32_24 k0_t1
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v389 : Index := Scalar.indexCast v300
  ![0, 0, 0, v389.toNat]
def k0_off5 (i : grid0.Coords) (k0_t1 : Fin (k0_t1_loop i).trips) (c0_i32_125 : BitVec 32) : Fin 4 → Nat :=
  let c0_174 : Index := 0#32
  let c0_175 : Index := 0#32
  let c1_176 : Index := 1#32
  let c0_i32_23 : BitVec 32 := 0#32
  let c1_i32_24 : BitVec 32 := 1#32
  let arg16 : BitVec 32 := Scf.iv c0_i32_23 c1_i32_24 k0_t1
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v400 : Index := Scalar.indexCast v300
  ![0, 0, 1, v400.toNat]
@[reducible] def k0_t2_loop (i : grid0.Coords) : Scf.Loop 32 :=
  let c0_i32_23 : BitVec 32 := 0#32
  let arg2 : BitVec 32 := BitVec.ofNat 32 (i 2).val
  let v65 : BitVec 32 := Scalar.subi arg2 c0_i32_23
  let c1_i32 : BitVec 32 := 1#32
  let v67 : BitVec 32 := Scalar.divsi v65 c1_i32
  let v68 : BitVec 32 := Scalar.muli v67 c1_i32
  let v69 : BitVec 32 := Scalar.addi c0_i32_23 v68
  let v66 : BitVec 32 := Scalar.addi c0_i32_23 v65
  let c1_i32_25 : BitVec 32 := 1#32
  ⟨v69, v66, c1_i32_25⟩
def k0_mult3 (i : grid0.Coords) (k0_t2 : Fin (k0_t2_loop i).trips) : BitVec 32 :=
  let c0_i32_23 : BitVec 32 := 0#32
  let arg2 : BitVec 32 := BitVec.ofNat 32 (i 2).val
  let v65 : BitVec 32 := Scalar.subi arg2 c0_i32_23
  let c1_i32 : BitVec 32 := 1#32
  let v67 : BitVec 32 := Scalar.divsi v65 c1_i32
  let v68 : BitVec 32 := Scalar.muli v67 c1_i32
  let v69 : BitVec 32 := Scalar.addi c0_i32_23 v68
  let c1_i32_25 : BitVec 32 := 1#32
  let arg16 : BitVec 32 := Scf.iv v69 c1_i32_25 k0_t2
  let c2_i32_124 : BitVec 32 := 2#32
  let v295 : BitVec 32 := Scalar.muli arg16 c2_i32_124
  let c0_i32_125 : BitVec 32 := 0#32
  let v296 : BitVec 32 := Scalar.addi v295 c0_i32_125
  let c256_i32_128 : BitVec 32 := 256#32
  let v299 : BitVec 32 := Scalar.muli v296 c256_i32_128
  v299
def k0_mult4 (i : grid0.Coords) (k0_t2 : Fin (k0_t2_loop i).trips) : BitVec 32 :=
  let c0_i32_23 : BitVec 32 := 0#32
  let arg2 : BitVec 32 := BitVec.ofNat 32 (i 2).val
  let v65 : BitVec 32 := Scalar.subi arg2 c0_i32_23
  let c1_i32 : BitVec 32 := 1#32
  let v67 : BitVec 32 := Scalar.divsi v65 c1_i32
  let v68 : BitVec 32 := Scalar.muli v67 c1_i32
  let v69 : BitVec 32 := Scalar.addi c0_i32_23 v68
  let c1_i32_25 : BitVec 32 := 1#32
  let arg16 : BitVec 32 := Scf.iv v69 c1_i32_25 k0_t2
  let c2_i32_126 : BitVec 32 := 2#32
  let v297 : BitVec 32 := Scalar.muli arg16 c2_i32_126
  let c1_i32_127 : BitVec 32 := 1#32
  let v298 : BitVec 32 := Scalar.addi v297 c1_i32_127
  let c256_i32_129 : BitVec 32 := 256#32
  let v301 : BitVec 32 := Scalar.muli v298 c256_i32_129
  v301
def k0_off6 (i : grid0.Coords) (k0_t2 : Fin (k0_t2_loop i).trips) (c0_i32_125 : BitVec 32) : Fin 3 → Nat :=
  let c0_130 : Index := 0#32
  let c0_i32_23 : BitVec 32 := 0#32
  let arg2 : BitVec 32 := BitVec.ofNat 32 (i 2).val
  let v65 : BitVec 32 := Scalar.subi arg2 c0_i32_23
  let c1_i32 : BitVec 32 := 1#32
  let v67 : BitVec 32 := Scalar.divsi v65 c1_i32
  let v68 : BitVec 32 := Scalar.muli v67 c1_i32
  let v69 : BitVec 32 := Scalar.addi c0_i32_23 v68
  let c1_i32_25 : BitVec 32 := 1#32
  let arg16 : BitVec 32 := Scf.iv v69 c1_i32_25 k0_t2
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v303 : Index := Scalar.indexCast v300
  let c0_131 : Index := 0#32
  ![0, v303.toNat, 0]
def k0_off7 (i : grid0.Coords) (k0_t2 : Fin (k0_t2_loop i).trips) (c0_i32_125 : BitVec 32) : Fin 4 → Nat :=
  let c0_138 : Index := 0#32
  let c0_139 : Index := 0#32
  let c0_140 : Index := 0#32
  let c0_i32_23 : BitVec 32 := 0#32
  let arg2 : BitVec 32 := BitVec.ofNat 32 (i 2).val
  let v65 : BitVec 32 := Scalar.subi arg2 c0_i32_23
  let c1_i32 : BitVec 32 := 1#32
  let v67 : BitVec 32 := Scalar.divsi v65 c1_i32
  let v68 : BitVec 32 := Scalar.muli v67 c1_i32
  let v69 : BitVec 32 := Scalar.addi c0_i32_23 v68
  let c1_i32_25 : BitVec 32 := 1#32
  let arg16 : BitVec 32 := Scf.iv v69 c1_i32_25 k0_t2
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v315 : Index := Scalar.indexCast v300
  ![0, 0, 0, v315.toNat]
def k0_off8 (i : grid0.Coords) (k0_t2 : Fin (k0_t2_loop i).trips) (c0_i32_125 : BitVec 32) : Fin 4 → Nat :=
  let c0_141 : Index := 0#32
  let c0_142 : Index := 0#32
  let c1_143 : Index := 1#32
  let c0_i32_23 : BitVec 32 := 0#32
  let arg2 : BitVec 32 := BitVec.ofNat 32 (i 2).val
  let v65 : BitVec 32 := Scalar.subi arg2 c0_i32_23
  let c1_i32 : BitVec 32 := 1#32
  let v67 : BitVec 32 := Scalar.divsi v65 c1_i32
  let v68 : BitVec 32 := Scalar.muli v67 c1_i32
  let v69 : BitVec 32 := Scalar.addi c0_i32_23 v68
  let c1_i32_25 : BitVec 32 := 1#32
  let arg16 : BitVec 32 := Scf.iv v69 c1_i32_25 k0_t2
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v318 : Index := Scalar.indexCast v300
  ![0, 0, 1, v318.toNat]
def k0_off9 (i : grid0.Coords) (k0_t2 : Fin (k0_t2_loop i).trips) (c0_i32_125 : BitVec 32) : Fin 4 → Nat :=
  let c0_167 : Index := 0#32
  let c0_168 : Index := 0#32
  let c0_169 : Index := 0#32
  let c0_i32_23 : BitVec 32 := 0#32
  let arg2 : BitVec 32 := BitVec.ofNat 32 (i 2).val
  let v65 : BitVec 32 := Scalar.subi arg2 c0_i32_23
  let c1_i32 : BitVec 32 := 1#32
  let v67 : BitVec 32 := Scalar.divsi v65 c1_i32
  let v68 : BitVec 32 := Scalar.muli v67 c1_i32
  let v69 : BitVec 32 := Scalar.addi c0_i32_23 v68
  let c1_i32_25 : BitVec 32 := 1#32
  let arg16 : BitVec 32 := Scf.iv v69 c1_i32_25 k0_t2
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v389 : Index := Scalar.indexCast v300
  ![0, 0, 0, v389.toNat]
def k0_off10 (i : grid0.Coords) (k0_t2 : Fin (k0_t2_loop i).trips) (c0_i32_125 : BitVec 32) : Fin 4 → Nat :=
  let c0_174 : Index := 0#32
  let c0_175 : Index := 0#32
  let c1_176 : Index := 1#32
  let c0_i32_23 : BitVec 32 := 0#32
  let arg2 : BitVec 32 := BitVec.ofNat 32 (i 2).val
  let v65 : BitVec 32 := Scalar.subi arg2 c0_i32_23
  let c1_i32 : BitVec 32 := 1#32
  let v67 : BitVec 32 := Scalar.divsi v65 c1_i32
  let v68 : BitVec 32 := Scalar.muli v67 c1_i32
  let v69 : BitVec 32 := Scalar.addi c0_i32_23 v68
  let c1_i32_25 : BitVec 32 := 1#32
  let arg16 : BitVec 32 := Scf.iv v69 c1_i32_25 k0_t2
  let c2_i32_124 : BitVec 32 := 2#32
  let v295 : BitVec 32 := Scalar.muli arg16 c2_i32_124
  let v296 : BitVec 32 := Scalar.addi v295 c0_i32_125
  let c256_i32_128 : BitVec 32 := 256#32
  let v299 : BitVec 32 := Scalar.muli v296 c256_i32_128
  let v300 : BitVec 32 := v299
  let v400 : Index := Scalar.indexCast v300
  ![0, 0, 1, v400.toNat]
def k0_mult5 (i : grid0.Coords) : BitVec 32 :=
  let arg2 : BitVec 32 := BitVec.ofNat 32 (i 2).val
  let c2_i32 : BitVec 32 := 2#32
  let v62 : BitVec 32 := Scalar.muli arg2 c2_i32
  let c0_i32_26 : BitVec 32 := 0#32
  let v72 : BitVec 32 := Scalar.addi v62 c0_i32_26
  let c256_i32 : BitVec 32 := 256#32
  let v73 : BitVec 32 := Scalar.muli v72 c256_i32
  v73
def k0_off11 (i : grid0.Coords) (c0_i32_26 : BitVec 32) : Fin 3 → Nat :=
  let c0_27 : Index := 0#32
  let arg2 : BitVec 32 := BitVec.ofNat 32 (i 2).val
  let c2_i32 : BitVec 32 := 2#32
  let v62 : BitVec 32 := Scalar.muli arg2 c2_i32
  let v72 : BitVec 32 := Scalar.addi v62 c0_i32_26
  let c256_i32 : BitVec 32 := 256#32
  let v73 : BitVec 32 := Scalar.muli v72 c256_i32
  let v74 : BitVec 32 := v73
  let v75 : Index := Scalar.indexCast v74
  let c0_28 : Index := 0#32
  ![0, v75.toNat, 0]
def k0_off12 (i : grid0.Coords) (c0_i32_26 : BitVec 32) : Fin 4 → Nat :=
  let c0_31 : Index := 0#32
  let c0_32 : Index := 0#32
  let c0_33 : Index := 0#32
  let arg2 : BitVec 32 := BitVec.ofNat 32 (i 2).val
  let c2_i32 : BitVec 32 := 2#32
  let v62 : BitVec 32 := Scalar.muli arg2 c2_i32
  let v72 : BitVec 32 := Scalar.addi v62 c0_i32_26
  let c256_i32 : BitVec 32 := 256#32
  let v73 : BitVec 32 := Scalar.muli v72 c256_i32
  let v74 : BitVec 32 := v73
  let v81 : Index := Scalar.indexCast v74
  ![0, 0, 0, v81.toNat]
def k0_off13 (i : grid0.Coords) (c0_i32_26 : BitVec 32) : Fin 4 → Nat :=
  let c0_34 : Index := 0#32
  let c0_35 : Index := 0#32
  let c1 : Index := 1#32
  let arg2 : BitVec 32 := BitVec.ofNat 32 (i 2).val
  let c2_i32 : BitVec 32 := 2#32
  let v62 : BitVec 32 := Scalar.muli arg2 c2_i32
  let v72 : BitVec 32 := Scalar.addi v62 c0_i32_26
  let c256_i32 : BitVec 32 := 256#32
  let v73 : BitVec 32 := Scalar.muli v72 c256_i32
  let v74 : BitVec 32 := v73
  let v84 : Index := Scalar.indexCast v74
  ![0, 0, 1, v84.toNat]
def k0_off14 (i : grid0.Coords) (c0_i32_26 : BitVec 32) : Fin 4 → Nat :=
  let c0_53 : Index := 0#32
  let c0_54 : Index := 0#32
  let c0_55 : Index := 0#32
  let arg2 : BitVec 32 := BitVec.ofNat 32 (i 2).val
  let c2_i32 : BitVec 32 := 2#32
  let v62 : BitVec 32 := Scalar.muli arg2 c2_i32
  let v72 : BitVec 32 := Scalar.addi v62 c0_i32_26
  let c256_i32 : BitVec 32 := 256#32
  let v73 : BitVec 32 := Scalar.muli v72 c256_i32
  let v74 : BitVec 32 := v73
  let v142 : Index := Scalar.indexCast v74
  ![0, 0, 0, v142.toNat]
def k0_off15 (i : grid0.Coords) (c0_i32_26 : BitVec 32) : Fin 4 → Nat :=
  let c0_60 : Index := 0#32
  let c0_61 : Index := 0#32
  let c1_62 : Index := 1#32
  let arg2 : BitVec 32 := BitVec.ofNat 32 (i 2).val
  let c2_i32 : BitVec 32 := 2#32
  let v62 : BitVec 32 := Scalar.muli arg2 c2_i32
  let v72 : BitVec 32 := Scalar.addi v62 c0_i32_26
  let c256_i32 : BitVec 32 := 256#32
  let v73 : BitVec 32 := Scalar.muli v72 c256_i32
  let v74 : BitVec 32 := v73
  let v153 : Index := Scalar.indexCast v74
  ![0, 0, 1, v153.toNat]
def k0_mult6 (i : grid0.Coords) : BitVec 32 :=
  let arg2 : BitVec 32 := BitVec.ofNat 32 (i 2).val
  let c2_i32 : BitVec 32 := 2#32
  let v62 : BitVec 32 := Scalar.muli arg2 c2_i32
  let c1_i32_69 : BitVec 32 := 1#32
  let v169 : BitVec 32 := Scalar.addi v62 c1_i32_69
  let c256_i32_70 : BitVec 32 := 256#32
  let v170 : BitVec 32 := Scalar.muli v169 c256_i32_70
  v170
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg1
  let c0_i32 : BitVec 32 := 0#32
  let c0_i32_0 : BitVec 32 := 0#32
  ![arg0.toNat, c0_i32.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x512x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x2x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x8x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== ReferenceIdeal.lean ====
abbrev S8192x256 : Shape := ⟨2, ![8192, 256]⟩
abbrev S2x4096x256 : Shape := ⟨3, ![2, 4096, 256]⟩
abbrev S2x4096x2688 : Shape := ⟨3, ![2, 4096, 2688]⟩
abbrev S8192x128 : Shape := ⟨2, ![8192, 128]⟩
abbrev S8192x4 : Shape := ⟨2, ![8192, 4]⟩
abbrev S2x4096x4 : Shape := ⟨3, ![2, 4096, 4]⟩
abbrev S2x4x4096 : Shape := ⟨3, ![2, 4, 4096]⟩
abbrev S2x4096x4x64 : Shape := ⟨4, ![2, 4096, 4, 64]⟩
abbrev S2x4x4096x64 : Shape := ⟨4, ![2, 4, 4096, 64]⟩
abbrev S2x4x4096x4096 : Shape := ⟨4, ![2, 4, 4096, 4096]⟩
abbrev S_ : Shape := ⟨0, ![]⟩
abbrev S2x4x4096x1 : Shape := ⟨4, ![2, 4, 4096, 1]⟩
abbrev S2x4x1x4096 : Shape := ⟨4, ![2, 4, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x4x64x4096 : Shape := ⟨4, ![2, 4, 64, 4096]⟩
abbrev S2x2x2x4096 : Shape := ⟨4, ![2, 2, 2, 4096]⟩
abbrev S2x2x8x4096 : Shape := ⟨4, ![2, 2, 8, 4096]⟩
abbrev S2x2x4096x2 : Shape := ⟨4, ![2, 2, 4096, 2]⟩
abbrev S2x8192x2 : Shape := ⟨3, ![2, 8192, 2]⟩
abbrev S2x8192x128 : Shape := ⟨3, ![2, 8192, 128]⟩

abbrev nBuf : Space → Nat
  | .hbm => 139
  | .vmem => 0
  | .smem => 0
  | _ => 0

abbrev hbmTy0_0 (i : Nat) : BufTy := match i % 128 with
  | 0 => ⟨S8192x256, .f32⟩
  | 1 => ⟨S2x4096x256, .bf16⟩
  | 2 => ⟨S2x4096x256, .bf16⟩
  | 3 => ⟨S2x4096x2688, .bf16⟩
  | 4 => ⟨S8192x128, .f32⟩
  | 5 => ⟨S2x4096x256, .f32⟩
  | 6 => ⟨S2x4096x256, .f32⟩
  | 7 => ⟨S2x4096x256, .bf16⟩
  | 8 => ⟨S2x4096x256, .f32⟩
  | 9 => ⟨S8192x4, .f32⟩
  | 10 => ⟨S2x4096x4, .f32⟩
  | 11 => ⟨S2x4x4096, .f32⟩
  | 12 => ⟨S2x4096x4x64, .f32⟩
  | 13 => ⟨S2x4x4096x64, .f32⟩
  | 14 => ⟨S2x4096x4x64, .f32⟩
  | 15 => ⟨S2x4x4096x64, .f32⟩
  | 16 => ⟨S2x4x4096x4096, .f32⟩
  | 17 => ⟨S_, .f32⟩
  | 18 => ⟨S2x4x4096x4096, .f32⟩
  | 19 => ⟨S2x4x4096x4096, .f32⟩
  | 20 => ⟨S2x4x4096x1, .f32⟩
  | 21 => ⟨S2x4x4096x4096, .f32⟩
  | 22 => ⟨S2x4x4096x4096, .f32⟩
  | 23 => ⟨S2x4x1x4096, .f32⟩
  | 24 => ⟨S2x4x4096x4096, .f32⟩
  | 25 => ⟨S2x4x4096x4096, .f32⟩
  | 26 => ⟨S4096, .i32⟩
  | 27 => ⟨S1x4096, .i32⟩
  | 28 => ⟨S4096, .i32⟩
  | 29 => ⟨S4096x1, .i32⟩
  | 30 => ⟨S4096x4096, .i32⟩
  | 31 => ⟨S4096x4096, .i32⟩
  | 32 => ⟨S4096x4096, .i1⟩
  | 33 => ⟨S_, .f32⟩
  | 34 => ⟨S_, .f32⟩
  | 35 => ⟨S2x4x4096x4096, .i1⟩
  | 36 => ⟨S2x4x4096x4096, .f32⟩
  | 37 => ⟨S2x4x4096x4096, .f32⟩
  | 38 => ⟨S_, .f32⟩
  | 39 => ⟨S2x4x4096x4096, .f32⟩
  | 40 => ⟨S_, .f32⟩
  | 41 => ⟨S2x4x4096, .f32⟩
  | 42 => ⟨S2x4x4096x1, .f32⟩
  | 43 => ⟨S2x4x4096x4096, .f32⟩
  | 44 => ⟨S2x4x4096x4096, .i1⟩
  | 45 => ⟨S2x4x4096x4096, .f32⟩
  | 46 => ⟨S_, .f32⟩
  | 47 => ⟨S2x4x4096, .f32⟩
  | 48 => ⟨S_, .f32⟩
  | 49 => ⟨S2x4x4096, .f32⟩
  | 50 => ⟨S2x4x4096, .f32⟩
  | 51 => ⟨S_, .f32⟩
  | 52 => ⟨S2x4x4096, .f32⟩
  | 53 => ⟨S2x4x4096, .i1⟩
  | 54 => ⟨S_, .f32⟩
  | 55 => ⟨S2x4x4096, .f32⟩
  | 56 => ⟨S2x4x4096, .i1⟩
  | 57 => ⟨S_, .f32⟩
  | 58 => ⟨S2x4x4096, .f32⟩
  | 59 => ⟨S_, .f32⟩
  | 60 => ⟨S2x4x4096, .f32⟩
  | 61 => ⟨S_, .f32⟩
  | 62 => ⟨S2x4x4096, .f32⟩
  | 63 => ⟨S2x4x4096, .f32⟩
  | 64 => ⟨S2x4x4096, .f32⟩
  | 65 => ⟨S2x4x4096x1, .f32⟩
  | 66 => ⟨S2x4x4096x4096, .f32⟩
  | 67 => ⟨S2x4x4096x4096, .f32⟩
  | 68 => ⟨S2x4x4096x4096, .f32⟩
  | 69 => ⟨S_, .f32⟩
  | 70 => ⟨S2x4x4096, .f32⟩
  | 71 => ⟨S2x4x4096x1, .f32⟩
  | 72 => ⟨S2x4x4096x4096, .f32⟩
  | 73 => ⟨S2x4x4096x4096, .f32⟩
  | 74 => ⟨S2x4x4096x1, .f32⟩
  | 75 => ⟨S_, .f32⟩
  | 76 => ⟨S2x4x4096x1, .f32⟩
  | 77 => ⟨S2x4x4096x1, .f32⟩
  | 78 => ⟨S2x4096x4x64, .f32⟩
  | 79 => ⟨S2x4x4096x64, .f32⟩
  | 80 => ⟨S2x4x4096x64, .f32⟩
  | 81 => ⟨S2x4096x4x64, .f32⟩
  | 82 => ⟨S2x4096x256, .f32⟩
  | 83 => ⟨S2x4096x256, .f32⟩
  | 84 => ⟨S2x4096x4x64, .f32⟩
  | 85 => ⟨S2x4x4096x64, .f32⟩
  | 86 => ⟨S2x4x64x4096, .f32⟩
  | 87 => ⟨S2x4x4096x64, .f32⟩
  | 88 => ⟨S2x4x4096x4096, .f32⟩
  | 89 => ⟨S2x4096x4x64, .f32⟩
  | 90 => ⟨S2x4096x256, .f32⟩
  | 91 => ⟨S2x4x4096x4096, .f32⟩
  | 92 => ⟨S2x4x4096x4096, .f32⟩
  | 93 => ⟨S2x4x4096x4096, .f32⟩
  | 94 => ⟨S_, .f32⟩
  | 95 => ⟨S2x4x4096, .f32⟩
  | 96 => ⟨S2x4x4096x1, .f32⟩
  | 97 => ⟨S2x4x4096x1, .f32⟩
  | 98 => ⟨S2x4x4096x4096, .f32⟩
  | 99 => ⟨S2x4x4096x4096, .f32⟩
  | 100 => ⟨S_, .f32⟩
  | 101 => ⟨S2x4x4096, .f32⟩
  | 102 => ⟨S2x4x4096x4096, .f32⟩
  | 103 => ⟨S2x4x4096x4096, .f32⟩
  | 104 => ⟨S2x4x4096x4096, .f32⟩
  | 105 => ⟨S_, .f32⟩
  | 106 => ⟨S2x4x4096x4096, .f32⟩
  | 107 => ⟨S2x4x4096x4096, .f32⟩
  | 108 => ⟨S2x4x4096x4096, .f32⟩
  | 109 => ⟨S_, .f32⟩
  | 110 => ⟨S2x4x4096, .f32⟩
  | 111 => ⟨S2x4x1x4096, .f32⟩
  | 112 => ⟨S_, .f32⟩
  | 113 => ⟨S2x4x4096, .f32⟩
  | 114 => ⟨S_, .f32⟩
  | 115 => ⟨S2x4x4096, .f32⟩
  | 116 => ⟨S2x4x4096x1, .f32⟩
  | 117 => ⟨S_, .f32⟩
  | 118 => ⟨S2x4x4096, .f32⟩
  | 119 => ⟨S_, .f32⟩
  | 120 => ⟨S2x4x4096x4096, .f32⟩
  | 121 => ⟨S2x4x4096x4096, .f32⟩
  | 122 => ⟨S2x4x4096x64, .f32⟩
  | 123 => ⟨S2x4x4096x64, .f32⟩
  | 124 => ⟨S2x4096x4x64, .f32⟩
  | 125 => ⟨S2x4096x256, .f32⟩
  | 126 => ⟨S2x4096x4x64, .f32⟩
  | 127 => ⟨S2x4096x256, .f32⟩
  | _ => ⟨S8192x256, .f32⟩

abbrev hbmTy0_1 (i : Nat) : BufTy := match i % 128 with
  | 0 => ⟨S2x2x2x4096, .f32⟩
  | 1 => ⟨S_, .i32⟩
  | 2 => ⟨S_, .f32⟩
  | 3 => ⟨S2x2x8x4096, .f32⟩
  | 4 => ⟨S2x2x2x4096, .f32⟩
  | 5 => ⟨S2x2x4096x2, .f32⟩
  | 6 => ⟨S2x8192x2, .f32⟩
  | 7 => ⟨S8192x256, .f32⟩
  | 8 => ⟨S_, .i32⟩
  | 9 => ⟨S_, .f32⟩
  | 10 => ⟨S2x8192x128, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_0 : Ref sig .tc := ⟨.hbm, 33, rfl⟩
abbrev main_call0_v0 : Ref sig .tc := ⟨.hbm, 34, rfl⟩
abbrev main_v27_1 : Ref sig .tc := ⟨.hbm, 35, rfl⟩
abbrev main_call0_v2 : Ref sig .tc := ⟨.hbm, 36, rfl⟩
abbrev main_v27_0 : Ref sig .tc := ⟨.hbm, 37, rfl⟩
abbrev main_call0_cst : Ref sig .tc := ⟨.hbm, 38, rfl⟩
abbrev main_v27_2 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_12 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call1_cst : Ref sig .tc := ⟨.hbm, 105, rfl⟩
abbrev main_call1_v0 : Ref sig .tc := ⟨.hbm, 106, rfl⟩
abbrev main_v81 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_v84 : Ref sig .tc := ⟨.hbm, 111, rfl⟩
abbrev main_cst_14 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_cst_17 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c : Ref sig .tc := ⟨.hbm, 129, rfl⟩
abbrev main_call2_v0 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_18 : Ref sig .tc := ⟨.hbm, 136, rfl⟩
abbrev main_call3_v0 : Ref sig .tc := ⟨.hbm, 137, rfl⟩
abbrev main_v103 : Ref sig .tc := ⟨.hbm, 138, rfl⟩

abbrev nD : Nat := 1
abbrev τ : Topo := Topo.v7x

variable {F : FTy → Type} [FloatOps F]
-- ==== Kernel2.lean ====
abbrev S8192x1024 : Shape := ⟨2, ![8192, 1024]⟩
abbrev S8x8192x704 : Shape := ⟨3, ![8, 8192, 704]⟩
abbrev S8x1024x704 : Shape := ⟨3, ![8, 1024, 704]⟩
abbrev S4096x1024 : Shape := ⟨2, ![4096, 1024]⟩
abbrev S1x4096x704 : Shape := ⟨3, ![1, 4096, 704]⟩
abbrev S1x1024x704 : Shape := ⟨3, ![1, 1024, 704]⟩
abbrev S1024x704 : Shape := ⟨2, ![1024, 704]⟩
abbrev S4096x704 : Shape := ⟨2, ![4096, 704]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S8x1024x704, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x704, .bf16⟩
  | .local _ .vmem, ⟨3, _⟩ => ⟨S1x4096x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference2Ideal.lean ====
abbrev S8192x1024 : Shape := ⟨2, ![8192, 1024]⟩
abbrev S8x8192x704 : Shape := ⟨3, ![8, 8192, 704]⟩
abbrev S_ : Shape := ⟨0, ![]⟩
abbrev S1024x5632 : Shape := ⟨2, ![1024, 5632]⟩
abbrev S8192x5632 : Shape := ⟨2, ![8192, 5632]⟩
abbrev S8192x8x704 : Shape := ⟨3, ![8192, 8, 704]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x8192x704, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x8x704, .bf16⟩
  | .hbm, ⟨7, _⟩ => ⟨S8192x5632, .bf16⟩
  | .hbm, ⟨8, _⟩ => ⟨S8192x5632, .f32⟩
  | .hbm, ⟨9, _⟩ => ⟨S5632x1024, .f32⟩
  | .hbm, ⟨10, _⟩ => ⟨S1024x5632, .f32⟩
  | .hbm, ⟨11, _⟩ => ⟨S1024x8x704, .f32⟩
  | .hbm, ⟨12, _⟩ => ⟨S8x1024x704, .f32⟩
  | .hbm, ⟨13, _⟩ => ⟨S8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S4x8192x704 : Shape := ⟨3, ![4, 8192, 704]⟩
abbrev S8192x1024 : Shape := ⟨2, ![8192, 1024]⟩
abbrev S2816x1024 : Shape := ⟨2, ![2816, 1024]⟩
abbrev S1x4096x704 : Shape := ⟨3, ![1, 4096, 704]⟩
abbrev S4096x1024 : Shape := ⟨2, ![4096, 1024]⟩
abbrev S704x1024 : Shape := ⟨2, ![704, 1024]⟩
abbrev S4096x704 : Shape := ⟨2, ![4096, 704]⟩

abbrev nBuf : Space → Nat
  | .hbm => 3
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S2816x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S4x8192x704 : Shape := ⟨3, ![4, 8192, 704]⟩
abbrev S8192x1024 : Shape := ⟨2, ![8192, 1024]⟩
abbrev S_ : Shape := ⟨0, ![]⟩
abbrev S2816x1024 : Shape := ⟨2, ![2816, 1024]⟩
abbrev S8192x4x704 : Shape := ⟨3, ![8192, 4, 704]⟩
abbrev S8192x2816 : Shape := ⟨2, ![8192, 2816]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x4x704, .bf16⟩
  | .hbm, ⟨5, _⟩ => ⟨S8192x2816, .bf16⟩
  | .hbm, ⟨6, _⟩ => ⟨S8192x2816, .f32⟩
  | .hbm, ⟨7, _⟩ => ⟨S8192x1024, .f32⟩
  | .hbm, ⟨8, _⟩ => ⟨S8192x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x1024 : Shape := ⟨2, ![8192, 1024]⟩
abbrev S8192x5632 : Shape := ⟨2, ![8192, 5632]⟩
abbrev S2816x1024 : Shape := ⟨2, ![2816, 1024]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩
abbrev S2x8192x4x704 : Shape := ⟨4, ![2, 8192, 4, 704]⟩
abbrev S2x4x8192x704 : Shape := ⟨4, ![2, 4, 8192, 704]⟩
abbrev S512x1024 : Shape := ⟨2, ![512, 1024]⟩
abbrev S704x1024 : Shape := ⟨2, ![704, 1024]⟩
abbrev S2x1x512x704 : Shape := ⟨4, ![2, 1, 512, 704]⟩
abbrev S512x704 : Shape := ⟨2, ![512, 704]⟩
abbrev S1x1x512x704 : Shape := ⟨4, ![1, 1, 512, 704]⟩

abbrev nBuf : Space → Nat
  | .hbm => 30
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .f32⟩
  | .hbm, ⟨2, _⟩ => ⟨S2816x1024, .bf16⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S1x8192x2816, .f32⟩
  | .hbm, ⟨24, _⟩ => ⟨S1x8192x2816, .f32⟩
  | .hbm, ⟨25, _⟩ => ⟨S2x8192x2816, .f32⟩
  | .hbm, ⟨26, _⟩ => ⟨S2x8192x2816, .bf16⟩
  | .hbm, ⟨27, _⟩ => ⟨S2x8192x4x704, .bf16⟩
  | .hbm, ⟨28, _⟩ => ⟨S2x4x8192x704, .bf16⟩
  | .hbm, ⟨29, _⟩ => ⟨S2x4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S704x1024, .bf16⟩
  | .local _ .vmem, ⟨3, _⟩ => ⟨S704x1024, .bf16⟩
  | .local _ .vmem, ⟨4, _⟩ => ⟨S2x1x512x704, .bf16⟩
  | .local _ .vmem, ⟨5, _⟩ => ⟨S2x1x512x704, .bf16⟩
  | .local _ .vmem, ⟨6, _⟩ => ⟨S2x1x512x704, .bf16⟩
  | .local _ .vmem, ⟨7, _⟩ => ⟨S2x1x512x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x1024 : Shape := ⟨2, ![8192, 1024]⟩
abbrev S8192x5632 : Shape := ⟨2, ![8192, 5632]⟩
abbrev S2816x1024 : Shape := ⟨2, ![2816, 1024]⟩
abbrev S8192x2816 : Shape := ⟨2, ![8192, 2816]⟩
abbrev S_ : Shape := ⟨0, ![]⟩
abbrev S8192x2x4x704 : Shape := ⟨4, ![8192, 2, 4, 704]⟩
abbrev S2x4x8192x704 : Shape := ⟨4, ![2, 4, 8192, 704]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .f32⟩
  | .hbm, ⟨2, _⟩ => ⟨S2816x1024, .bf16⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S2816x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x5632, .f32⟩
  | .hbm, ⟨30, _⟩ => ⟨S8192x2x4x704, .f32⟩
  | .hbm, ⟨31, _⟩ => ⟨S2x4x8192x704, .f32⟩
  | .hbm, ⟨32, _⟩ => ⟨S2x4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩

abbrev nD : Nat := 1
abbrev τ : Topo := Topo.v7x

variable {F : FTy → Type} [FloatOps F]
-- ==== Kernel5.lean ====
abbrev S8192x1024 : Shape := ⟨2, ![8192, 1024]⟩
abbrev S8x1024x704 : Shape := ⟨3, ![8, 1024, 704]⟩
abbrev S4x8192x704 : Shape := ⟨3, ![4, 8192, 704]⟩
abbrev S2x4x8192x704 : Shape := ⟨4, ![2, 4, 8192, 704]⟩
abbrev S512x1024 : Shape := ⟨2, ![512, 1024]⟩
abbrev S1x1024x704 : Shape := ⟨3, ![1, 1024, 704]⟩
abbrev S1x512x704 : Shape := ⟨3, ![1, 512, 704]⟩
abbrev S2x1x512x704 : Shape := ⟨4, ![2, 1, 512, 704]⟩
abbrev S1024x704 : Shape := ⟨2, ![1024, 704]⟩
abbrev S512x704 : Shape := ⟨2, ![512, 704]⟩
abbrev S1x1x512x704 : Shape := ⟨4, ![1, 1, 512, 704]⟩

abbrev nBuf : Space → Nat
  | .hbm => 4
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S4x8192x704, .bf16⟩
  | .hbm, ⟨3, _⟩ => ⟨S2x4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x512x704, .bf16⟩
  | .local _ .vmem, ⟨7, _⟩ => ⟨S1x512x704, .bf16⟩
  | .local _ .vmem, ⟨8, _⟩ => ⟨S2x1x512x704, .bf16⟩
  | .local _ .vmem, ⟨9, _⟩ => ⟨S2x1x512x704, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x1024 : Shape := ⟨2, ![8192, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩
abbrev S8192x4x704 : Shape := ⟨3, ![8192, 4, 704]⟩
abbrev S4x8192x704 : Shape := ⟨3, ![4, 8192, 704]⟩
abbrev S8192x2x4x704 : Shape := ⟨4, ![8192, 2, 4, 704]⟩
abbrev S2x4x8192x704 : Shape := ⟨4, ![2, 4, 8192, 704]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8x1024x704, .bf16⟩
  | .hbm, ⟨2, _⟩ => ⟨S8192x1024, .f32⟩
  | .hbm, ⟨3, _⟩ => ⟨S1024x8x704, .bf16⟩
  | .hbm, ⟨4, _⟩ => ⟨S1024x5632, .bf16⟩
  | .hbm, ⟨5, _⟩ => ⟨S1024x5632, .f32⟩
  | .hbm, ⟨6, _⟩ => ⟨S8192x5632, .f32⟩
  | .hbm, ⟨7, _⟩ => ⟨S8192x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x5632, .f32⟩
  | .hbm, ⟨32, _⟩ => ⟨S8192x4x704, .f32⟩
  | .hbm, ⟨33, _⟩ => ⟨S4x8192x704, .f32⟩
  | .hbm, ⟨34, _⟩ => ⟨S4x8192x704, .bf16⟩
  | .hbm, ⟨35, _⟩ => ⟨S8192x2x4x704, .f32⟩
  | .hbm, ⟨36, _⟩ => ⟨S2x4x8192x704, .f32⟩
  | .hbm, ⟨37, _⟩ => ⟨S2x4x8192x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v7_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v7_1 : Ref sig .tc := ⟨.hbm, 20, rfl⟩
abbrev main_v7_0 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== Kernel6.lean ====
abbrev S4x8192x704 : Shape := ⟨3, ![4, 8192, 704]⟩
abbrev S2816x1024 : Shape := ⟨2, ![2816, 1024]⟩
abbrev S8192x1024 : Shape := ⟨2, ![8192, 1024]⟩
abbrev S2x1x1024 : Shape := ⟨3, ![2, 1, 1024]⟩
abbrev S1x1024 : Shape := ⟨2, ![1, 1024]⟩
abbrev S4x704x1024 : Shape := ⟨3, ![4, 704, 1024]⟩
abbrev S4x512x704 : Shape := ⟨3, ![4, 512, 704]⟩
abbrev S512x1024 : Shape := ⟨2, ![512, 1024]⟩
abbrev S1x1x1024 : Shape := ⟨3, ![1, 1, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 11
  | .vmem => 18
  | .smem => 0
  | _ => 0

abbrev bufTy : (tb : Table) → Fin (tcTables nBuf tb) → BufTy
  | .hbm, ⟨0, _⟩ => ⟨S4x8192x704, .bf16⟩
  | .hbm, ⟨1, _⟩ => ⟨S2816x1024, .bf16⟩
  | .hbm, ⟨2, _⟩ => ⟨S8192x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S4x704x1024, .bf16⟩
  | .hbm, ⟨8, _⟩ => ⟨S8192x1024, .f32⟩
  | .hbm, ⟨9, _⟩ => ⟨S8192x1024, .bf16⟩
  | .hbm, ⟨10, _⟩ => ⟨S8192x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== Reference6Ideal.lean ====
abbrev S4x8192x704 : Shape := ⟨3, ![4, 8192, 704]⟩
abbrev S2816x1024 : Shape := ⟨2, ![2816, 1024]⟩
abbrev S8192x1024 : Shape := ⟨2, ![8192, 1024]⟩
abbrev S2x1x1024 : Shape := ⟨3, ![2, 1, 1024]⟩
abbrev S1x1024 : Shape := ⟨2, ![1, 1024]⟩
abbrev S8192x4x704 : Shape := ⟨3, ![8192, 4, 704]⟩
abbrev S8192x2816 : Shape := ⟨2, ![8192, 2816]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S2816x1024, .bf16⟩
  | .hbm, ⟨2, _⟩ => ⟨S8192x1024, .f32⟩
  | .hbm, ⟨3, _⟩ => ⟨S2x1x1024, .f32⟩
  | .hbm, ⟨4, _⟩ => ⟨S1x1024, .f32⟩
  | .hbm, ⟨5, _⟩ => ⟨S2x1x1024, .f32⟩
  | .hbm, ⟨6, _⟩ => ⟨S2x1x1024, .f32⟩
  | .hbm, ⟨7, _⟩ => ⟨S8192x4x704, .bf16⟩
  | .hbm, ⟨8, _⟩ => ⟨S8192x2816, .bf16⟩
  | .hbm, ⟨9, _⟩ => ⟨S8192x2816, .f32⟩
  | .hbm, ⟨10, _⟩ => ⟨S2816x1024, .f32⟩
  | .hbm, ⟨11, _⟩ => ⟨S8192x1024, .f32⟩
  | .hbm, ⟨12, _⟩ => ⟨S2x4096x1024, .f32⟩
  | .hbm, ⟨13, _⟩ => ⟨S2x4096x1024, .f32⟩
  | .hbm, ⟨14, _⟩ => ⟨S_, .f32⟩
  | .hbm, ⟨15, _⟩ => ⟨S2x1x1024, .f32⟩
  | .hbm, ⟨16, _⟩ => ⟨S2x1x1024, .f32⟩
  | .hbm, ⟨17, _⟩ => ⟨S_, .f32⟩
  | .hbm, ⟨18, _⟩ => ⟨S2x1x1024, .f32⟩
  | .hbm, ⟨19, _⟩ => ⟨S2x1x1024, .f32⟩
  | .hbm, ⟨20, _⟩ => ⟨S2x4096x1024, .f32⟩
  | .hbm, ⟨21, _⟩ => ⟨S2x4096x1024, .f32⟩
  | .hbm, ⟨22, _⟩ => ⟨S2x4096x1024, .f32⟩
  | .hbm, ⟨23, _⟩ => ⟨S2x4096x1024, .f32⟩
  | .hbm, ⟨24, _⟩ => ⟨S_, .f32⟩
  | .hbm, ⟨25, _⟩ => ⟨S2x4096, .f32⟩
  | .hbm, ⟨26, _⟩ => ⟨S2x4096x1, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S_, .f32⟩
  | .hbm, ⟨31, _⟩ => ⟨S2x4096x1, .f32⟩
  | .hbm, ⟨32, _⟩ => ⟨S2x4096x1, .f32⟩
  | .hbm, ⟨33, _⟩ => ⟨S2x4096x1, .f32⟩
  | .hbm, ⟨34, _⟩ => ⟨S2x4096x1024, .f32⟩
  | .hbm, ⟨35, _⟩ => ⟨S2x4096x1024, .f32⟩
  | .hbm, ⟨36, _⟩ => ⟨S1x1x1024, .f32⟩
  | .hbm, ⟨37, _⟩ => ⟨S2x4096x1024, .f32⟩
  | .hbm, ⟨38, _⟩ => ⟨S2x4096x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x1024, .f32⟩
  | .hbm, ⟨50, _⟩ => ⟨S8192x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel7.lean ====
abbrev S8x8192x704 : Shape := ⟨3, ![8, 8192, 704]⟩
abbrev S8x1024x704 : Shape := ⟨3, ![8, 1024, 704]⟩
abbrev S8192x1024 : Shape := ⟨2, ![8192, 1024]⟩
abbrev S1x1024 : Shape := ⟨2, ![1, 1024]⟩
abbrev S2x1x1024 : Shape := ⟨3, ![2, 1, 1024]⟩
abbrev S16x8x1024 : Shape := ⟨3, ![16, 8, 1024]⟩
abbrev S4x512x704 : Shape := ⟨3, ![4, 512, 704]⟩
abbrev S4x1024x704 : Shape := ⟨3, ![4, 1024, 704]⟩
abbrev S512x1024 : Shape := ⟨2, ![512, 1024]⟩
abbrev S1x1x1024 : Shape := ⟨3, ![1, 1, 1024]⟩
abbrev S1x8x1024 : Shape := ⟨3, ![1, 8, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩
abbrev S512 : Shape := ⟨1, ![512]⟩
abbrev S512x1 : Shape := ⟨2, ![512, 1]⟩
abbrev S1024 : Shape := ⟨1, ![1024]⟩
abbrev S8x1024 : Shape := ⟨2, ![8, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S2x1x1024, .f32⟩
  | .hbm, ⟨6, _⟩ => ⟨S8192x1024, .f32⟩
  | .hbm, ⟨7, _⟩ => ⟨S16x8x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x1024x704, .bf16⟩
  | .local _ .vmem, ⟨3, _⟩ => ⟨S4x1024x704, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1x1024, .f32⟩
  | .local _ .vmem, ⟨10, _⟩ => ⟨S1x1x1024, .f32⟩
  | .local _ .vmem, ⟨11, _⟩ => ⟨S512x1024, .f32⟩
  | .local _ .vmem, ⟨12, _⟩ => ⟨S512x1024, .f32⟩
  | .local _ .vmem, ⟨13, _⟩ => ⟨S1x8x1024, .f32⟩
  | .local _ .vmem, ⟨14, _⟩ => ⟨S1x8x1024, .f32⟩
  | .local _ .vmem, ⟨15, _⟩ => ⟨S512x1024, .f32⟩
  | _, _ => ⟨S8x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v29 : BitVec 1 := Scalar.cmpi .eq arg2 c1_i32
  let v30 : BitVec 32 := Scalar.extui v29
  let c0_i32_26 : BitVec 32 := 0#32
  let v31 : BitVec 1 := Scalar.cmpi .ne v30 c0_i32_26
  v31

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference7Ideal.lean ====
abbrev S8x8192x704 : Shape := ⟨3, ![8, 8192, 704]⟩
abbrev S8x1024x704 : Shape := ⟨3, ![8, 1024, 704]⟩
abbrev S8192x1024 : Shape := ⟨2, ![8192, 1024]⟩
abbrev S1x1024 : Shape := ⟨2, ![1, 1024]⟩
abbrev S2x1x1024 : Shape := ⟨3, ![2, 1, 1024]⟩
abbrev S2x4096x1024 : Shape := ⟨3, ![2, 4096, 1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x8x704 : Shape := ⟨3, ![1024, 8, 704]⟩
abbrev S1024x5632 : Shape := ⟨2, ![1024, 5632]⟩
abbrev S8192x5632 : Shape := ⟨2, ![8192, 5632]⟩
abbrev S8192x8x704 : Shape := ⟨3, ![8192, 8, 704]⟩

abbrev nBuf : Space → Nat
  | .hbm => 65
  | .vmem => 0
  | .smem => 0
  | _ => 0

abbrev bufTy : (tb : Table) → Fin (tcTables nBuf tb) → BufTy
  | .hbm, ⟨0, _⟩ => ⟨S8x8192x704, .bf16⟩
  | .hbm, ⟨1, _⟩ => ⟨S8x1024x704, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S2x1x1024, .f32⟩
  | .hbm, ⟨6, _⟩ => ⟨S2x4096x1024, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1024, .f32⟩
  | .hbm, ⟨23, _⟩ => ⟨S2x4096x1024, .f32⟩
  | .hbm, ⟨24, _⟩ => ⟨S1x1x1024, .f32⟩
  | .hbm, ⟨25, _⟩ => ⟨S2x4096x1024, .f32⟩
  | .hbm, ⟨26, _⟩ => ⟨S2x4096x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x4096x1024, .f32⟩
  | .hbm, ⟨31, _⟩ => ⟨S2x4096x1024, .f32⟩
  | .hbm, ⟨32, _⟩ => ⟨S8192x1024, .f32⟩
  | .hbm, ⟨33, _⟩ => ⟨S1024x8x704, .bf16⟩
  | .hbm, ⟨34, _⟩ => ⟨S1024x5632, .bf16⟩
  | .hbm, ⟨35, _⟩ => ⟨S1024x5632, .f32⟩
  | .hbm, ⟨36, _⟩ => ⟨S8192x5632, .f32⟩
  | .hbm, ⟨37, _⟩ => ⟨S8192x8x704, .bf16⟩
  | .hbm, ⟨38, _⟩ => ⟨S8192x5632, .bf16⟩
  | .hbm, ⟨39, _⟩ => ⟨S8192x5632, .f32⟩
  | .hbm, ⟨40, _⟩ => ⟨S8192x1024, .f32⟩
  | .hbm, ⟨41, _⟩ => ⟨S2x4096x1024, .f32⟩
  | .hbm, ⟨42, _⟩ => ⟨S2x4096x1024, .f32⟩
  | .hbm, ⟨43, _⟩ => ⟨S2x4096x1024, .f32⟩
  | .hbm, ⟨44, _⟩ => ⟨S2x4096x1024, .f32⟩
  | .hbm, ⟨45, _⟩ => ⟨S2x4096x1024, .f32⟩
  | .hbm, ⟨46, _⟩ => ⟨S2x4096x1024, .f32⟩
  | .hbm, ⟨47, _⟩ => ⟨S_, .f32⟩
  | .hbm, ⟨48, _⟩ => ⟨S2x4096, .f32⟩
  | .hbm, ⟨49, _⟩ => ⟨S2x4096x1, .f32⟩
  | .hbm, ⟨50, _⟩ => ⟨S2x4096x1024, .f32⟩
  | .hbm, ⟨51, _⟩ => ⟨S2x4096x1024, .f32⟩
  | .hbm, ⟨52, _⟩ => ⟨S2x4096x1, .f32⟩
  | .hbm, ⟨53, _⟩ => ⟨S_, .f32⟩
  | .hbm, ⟨54, _⟩ => ⟨S2x4096x1, .f32⟩
  | .hbm, ⟨55, _⟩ => ⟨S2x4096x1, .f32⟩
  | .hbm, ⟨56, _⟩ => ⟨S_, .f32⟩
  | .hbm, ⟨57, _⟩ => ⟨S2x4096, .f32⟩
  | .hbm, ⟨58, _⟩ => ⟨S2x4096x1024, .f32⟩
  | .hbm, ⟨59, _⟩ => ⟨S2x4096x1024, .f32⟩
  | .hbm, ⟨60, _⟩ => ⟨S2x4096x1024, .f32⟩
  | .hbm, ⟨61, _⟩ => ⟨S2x4096x1024, .f32⟩
  | .hbm, ⟨62, _⟩ => ⟨S2x4096x1024, .f32⟩
  | .hbm, ⟨63, _⟩ => ⟨S8192x1024, .f32⟩
  | .hbm, ⟨64, _⟩ => ⟨S8192x1024, .f32⟩
  | _, _ => ⟨S8x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Proof.Basic.lean ====
/- Vectors of extended reals whose entries are real, and the library's scalar operations on them. -/
module

public import Idealize.ShloMosaic.Lib.Pointwise
public import Idealize.ShloMosaic.Lib.VecWindow
public import Idealize.ShloMosaic.Lib.IdealHost
public import Idealize.ShloMosaic.PureOps.Ideal

@[expose] public section

set_option maxRecDepth 16384

noncomputable section

namespace Fox

open Idealize.ShloMosaic

/-- A rank-1 vector holds the reals `f`. -/
def Is1 {a : ℕ} (x : (⟨1, ![a]⟩ : Shape).Idx → EReal) (f : Fin a → ℝ) : Prop := ∀ i, x (ix1 i) = ((f i : ℝ) : EReal)

/-- A rank-2 vector holds the reals `f`. -/
def Is2 {a b : ℕ} (x : (⟨2, ![a, b]⟩ : Shape).Idx → EReal) (f : Fin a → Fin b → ℝ) : Prop :=
  ∀ i j, x (ix2 i j) = ((f i j : ℝ) : EReal)

/-- A rank-3 vector holds the reals `f`. -/
def Is3 {a b c : ℕ} (x : (⟨3, ![a, b, c]⟩ : Shape).Idx → EReal) (f : Fin a → Fin b → Fin c → ℝ) : Prop :=
  ∀ i j k, x (ix3 i j k) = ((f i j k : ℝ) : EReal)

/-- A rank-4 vector holds the reals `f`. -/
def Is4 {a b c d : ℕ} (x : (⟨4, ![a, b, c, d]⟩ : Shape).Idx → EReal) (f : Fin a → Fin b → Fin c → Fin d → ℝ) : Prop :=
  ∀ i j k l, x (ix4 i j k l) = ((f i j k l : ℝ) : EReal)

/-- A sum of reals is real. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

theorem mulR (a b : ℝ) : ((a : EReal) * (b : EReal)) = ((a * b : ℝ) : EReal) := (EReal.coe_mul a b).symm
theorem addR (a b : ℝ) : ((a : EReal) + (b : EReal)) = ((a + b : ℝ) : EReal) := (EReal.coe_add a b).symm
theorem subR (a b : ℝ) : ((a : EReal) - (b : EReal)) = ((a - b : ℝ) : EReal) := (EReal.coe_sub a b).symm
theorem zeroAddR (a : ℝ) : ((0 : EReal) + (a : EReal)) = ((a : ℝ) : EReal) := zero_add _

/-- The pattern of one eighth. -/
theorem eighth : Ideal.ofBits .f32 0x3E000000#32 = (((1 : ℝ) / 8 : ℝ) : EReal) := by
  simp [Ideal.ofBits, Ideal.ieee, -EReal.coe_mul]; norm_num

theorem expR (a : ℝ) : Ideal.exp (a : EReal) = ((Real.exp a : ℝ) : EReal) := by
  rfl

theorem exp_bot : Ideal.exp ⊥ = ((0 : ℝ) : EReal) := rfl

theorem logR {a : ℝ} (h : 0 < a) : Ideal.log (a : EReal) = ((Real.log a : ℝ) : EReal) := by
  show (if a ≤ 0 then (⊥ : EReal) else _) = _
  rw [if_neg (not_le.mpr h)]

theorem divR (a : ℝ) {b : ℝ} (h : 0 < b) : Ideal.div (a : EReal) (b : EReal) = ((a / b : ℝ) : EReal) := by
  have h0 : (b : EReal) ≠ 0 := by exact_mod_cast h.ne'
  rw [Ideal.div, if_neg h0, ← EReal.coe_inv, ← EReal.coe_mul, div_eq_mul_inv]

/-- The pattern of minus infinity. -/
theorem negInf : Ideal.ofBits .f32 0xFF800000#32 = ⊥ := by
  simp [Ideal.ofBits, Ideal.ieee]

/-- The pattern of infinity. -/
theorem posInf : Ideal.ofBits .f32 0x7F800000#32 = ⊤ := by
  simp [Ideal.ofBits, Ideal.ieee]

end Fox

end
-- ==== Proof.Spec.lean ====
/- The attention's gradients over the reals: the softmax's weights, the gradient of its logits, and the gradients of the queries, the keys,
   the values and the decays. -/
module

public import proofs.«01_k».proof.Proof.Basic

@[expose] public section

set_option maxRecDepth 16384

noncomputable section

namespace Fox

open Idealize.ShloMosaic

/-- Lane `d` of head `h`. -/
def col (h : Fin 4) (d : Fin 64) : Fin 256 := ⟨64 * h.val + d.val, by omega⟩
/-- The head of a lane. -/
def hd (l : Fin 256) : Fin 4 := ⟨l.val / 64, by omega⟩
/-- A lane's number in its head. -/
def ln (l : Fin 256) : Fin 64 := ⟨l.val % 64, by omega⟩
/-- The row of position `i` of sequence `b`. -/
def row (b : Fin 2) (i : Fin 4096) : Fin 8192 := ⟨4096 * b.val + i.val, by omega⟩
/-- The sequence of a row. -/
def bt (r : Fin 8192) : Fin 2 := ⟨r.val / 4096, by omega⟩
/-- The position of a row. -/
def ps (r : Fin 8192) : Fin 4096 := ⟨r.val % 4096, by omega⟩
/-- Head `a` of pair `p`. -/
def hp (p : Fin 2) (a : ℕ) (h : a < 2) : Fin 4 := ⟨2 * p.val + a, by omega⟩

/-- What the step's attention reads, over the reals. -/
structure In where
  Q : Fin 2 → Fin 4096 → Fin 256 → ℝ
  K : Fin 2 → Fin 4096 → Fin 256 → ℝ
  V : Fin 2 → Fin 4096 → Fin 256 → ℝ
  DY : Fin 8192 → Fin 256 → ℝ
  F : Fin 8192 → Fin 4 → ℝ

namespace In
variable (n : In)

/-- The logits. -/
def sc (b : Fin 2) (h : Fin 4) (i j : Fin 4096) : ℝ :=
  (∑ d, n.Q b i (col h d) * n.K b j (col h d)) * (1 / 8) + n.F (row b i) h - n.F (row b j) h
/-- The masked exponentials. -/
def w (b : Fin 2) (h : Fin 4) (i j : Fin 4096) : ℝ := if j.val ≤ i.val then Real.exp (n.sc b h i j) else 0
/-- Their sums. -/
def L (b : Fin 2) (h : Fin 4) (i : Fin 4096) : ℝ := ∑ j, n.w b h i j
/-- The softmax's weights. -/
def pr (b : Fin 2) (h : Fin 4) (i j : Fin 4096) : ℝ := n.w b h i j / n.L b h i
/-- The attention's output. -/
def y (b : Fin 2) (h : Fin 4) (i : Fin 4096) (d : Fin 64) : ℝ := ∑ j, n.pr b h i j * n.V b j (col h d)
/-- The gradient of the weights. -/
def dp (b : Fin 2) (h : Fin 4) (i j : Fin 4096) : ℝ := ∑ d, n.DY (row b i) (col h d) * n.V b j (col h d)
/-- The weights' mean of their gradient. -/
def de (b : Fin 2) (h : Fin 4) (i : Fin 4096) : ℝ := ∑ j, n.pr b h i j * n.dp b h i j
/-- The gradient of the logits. -/
def ds (b : Fin 2) (h : Fin 4) (i j : Fin 4096) : ℝ := n.pr b h i j * (n.dp b h i j - n.de b h i)
/-- The gradient of the queries. -/
def dq (b : Fin 2) (h : Fin 4) (i : Fin 4096) (d : Fin 64) : ℝ := ∑ j, n.ds b h i j * (1 / 8) * n.K b j (col h d)
/-- The gradient of the keys. -/
def dk (b : Fin 2) (h : Fin 4) (j : Fin 4096) (d : Fin 64) : ℝ := ∑ i, n.ds b h i j * (1 / 8) * n.Q b i (col h d)
/-- The gradient of the values. -/
def dv (b : Fin 2) (h : Fin 4) (j : Fin 4096) (d : Fin 64) : ℝ := ∑ i, n.DY (row b i) (col h d) * n.pr b h i j
/-- The part of the decays' gradient that comes from the keys. -/
def dr (b : Fin 2) (h : Fin 4) (j : Fin 4096) : ℝ := ∑ i, -n.ds b h i j
/-- The part of the decays' gradient that comes from the queries. -/
def dc (b : Fin 2) (h : Fin 4) (i : Fin 4096) : ℝ := ∑ j, n.ds b h i j

theorem L_pos (b : Fin 2) (h : Fin 4) (i : Fin 4096) : 0 < n.L b h i := by
  refine Finset.sum_pos' (fun j _ => ?_) ⟨i, Finset.mem_univ _, ?_⟩
  · unfold In.w; split
    · exact (Real.exp_pos _).le
    · exact le_refl _
  · unfold In.w; rw [if_pos (le_refl _)]; exact Real.exp_pos _

/-- The masked exponentials of the logits less a number of each row. -/
def e (M : Fin 2 → Fin 4 → Fin 4096 → ℝ) (b : Fin 2) (h : Fin 4) (i j : Fin 4096) : ℝ :=
  if j.val ≤ i.val then Real.exp (n.sc b h i j - M b h i) else 0
/-- Their sums. -/
def S (M : Fin 2 → Fin 4 → Fin 4096 → ℝ) (b : Fin 2) (h : Fin 4) (i : Fin 4096) : ℝ := ∑ j, n.e M b h i j

theorem e_eq (M : Fin 2 → Fin 4 → Fin 4096 → ℝ) (b : Fin 2) (h : Fin 4) (i j : Fin 4096) : n.e M b h i j = n.w b h i j * Real.exp (-M b h i) := by
  unfold In.e In.w; split
  · rw [← Real.exp_add, sub_eq_add_neg]
  · rw [zero_mul]
theorem S_eq (M : Fin 2 → Fin 4 → Fin 4096 → ℝ) (b : Fin 2) (h : Fin 4) (i : Fin 4096) : n.S M b h i = n.L b h i * Real.exp (-M b h i) := by
  unfold In.S In.L; rw [Finset.sum_mul]; exact Finset.sum_congr rfl fun j _ => n.e_eq M b h i j
theorem S_pos (M : Fin 2 → Fin 4 → Fin 4096 → ℝ) (b : Fin 2) (h : Fin 4) (i : Fin 4096) : 0 < n.S M b h i := by
  rw [n.S_eq]; exact mul_pos (n.L_pos b h i) (Real.exp_pos _)
/-- The softmax does not depend on what is taken off the logits. -/
theorem pr_eq (M : Fin 2 → Fin 4 → Fin 4096 → ℝ) (b : Fin 2) (h : Fin 4) (i j : Fin 4096) : n.e M b h i j / n.S M b h i = n.pr b h i j := by
  rw [n.e_eq, n.S_eq, In.pr, mul_div_mul_right _ _ (Real.exp_pos _).ne']
/-- The logarithm of the sum of the exponentials. -/
theorem log_eq (M : Fin 2 → Fin 4 → Fin 4096 → ℝ) (b : Fin 2) (h : Fin 4) (i : Fin 4096) : M b h i + Real.log (n.S M b h i) = Real.log (n.L b h i) := by
  rw [n.S_eq, Real.log_mul (n.L_pos b h i).ne' (Real.exp_pos _).ne', Real.log_exp]; ring

/-- The gradient of the softmax, as differentiating its quotient gives it. -/
theorem ds_eq (M : Fin 2 → Fin 4 → Fin 4096 → ℝ) (b : Fin 2) (h : Fin 4) (i j : Fin 4096) :
    (n.dp b h i j / n.S M b h i + -(∑ k, n.dp b h i k * (1 / (n.S M b h i * n.S M b h i)) * n.e M b h i k)) * n.e M b h i j = n.ds b h i j := by
  have hS := (n.S_pos M b h i).ne'
  unfold In.ds In.de
  have : ∀ k, n.dp b h i k * (1 / (n.S M b h i * n.S M b h i)) * n.e M b h i k = (n.pr b h i k * n.dp b h i k) / n.S M b h i := fun k => by
    rw [← n.pr_eq M]; field_simp
  simp only [this]
  rw [← Finset.sum_div, ← n.pr_eq M b h i j]
  field_simp
  ring

/-- The output's gradient times the output is the weights' mean of their gradient. -/
theorem de_eq (b : Fin 2) (h : Fin 4) (i : Fin 4096) : ∑ d, n.DY (row b i) (col h d) * n.y b h i d = n.de b h i := by
  unfold In.y In.de In.dp
  simp only [Finset.mul_sum]
  rw [Finset.sum_comm]
  exact Finset.sum_congr rfl fun j _ => Finset.sum_congr rfl fun d _ => by ring

theorem ds_masked {b : Fin 2} {h : Fin 4} {i j : Fin 4096} (hij : ¬ j.val ≤ i.val) : n.ds b h i j = 0 := by
  unfold In.ds In.pr In.w; rw [if_neg hij, zero_div, zero_mul]

end In

end Fox

end
-- ==== Proof.Ref.lean ====
/- The reference's values over the reals, line by line. -/
module

public import proofs.«01_k».proof.Proof.Spec
public import proofs.«01_k».proof.Proof.Gen.ReferenceIdeal.Read
public import Idealize.ShloMosaic.Lib.KernelVsHost

@[expose] public section

set_option maxRecDepth 16384

noncomputable section

namespace Fox

open Idealize.ShloMosaic Idealize.ShloMosaic.TcCoe Cert.ReferenceIdeal Cert.ReferenceIdeal.Gen Cert.ReferenceIdeal.Read

theorem idx2 {a b : ℕ} {t : (⟨2, ![a, b]⟩ : Shape).Idx} {i : Fin a} {j : Fin b} (h0 : (t 0).val = i.val) (h1 : (t 1).val = j.val) : t = ix2 i j :=
  funext fun c => Fin.ext (by match c with | ⟨0, _⟩ => exact h0 | ⟨1, _⟩ => exact h1)
theorem idx3 {a b c : ℕ} {t : (⟨3, ![a, b, c]⟩ : Shape).Idx} {i : Fin a} {j : Fin b} {k : Fin c} (h0 : (t 0).val = i.val) (h1 : (t 1).val = j.val)
    (h2 : (t 2).val = k.val) : t = ix3 i j k :=
  funext fun c => Fin.ext (by match c with | ⟨0, _⟩ => exact h0 | ⟨1, _⟩ => exact h1 | ⟨2, _⟩ => exact h2)
theorem idx4 {a b c d : ℕ} {t : (⟨4, ![a, b, c, d]⟩ : Shape).Idx} {i : Fin a} {j : Fin b} {k : Fin c} {l : Fin d} (h0 : (t 0).val = i.val)
    (h1 : (t 1).val = j.val) (h2 : (t 2).val = k.val) (h3 : (t 3).val = l.val) : t = ix4 i j k l :=
  funext fun c => Fin.ext (by match c with | ⟨0, _⟩ => exact h0 | ⟨1, _⟩ => exact h1 | ⟨2, _⟩ => exact h2 | ⟨3, _⟩ => exact h3)

theorem Is2.get {a b : ℕ} {x : (⟨2, ![a, b]⟩ : Shape).Idx → EReal} {f : Fin a → Fin b → ℝ} (h : Is2 x f) (t : (⟨2, ![a, b]⟩ : Shape).Idx)
    {i : Fin a} {j : Fin b} (h0 : (t 0).val = i.val) (h1 : (t 1).val = j.val) : x t = ((f i j : ℝ) : EReal) := by
  rw [idx2 h0 h1]; exact h i j
theorem Is3.get {a b c : ℕ} {x : (⟨3, ![a, b, c]⟩ : Shape).Idx → EReal} {f : Fin a → Fin b → Fin c → ℝ} (h : Is3 x f) (t : (⟨3, ![a, b, c]⟩ : Shape).Idx)
    {i : Fin a} {j : Fin b} {k : Fin c} (h0 : (t 0).val = i.val) (h1 : (t 1).val = j.val) (h2 : (t 2).val = k.val) : x t = ((f i j k : ℝ) : EReal) := by
  rw [idx3 h0 h1 h2]; exact h i j k
theorem Is4.get {a b c d : ℕ} {x : (⟨4, ![a, b, c, d]⟩ : Shape).Idx → EReal} {f : Fin a → Fin b → Fin c → Fin d → ℝ} (h : Is4 x f)
    (t : (⟨4, ![a, b, c, d]⟩ : Shape).Idx) {i : Fin a} {j : Fin b} {k : Fin c} {l : Fin d} (h0 : (t 0).val = i.val) (h1 : (t 1).val = j.val)
    (h2 : (t 2).val = k.val) (h3 : (t 3).val = l.val) : x t = ((f i j k l : ℝ) : EReal) := by
  rw [idx4 h0 h1 h2 h3]; exact h i j k l

/-- A sum of products of reals. -/
theorem sum_mulR {N : ℕ} {u v : Fin N → EReal} {f g : Fin N → ℝ} (hu : ∀ k, u k = ((f k : ℝ) : EReal)) (hv : ∀ k, v k = ((g k : ℝ) : EReal)) :
    ∑ k, u k * v k = ((∑ k, f k * g k : ℝ) : EReal) := by
  simp only [hu, hv, mulR, coe_sum]
/-- A sum of reals from zero. -/
theorem sumR {N : ℕ} {z : EReal} {u : Fin N → EReal} {f : Fin N → ℝ} (hz : z = 0) (hu : ∀ k, u k = ((f k : ℝ) : EReal)) :
    z + ∑ k, u k = ((∑ k, f k : ℝ) : EReal) := by
  simp only [hu, hz, zero_add, coe_sum]

theorem zeroBits : Ideal.ofBits .f32 0x00000000#32 = 0 := by simp [Ideal.ofBits, Ideal.ieee]
theorem oneBits : Ideal.ofBits .f32 0x3F800000#32 = ((1 : ℝ) : EReal) := by simp [Ideal.ofBits, Ideal.ieee]; norm_num; rw [← EReal.coe_mul]; norm_num
theorem negR (a : ℝ) : -(a : EReal) = ((-a : ℝ) : EReal) := (EReal.coe_neg a).symm

/-- The largest of extended reals below infinity, one of them real, is real. -/
theorem max_real {N : ℕ} (u : Fin N → EReal) (ht : ∀ k, u k < ⊤) (k0 : Fin N) (h0 : ⊥ < u k0) :
    ∃ r : ℝ, (Finset.univ : Finset (Fin N)).fold max ⊥ u = (r : EReal) := by
  have h1 : (Finset.univ : Finset (Fin N)).fold max ⊥ u < ⊤ := Finset.fold_max_lt _ |>.mpr ⟨bot_lt_top, fun k _ => ht k⟩
  have h2 : ⊥ < (Finset.univ : Finset (Fin N)).fold max ⊥ u := Finset.lt_fold_max _ |>.mpr (.inr ⟨k0, Finset.mem_univ _, h0⟩)
  exact ⟨_, (EReal.coe_toReal h1.ne h2.ne').symm⟩

/-- What the arguments hold, over the reals. -/
structure Holds (n : In) (x0 : (⟨S8192x256, .f32⟩ : BufTy).Contents (Elt Ideal)) (x1 x2 : (⟨S2x4096x256, .bf16⟩ : BufTy).Contents (Elt Ideal))
    (x3 : (⟨S2x4096x2688, .bf16⟩ : BufTy).Contents (Elt Ideal)) (x4 : (⟨S8192x128, .f32⟩ : BufTy).Contents (Elt Ideal)) : Prop where
  dy : Is2 (a := 8192) (b := 256) x0 n.DY
  q : Is3 (a := 2) (b := 4096) (c := 256) x1 n.Q
  k : Is3 (a := 2) (b := 4096) (c := 256) x2 n.K
  v : Is3 (a := 2) (b := 4096) (c := 256) (fun t => x3 (ix3 (t 0) (t 1) ⟨2304 + (t 2).val, by have h : (t 2).val < 256 := (t 2).isLt; show 2304 + (t 2).val < 2688; omega⟩)) n.V
  f : Is2 (a := 8192) (b := 4) (fun t => x4 (ix2 (t 0) ⟨(t 1).val, by have h : (t 1).val < 4 := (t 1).isLt; show (t 1).val < 128; omega⟩)) n.F

variable {n : In} {x0 : (⟨S8192x256, .f32⟩ : BufTy).Contents (Elt Ideal)} {x1 x2 : (⟨S2x4096x256, .bf16⟩ : BufTy).Contents (Elt Ideal)}
  {x3 : (⟨S2x4096x2688, .bf16⟩ : BufTy).Contents (Elt Ideal)} {x4 : (⟨S8192x128, .f32⟩ : BufTy).Contents (Elt Ideal)}

section
variable (H : Holds n x0 x1 x2 x3 x4)
include H

theorem v8_is : Is4 (a := 2) (b := 4) (c := 4096) (d := 64) (val_main_v8 (F := Ideal) x1) fun b h i d => n.Q b i (col h d) := fun b h i d => by
  rw [val_main_v8_apply, val_main_v7_apply, val_main_v0_apply]
  exact H.q.get _ (by show (((b.val * 4096 + i.val) * 4 + h.val) * 64 + d.val) / 1048576 = b.val; omega)
    (by show (((b.val * 4096 + i.val) * 4 + h.val) * 64 + d.val) / 256 % 4096 = i.val; omega)
    (by show (((b.val * 4096 + i.val) * 4 + h.val) * 64 + d.val) % 256 = 64 * h.val + d.val; omega)

theorem v10_is : Is4 (a := 2) (b := 4) (c := 4096) (d := 64) (val_main_v10 (F := Ideal) x2) fun b h i d => n.K b i (col h d) := fun b h i d => by
  rw [val_main_v10_apply, val_main_v9_apply, val_main_v1_apply]
  exact H.k.get _ (by show (((b.val * 4096 + i.val) * 4 + h.val) * 64 + d.val) / 1048576 = b.val; omega)
    (by show (((b.val * 4096 + i.val) * 4 + h.val) * 64 + d.val) / 256 % 4096 = i.val; omega)
    (by show (((b.val * 4096 + i.val) * 4 + h.val) * 64 + d.val) % 256 = 64 * h.val + d.val; omega)

theorem v57_is : Is4 (a := 2) (b := 4) (c := 4096) (d := 64) (val_main_v57 (F := Ideal) x3) fun b h i d => n.V b i (col h d) := fun b h i d => by
  rw [val_main_v57_apply, val_main_v56_apply, val_main_v3_apply, val_main_v2_apply]
  refine Eq.trans ?_ (H.v b i (col h d))
  exact congrArg x3 (idx3 (by show (((b.val * 4096 + i.val) * 4 + h.val) * 64 + d.val) / 1048576 = b.val; omega)
    (by show (((b.val * 4096 + i.val) * 4 + h.val) * 64 + d.val) / 256 % 4096 = i.val; omega)
    (by show 2304 + (((b.val * 4096 + i.val) * 4 + h.val) * 64 + d.val) % 256 = 2304 + (64 * h.val + d.val); omega))

theorem v63_is : Is4 (a := 2) (b := 4) (c := 4096) (d := 64) (val_main_v63 (F := Ideal) x0) fun b h i d => n.DY (row b i) (col h d) := fun b h i d => by
  rw [val_main_v63_apply, val_main_v62_apply, val_main_v61_apply]
  exact H.dy.get _
    (by show (((((b.val * 4096 + i.val) * 4 + h.val) * 64 + d.val) / 1048576 * 4096 + (((b.val * 4096 + i.val) * 4 + h.val) * 64 + d.val) / 256 % 4096) * 256 + (((b.val * 4096 + i.val) * 4 + h.val) * 64 + d.val) % 256) / 256 = 4096 * b.val + i.val; omega)
    (by show (((((b.val * 4096 + i.val) * 4 + h.val) * 64 + d.val) / 1048576 * 4096 + (((b.val * 4096 + i.val) * 4 + h.val) * 64 + d.val) / 256 % 4096) * 256 + (((b.val * 4096 + i.val) * 4 + h.val) * 64 + d.val) % 256) % 256 = 64 * h.val + d.val; omega)

theorem v4_is : Is2 (a := 8192) (b := 4) (val_main_v4 (F := Ideal) x4) n.F := fun r h => by
  rw [val_main_v4_apply]
  exact (congrArg x4 (idx2 rfl rfl)).trans (H.f r h)

theorem v6_is : Is3 (a := 2) (b := 4) (c := 4096) (val_main_v6 (F := Ideal) x4) fun b h i => n.F (row b i) h := fun b h i => by
  rw [val_main_v6_apply, val_main_v5_apply]
  exact (v4_is H).get _ (by show ((b.val * 4096 + i.val) * 4 + h.val) / 4 = 4096 * b.val + i.val; omega)
    (by show ((b.val * 4096 + i.val) * 4 + h.val) % 4 = h.val; omega)

theorem v19_is : Is4 (a := 2) (b := 4) (c := 4096) (d := 4096) (val_main_v19 (F := Ideal) x1 x2 x4) n.sc := fun b h i j => by
  rw [val_main_v19_apply, val_main_v16_apply, val_main_v13_apply, val_main_v11_apply, val_main_v12_apply, val_main_cst_apply, val_main_v15_apply,
    val_main_v14_apply, val_main_v18_apply, val_main_v17_apply, sum_mulR (fun d => (v8_is H).get _ rfl rfl rfl rfl) (fun d => (v10_is H).get _ rfl rfl rfl rfl),
    (v6_is H).get (idx_main_v14 _) rfl rfl rfl, (v6_is H).get (idx_main_v17 _) rfl rfl rfl]
  show (_ * Ideal.ofBits .f32 0x3E000000#32 + _ : EReal) - _ = _
  rw [eighth, mulR, addR, subR]
  rfl
end

/-- The mask. -/
theorem mask_is (b : Fin 2) (h : Fin 4) (i j : Fin 4096) : val_main_v27_1 (F := Ideal) (ix4 b h i j) = if j.val ≤ i.val then 1#1 else 0#1 := by
  rw [val_main_v27_1_apply, val_main_v26_apply, val_main_v24_apply, val_main_v25_apply, val_main_v21_apply, val_main_v23_apply, val_main_v20_apply,
    val_main_v22_apply]
  show IntOp.cmpi .sle (BitVec.ofNat 32 j.val) (BitVec.ofNat 32 i.val) = _
  have h1 : (BitVec.ofNat 32 j.val).toInt = j.val := by rw [BitVec.toInt_ofNat']; simp [Int.bmod]; omega
  have h2 : (BitVec.ofNat 32 i.val).toInt = i.val := by rw [BitVec.toInt_ofNat']; simp [Int.bmod]; omega
  by_cases hh : j.val ≤ i.val
  · rw [if_pos hh]; simp only [IntOp.cmpi, BitVec.sle, h1, h2, Nat.cast_le, hh, decide_true]; rfl
  · rw [if_neg hh]; simp only [IntOp.cmpi, BitVec.sle, h1, h2, Nat.cast_le, hh, decide_false]; rfl

section
variable (H : Holds n x0 x1 x2 x3 x4)
include H

/-- The masked logits. -/
theorem v27_is (b : Fin 2) (h : Fin 4) (i j : Fin 4096) :
    val_main_v27_0 (F := Ideal) x1 x2 x4 (ix4 b h i j) = if j.val ≤ i.val then ((n.sc b h i j : ℝ) : EReal) else ⊥ := by
  rw [val_main_v27_0_apply, mask_is, v19_is H b h i j]
  by_cases hh : j.val ≤ i.val
  · rw [if_pos hh, if_pos hh]; rfl
  · rw [if_neg hh, if_neg hh, val_main_call0_v2_apply]
    exact negInf

/-- The largest logit of each row is real. -/
theorem v28_real : ∃ M : Fin 2 → Fin 4 → Fin 4096 → ℝ, Is3 (a := 2) (b := 4) (c := 4096) (val_main_v28 (F := Ideal) x1 x2 x4) M := by
  have h : ∀ (b : Fin 2) (h : Fin 4) (i : Fin 4096), ∃ r : ℝ, val_main_v28 (F := Ideal) x1 x2 x4 (ix3 b h i) = (r : EReal) := fun b h i => by
    unfold val_main_v28
    rw [Host.reduce_eq_fold_single FloatOps.maximumf _ _ reducesTo_S2x4x4096x4096_S2x4x4096_d3 (by decide) h_S_]
    have hl : ∀ k : Fin 4096, (val_main_v27_0 (F := Ideal) x1 x2 x4 ∘ Shape.Reduces.lift (s := S2x4x4096x4096) (a := 3) (t := S2x4x4096) (by decide) (ix3 b h i)) k
        = if k.val ≤ i.val then ((n.sc b h i k : ℝ) : EReal) else ⊥ := fun k =>
      (congrArg (val_main_v27_0 (F := Ideal) x1 x2 x4) (idx4 rfl rfl rfl rfl)).trans (v27_is H b h i k)
    have hb : (val_main_cst_1 (F := Ideal)) (Shape.Idx.first h_S_) = (⊥ : EReal) := negInf
    rw [hb]
    refine max_real _ (fun k => ?_) i ?_
    · rw [hl k]; split
      · exact EReal.coe_lt_top _
      · exact bot_lt_top
    · rw [hl i, if_pos (le_refl _)]; exact EReal.bot_lt_coe _
  choose M hM using h
  exact ⟨M, hM⟩

variable {M : Fin 2 → Fin 4 → Fin 4096 → ℝ} (hM : Is3 (a := 2) (b := 4) (c := 4096) (val_main_v28 (F := Ideal) x1 x2 x4) M)
include hM

theorem v48_is : Is4 (a := 2) (b := 4) (c := 4096) (d := 4096) (val_main_v48 (F := Ideal) x1 x2 x4) (n.e M) := fun b h i j => by
  rw [val_main_v48_apply, val_main_v47_apply, val_main_v46_apply, val_main_v45_apply, val_main_v35_apply, val_main_v34_apply, v27_is H, hM.get _ rfl rfl rfl]
  show Ideal.exp (_ - max (Ideal.ofBits .f32 0xFF800000#32) _) = _
  rw [negInf, max_bot_left, In.e]
  by_cases hh : j.val ≤ i.val
  · rw [if_pos hh, if_pos hh]; rw [subR, expR]; rfl
  · rw [if_neg hh, if_neg hh, EReal.bot_sub]; exact exp_bot

theorem v49_is : Is3 (a := 2) (b := 4) (c := 4096) (val_main_v49 (F := Ideal) x1 x2 x4) (n.S M) := fun b h i => by
  rw [val_main_v49_apply]
  exact sumR zeroBits fun k => (v48_is H hM).get _ rfl rfl rfl rfl

theorem v50_is : Is4 (a := 2) (b := 4) (c := 4096) (d := 1) (val_main_v50 (F := Ideal) x1 x2 x4) fun b h i _ => n.S M b h i := fun b h i j => by
  rw [val_main_v50_apply]
  exact (v49_is H hM).get _ rfl rfl rfl

theorem v52_is : Is4 (a := 2) (b := 4) (c := 4096) (d := 4096) (val_main_v52 (F := Ideal) x1 x2 x4) n.pr := fun b h i j => by
  rw [val_main_v52_apply, val_main_v51_apply, v48_is H hM, (v50_is H hM).get _ rfl rfl rfl (l := 0) rfl]
  exact (divR _ (n.S_pos M b h i)).trans (congrArg _ (n.pr_eq M b h i j))

theorem v60_is : Is3 (a := 2) (b := 4096) (c := 256) (val_main_v60 (F := Ideal) x1 x2 x3 x4) fun b i l => n.y b (hd l) i (ln l) := fun b i l => by
  rw [val_main_v60_apply, val_main_v59_apply]
  have h58 : Is4 (a := 2) (b := 4) (c := 4096) (d := 64) (val_main_v58 (F := Ideal) x1 x2 x3 x4) n.y := fun b h i d => by
    rw [val_main_v58_apply]
    exact sum_mulR (fun k => (v52_is H hM).get _ rfl rfl rfl rfl) (fun k => (v57_is H).get _ rfl rfl rfl rfl)
  exact h58.get _ (by show ((b.val * 4096 + i.val) * 256 + l.val) / 1048576 = b.val; omega)
    (by show ((b.val * 4096 + i.val) * 256 + l.val) / 64 % 4 = l.val / 64; omega)
    (by show ((b.val * 4096 + i.val) * 256 + l.val) / 256 % 4096 = i.val; omega)
    (by show ((b.val * 4096 + i.val) * 256 + l.val) % 64 = l.val % 64; omega)

theorem v68_is : Is3 (a := 2) (b := 4096) (c := 256) (val_main_v68 (F := Ideal) x0 x1 x2 x4) fun b i l => n.dv b (hd l) i (ln l) := fun b i l => by
  rw [val_main_v68_apply, val_main_v67_apply, val_main_v65_apply]
  have h64 : Is4 (a := 2) (b := 4) (c := 64) (d := 4096) (val_main_v64 (F := Ideal) x0 x1 x2 x4) fun b h d j => n.dv b h j d := fun b h d j => by
    rw [val_main_v64_apply]
    exact sum_mulR (fun k => (v63_is H).get _ rfl rfl rfl rfl) (fun k => (v52_is H hM).get _ rfl rfl rfl rfl)
  exact h64.get _ (by show ((b.val * 4096 + i.val) * 256 + l.val) / 1048576 = b.val; omega)
    (by show ((b.val * 4096 + i.val) * 256 + l.val) / 64 % 4 = l.val / 64; omega)
    (by show ((b.val * 4096 + i.val) * 256 + l.val) % 64 = l.val % 64; omega)
    (by show ((b.val * 4096 + i.val) * 256 + l.val) / 256 % 4096 = i.val; omega)

theorem v66_is : Is4 (a := 2) (b := 4) (c := 4096) (d := 4096) (val_main_v66 (F := Ideal) x0 x3) n.dp := fun b h i j => by
  rw [val_main_v66_apply]
  exact sum_mulR (fun k => (v63_is H).get _ rfl rfl rfl rfl) (fun k => (v57_is H).get _ rfl rfl rfl rfl)

theorem v71_is : Is4 (a := 2) (b := 4) (c := 4096) (d := 4096) (val_main_v71 (F := Ideal) x0 x1 x2 x3 x4)
    fun b h i j => n.dp b h i j * (1 / (n.S M b h i * n.S M b h i)) * n.e M b h i j := fun b h i j => by
  rw [val_main_v71_apply, val_main_v70_apply, val_main_v69_apply, val_main_v55_apply, val_main_v53_apply, val_main_v54_apply, val_main_cst_10_apply,
    v48_is H hM, v66_is H hM, (v50_is H hM).get _ rfl rfl rfl (l := 0) rfl]
  show ((_ : EReal) * Ideal.div (Ideal.ofBits .f32 0x3F800000#32) ((n.S M b h i : EReal) * (n.S M b h i : EReal))) * _ = _
  rw [oneBits, mulR, divR _ (mul_pos (n.S_pos M b h i) (n.S_pos M b h i)), mulR, mulR]

theorem v77_is : Is3 (a := 2) (b := 4) (c := 4096) (val_main_v77 (F := Ideal) x0 x1 x2 x3 x4)
    fun b h i => -(∑ k, n.dp b h i k * (1 / (n.S M b h i * n.S M b h i)) * n.e M b h i k) := fun b h i => by
  rw [val_main_v77_apply]
  have h72 : Is3 (a := 2) (b := 4) (c := 4096) (val_main_v72 (F := Ideal) x0 x1 x2 x3 x4)
      fun b h i => ∑ k, n.dp b h i k * (1 / (n.S M b h i * n.S M b h i)) * n.e M b h i k := fun b h i => by
    rw [val_main_v72_apply]
    exact sumR zeroBits fun k => (v71_is H hM).get _ rfl rfl rfl rfl
  refine (sumR zeroBits (f := fun _ => -(∑ k, n.dp b h i k * (1 / (n.S M b h i * n.S M b h i)) * n.e M b h i k)) fun k => ?_).trans ?_
  · rw [val_main_v74_apply, val_main_v73_apply]
    rw [h72.get _ (i := b) (j := h) (k := i) (by show (((b.val * 4 + h.val) * 4096 + i.val) * 1 + k.val) / 16384 = b.val; omega)
      (by show (((b.val * 4 + h.val) * 4096 + i.val) * 1 + k.val) / 4096 % 4 = h.val; omega)
      (by show (((b.val * 4 + h.val) * 4096 + i.val) * 1 + k.val) % 4096 = i.val; omega)]
    exact negR _
  · rw [Fin.sum_univ_one]

/-- The gradient of the logits. -/
theorem v81_is : Is4 (a := 2) (b := 4) (c := 4096) (d := 4096) (val_main_v81 (F := Ideal) x0 x1 x2 x3 x4) n.ds := fun b h i j => by
  rw [val_main_v81_apply, mask_is]
  by_cases hh : j.val ≤ i.val
  · rw [if_pos hh, val_main_v80_apply, val_main_v79_apply, val_main_v76_apply, val_main_v75_apply, val_main_v78_apply, v48_is H hM, v66_is H hM,
      (v50_is H hM).get _ rfl rfl rfl (l := 0) rfl, (v77_is H hM).get _ rfl rfl rfl]
    show (Ideal.div ((n.dp b h i j : ℝ) : EReal) ((n.S M b h i : ℝ) : EReal)
      + ((-(∑ k, n.dp b h i k * (1 / (n.S M b h i * n.S M b h i)) * n.e M b h i k) : ℝ) : EReal)) * _ = _
    rw [divR _ (n.S_pos M b h i), addR, mulR, n.ds_eq]
  · rw [if_neg hh, n.ds_masked hh, val_main_call1_v0_apply]
    exact zeroBits

theorem v90_is : Is4 (a := 2) (b := 4) (c := 4096) (d := 4096) (val_main_v90 (F := Ideal) x0 x1 x2 x3 x4) fun b h i j => n.ds b h i j * (1 / 8) := fun b h i j => by
  rw [val_main_v90_apply, v81_is H hM, val_main_v89_apply]
  show (_ : EReal) * Ideal.ofBits .f32 0x3E000000#32 = _
  rw [eighth, mulR]

/-- The reference's gradient of the keys. -/
theorem v94_is : Is3 (a := 2) (b := 4096) (c := 256) (val_main_v94 (F := Ideal) x0 x1 x2 x3 x4) fun b i l => n.dk b (hd l) i (ln l) := fun b i l => by
  rw [val_main_v94_apply, val_main_v93_apply]
  have h91 : Is4 (a := 2) (b := 4) (c := 4096) (d := 64) (val_main_v91 (F := Ideal) x0 x1 x2 x3 x4) n.dk := fun b h j d => by
    rw [val_main_v91_apply]
    exact sum_mulR (fun k => (v90_is H hM).get _ rfl rfl rfl rfl) (fun k => (v8_is H).get _ rfl rfl rfl rfl)
  exact h91.get _ (by show ((b.val * 4096 + i.val) * 256 + l.val) / 1048576 = b.val; omega)
    (by show ((b.val * 4096 + i.val) * 256 + l.val) / 64 % 4 = l.val / 64; omega)
    (by show ((b.val * 4096 + i.val) * 256 + l.val) / 256 % 4096 = i.val; omega)
    (by show ((b.val * 4096 + i.val) * 256 + l.val) % 64 = l.val % 64; omega)

/-- The reference's gradient of the queries. -/
theorem v102_is : Is2 (a := 8192) (b := 256) (val_main_v102 (F := Ideal) x0 x1 x2 x3 x4) fun r l => n.dq (bt r) (hd l) (ps r) (ln l) := fun r l => by
  have h92 : Is4 (a := 2) (b := 4) (c := 4096) (d := 64) (val_main_v92 (F := Ideal) x0 x1 x2 x3 x4) n.dq := fun b h j d => by
    rw [val_main_v92_apply]
    exact sum_mulR (fun k => (v90_is H hM).get _ rfl rfl rfl rfl) (fun k => (v10_is H).get _ rfl rfl rfl rfl)
  have h96 : Is3 (a := 2) (b := 4096) (c := 256) (val_main_v96 (F := Ideal) x0 x1 x2 x3 x4) fun b i l => n.dq b (hd l) i (ln l) := fun b i l => by
    rw [val_main_v96_apply, val_main_v95_apply]
    exact h92.get _ (by show ((b.val * 4096 + i.val) * 256 + l.val) / 1048576 = b.val; omega)
      (by show ((b.val * 4096 + i.val) * 256 + l.val) / 64 % 4 = l.val / 64; omega)
      (by show ((b.val * 4096 + i.val) * 256 + l.val) / 256 % 4096 = i.val; omega)
      (by show ((b.val * 4096 + i.val) * 256 + l.val) % 64 = l.val % 64; omega)
  rw [val_main_v102_apply]
  exact h96.get _ (by show (r.val * 256 + l.val) / 1048576 = r.val / 4096; omega)
    (by show (r.val * 256 + l.val) / 256 % 4096 = r.val % 4096; omega) (by show (r.val * 256 + l.val) % 256 = l.val; omega)

/-- The reference's gradient of the decays from the keys. -/
theorem v98_is : Is4 (a := 2) (b := 2) (c := 8) (d := 4096) (val_main_v98 (F := Ideal) x0 x1 x2 x3 x4)
    fun b p a j => if h : a.val < 2 then n.dr b (hp p a.val h) j else 0 := fun b p a j => by
  have h83 : Is3 (a := 2) (b := 4) (c := 4096) (val_main_v83 (F := Ideal) x0 x1 x2 x3 x4) n.dr := fun b h j => by
    rw [val_main_v83_apply]
    refine sumR zeroBits fun k => ?_
    rw [val_main_v82_apply, (v81_is H hM).get _ rfl rfl rfl rfl]
    exact negR _
  have h85 : Is3 (a := 2) (b := 4) (c := 4096) (val_main_v85 (F := Ideal) x0 x1 x2 x3 x4) n.dr := fun b h j => by
    rw [val_main_v85_apply]
    refine (sumR zeroBits (f := fun _ => n.dr b h j) fun k => ?_).trans (by rw [Fin.sum_univ_one])
    rw [val_main_v84_apply]
    exact h83.get _ (i := b) (j := h) (k := j) (by show (((b.val * 4 + h.val) * 1 + k.val) * 4096 + j.val) / 16384 = b.val; omega)
      (by show (((b.val * 4 + h.val) * 1 + k.val) * 4096 + j.val) / 4096 % 4 = h.val; omega)
      (by show (((b.val * 4 + h.val) * 1 + k.val) * 4096 + j.val) % 4096 = j.val; omega)
  have h97 : ∀ (b p a : Fin 2) (j : Fin 4096), val_main_v97 (F := Ideal) x0 x1 x2 x3 x4 (ix4 b p a j) = ((n.dr b (hp p a.val a.isLt) j : ℝ) : EReal) := fun b p a j => by
    rw [val_main_v97_apply]
    exact h85.get _ (by show (((b.val * 2 + p.val) * 2 + a.val) * 4096 + j.val) / 16384 = b.val; omega)
      (by show (((b.val * 2 + p.val) * 2 + a.val) * 4096 + j.val) / 4096 % 4 = 2 * p.val + a.val; omega)
      (by show (((b.val * 2 + p.val) * 2 + a.val) * 4096 + j.val) % 4096 = j.val; omega)
  unfold val_main_v98
  beta_reduce
  by_cases ha : a.val < 2
  · rw [dif_pos ha]
    rw [pad_apply_of_inside _ _ _ _ _ _ _ _ (ix4 b p ⟨a.val, ha⟩ j) fun c => by
      match c with
      | ⟨0, _⟩ => show b.val = 0 + b.val * 1; omega
      | ⟨1, _⟩ => show p.val = 0 + p.val * 1; omega
      | ⟨2, _⟩ => show a.val = 0 + a.val * 1; omega
      | ⟨3, _⟩ => show j.val = 0 + j.val * 1; omega]
    exact h97 b p ⟨a.val, ha⟩ j
  · rw [dif_neg ha]
    rw [pad_apply_of_not_inside _ _ _ _ _ _ _ _ 2 fun h => ha (by
      have h2 : (a.val - 0) / (0 + 1) < 2 := h.2.2
      omega)]
    show (((0#32).toInt : ℝ) : EReal) = _
    simp

/-- The reference's gradient of the decays from the queries. -/
theorem v103_is : Is3 (a := 2) (b := 8192) (c := 128) (val_main_v103 (F := Ideal) x0 x1 x2 x3 x4)
    fun p r l => if h : l.val < 2 then n.dc (bt r) (hp p l.val h) (ps r) else 0 := fun p r l => by
  have h86 : Is3 (a := 2) (b := 4) (c := 4096) (val_main_v86 (F := Ideal) x0 x1 x2 x3 x4) n.dc := fun b h i => by
    rw [val_main_v86_apply]
    exact sumR zeroBits fun k => (v81_is H hM).get _ rfl rfl rfl rfl
  have h88 : Is3 (a := 2) (b := 4) (c := 4096) (val_main_v88 (F := Ideal) x0 x1 x2 x3 x4) n.dc := fun b h i => by
    rw [val_main_v88_apply]
    refine (sumR zeroBits (f := fun _ => n.dc b h i) fun k => ?_).trans (by rw [Fin.sum_univ_one])
    rw [val_main_v87_apply]
    exact h86.get _ (i := b) (j := h) (k := i) (by show (((b.val * 4 + h.val) * 4096 + i.val) * 1 + k.val) / 16384 = b.val; omega)
      (by show (((b.val * 4 + h.val) * 4096 + i.val) * 1 + k.val) / 4096 % 4 = h.val; omega)
      (by show (((b.val * 4 + h.val) * 4096 + i.val) * 1 + k.val) % 4096 = i.val; omega)
  have h101 : ∀ (p : Fin 2) (r : Fin 8192) (a : Fin 2), val_main_v101 (F := Ideal) x0 x1 x2 x3 x4 (ix3 p r a) = ((n.dc (bt r) (hp p a.val a.isLt) (ps r) : ℝ) : EReal) := fun p r a => by
    rw [val_main_v101_apply, val_main_v100_apply, val_main_v99_apply]
    have e0 : ((p.val * 8192 + r.val) * 2 + a.val) / 16384 = p.val := by omega
    have e1 : ((p.val * 8192 + r.val) * 2 + a.val) / 8192 % 2 = r.val / 4096 := by omega
    have e2 : ((p.val * 8192 + r.val) * 2 + a.val) / 2 % 4096 = r.val % 4096 := by omega
    have e3 : ((p.val * 8192 + r.val) * 2 + a.val) % 2 = a.val := by omega
    have e : (((((p.val * 8192 + r.val) * 2 + a.val) / 8192 % 2) * 2 + ((p.val * 8192 + r.val) * 2 + a.val) / 16384) * 2 + ((p.val * 8192 + r.val) * 2 + a.val) % 2) * 4096 + ((p.val * 8192 + r.val) * 2 + a.val) / 2 % 4096
        = ((r.val / 4096 * 2 + p.val) * 2 + a.val) * 4096 + r.val % 4096 := by rw [e0, e1, e2, e3]
    have hB : r.val / 4096 < 2 := by omega
    have hP : r.val % 4096 < 4096 := by omega
    exact h88.get _ (by
        show ((((((p.val * 8192 + r.val) * 2 + a.val) / 8192 % 2) * 2 + ((p.val * 8192 + r.val) * 2 + a.val) / 16384) * 2 + ((p.val * 8192 + r.val) * 2 + a.val) % 2) * 4096 + ((p.val * 8192 + r.val) * 2 + a.val) / 2 % 4096) / 16384 = r.val / 4096
        rw [e]; generalize r.val / 4096 = B at hB ⊢; generalize r.val % 4096 = P at hP ⊢; omega)
      (by
        show ((((((p.val * 8192 + r.val) * 2 + a.val) / 8192 % 2) * 2 + ((p.val * 8192 + r.val) * 2 + a.val) / 16384) * 2 + ((p.val * 8192 + r.val) * 2 + a.val) % 2) * 4096 + ((p.val * 8192 + r.val) * 2 + a.val) / 2 % 4096) / 4096 % 4 = 2 * p.val + a.val
        rw [e]; generalize r.val / 4096 = B at hB ⊢; generalize r.val % 4096 = P at hP ⊢; omega)
      (by
        show ((((((p.val * 8192 + r.val) * 2 + a.val) / 8192 % 2) * 2 + ((p.val * 8192 + r.val) * 2 + a.val) / 16384) * 2 + ((p.val * 8192 + r.val) * 2 + a.val) % 2) * 4096 + ((p.val * 8192 + r.val) * 2 + a.val) / 2 % 4096) % 4096 = r.val % 4096
        rw [e]; generalize r.val / 4096 = B at hB ⊢; generalize r.val % 4096 = P at hP ⊢; omega)
  unfold val_main_v103
  beta_reduce
  by_cases hl : l.val < 2
  · rw [dif_pos hl]
    rw [pad_apply_of_inside _ _ _ _ _ _ _ _ (ix3 p r ⟨l.val, hl⟩) fun c => by
      match c with
      | ⟨0, _⟩ => show p.val = 0 + p.val * 1; omega
      | ⟨1, _⟩ => show r.val = 0 + r.val * 1; omega
      | ⟨2, _⟩ => show l.val = 0 + l.val * 1; omega]
    exact h101 p r ⟨l.val, hl⟩
  · rw [dif_neg hl]
    rw [pad_apply_of_not_inside _ _ _ _ _ _ _ _ 2 fun h => hl (by
      have h2 : (l.val - 0) / (0 + 1) < 2 := h.2.2
      omega)]
    show (((0#32).toInt : ℝ) : EReal) = _
    simp

end

end Fox

end
-- ==== Proof.Block.lean ====
/- What each payload of the kernel's body computes on vectors of reals. -/
module

public import proofs.«01_k».proof.Proof.Basic
public import proofs.«01_k».proof.Proof.Gen.KernelIdeal.Skeleton

@[expose] public section

set_option maxRecDepth 16384

noncomputable section

namespace Fox

open Idealize.ShloMosaic Idealize.ShloMosaic.TcCoe Idealize.SL.Sem
open Cert.KernelIdeal Cert.KernelIdeal.Gen

/-- The signed comparison of two small words, as a choice. -/
theorem sel_slt {α : Type} (n c : ℕ) (hn : n < 2 ^ 31) (hc : c < 2 ^ 31) (x y : α) :
    Scalar.select (IntOp.cmpi CmpIPredicate.slt (BitVec.ofNat 32 n) (BitVec.ofNat 32 c)) x y = if n < c then x else y := by
  have h1 : (BitVec.ofNat 32 n).toInt = n := by rw [BitVec.toInt_ofNat']; simp [Int.bmod]; omega
  have h2 : (BitVec.ofNat 32 c).toInt = c := by rw [BitVec.toInt_ofNat']; simp [Int.bmod]; omega
  by_cases h : n < c
  · simp [Scalar.select, IntOp.cmpi, BitVec.slt, h1, h2, h]
  · simp [Scalar.select, IntOp.cmpi, BitVec.slt, h1, h2, h]

/-- The causal comparison of the words of a key's and a query's position, as a choice. -/
theorem sel_causal {α : Type} (kb qi : ℕ) (hk : kb < 16) (hq : qi < 8) (r : Fin 1024) (j : Fin 256) (x y : α) :
    Scalar.select (IntOp.cmpi CmpIPredicate.sle (IntOp.addi (BitVec.ofNat 32 j.val) (Scalar.muli (BitVec.ofNat 32 kb) 256#32))
        (IntOp.addi (IntOp.andi (BitVec.ofNat 32 r.val) 511#32) (Scalar.muli (BitVec.ofNat 32 qi) 512#32))) x y
      = if kb * 256 + j.val ≤ qi * 512 + r.val % 512 then x else y := by
  have e1 : IntOp.addi (BitVec.ofNat 32 j.val) (Scalar.muli (BitVec.ofNat 32 kb) 256#32) = BitVec.ofNat 32 (kb * 256 + j.val) := by
    apply BitVec.eq_of_toNat_eq
    simp [IntOp.addi, Scalar.muli, IntOp.muli]
    omega
  have e2 : IntOp.addi (IntOp.andi (BitVec.ofNat 32 r.val) 511#32) (Scalar.muli (BitVec.ofNat 32 qi) 512#32) = BitVec.ofNat 32 (qi * 512 + r.val % 512) := by
    have h : r.val &&& 511 = r.val % 512 := Nat.and_two_pow_sub_one_eq_mod r.val 9
    have hr : r.val % 4294967296 = r.val := by omega
    apply BitVec.eq_of_toNat_eq
    simp [IntOp.addi, Scalar.muli, IntOp.muli, IntOp.andi, hr, h]
    omega
  have h1 : (BitVec.ofNat 32 (kb * 256 + j.val)).toInt = (kb * 256 + j.val : ℕ) := by rw [BitVec.toInt_ofNat']; simp [Int.bmod]; omega
  have h2 : (BitVec.ofNat 32 (qi * 512 + r.val % 512)).toInt = (qi * 512 + r.val % 512 : ℕ) := by rw [BitVec.toInt_ofNat']; simp [Int.bmod]; omega
  rw [e1, e2]
  by_cases h : kb * 256 + j.val ≤ qi * 512 + r.val % 512
  · rw [if_pos h]
    simp only [Scalar.select, IntOp.cmpi, BitVec.sle, h1, h2, Nat.cast_le, h, decide_true]
    rfl
  · rw [if_neg h]
    simp only [Scalar.select, IntOp.cmpi, BitVec.sle, h1, h2, Nat.cast_le, h, decide_false]
    rfl

variable {q y : Fin 1024 → Fin 128 → ℝ} {fq le de : Fin 1024 → ℝ} {fa fb : Fin 256 → ℝ} {k v : Fin 256 → Fin 128 → ℝ}
variable {p d s1 s2 s3 : Fin 1024 → Fin 256 → ℝ}
variable {v24 v36 : FVec Ideal S1024x128 .bf16} {v52 v55 v58 : FVec Ideal S1024x1 .f32} {v327 v330 v331 v363 v366 : FVec Ideal S1024x256 .f32}

/-- The decay of a block's keys, by the row's head. -/
def fr (fa fb : Fin 256 → ℝ) (r : Fin 1024) (j : Fin 256) : ℝ := if r.val < 512 then fa j else fb j

/-- The products of the rows with a block's keys, scaled. -/
def dots (q : Fin 1024 → Fin 128 → ℝ) (k : Fin 256 → Fin 128 → ℝ) (r : Fin 1024) (j : Fin 256) : ℝ := ∑ l, q r l * k j l

theorem pay2_is {x : Vec Ideal S1x256x128 .bf16} (hk : Is3 x fun _ => k) : Is2 (k0_pay2 x) k := by
  intro r j; pointwise [k0_pay2]; exact hk _ _ _
theorem pay3_is {x : Vec Ideal S1x256x128 .bf16} (hk : Is3 x fun _ => k) : Is2 (k0_pay3 x) k := by
  intro r j; pointwise [k0_pay3]; exact hk _ _ _
theorem pay4_is {x : Vec Ideal S1x256x128 .bf16} (hk : Is3 x fun _ => k) : Is2 (k0_pay4 x) k := by
  intro r j; pointwise [k0_pay4]; exact hk _ _ _
theorem pay5_is {x : Vec Ideal S1x256x128 .bf16} (hk : Is3 x fun _ => k) : Is2 (k0_pay5 x) k := by
  intro r j; pointwise [k0_pay5]; exact hk _ _ _
theorem pay68_is {x : Vec Ideal S1x256x128 .bf16} (hk : Is3 x fun _ => k) : Is2 (k0_pay68 x) k := by
  intro r j; pointwise [k0_pay68]; exact hk _ _ _
theorem pay80_is {x : Vec Ideal S1x256x128 .bf16} (hk : Is3 x fun _ => k) : Is2 (k0_pay80 x) k := by
  intro r j; pointwise [k0_pay80]; exact hk _ _ _
theorem pay81_is {x : Vec Ideal S1x256x128 .bf16} (hk : Is3 x fun _ => k) : Is2 (k0_pay81 x) k := by
  intro r j; pointwise [k0_pay81]; exact hk _ _ _

theorem pay6_is {x1 x2 : Vec Ideal S1x1x1x256 .f32} (ha : Is4 x1 fun _ _ _ => fa) (hb : Is4 x2 fun _ _ _ => fb) :
    Is2 (k0_pay6 k0_pay59 x1 x2) (fr fa fb) := by
  intro r j
  pointwise [k0_pay6, k0_pay59]
  rw [sel_slt _ _ (by omega) (by omega), fr]
  split
  · exact ha _ _ _ _
  · exact hb _ _ _ _

theorem pay7_is {x : Vec Ideal S1x256x128 .bf16} (hq : Is2 v24 q) (hk : Is3 x fun _ => k) :
    Is2 (k0_pay7 v24 x) fun r j => dots q k r j * (1 / 8) := by
  intro r j
  pointwise [k0_pay7, k0_pay2]
  simp only [hq _ _, hk _ _ _, mulR, coe_sum, eighth, dots]

theorem pay8_is (hf : Is2 v58 fun r _ => fq r) : Is2 (k0_pay8 v58) fun r _ => fq r := by
  intro r j
  pointwise [k0_pay8]
  exact hf _ _

theorem pay9_is (hl : Is2 v55 fun r _ => le r) (h1 : Is2 v327 s1) (h2 : Is2 v330 s2) (h3 : Is2 v331 s3) :
    Is2 (k0_pay9 v55 v327 v330 v331) fun r j => Real.exp (s2 r j + s3 r j - s1 r j - le r) := by
  intro r j
  pointwise [k0_pay9]
  simp only [hl _ _, h1 _ _, h2 _ _, h3 _ _, addR, subR, expR]

/-- The weights of a block: the exponential of the logits less the row's normaliser. -/
def pB (q : Fin 1024 → Fin 128 → ℝ) (k : Fin 256 → Fin 128 → ℝ) (fq : Fin 1024 → ℝ) (fa fb : Fin 256 → ℝ) (le : Fin 1024 → ℝ)
    (r : Fin 1024) (j : Fin 256) : ℝ :=
  Real.exp (dots q k r j * (1 / 8) + fq r - fr fa fb r j - le r)

theorem pay10_is {v311 : FVec Ideal S256x128 .bf16} {x1 x2 : Vec Ideal S1x1x1x256 .f32} (hq : Is2 v24 q) (hl : Is2 v55 fun r _ => le r)
    (hf : Is2 v58 fun r _ => fq r) (hk : Is2 v311 k) (ha : Is4 x1 fun _ _ _ => fa) (hb : Is4 x2 fun _ _ _ => fb) :
    Is2 (k0_pay10 v24 v55 v58 k0_pay59 v311 x1 x2) (pB q k fq fa fb le) := by
  intro r j
  pointwise [k0_pay10, k0_pay59]
  rw [sel_slt _ _ (by omega) (by omega)]
  simp only [ha _ _ _ _, hb _ _ _ _, hq _ _, hk _ _, hl _ _, hf _ _, mulR, coe_sum, eighth, pB, dots, fr]
  split <;> simp only [addR, subR, expR]

theorem pay11_is {v308 : FVec Ideal S256x128 .bf16} (hy : Is2 v36 y) (hd : Is2 v52 fun r _ => de r) (hv : Is2 v308 v)
    (hp : Is2 (k0_pay9 v55 v327 v330 v331) p) :
    Is2 (k0_pay11 v36 v52 v55 v308 v327 v330 v331) fun r j => p r j * (dots y v r j - de r) := by
  intro r j
  pointwise [k0_pay11]
  simp only [hp _ _, hy _ _, hd _ _, hv _ _, mulR, coe_sum, subR, dots]

theorem pay12_is {v311 v314 : FVec Ideal S256x128 .bf16} {x1 x2 : Vec Ideal S1x1x1x256 .f32} {v61 : IVec S1024x1 1} (hy : Is2 v36 y) (hd : Is2 v52 fun r _ => de r) (hv : Is2 v314 v)
    (hp : Is2 (k0_pay10 v24 v55 v58 v61 v311 x1 x2) p) :
    Is2 (k0_pay12 v24 v36 v52 v55 v58 v61 v311 v314 x1 x2) fun r j => p r j * (dots y v r j - de r) := by
  intro r j
  pointwise [k0_pay12]
  simp only [hp _ _, hy _ _, hd _ _, hv _ _, mulR, coe_sum, subR, dots]

theorem pay13_is {v308 : FVec Ideal S256x128 .bf16} (hD : Is2 (k0_pay11 v36 v52 v55 v308 v327 v330 v331) d) :
    Is2 (k0_pay13 v36 v52 v55 v308 v327 v330 v331) fun r j => d r j * (1 / 8) := by
  intro r j
  pointwise [k0_pay13]
  simp only [hD _ _, mulR, eighth]

theorem pay21_is (hD : Is2 v366 d) : Is2 (k0_pay21 v366) fun r j => d r j * (1 / 8) := by
  intro r j
  pointwise [k0_pay21]
  simp only [hD _ _, mulR, eighth]

/-- What a block adds to a row of its keys: the rows' weights times the rows. -/
def cols (w : Fin 1024 → Fin 256 → ℝ) (z : Fin 1024 → Fin 128 → ℝ) (j : Fin 256) (l : Fin 128) : ℝ := ∑ r, w r j * z r l

theorem pay14_is {v308 : FVec Ideal S256x128 .bf16} {x : Vec Ideal S1x256x128 .f32} {g : Fin 256 → Fin 128 → ℝ} (hq : Is2 v24 q)
    (hD : Is2 (k0_pay13 v36 v52 v55 v308 v327 v330 v331) d) (hx : Is3 x fun _ => g) :
    Is2 (k0_pay14 v24 v36 v52 v55 v308 v327 v330 v331 x) fun j l => g j l + cols d q j l := by
  intro r j
  pointwise [k0_pay14]
  simp only [hD _ _, hq _ _, hx _ _ _, mulR, coe_sum, addR, cols]

theorem pay15_is {x : FVec Ideal S256x128 .f32} {g : Fin 256 → Fin 128 → ℝ} (hx : Is2 x g) : Is3 (k0_pay15 x) fun _ => g := by
  intro a r j
  pointwise [k0_pay15]
  exact hx _ _

theorem pay16_is {x : Vec Ideal S1x256x128 .f32} {v357 : FVec Ideal S1024x256 .f32} {g : Fin 256 → Fin 128 → ℝ} (hy : Is2 v36 y)
    (hp : Is2 v357 p) (hx : Is3 x fun _ => g) : Is3 (k0_pay16 v36 v357 x) fun _ j l => g j l + cols p y j l := by
  intro a r j
  pointwise [k0_pay16]
  simp only [hp _ _, hy _ _, hx _ _ _, mulR, coe_sum, addR, cols]

theorem pay22_is {x : Vec Ideal S1x256x128 .f32} {g : Fin 256 → Fin 128 → ℝ} (hq : Is2 v24 q)
    (hD : Is2 (k0_pay21 v366) d) (hx : Is3 x fun _ => g) : Is3 (k0_pay22 v24 v366 x) fun _ j l => g j l + cols d q j l := by
  intro a r j
  pointwise [k0_pay22]
  simp only [hD _ _, hq _ _, hx _ _ _, mulR, coe_sum, addR, cols]

theorem pay23_is {x : Vec Ideal S1x256x128 .f32} {v357 : FVec Ideal S1024x256 .f32} {g : Fin 256 → Fin 128 → ℝ} (hy : Is2 v36 y)
    (hp : Is2 v357 p) (hx : Is3 x fun _ => g) : Is3 (k0_pay23 v36 v357 x) fun _ j l => g j l + cols p y j l := by
  intro a r j
  pointwise [k0_pay23]
  simp only [hp _ _, hy _ _, hx _ _ _, mulR, coe_sum, addR, cols]

/-- The sum of a block's entries over the rows of its first head. -/
def colA (d : Fin 1024 → Fin 256 → ℝ) (j : Fin 256) : ℝ := ∑ i : Fin 512, d ⟨i.val, by omega⟩ j
/-- The sum of a block's entries over the rows of its second head. -/
def colB (d : Fin 1024 → Fin 256 → ℝ) (j : Fin 256) : ℝ := ∑ i : Fin 512, d ⟨512 + i.val, by omega⟩ j

theorem pay17_is {x : Vec Ideal S1x1x1x256 .f32} {g : Fin 256 → ℝ} (hD : Is2 v366 d) (hx : Is4 x fun _ _ _ => g) :
    Is4 (k0_pay17 v366 x) fun _ _ _ j => g j - colA d j := by
  intro a b c j
  pointwise [k0_pay17]
  simp only [hD _ _, hx _ _ _ _, coe_sum, subR, colA]

theorem pay18_is {x : Vec Ideal S1x1x1x256 .f32} {g : Fin 256 → ℝ} (hD : Is2 v366 d) (hx : Is4 x fun _ _ _ => g) :
    Is4 (k0_pay18 v366 x) fun _ _ _ j => g j - colB d j := by
  intro a b c j
  pointwise [k0_pay18]
  simp only [hD _ _, hx _ _ _ _, coe_sum, subR, colB]

theorem pay24_is {x : Vec Ideal S1x1x1x256 .f32} {g : Fin 256 → ℝ} (hD : Is2 v366 d) (hx : Is4 x fun _ _ _ => g) :
    Is4 (k0_pay24 v366 x) fun _ _ _ j => g j - colA d j := by
  intro a b c j
  pointwise [k0_pay24]
  simp only [hD _ _, hx _ _ _ _, coe_sum, subR, colA]

theorem pay62_is {x : Vec Ideal S1x1x1x256 .f32} {g : Fin 256 → ℝ} (hD : Is2 v366 d) (hx : Is4 x fun _ _ _ => g) :
    Is4 (k0_pay62 v366 x) fun _ _ _ j => g j - colB d j := by
  intro a b c j
  pointwise [k0_pay62]
  simp only [hD _ _, hx _ _ _ _, coe_sum, subR, colB]

theorem pay74_is {x : Vec Ideal S1x1x1x256 .f32} {g : Fin 256 → ℝ} (hD : Is2 v366 d) (hx : Is4 x fun _ _ _ => g) :
    Is4 (k0_pay74 v366 x) fun _ _ _ j => g j - colA d j := by
  intro a b c j
  pointwise [k0_pay74]
  simp only [hD _ _, hx _ _ _ _, coe_sum, subR, colA]

theorem pay77_is {x : Vec Ideal S1x1x1x256 .f32} {g : Fin 256 → ℝ} (hD : Is2 v366 d) (hx : Is4 x fun _ _ _ => g) :
    Is4 (k0_pay77 (k0_pay75 x) (k0_pay76 v366)) fun _ _ _ j => g j - colB d j := by
  intro a b c j
  pointwise [k0_pay77, k0_pay75, k0_pay76]
  simp only [hD _ _, hx _ _ _ _, coe_sum, subR, colB]

theorem pay88_is {x : Vec Ideal S1x1x1x256 .f32} {g : Fin 256 → ℝ} (hD : Is2 v366 d) (hx : Is4 x fun _ _ _ => g) :
    Is4 (k0_pay88 v366 x) fun _ _ _ j => g j - colA d j := by
  intro a b c j
  pointwise [k0_pay88]
  simp only [hD _ _, hx _ _ _ _, coe_sum, subR, colA]

theorem pay89_is {x : Vec Ideal S1x1x1x256 .f32} {g : Fin 256 → ℝ} (hD : Is2 v366 d) (hx : Is4 x fun _ _ _ => g) :
    Is4 (k0_pay89 v366 x) fun _ _ _ j => g j - colB d j := by
  intro a b c j
  pointwise [k0_pay89]
  simp only [hD _ _, hx _ _ _ _, coe_sum, subR, colB]

/-- What a block adds to the rows: their weights times the block's keys. -/
def rows (w : Fin 1024 → Fin 256 → ℝ) (k : Fin 256 → Fin 128 → ℝ) (r : Fin 1024) (l : Fin 128) : ℝ := ∑ j, w r j * k j l

theorem pay19_is {x : FVec Ideal S256x128 .bf16} {w : FVec Ideal S1024x256 .bf16} (hw : Is2 w d) (hk : Is2 x k) : Is2 (k0_pay19 x w) (rows d k) := by
  intro r l
  pointwise [k0_pay19]
  simp only [hw _ _, hk _ _, mulR, coe_sum, rows]

theorem pay20_is {a b : FVec Ideal S1024x128 .f32} {f g : Fin 1024 → Fin 128 → ℝ} (ha : Is2 a f) (hb : Is2 b g) :
    Is2 (k0_pay20 a b) fun r l => f r l + g r l := by
  intro r l
  pointwise [k0_pay20]
  simp only [ha _ _, hb _ _, addR]

theorem pay63_is {x : FVec Ideal S256x128 .bf16} {w : FVec Ideal S1024x256 .bf16} {a : FVec Ideal S1024x128 .f32} {f : Fin 1024 → Fin 128 → ℝ}
    (hk : Is2 x k) (ha : Is2 a f) (hw : Is2 w d) : Is2 (k0_pay63 x a w) fun r l => f r l + rows d k r l := by
  intro r l
  pointwise [k0_pay63]
  simp only [ha _ _, hw _ _, hk _ _, mulR, coe_sum, addR, rows]

theorem pay78_is {x : FVec Ideal S256x128 .bf16} {w : FVec Ideal S1024x256 .bf16} {a : FVec Ideal S1024x128 .f32} {f : Fin 1024 → Fin 128 → ℝ}
    (hk : Is2 x k) (ha : Is2 a f) (hw : Is2 w d) : Is2 (k0_pay78 a x w) fun r l => f r l + rows d k r l := by
  intro r l
  pointwise [k0_pay78]
  simp only [ha _ _, hw _ _, hk _ _, mulR, coe_sum, addR, rows]

theorem pay64_is {a : FVec Ideal S1024x1 .f32} {f : Fin 1024 → ℝ} {d' : Fin 1024 → Fin 256 → ℝ} (ha : Is2 a fun r _ => f r) (h1 : Is2 v363 d) (h2 : Is2 v366 d') :
    Is2 (k0_pay64 a v363 v366) fun r _ => f r + ∑ j, (d r j + d' r j) := by
  intro r l
  pointwise [k0_pay64]
  simp only [ha _ _, h1 _ _, h2 _ _, coe_sum, addR]

theorem pay79_is {a : FVec Ideal S1024x1 .f32} {f : Fin 1024 → ℝ} (ha : Is2 a fun r _ => f r) (h1 : Is2 v363 d) :
    Is2 (k0_pay79 a v363) fun r _ => f r + ∑ j, d r j := by
  intro r l
  pointwise [k0_pay79]
  simp only [ha _ _, h1 _ _, coe_sum, addR]

theorem pay90_is {a : FVec Ideal S1024x1 .f32} {f : Fin 1024 → ℝ} (ha : Is2 a fun r _ => f r) (h1 : Is2 v363 d) :
    Is2 (k0_pay90 a v363) fun r _ => f r + ∑ j, d r j := by
  intro r l
  pointwise [k0_pay90]
  simp only [ha _ _, h1 _ _, coe_sum, addR]

/-- The first or the second half of stacked rows, by the lane's head. -/
def unst (f : Fin 1024 → Fin 128 → ℝ) (r : Fin 512) (l : Fin 128) : ℝ :=
  if l.val < 64 then f ⟨r.val, by omega⟩ l else f ⟨512 + r.val, by omega⟩ l

theorem pay91_is {x : FVec Ideal S256x128 .bf16} {w : FVec Ideal S1024x256 .bf16} {a : FVec Ideal S1024x128 .f32} {f : Fin 1024 → Fin 128 → ℝ}
    (hk : Is2 x k) (ha : Is2 a f) (hw : Is2 w d) : Is2 (k0_pay91 a x w) (unst fun r l => f r l + rows d k r l) := by
  intro r l
  pointwise [k0_pay91]
  rw [sel_slt _ _ (by omega) (by omega), unst]
  split
  · simp only [ha _ _, hw _ _, hk _ _, mulR, coe_sum, addR, rows]
  · simp only [ha _ _, hw _ _, hk _ _, mulR, coe_sum, addR, rows]

/-- The weights of a block on the diagonal. -/
def pM (kb qi : ℕ) (p : Fin 1024 → Fin 256 → ℝ) (r : Fin 1024) (j : Fin 256) : ℝ :=
  if kb * 256 + j.val ≤ qi * 512 + r.val % 512 then p r j else 0

theorem pay69_is {kb qi : ℕ} (hkb : kb < 16) (hqi : qi < 8) {v77 : FVec Ideal S256x128 .bf16} {x1 x2 : Vec Ideal S1x1x1x256 .f32} (hq : Is2 v24 q) (hl : Is2 v55 fun r _ => le r)
    (hf : Is2 v58 fun r _ => fq r) (hk : Is2 v77 k) (ha : Is4 x1 fun _ _ _ => fa) (hb : Is4 x2 fun _ _ _ => fb) :
    Is2 (k0_pay69 (BitVec.ofNat 32 qi) v24 v55 v58 k0_pay59 (BitVec.ofNat 32 kb) v77 x1 x2) (pM kb qi (pB q k fq fa fb le)) := by
  intro r j
  pointwise [k0_pay69, k0_pay59]
  rw [sel_slt _ _ (by omega) (by omega), sel_causal _ _ hkb hqi]
  simp only [ha _ _ _ _, hb _ _ _ _, hq _ _, hk _ _, hl _ _, hf _ _, mulR, coe_sum, eighth, pB, dots, fr, pM]
  split
  · split <;> simp only [addR, subR, expR]
  · rfl

theorem pay70_is {a b : BitVec 32} {v61 : IVec S1024x1 1} {v77 : FVec Ideal S256x128 .bf16} {x : Vec Ideal S1x256x128 .bf16} {x1 x2 : Vec Ideal S1x1x1x256 .f32} (hy : Is2 v36 y) (hd : Is2 v52 fun r _ => de r)
    (hv : Is3 x fun _ => v) (hp : Is2 (k0_pay69 a v24 v55 v58 v61 b v77 x1 x2) p) :
    Is2 (k0_pay70 a v24 v36 v52 v55 v58 v61 b v77 x x1 x2) fun r j => p r j * (dots y v r j - de r) := by
  intro r j
  pointwise [k0_pay70]
  simp only [hp _ _, hy _ _, hd _ _, hv _ _ _, mulR, coe_sum, subR, dots]

theorem pay71_is {a b : BitVec 32} {v61 : IVec S1024x1 1} {v77 : FVec Ideal S256x128 .bf16} {x : Vec Ideal S1x256x128 .bf16} {x1 x2 : Vec Ideal S1x1x1x256 .f32}
    (hd : Is2 (k0_pay70 a v24 v36 v52 v55 v58 v61 b v77 x x1 x2) d) :
    Is2 (k0_pay71 a v24 v36 v52 v55 v58 v61 b v77 x x1 x2) fun r j => d r j * (1 / 8) := by
  intro r j
  pointwise [k0_pay71]
  simp only [hd _ _, mulR, eighth]

theorem pay72_is {x : Vec Ideal S1x256x128 .f32} {w : FVec Ideal S1024x256 .bf16} {g : Fin 256 → Fin 128 → ℝ} (hq : Is2 v24 q)
    (hD : Is2 w d) (hx : Is3 x fun _ => g) : Is3 (k0_pay72 v24 w x) fun _ j l => g j l + cols d q j l := by
  intro a r j
  pointwise [k0_pay72]
  simp only [hD _ _, hq _ _, hx _ _ _, mulR, coe_sum, addR, cols]

theorem pay73_is {x : Vec Ideal S1x256x128 .f32} {v357 : FVec Ideal S1024x256 .f32} {g : Fin 256 → Fin 128 → ℝ} (hy : Is2 v36 y)
    (hp : Is2 v357 p) (hx : Is3 x fun _ => g) : Is3 (k0_pay73 v36 v357 x) fun _ j l => g j l + cols p y j l := by
  intro a r j
  pointwise [k0_pay73]
  simp only [hp _ _, hy _ _, hx _ _ _, mulR, coe_sum, addR, cols]

theorem pay82_is {x : Vec Ideal S1x256x128 .bf16} {x1 x2 : Vec Ideal S1x1x1x256 .f32} (hq : Is2 v24 q) (hl : Is2 v55 fun r _ => le r)
    (hf : Is2 v58 fun r _ => fq r) (hk : Is3 x fun _ => k) (ha : Is4 x1 fun _ _ _ => fa) (hb : Is4 x2 fun _ _ _ => fb) :
    Is2 (k0_pay82 v24 v55 v58 k0_pay59 x x1 x2) fun r j => dots q k r j * (1 / 8) + fq r - fr fa fb r j - le r := by
  intro r j
  pointwise [k0_pay82, k0_pay80, k0_pay59]
  rw [sel_slt _ _ (by omega) (by omega)]
  simp only [ha _ _ _ _, hb _ _ _ _, hq _ _, hk _ _ _, hl _ _, hf _ _, mulR, coe_sum, eighth, dots, fr]
  split <;> simp only [addR, subR]

theorem pay83_is {kb qi : ℕ} (hkb : kb < 16) (hqi : qi < 8) (h : Is2 v366 d) :
    Is2 (k0_pay83 (BitVec.ofNat 32 qi) (BitVec.ofNat 32 kb) v366) (pM kb qi fun r j => Real.exp (d r j)) := by
  intro r j
  pointwise [k0_pay83]
  rw [sel_causal _ _ hkb hqi]
  simp only [h _ _, expR, pM]
  split <;> rfl

theorem pay84_is {a b : BitVec 32} {v177 : FVec Ideal S256x128 .bf16} (hy : Is2 v36 y) (hd : Is2 v52 fun r _ => de r)
    (hv : Is2 v177 v) (hp : Is2 (k0_pay83 a b v366) p) :
    Is2 (k0_pay84 a v36 v52 b v177 v366) fun r j => p r j * (dots y v r j - de r) := by
  intro r j
  pointwise [k0_pay84]
  simp only [hp _ _, hy _ _, hd _ _, hv _ _, mulR, coe_sum, subR, dots]

theorem pay85_is {a b : BitVec 32} {v177 : FVec Ideal S256x128 .bf16} (hd : Is2 (k0_pay84 a v36 v52 b v177 v366) d) :
    Is2 (k0_pay85 a v36 v52 b v177 v366) fun r j => d r j * (1 / 8) := by
  intro r j
  pointwise [k0_pay85]
  simp only [hd _ _, mulR, eighth]

theorem pay86_is {a b : BitVec 32} {v177 : FVec Ideal S256x128 .bf16} {x : Vec Ideal S1x256x128 .f32} {g : Fin 256 → Fin 128 → ℝ} (hq : Is2 v24 q)
    (hD : Is2 (k0_pay85 a v36 v52 b v177 v366) d) (hx : Is3 x fun _ => g) : Is3 (k0_pay86 a v24 v36 v52 b v177 v366 x) fun _ j l => g j l + cols d q j l := by
  intro z r j
  pointwise [k0_pay86]
  simp only [hD _ _, hq _ _, hx _ _ _, mulR, coe_sum, addR, cols]

theorem pay87_is {a b : BitVec 32} {x : Vec Ideal S1x256x128 .f32} {g : Fin 256 → Fin 128 → ℝ} (hy : Is2 v36 y)
    (hp : Is2 (k0_pay83 a b v366) p) (hx : Is3 x fun _ => g) : Is3 (k0_pay87 a v36 b v366 x) fun _ j l => g j l + cols p y j l := by
  intro z r j
  pointwise [k0_pay87]
  simp only [hp _ _, hy _ _, hx _ _ _, mulR, coe_sum, addR, cols]

/-! ## The set-up of a point -/

/-- Rows stacked over the two heads, the lanes of the other head zero. -/
def stk (f : Fin 512 → Fin 128 → ℝ) (r : Fin 1024) (l : Fin 128) : ℝ :=
  if h : r.val < 512 then (if l.val < 64 then f ⟨r.val, h⟩ l else 0) else (if l.val < 64 then 0 else f ⟨r.val - 512, by omega⟩ l)

theorem pay54_is {x : Vec Ideal S1x512x128 .bf16} {f : Fin 512 → Fin 128 → ℝ} (hx : Is3 x fun _ => f) :
    Is2 (k0_pay54 x) (stk f) := by
  intro r l
  pointwise [k0_pay54]
  simp only [sel_slt _ _ (show l.val < 2 ^ 31 by omega) (show 64 < 2 ^ 31 by omega), stk, hx _ _ _]
  split <;> split <;> rfl

theorem pay55_is {x : Vec Ideal S512x128 .f32} {f : Fin 512 → Fin 128 → ℝ} (hx : Is2 x f) :
    Is2 (k0_pay55 x) (stk f) := by
  intro r l
  pointwise [k0_pay55]
  simp only [sel_slt _ _ (show l.val < 2 ^ 31 by omega) (show 64 < 2 ^ 31 by omega), stk, hx _ _]
  split <;> split <;> rfl

/-- A column stacked over the two heads. -/
def stc (f g : Fin 512 → ℝ) (r : Fin 1024) : ℝ := if h : r.val < 512 then f ⟨r.val, h⟩ else g ⟨r.val - 512, by omega⟩

theorem pay56_is {x z : Vec Ideal S512x128 .f32} {f g : Fin 512 → Fin 128 → ℝ} (hx : Is2 x f) (hz : Is2 z g) :
    Is2 (k0_pay56 k0_pay51 x z) fun r _ => stc (fun i => ∑ l : Fin 128, if l.val < 64 then f i l * g i l else 0)
      (fun i => ∑ l : Fin 128, if l.val < 64 then 0 else f i l * g i l) r := by
  intro r l
  have hs : ∀ (x : Fin 128) (a b : EReal), Scalar.select (IntOp.cmpi CmpIPredicate.slt (BitVec.ofNat 32 x.val) 64#32) a b = if x.val < 64 then a else b :=
    fun x a b => sel_slt _ _ (by omega) (by omega) _ _
  have hi : ∀ (n : Prop) [Decidable n] (a b : ℝ), (if n then ((a : ℝ) : EReal) else (b : EReal)) = ((if n then a else b : ℝ) : EReal) := by
    intro n _ a b; split <;> rfl
  show _ = ((stc (fun i => ∑ l : Fin 128, if l.val < 64 then f i l * g i l else 0)
      (fun i => ∑ l : Fin 128, if l.val < 64 then 0 else f i l * g i l) r : ℝ) : EReal)
  generalize hG : stc (fun i => ∑ l : Fin 128, if l.val < 64 then f i l * g i l else 0)
      (fun i => ∑ l : Fin 128, if l.val < 64 then 0 else f i l * g i l) r = G
  pointwise [k0_pay56, k0_pay51]
  simp only [hs, hx _ _, hz _ _, mulR, ← EReal.coe_zero, hi, coe_sum]
  rw [← hG, stc]
  split <;> rfl

theorem pay57_is {x : Vec Ideal S1x512x128 .f32} {f : Fin 512 → Fin 128 → ℝ} (hx : Is3 x fun _ => f) :
    Is2 (k0_pay57 (k0_pay52 x)) fun r _ => stc (fun i => f i 0) (fun i => f i 64) r := by
  intro r l
  pointwise [k0_pay57, k0_pay52]
  simp only [stc]
  split
  · exact hx _ _ _
  · exact hx _ _ _

theorem pay58_is {x : Vec Ideal S1x1x512x2 .f32} {f : Fin 512 → Fin 2 → ℝ} (hx : Is4 x fun _ _ => f) :
    Is2 (k0_pay58 (k0_pay53 x)) fun r _ => stc (fun i => f i 0) (fun i => f i 1) r := by
  intro r l
  pointwise [k0_pay58, k0_pay53]
  simp only [stc]
  split
  · exact hx _ _ _ _
  · exact hx _ _ _ _

end Fox

end
-- ==== Proof.Window.lean ====
/- Blocks of 256 keys of a point's buffers: where the kernel's offsets lie, what a block read holds, what a block written leaves,
   and a sum over the keys below a bound, extended by a block. -/
module

public import proofs.«01_k».proof.Proof.Block
public import proofs.«01_k».proof.Proof.Gen.KernelIdeal.Skeleton
public import Idealize.ShloMosaic.Lib.VecWindow

@[expose] public section

set_option maxRecDepth 16384

noncomputable section

namespace Fox

open Idealize.ShloMosaic Cert.KernelIdeal Cert.KernelIdeal.Gen

/-! ## The kernel's offsets -/

theorem trips1 (i : grid0.Coords) : (k0_t1_loop i).trips = (i 2).val := by
  have h : ∀ q : Fin 8, (⟨0#32, Scalar.addi 0#32 (Scalar.muli (Scalar.divsi (Scalar.subi (BitVec.ofNat 32 q.val) 0#32) 1#32) 1#32), 1#32⟩ : Scf.Loop 32).trips = q.val := by decide +kernel
  exact h (i 2)

theorem trips2 (i : grid0.Coords) : (k0_t2_loop i).trips = 0 := by
  have h : ∀ q : Fin 8, (⟨Scalar.addi 0#32 (Scalar.muli (Scalar.divsi (Scalar.subi (BitVec.ofNat 32 q.val) 0#32) 1#32) 1#32), Scalar.addi 0#32 (Scalar.subi (BitVec.ofNat 32 q.val) 0#32), 1#32⟩ : Scf.Loop 32).trips = 0 := by decide +kernel
  exact h (i 2)

/-- The word of a trip's block. -/
theorem word_t1 (k : Fin 8) (c : Fin 2) :
    (Scalar.indexCast (Scalar.muli (Scalar.addi (Scalar.muli (Scf.iv 0#32 1#32 k.val) 2#32) (BitVec.ofNat 32 c.val)) 256#32) : BitVec 32).toNat = k.val * 512 + c.val * 256 := by
  revert k c; decide +kernel

/-- The word of a diagonal block. -/
theorem word_m (q : Fin 8) (c : Fin 2) :
    (Scalar.indexCast (Scalar.muli (Scalar.addi (Scalar.muli (BitVec.ofNat 32 q.val) 2#32) (BitVec.ofNat 32 c.val)) 256#32) : BitVec 32).toNat = q.val * 512 + c.val * 256 := by
  revert q c; decide +kernel

section
variable (i : grid0.Coords) (k : Fin (k0_t1_loop i).trips)

theorem k_lt : k.val < (i 2).val := lt_of_lt_of_eq k.isLt (trips1 i)
theorem qi_lt : (i 2).val < 8 := (i 2).isLt

theorem off1 (c : Fin 2) : k0_off1 i k (BitVec.ofNat 32 c.val) = ![0, k.val * 512 + c.val * 256, 0] :=
  congrArg (fun n => ![0, n, 0]) (word_t1 ⟨k.val, lt_trans (k_lt i k) (qi_lt i)⟩ c)
theorem off2 (c : Fin 2) : k0_off2 i k (BitVec.ofNat 32 c.val) = ![0, 0, 0, k.val * 512 + c.val * 256] :=
  congrArg (fun n => ![0, 0, 0, n]) (word_t1 ⟨k.val, lt_trans (k_lt i k) (qi_lt i)⟩ c)
theorem off3 (c : Fin 2) : k0_off3 i k (BitVec.ofNat 32 c.val) = ![0, 0, 1, k.val * 512 + c.val * 256] :=
  congrArg (fun n => ![0, 0, 1, n]) (word_t1 ⟨k.val, lt_trans (k_lt i k) (qi_lt i)⟩ c)
theorem off4 (c : Fin 2) : k0_off4 i k (BitVec.ofNat 32 c.val) = ![0, 0, 0, k.val * 512 + c.val * 256] :=
  congrArg (fun n => ![0, 0, 0, n]) (word_t1 ⟨k.val, lt_trans (k_lt i k) (qi_lt i)⟩ c)
theorem off5 (c : Fin 2) : k0_off5 i k (BitVec.ofNat 32 c.val) = ![0, 0, 1, k.val * 512 + c.val * 256] :=
  congrArg (fun n => ![0, 0, 1, n]) (word_t1 ⟨k.val, lt_trans (k_lt i k) (qi_lt i)⟩ c)
theorem off11 (c : Fin 2) : k0_off11 i (BitVec.ofNat 32 c.val) = ![0, (i 2).val * 512 + c.val * 256, 0] :=
  congrArg (fun n => ![0, n, 0]) (word_m (i 2) c)
theorem off12 (c : Fin 2) : k0_off12 i (BitVec.ofNat 32 c.val) = ![0, 0, 0, (i 2).val * 512 + c.val * 256] :=
  congrArg (fun n => ![0, 0, 0, n]) (word_m (i 2) c)
theorem off13 (c : Fin 2) : k0_off13 i (BitVec.ofNat 32 c.val) = ![0, 0, 1, (i 2).val * 512 + c.val * 256] :=
  congrArg (fun n => ![0, 0, 1, n]) (word_m (i 2) c)
theorem off14 (c : Fin 2) : k0_off14 i (BitVec.ofNat 32 c.val) = ![0, 0, 0, (i 2).val * 512 + c.val * 256] :=
  congrArg (fun n => ![0, 0, 0, n]) (word_m (i 2) c)
theorem off15 (c : Fin 2) : k0_off15 i (BitVec.ofNat 32 c.val) = ![0, 0, 1, (i 2).val * 512 + c.val * 256] :=
  congrArg (fun n => ![0, 0, 1, n]) (word_m (i 2) c)

end

/-! ## Blocks read and written -/

/-- The key at place `j` of the block at `n`. -/
def pos (n : ℕ) (hn : n + 256 ≤ 4096) (j : Fin 256) : Fin 4096 := ⟨n + j.val, by omega⟩

theorem win3 {x : (⟨3, ![1, 4096, 128]⟩ : Shape).Idx → EReal} {f : Fin 4096 → Fin 128 → ℝ} (n : ℕ) (hn : n + 256 ≤ 4096) (hx : Is3 x fun _ => f)
    (inb : ∀ a, (![0, n, 0] : Fin 3 → ℕ) a + (![1, 256, 128] : Fin 3 → ℕ) a ≤ (⟨3, ![1, 4096, 128]⟩ : Shape).size a) :
    Is3 (a := 1) (b := 256) (c := 128) (VecWindow.window x ![0, n, 0] ![1, 256, 128] inb) fun _ j l => f (pos n hn j) l := by
  intro a j l
  rw [← hx 0]
  refine congrArg x (funext fun z => Fin.ext ?_)
  have ha := a.isLt
  fin_cases z
  · show 0 + 1 * a.val = 0; omega
  · show n + 1 * j.val = n + j.val; omega
  · show 0 + 1 * l.val = l.val; omega

theorem win4 {A : ℕ} {x : (⟨4, ![1, 1, A, 4096]⟩ : Shape).Idx → EReal} {f : Fin A → Fin 4096 → ℝ} (b : Fin A) (n : ℕ) (hn : n + 256 ≤ 4096) (hx : Is4 x fun _ _ => f)
    (inb : ∀ a, (![0, 0, b.val, n] : Fin 4 → ℕ) a + (![1, 1, 1, 256] : Fin 4 → ℕ) a ≤ (⟨4, ![1, 1, A, 4096]⟩ : Shape).size a) :
    Is4 (a := 1) (b := 1) (c := 1) (d := 256) (VecWindow.window x ![0, 0, b.val, n] ![1, 1, 1, 256] inb) fun _ _ _ j => f b (pos n hn j) := by
  intro a a' a'' j
  rw [← hx 0 0]
  refine congrArg x (funext fun z => Fin.ext ?_)
  have ha := a.isLt
  have ha' := a'.isLt
  have ha'' := a''.isLt
  fin_cases z
  · show 0 + 1 * a.val = 0; omega
  · show 0 + 1 * a'.val = 0; omega
  · show b.val + 1 * a''.val = b.val; omega
  · show n + 1 * j.val = n + j.val; omega

theorem put3 {x : (⟨3, ![1, 4096, 128]⟩ : Shape).Idx → EReal} {f : Fin 4096 → Fin 128 → ℝ} (n : ℕ) (hn : n + 256 ≤ 4096) (hx : Is3 x fun _ => f)
    {w : (⟨3, ![1, 256, 128]⟩ : Shape).Idx → EReal} {g : Fin 256 → Fin 128 → ℝ} (hw : Is3 w fun _ => g) :
    Is3 (a := 1) (b := 4096) (c := 128) (VecWindow.put x ![0, n, 0] ![1, 256, 128] w) fun _ j l => if h : n ≤ j.val ∧ j.val < n + 256 then g ⟨j.val - n, by omega⟩ l else f j l := by
  intro a j l
  have ha := a.isLt
  have hl := l.isLt
  by_cases h : n ≤ j.val ∧ j.val < n + 256
  · have hm : ∀ z, (![0, n, 0] : Fin 3 → ℕ) z ≤ (ix3 a j l z).val ∧ (ix3 a j l z).val < (![0, n, 0] : Fin 3 → ℕ) z + (![1, 256, 128] : Fin 3 → ℕ) z := by
      intro z
      fin_cases z
      · exact ⟨Nat.zero_le _, by show a.val < 0 + 1; omega⟩
      · exact h
      · exact ⟨Nat.zero_le _, by show l.val < 0 + 128; omega⟩
    refine (dif_pos hm).trans ?_
    beta_reduce
    rw [dif_pos h, ← hw 0]
    refine congrArg w (funext fun z => Fin.ext ?_)
    fin_cases z
    · show a.val - 0 = 0; omega
    · rfl
    · rfl
  · refine (dif_neg fun hm => h (hm 1)).trans ?_
    beta_reduce
    rw [dif_neg h]
    exact hx _ _ _

theorem put4 {x : (⟨4, ![1, 1, 8, 4096]⟩ : Shape).Idx → EReal} {f : Fin 8 → Fin 4096 → ℝ} (b : Fin 8) (n : ℕ) (hn : n + 256 ≤ 4096) (hx : Is4 x fun _ _ => f)
    {w : (⟨4, ![1, 1, 1, 256]⟩ : Shape).Idx → EReal} {g : Fin 256 → ℝ} (hw : Is4 w fun _ _ _ => g) :
    Is4 (a := 1) (b := 1) (c := 8) (d := 4096) (VecWindow.put x ![0, 0, b.val, n] ![1, 1, 1, 256] w)
      fun _ _ a j => if h : a = b ∧ n ≤ j.val ∧ j.val < n + 256 then g ⟨j.val - n, by omega⟩ else f a j := by
  intro a a' a'' j
  have ha := a.isLt
  have ha' := a'.isLt
  by_cases h : a'' = b ∧ n ≤ j.val ∧ j.val < n + 256
  · have hm : ∀ z, (![0, 0, b.val, n] : Fin 4 → ℕ) z ≤ (ix4 a a' a'' j z).val ∧ (ix4 a a' a'' j z).val < (![0, 0, b.val, n] : Fin 4 → ℕ) z + (![1, 1, 1, 256] : Fin 4 → ℕ) z := by
      intro z
      fin_cases z
      · exact ⟨Nat.zero_le _, by show a.val < 0 + 1; omega⟩
      · exact ⟨Nat.zero_le _, by show a'.val < 0 + 1; omega⟩
      · exact ⟨le_of_eq (congrArg Fin.val h.1.symm), by show a''.val < b.val + 1; rw [h.1]; omega⟩
      · exact h.2
    refine (dif_pos hm).trans ?_
    beta_reduce
    rw [dif_pos h, ← hw 0 0 0]
    refine congrArg w (funext fun z => Fin.ext ?_)
    fin_cases z
    · show a.val - 0 = 0; omega
    · show a'.val - 0 = 0; omega
    · show a''.val - b.val = 0; rw [h.1]; omega
    · rfl
  · refine (dif_neg fun hm => h ⟨Fin.ext ?_, hm 3⟩).trans ?_
    · have h1 := hm 2
      have h2 : b.val ≤ a''.val ∧ a''.val < b.val + 1 := h1
      omega
    beta_reduce
    rw [dif_neg h]
    exact hx _ _ _ _

/-! ## Sums over the keys below a bound -/

/-- A sum over the keys below a bound, and the next block. -/
theorem sum_upto (f : Fin 4096 → ℝ) (n : ℕ) (hn : n + 256 ≤ 4096) :
    (∑ j : Fin 4096, if j.val < n + 256 then f j else 0) = (∑ j : Fin 4096, if j.val < n then f j else 0) + ∑ j : Fin 256, f (pos n hn j) := by
  have e : ∀ j : Fin 4096, (if j.val < n + 256 then f j else 0) = (if j.val < n then f j else 0) + (if n ≤ j.val ∧ j.val < n + 256 then f j else 0) := by
    intro j
    by_cases h1 : j.val < n
    · rw [if_pos (by omega), if_pos h1, if_neg (by omega), add_zero]
    · by_cases h2 : j.val < n + 256
      · rw [if_pos h2, if_neg h1, if_pos ⟨by omega, h2⟩, zero_add]
      · rw [if_neg h2, if_neg h1, if_neg (by omega), zero_add]
  rw [Finset.sum_congr rfl fun j _ => e j, Finset.sum_add_distrib, ← Finset.sum_filter (fun j : Fin 4096 => n ≤ j.val ∧ j.val < n + 256)]
  congr 1
  symm
  refine Finset.sum_bij (fun j _ => pos n hn j) (fun j _ => ?_) (fun a _ b _ h => ?_) (fun b hb => ?_) (fun _ _ => rfl)
  · rw [Finset.mem_filter]
    exact ⟨Finset.mem_univ _, Nat.le_add_right _ _, by show n + j.val < n + 256; omega⟩
  · have := congrArg Fin.val h
    exact Fin.ext (by have h' : n + a.val = n + b.val := this; omega)
  · have := (Finset.mem_filter.mp hb).2
    exact ⟨⟨b.val - n, by omega⟩, Finset.mem_univ _, Fin.ext (by show n + (b.val - n) = b.val; omega)⟩

end Fox

end
-- ==== Proof.Point.lean ====
/- What one grid point computes, over the reals: the masked weights, the gradient of the logits, and what the keys below a bound add to
   each of the point's sums; and the state of the point's buffers once the blocks below a bound are done. -/
module

public import proofs.«01_k».proof.Proof.Window

@[expose] public section

set_option maxRecDepth 16384

noncomputable section

namespace Fox

open Idealize.ShloMosaic Cert.KernelIdeal Cert.KernelIdeal.Gen

/-- What a grid point reads, over the reals: the stacked queries and output gradients, their decays, normalisers and row terms,
    the keys, values and decays of the two heads, and the point's number among its query blocks. -/
structure Pt where
  q : Fin 1024 → Fin 128 → ℝ
  y : Fin 1024 → Fin 128 → ℝ
  fq : Fin 1024 → ℝ
  le : Fin 1024 → ℝ
  de : Fin 1024 → ℝ
  k : Fin 4096 → Fin 128 → ℝ
  v : Fin 4096 → Fin 128 → ℝ
  fa : Fin 4096 → ℝ
  fb : Fin 4096 → ℝ
  qi : ℕ

namespace Pt

/-- The weights, before the mask. -/
def p (x : Pt) (r : Fin 1024) (j : Fin 4096) : ℝ :=
  Real.exp ((∑ l, x.q r l * x.k j l) * (1 / 8) + x.fq r - (if r.val < 512 then x.fa j else x.fb j) - x.le r)
/-- The weights. -/
def w (x : Pt) (r : Fin 1024) (j : Fin 4096) : ℝ := if j.val ≤ x.qi * 512 + r.val % 512 then x.p r j else 0
/-- The gradient of the logits. -/
def d (x : Pt) (r : Fin 1024) (j : Fin 4096) : ℝ := x.w r j * ((∑ l, x.y r l * x.v j l) - x.de r)
/-- What the point adds to the keys' gradients. -/
def dk (x : Pt) (j : Fin 4096) (l : Fin 128) : ℝ := ∑ r, x.d r j * (1 / 8) * x.q r l
/-- What the point adds to the values' gradients. -/
def dv (x : Pt) (j : Fin 4096) (l : Fin 128) : ℝ := ∑ r, x.w r j * x.y r l
/-- What the point takes off the gradients of the keys' decays, by the head. -/
def dr (x : Pt) (a : Fin 8) (j : Fin 4096) : ℝ :=
  if a = 0 then ∑ i : Fin 512, x.d ⟨i.val, by omega⟩ j else if a = 1 then ∑ i : Fin 512, x.d ⟨512 + i.val, by omega⟩ j else 0
/-- The queries' gradients from the keys below `n`. -/
def dq (x : Pt) (n : ℕ) (r : Fin 1024) (l : Fin 128) : ℝ := ∑ j : Fin 4096, if j.val < n then x.d r j * (1 / 8) * x.k j l else 0
/-- The sums of the logits' gradients over the keys below `n`. -/
def rs (x : Pt) (n : ℕ) (r : Fin 1024) : ℝ := ∑ j : Fin 4096, if j.val < n then x.d r j else 0

/-- The weights of the block at `n`, before the mask. -/
theorem p_block (x : Pt) (n : ℕ) (hn : n + 256 ≤ 4096) :
    pB x.q (fun j => x.k (pos n hn j)) x.fq (fun j => x.fa (pos n hn j)) (fun j => x.fb (pos n hn j)) x.le = fun r j => x.p r (pos n hn j) := rfl

theorem w_before (x : Pt) (n : ℕ) (hn : n + 256 ≤ 4096) (h : n + 256 ≤ x.qi * 512) :
    (fun r j => x.p r (pos n hn j)) = fun r j => x.w r (pos n hn j) := by
  funext r j
  have : (pos n hn j).val ≤ x.qi * 512 + r.val % 512 := by show n + j.val ≤ _; omega
  exact (if_pos this).symm

theorem w_masked (x : Pt) (kb : ℕ) (hn : kb * 256 + 256 ≤ 4096) :
    pM kb x.qi (fun r j => x.p r (pos (kb * 256) hn j)) = fun r j => x.w r (pos (kb * 256) hn j) := rfl

theorem dq_next (x : Pt) (n : ℕ) (hn : n + 256 ≤ 4096) (r : Fin 1024) (l : Fin 128) :
    x.dq (n + 256) r l = x.dq n r l + ∑ j : Fin 256, x.d r (pos n hn j) * (1 / 8) * x.k (pos n hn j) l :=
  sum_upto (fun j => x.d r j * (1 / 8) * x.k j l) n hn

theorem rs_next (x : Pt) (n : ℕ) (hn : n + 256 ≤ 4096) (r : Fin 1024) :
    x.rs (n + 256) r = x.rs n r + ∑ j : Fin 256, x.d r (pos n hn j) :=
  sum_upto (fun j => x.d r j) n hn

end Pt

/-- What a point reads, once for all its blocks. -/
structure Reads (x : Pt) (b7 b8 : (⟨3, ![1, 4096, 128]⟩ : Shape).Idx → EReal) (b10 : (⟨4, ![1, 1, 2, 4096]⟩ : Shape).Idx → EReal)
    (q y : (⟨2, ![1024, 128]⟩ : Shape).Idx → EReal) (de le fq : (⟨2, ![1024, 1]⟩ : Shape).Idx → EReal) : Prop where
  k : Is3 b7 fun _ => x.k
  v : Is3 b8 fun _ => x.v
  f : Is4 b10 fun _ _ a => if a = 0 then x.fa else x.fb
  q : Is2 q x.q
  y : Is2 y x.y
  de : Is2 de fun r _ => x.de r
  le : Is2 le fun r _ => x.le r
  fq : Is2 fq fun r _ => x.fq r

/-- The state of a point's sums and accumulated buffers once the blocks below `n` are done, over what the buffers held before. -/
structure St (x : Pt) (n : ℕ) (g2 g3 : Fin 4096 → Fin 128 → ℝ) (g4 : Fin 8 → Fin 4096 → ℝ)
    (a : (⟨2, ![1024, 128]⟩ : Shape).Idx → EReal) (s : (⟨2, ![1024, 1]⟩ : Shape).Idx → EReal)
    (b12 b13 : (⟨3, ![1, 4096, 128]⟩ : Shape).Idx → EReal) (b14 : (⟨4, ![1, 1, 8, 4096]⟩ : Shape).Idx → EReal) : Prop where
  a : Is2 a (x.dq n)
  s : Is2 s fun r _ => x.rs n r
  k : Is3 b12 fun _ j l => g2 j l + if j.val < n then x.dk j l else 0
  v : Is3 b13 fun _ j l => g3 j l + if j.val < n then x.dv j l else 0
  f : Is4 b14 fun _ _ a j => g4 a j - if j.val < n then x.dr a j else 0

/-- Equal functions hold of the same vector. -/
theorem Is2.congr {a b : ℕ} {x : (⟨2, ![a, b]⟩ : Shape).Idx → EReal} {f g : Fin a → Fin b → ℝ} (h : Is2 x f) (e : ∀ i j, f i j = g i j) : Is2 x g :=
  fun i j => (h i j).trans (congrArg _ (e i j))
theorem Is3.congr {a b c : ℕ} {x : (⟨3, ![a, b, c]⟩ : Shape).Idx → EReal} {f g : Fin a → Fin b → Fin c → ℝ} (h : Is3 x f) (e : ∀ i j k, f i j k = g i j k) : Is3 x g :=
  fun i j k => (h i j k).trans (congrArg _ (e i j k))
theorem Is4.congr {a b c d : ℕ} {x : (⟨4, ![a, b, c, d]⟩ : Shape).Idx → EReal} {f g : Fin a → Fin b → Fin c → Fin d → ℝ} (h : Is4 x f) (e : ∀ i j k l, f i j k l = g i j k l) : Is4 x g :=
  fun i j k l => (h i j k l).trans (congrArg _ (e i j k l))

/-- A block not yet done holds what the buffer held before. -/
theorem win3_old {x : (⟨3, ![1, 4096, 128]⟩ : Shape).Idx → EReal} {g c : Fin 4096 → Fin 128 → ℝ} {n : ℕ} (m : ℕ) (hm : m + 256 ≤ 4096) (hnm : n ≤ m)
    (hx : Is3 x fun _ j l => g j l + if j.val < n then c j l else 0)
    (inb : ∀ a, (![0, m, 0] : Fin 3 → ℕ) a + (![1, 256, 128] : Fin 3 → ℕ) a ≤ (⟨3, ![1, 4096, 128]⟩ : Shape).size a) :
    Is3 (a := 1) (b := 256) (c := 128) (VecWindow.window x ![0, m, 0] ![1, 256, 128] inb) fun _ j l => g (pos m hm j) l :=
  (win3 m hm hx inb).congr fun _ j l => by
    have h : ¬ (pos m hm j).val < n := by show ¬ m + j.val < n; omega
    rw [if_neg h, add_zero]

theorem win4_old {x : (⟨4, ![1, 1, 8, 4096]⟩ : Shape).Idx → EReal} {g c : Fin 8 → Fin 4096 → ℝ} {n : ℕ} (b : Fin 8) (m : ℕ) (hm : m + 256 ≤ 4096) (hnm : n ≤ m)
    (hx : Is4 x fun _ _ a j => g a j - if j.val < n then c a j else 0)
    (inb : ∀ a, (![0, 0, b.val, m] : Fin 4 → ℕ) a + (![1, 1, 1, 256] : Fin 4 → ℕ) a ≤ (⟨4, ![1, 1, 8, 4096]⟩ : Shape).size a) :
    Is4 (a := 1) (b := 1) (c := 1) (d := 256) (VecWindow.window x ![0, 0, b.val, m] ![1, 1, 1, 256] inb) fun _ _ _ j => g b (pos m hm j) :=
  (win4 b m hm hx inb).congr fun _ _ _ j => by
    have h : ¬ (pos m hm j).val < n := by show ¬ m + j.val < n; omega
    rw [if_neg h, sub_zero]

/-- A block put into an accumulated buffer: the bound moves on by the block. -/
theorem put3_next {x : (⟨3, ![1, 4096, 128]⟩ : Shape).Idx → EReal} {g c : Fin 4096 → Fin 128 → ℝ} (n : ℕ) (hn : n + 256 ≤ 4096)
    (hx : Is3 x fun _ j l => g j l + if j.val < n then c j l else 0) {w : (⟨3, ![1, 256, 128]⟩ : Shape).Idx → EReal}
    (hw : Is3 w fun _ j l => g (pos n hn j) l + c (pos n hn j) l) :
    Is3 (a := 1) (b := 4096) (c := 128) (VecWindow.put x ![0, n, 0] ![1, 256, 128] w) fun _ j l => g j l + if j.val < n + 256 then c j l else 0 := by
  refine (put3 n hn hx hw).congr fun _ j l => ?_
  by_cases h : n ≤ j.val ∧ j.val < n + 256
  · have e : pos n hn ⟨j.val - n, by omega⟩ = j := Fin.ext (by show n + (j.val - n) = j.val; omega)
    rw [dif_pos h, if_pos h.2]
    rw [e]
  · rw [dif_neg h]
    by_cases h1 : j.val < n
    · rw [if_pos h1, if_pos (by omega)]
    · rw [if_neg h1, if_neg (by omega)]

/-- The two heads' rows of a block put into the gradients of the keys' decays: the bound moves on by the block. -/
theorem put4_next {x : (⟨4, ![1, 1, 8, 4096]⟩ : Shape).Idx → EReal} {g : Fin 8 → Fin 4096 → ℝ} {c : Fin 8 → Fin 4096 → ℝ} (hc : ∀ a j, a ≠ 0 → a ≠ 1 → c a j = 0) (n : ℕ) (hn : n + 256 ≤ 4096)
    (hx : Is4 x fun _ _ a j => g a j - if j.val < n then c a j else 0) {w0 w1 : (⟨4, ![1, 1, 1, 256]⟩ : Shape).Idx → EReal}
    (h0 : Is4 w0 fun _ _ _ j => g 0 (pos n hn j) - c 0 (pos n hn j)) (h1 : Is4 w1 fun _ _ _ j => g 1 (pos n hn j) - c 1 (pos n hn j)) :
    Is4 (a := 1) (b := 1) (c := 8) (d := 4096) (VecWindow.put (VecWindow.put x ![0, 0, 0, n] ![1, 1, 1, 256] w0) ![0, 0, 1, n] ![1, 1, 1, 256] w1)
      fun _ _ a j => g a j - if j.val < n + 256 then c a j else 0 := by
  refine (put4 1 n hn (put4 0 n hn hx h0) h1).congr fun _ _ a j => ?_
  by_cases h : n ≤ j.val ∧ j.val < n + 256
  · have e : pos n hn ⟨j.val - n, by omega⟩ = j := Fin.ext (by show n + (j.val - n) = j.val; omega)
    rw [if_pos h.2]
    by_cases ha1 : a = 1
    · rw [dif_pos ⟨ha1, h⟩]; rw [e, ha1]
    · rw [dif_neg fun h' => ha1 h'.1]
      by_cases ha0 : a = 0
      · rw [dif_pos ⟨ha0, h⟩]; rw [e, ha0]
      · rw [dif_neg fun h' => ha0 h'.1, hc a j ha0 ha1, if_neg (by omega)]
  · rw [dif_neg fun h' => h h'.2, dif_neg fun h' => h h'.2]
    by_cases h1 : j.val < n
    · rw [if_pos h1, if_pos (by omega)]
    · rw [if_neg h1, if_neg (by omega)]

end Fox

end
-- ==== Proof.Trip.lean ====
/- One trip of the loop over the blocks before the diagonal: two blocks of 256 keys added to the point's sums and buffers; and the
   whole loop, by induction on its trips. -/
module

public import proofs.«01_k».proof.Proof.Point
public import proofs.«01_k».proof.Proof.Gen.KernelIdeal.Loops

@[expose] public section

set_option maxRecDepth 16384

noncomputable section

namespace Fox

open Idealize.ShloMosaic Idealize.ShloMosaic.TcCoe Cert.KernelIdeal Cert.KernelIdeal.Gen

variable {𝒱 : Variants} {c : Dev nD} {bd : Option 𝒱.V} {i : grid0.Coords} {arg3 : Memref sig .tc .vmem S512x128 .f32} {harg3 : arg3.IsWhole} {arg4 : Memref sig .tc .vmem S512x128 .f32} {harg4 : arg4.IsWhole} {arg5 : Memref sig .tc .vmem S1x512x128 .f32} {harg5 : arg5.IsWhole} {arg6 : Memref sig .tc .vmem S1x512x128 .bf16} {harg6 : arg6.IsWhole} {arg7 : Memref sig .tc .vmem S1x4096x128 .bf16} {harg7 : arg7.IsWhole} {arg8 : Memref sig .tc .vmem S1x4096x128 .bf16} {harg8 : arg8.IsWhole} {arg9 : Memref sig .tc .vmem S1x1x512x2 .f32} {harg9 : arg9.IsWhole} {arg10 : Memref sig .tc .vmem S1x1x2x4096 .f32} {harg10 : arg10.IsWhole} {arg11 : Memref sig .tc .vmem S512x128 .f32} {harg11 : arg11.IsWhole} {arg12 : Memref sig .tc .vmem S1x4096x128 .f32} {harg12 : arg12.IsWhole} {arg13 : Memref sig .tc .vmem S1x4096x128 .f32} {harg13 : arg13.IsWhole} {arg14 : Memref sig .tc .vmem S1x1x8x4096 .f32} {harg14 : arg14.IsWhole} {arg15 : Memref sig .tc .vmem S1x512x128 .f32} {harg15 : arg15.IsWhole} {arg2 : BitVec 32} {v5 : IVec S1x128 1} {v7 : Vec Ideal S512x128 .f32} {v9 : FVec Ideal S512x128 .f32} {v11 : FVec Ideal S512x2 .f32} {v24 : FVec Ideal S1024x128 .bf16} {v36 : FVec Ideal S1024x128 .bf16} {v37 : Vec Ideal S512x128 .f32} {X_arg7 : BufTy.Contents (Elt Ideal) arg7.view.ty} {X_arg8 : BufTy.Contents (Elt Ideal) arg8.view.ty} {X_arg10 : BufTy.Contents (Elt Ideal) arg10.view.ty}

section Trip
variable {x : Pt} (hR : Reads x (arg7.view.read (Elt Ideal) X_arg7) (arg8.view.read (Elt Ideal) X_arg8) (arg10.view.read (Elt Ideal) X_arg10) v24 v36 (k0_pay56 v5 v7 v37) (k0_pay57 v9) (k0_pay58 v11))
variable (hqi : x.qi = (i 2).val) (k : Fin (k0_t1_loop i).trips)
variable {acc : FVec Ideal S1024x128 .f32 × FVec Ideal S1024x1 .f32} {f_arg12 : BufTy.Contents (Elt Ideal) arg12.view.ty} {f_arg13 : BufTy.Contents (Elt Ideal) arg13.view.ty} {f_arg14 : BufTy.Contents (Elt Ideal) arg14.view.ty}

include hR in
theorem read_k (n : ℕ) (hn : n + 256 ≤ 4096) {off : Fin 3 → ℕ} (inb) (ho : off = ![0, n, 0]) :
    Is3 (a := 1) (b := 256) (c := 128) (View.readAt (Elt Ideal) arg7.view (Rect.unit (s := S1x4096x128) off S1x256x128.size inb).toLoadRect X_arg7) fun _ j l => x.k (pos n hn j) l := by
  rw [View.readAt_unit arg7.view X_arg7 inb ho (ho ▸ inb)]
  exact win3 n hn hR.k _

include hR in
theorem read_v (n : ℕ) (hn : n + 256 ≤ 4096) {off : Fin 3 → ℕ} (inb) (ho : off = ![0, n, 0]) :
    Is3 (a := 1) (b := 256) (c := 128) (View.readAt (Elt Ideal) arg8.view (Rect.unit (s := S1x4096x128) off S1x256x128.size inb).toLoadRect X_arg8) fun _ j l => x.v (pos n hn j) l := by
  rw [View.readAt_unit arg8.view X_arg8 inb ho (ho ▸ inb)]
  exact win3 n hn hR.v _

include hR in
theorem read_fa (n : ℕ) (hn : n + 256 ≤ 4096) {off : Fin 4 → ℕ} (inb) (ho : off = ![0, 0, 0, n]) :
    Is4 (a := 1) (b := 1) (c := 1) (d := 256) (View.readAt (Elt Ideal) arg10.view (Rect.unit (s := S1x1x2x4096) off S1x1x1x256.size inb).toLoadRect X_arg10) fun _ _ _ j => x.fa (pos n hn j) := by
  rw [View.readAt_unit arg10.view X_arg10 inb ho (ho ▸ inb)]
  exact win4 (A := 2) 0 n hn hR.f _

include hR in
theorem read_fb (n : ℕ) (hn : n + 256 ≤ 4096) {off : Fin 4 → ℕ} (inb) (ho : off = ![0, 0, 1, n]) :
    Is4 (a := 1) (b := 1) (c := 1) (d := 256) (View.readAt (Elt Ideal) arg10.view (Rect.unit (s := S1x1x2x4096) off S1x1x1x256.size inb).toLoadRect X_arg10) fun _ _ _ j => x.fb (pos n hn j) := by
  rw [View.readAt_unit arg10.view X_arg10 inb ho (ho ▸ inb)]
  exact win4 (A := 2) 1 n hn hR.f _

variable {n : ℕ} {g2 g3 : Fin 4096 → Fin 128 → ℝ} {g4 : Fin 8 → Fin 4096 → ℝ} {a : (⟨2, ![1024, 128]⟩ : Shape).Idx → EReal} {s : (⟨2, ![1024, 1]⟩ : Shape).Idx → EReal}
variable (hS : St x n g2 g3 g4 a s (arg12.view.read (Elt Ideal) f_arg12) (arg13.view.read (Elt Ideal) f_arg13) (arg14.view.read (Elt Ideal) f_arg14))

include hS in
theorem read_dk (m : ℕ) (hm : m + 256 ≤ 4096) (hnm : n ≤ m) {off : Fin 3 → ℕ} (inb) (ho : off = ![0, m, 0]) :
    Is3 (a := 1) (b := 256) (c := 128) (View.readAt (Elt Ideal) arg12.view (Rect.unit (s := S1x4096x128) off S1x256x128.size inb).toLoadRect f_arg12) fun _ j l => g2 (pos m hm j) l := by
  rw [View.readAt_unit arg12.view f_arg12 inb ho (ho ▸ inb)]
  exact win3_old m hm hnm hS.k _

include hS in
theorem read_dv (m : ℕ) (hm : m + 256 ≤ 4096) (hnm : n ≤ m) {off : Fin 3 → ℕ} (inb) (ho : off = ![0, m, 0]) :
    Is3 (a := 1) (b := 256) (c := 128) (View.readAt (Elt Ideal) arg13.view (Rect.unit (s := S1x4096x128) off S1x256x128.size inb).toLoadRect f_arg13) fun _ j l => g3 (pos m hm j) l := by
  rw [View.readAt_unit arg13.view f_arg13 inb ho (ho ▸ inb)]
  exact win3_old m hm hnm hS.v _

include hS in
theorem read_dra (m : ℕ) (hm : m + 256 ≤ 4096) (hnm : n ≤ m) {off : Fin 4 → ℕ} (inb) (ho : off = ![0, 0, 0, m]) :
    Is4 (a := 1) (b := 1) (c := 1) (d := 256) (View.readAt (Elt Ideal) arg14.view (Rect.unit (s := S1x1x8x4096) off S1x1x1x256.size inb).toLoadRect f_arg14) fun _ _ _ j => g4 0 (pos m hm j) := by
  rw [View.readAt_unit arg14.view f_arg14 inb ho (ho ▸ inb)]
  exact win4_old 0 m hm hnm hS.f _

include hS in
theorem read_drb (m : ℕ) (hm : m + 256 ≤ 4096) (hnm : n ≤ m) {off : Fin 4 → ℕ} (inb) (ho : off = ![0, 0, 1, m]) :
    Is4 (a := 1) (b := 1) (c := 1) (d := 256) (View.readAt (Elt Ideal) arg14.view (Rect.unit (s := S1x1x8x4096) off S1x1x1x256.size inb).toLoadRect f_arg14) fun _ _ _ j => g4 1 (pos m hm j) := by
  rw [View.readAt_unit arg14.view f_arg14 inb ho (ho ▸ inb)]
  exact win4_old 1 m hm hnm hS.f _

end Trip

section Step
variable {x : Pt} (hR : Reads x (arg7.view.read (Elt Ideal) X_arg7) (arg8.view.read (Elt Ideal) X_arg8) (arg10.view.read (Elt Ideal) X_arg10) v24 v36 (k0_pay56 v5 v7 v37) (k0_pay57 v9) (k0_pay58 v11))
variable (hqi : x.qi = (i 2).val) (k : Fin (k0_t1_loop i).trips)
variable {acc : FVec Ideal S1024x128 .f32 × FVec Ideal S1024x1 .f32} {f_arg12 : BufTy.Contents (Elt Ideal) arg12.view.ty} {f_arg13 : BufTy.Contents (Elt Ideal) arg13.view.ty} {f_arg14 : BufTy.Contents (Elt Ideal) arg14.view.ty}
variable {g2 g3 : Fin 4096 → Fin 128 → ℝ} {g4 : Fin 8 → Fin 4096 → ℝ}

set_option maxHeartbeats 1000000 in
include hR hqi in
/-- ONE TRIP: from the state before its two blocks to the state after them. -/
theorem trip_next (hS : St x (k.val * 512) g2 g3 g4 acc.1 acc.2 (arg12.view.read (Elt Ideal) f_arg12) (arg13.view.read (Elt Ideal) f_arg13) (arg14.view.read (Elt Ideal) f_arg14)) :
    St x (k.val * 512 + 256 + 256) g2 g3 g4
      (tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 k acc f_arg12 f_arg13 f_arg14).1
      (tripR_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 k acc f_arg12 f_arg13 f_arg14).2
      (arg12.view.read (Elt Ideal) (arg12.view.writes (Elt Ideal) f_arg12 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 k acc f_arg12 f_arg13 f_arg14).1))
      (arg13.view.read (Elt Ideal) (arg13.view.writes (Elt Ideal) f_arg13 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 k acc f_arg12 f_arg13 f_arg14).2.1))
      (arg14.view.read (Elt Ideal) (arg14.view.writes (Elt Ideal) f_arg14 (tripL_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 k acc f_arg12 f_arg13 f_arg14).2.2)) := by
  have hk8 := k_lt i k
  have hq8 := qi_lt i
  have h0 : k.val * 512 + 256 ≤ 4096 := by omega
  have h1 : k.val * 512 + 256 + 256 ≤ 4096 := by omega
  have hk0 := read_k hR _ h0 (off := k0_off1 i k 0#32) (k0_off1_inb i k 0) (off1 i k 0)
  have hk1 := read_k hR _ h1 (off := k0_off1 i k 1#32) (k0_off1_inb i k 1) (off1 i k 1)
  have hv0 := read_v hR _ h0 (off := k0_off1 i k 0#32) (k0_off1_inb i k 0) (off1 i k 0)
  have hv1 := read_v hR _ h1 (off := k0_off1 i k 1#32) (k0_off1_inb i k 1) (off1 i k 1)
  have ha0 := read_fa hR _ h0 (off := k0_off2 i k 0#32) (k0_off2_inb i k 0) (off2 i k 0)
  have ha1 := read_fa hR _ h1 (off := k0_off2 i k 1#32) (k0_off2_inb i k 1) (off2 i k 1)
  have hb0 := read_fb hR _ h0 (off := k0_off3 i k 0#32) (k0_off3_inb i k 0) (off3 i k 0)
  have hb1 := read_fb hR _ h1 (off := k0_off3 i k 1#32) (k0_off3_inb i k 1) (off3 i k 1)
  have w0 := x.w_before _ h0 (by omega)
  have w1 := x.w_before _ h1 (by omega)
  -- the weights and the gradients of the logits
  have p0 := pay9_is hR.le (pay6_is ha0 hb0) (pay7_is hR.q hk0) (pay8_is hR.fq)
  have d0 := pay11_is hR.y hR.de (pay3_is hv0) p0
  have p1 := pay10_is hR.q hR.le hR.fq (pay4_is hk1) ha1 hb1
  have d1 := pay12_is hR.y hR.de (pay5_is hv1) p1
  have p0' := Is2.congr p0 fun r j => congrFun (congrFun w0 r) j
  have d0' := Is2.congr (g := fun r j => x.d r (pos _ h0 j)) d0 fun r j => congrArg (· * _) (congrFun (congrFun w0 r) j)
  have p1' := Is2.congr p1 fun r j => congrFun (congrFun w1 r) j
  have d1' := Is2.congr (g := fun r j => x.d r (pos _ h1 j)) d1 fun r j => congrArg (· * _) (congrFun (congrFun w1 r) j)
  unfold tripR_k0_t1 tripL_k0_t1 trip_k0_t1
  dsimp only
  refine ⟨?_, ?_, ?_, ?_, ?_⟩
  · refine Is2.congr (pay63_is (pay4_is hk1) (pay20_is hS.a (pay19_is (pay13_is d0') (pay2_is hk0))) (pay21_is d1')) fun r l => ?_
    rw [x.dq_next _ h1, x.dq_next _ h0]; rfl
  · refine Is2.congr (pay64_is hS.s d0' d1') fun r l => ?_
    rw [x.rs_next _ h1, x.rs_next _ h0, Finset.sum_add_distrib, add_assoc]
  · rw [View.read_writes_cons_put arg12.view (off := k0_off1 i k 1#32) _ _ _ _ (off1 i k 1), View.read_writes_cons_put arg12.view (off := k0_off1 i k 0#32) _ _ _ _ (off1 i k 0), View.writes_nil]
    refine put3_next _ h1 (put3_next _ h0 hS.k ?_) ?_
    · exact pay15_is (pay14_is hR.q (pay13_is d0') (read_dk hS _ h0 (le_refl _) (k0_off1_inb i k 0) (off1 i k 0)))
    · exact pay22_is hR.q (pay21_is d1') (read_dk hS _ h1 (by omega) (k0_off1_inb i k 1) (off1 i k 1))
  · rw [View.read_writes_cons_put arg13.view (off := k0_off1 i k 1#32) _ _ _ _ (off1 i k 1), View.read_writes_cons_put arg13.view (off := k0_off1 i k 0#32) _ _ _ _ (off1 i k 0), View.writes_nil]
    refine put3_next _ h1 (put3_next _ h0 hS.v ?_) ?_
    · exact pay16_is hR.y p0' (read_dv hS _ h0 (le_refl _) (k0_off1_inb i k 0) (off1 i k 0))
    · exact pay23_is hR.y p1' (read_dv hS _ h1 (by omega) (k0_off1_inb i k 1) (off1 i k 1))
  · rw [View.read_writes_cons_put arg14.view (off := k0_off5 i k 1#32) _ _ _ _ (off5 i k 1), View.read_writes_cons_put arg14.view (off := k0_off4 i k 1#32) _ _ _ _ (off4 i k 1),
      View.read_writes_cons_put arg14.view (off := k0_off5 i k 0#32) _ _ _ _ (off5 i k 0), View.read_writes_cons_put arg14.view (off := k0_off4 i k 0#32) _ _ _ _ (off4 i k 0), View.writes_nil]
    have hc : ∀ (a : Fin 8) (j : Fin 4096), a ≠ 0 → a ≠ 1 → x.dr a j = 0 := fun a j h0 h1 => (if_neg h0).trans (if_neg h1)
    refine put4_next hc _ h1 (put4_next hc _ h0 hS.f ?_ ?_) ?_ ?_
    · exact pay17_is d0' (read_dra hS _ h0 (le_refl _) (k0_off4_inb i k 0) (off4 i k 0))
    · exact pay18_is d0' (read_drb hS _ h0 (le_refl _) (k0_off5_inb i k 0) (off5 i k 0))
    · exact pay24_is d1' (read_dra hS _ h1 (by omega) (k0_off4_inb i k 1) (off4 i k 1))
    · exact pay62_is d1' (read_drb hS _ h1 (by omega) (k0_off5_inb i k 1) (off5 i k 1))

end Step

end Fox

end
-- ==== Proof.Tail.lean ====
/- The two blocks on the diagonal, which the mask cuts, and what a point writes at its end. -/
module

public import proofs.«01_k».proof.Proof.Trip

@[expose] public section

set_option maxRecDepth 16384

noncomputable section

namespace Fox

open Idealize.ShloMosaic Idealize.ShloMosaic.TcCoe Cert.KernelIdeal Cert.KernelIdeal.Gen

/-! ## Zeros, and the row sums in their lanes -/

theorem pay60_is : Is2 (k0_pay60 (F := Ideal)) fun _ _ => 0 := by
  intro r l; pointwise [k0_pay60]; rfl
theorem pay61_is : Is2 (k0_pay61 (F := Ideal)) fun _ _ => 0 := by
  intro r l; pointwise [k0_pay61]; rfl
theorem pay48_is : Is3 (k0_pay48 (F := Ideal)) fun _ _ _ => 0 := by
  intro a r l; pointwise [k0_pay48]; rfl
theorem pay49_is : Is3 (k0_pay49 (F := Ideal)) fun _ _ _ => 0 := by
  intro a r l; pointwise [k0_pay49]; rfl
theorem pay50_is : Is4 (k0_pay50 (F := Ideal)) fun _ _ _ _ => 0 := by
  intro a b r l; pointwise [k0_pay50]; rfl

/-- The equality of two small words, as a choice. -/
theorem sel_eq {α : Type} (n c : ℕ) (hn : n < 2 ^ 31) (hc : c < 2 ^ 31) (x y : α) :
    Scalar.select (IntOp.cmpi CmpIPredicate.eq (BitVec.ofNat 32 n) (BitVec.ofNat 32 c)) x y = if n = c then x else y := by
  have e : (BitVec.ofNat 32 n = BitVec.ofNat 32 c) ↔ n = c := by
    constructor
    · intro h
      have := congrArg BitVec.toNat h
      simp at this
      omega
    · exact congrArg _
  by_cases h : n = c
  · simp [Scalar.select, IntOp.cmpi, h]
  · rw [if_neg h]
    show (if BitVec.ofBool (BitVec.ofNat 32 n == BitVec.ofNat 32 c) = 1#1 then x else y) = y
    rw [beq_eq_false_iff_ne.mpr fun h' => h (e.mp h')]
    rfl

/-- The two heads' row sums, in the first two lanes. -/
def lanes (f : Fin 1024 → ℝ) (i : Fin 512) (l : Fin 128) : ℝ :=
  if l.val = 0 then f ⟨i.val, by omega⟩ else if l.val = 1 then f ⟨512 + i.val, by omega⟩ else 0

theorem pay1_is {a : FVec Ideal S1024x1 .f32} {d : FVec Ideal S1024x256 .f32} {f : Fin 1024 → ℝ} (h : Is2 (k0_pay90 a d) fun r _ => f r) :
    Is3 (k0_pay1 (iota Kind.tc S1x128 32 [1] iota_S1x128_d1_w32) (k0_pay90 a d) (k0_pay92 (iota Kind.tc S1x128 32 [1] iota_S1x128_d1_w32)) (k0_pay93 a d))
      fun _ => lanes f := by
  intro z i l
  pointwise [k0_pay1, k0_pay92, k0_pay93]
  rw [sel_eq _ 0 (by omega) (by omega), sel_eq _ 1 (by omega) (by omega), lanes]
  split
  · exact h _ _
  · split
    · exact h _ _
    · rfl

/-! ## The blocks' words -/

theorem word_kb (q : Fin 8) (c : Fin 2) :
    Scalar.addi (Scalar.muli (BitVec.ofNat 32 q.val) 2#32) (BitVec.ofNat 32 c.val) = BitVec.ofNat 32 (q.val * 2 + c.val) := by
  revert q c; decide +kernel

/-! ## A block added to a buffer -/

section Put
variable {sig : RefSig} {κ : Kind} {sp : Space}

theorem put3_step (v : View sig κ sp S1x4096x128 .f32) (f : v.ty.Contents (Elt Ideal)) {off off' : Fin 3 → ℕ} (inb inb') (n : ℕ) (ho : off = ![0, n, 0]) (hn : n + 256 ≤ 4096)
    {g c : Fin 4096 → Fin 128 → ℝ} (hx : Is3 (v.read (Elt Ideal) f) fun _ j l => g j l + if j.val < n then c j l else 0)
    (P : Vec Ideal S1x256x128 .f32 → Vec Ideal S1x256x128 .f32)
    (hP : ∀ y : Vec Ideal S1x256x128 .f32, Is3 y (fun _ j l => g (pos n hn j) l) → Is3 (P y) fun _ j l => g (pos n hn j) l + c (pos n hn j) l)
    (ho' : off' = off) :
    Is3 (v.read (Elt Ideal) (v.writes (Elt Ideal) f [⟨Rect.unit (s := S1x4096x128) off S1x256x128.size inb,
      P (View.readAt (Elt Ideal) v (Rect.unit (s := S1x4096x128) off' S1x256x128.size inb').toLoadRect f)⟩]))
      fun _ j l => g j l + if j.val < n + 256 then c j l else 0 := by
  subst ho'
  have hr := View.readAt_unit v f inb' ho (ho ▸ inb')
  rw [View.read_writes_cons_put v (off := off') _ _ _ _ ho, View.writes_nil]
  refine put3_next n hn hx (hP _ ?_)
  rw [hr]
  exact win3_old n hn (le_refl _) hx _

/-- The last of some writes is a write over the others. -/
theorem writes_last {s : Shape} {e : EltTy} (v : View sig κ sp s e) (f : v.ty.Contents (Elt Ideal)) (p : View.Piece (Elt Ideal) s e) (L : List (View.Piece (Elt Ideal) s e)) :
    v.writes (Elt Ideal) f (p :: L) = v.writes (Elt Ideal) (v.writes (Elt Ideal) f L) [p] := rfl

/-- Two rows written one after the other, the contents between named. -/
theorem put4_two {v : View sig κ sp S1x1x8x4096 .f32} {f f1 f2 : v.ty.Contents (Elt Ideal)} {off off' : Fin 4 → ℕ} {inb inb'} {w w' : Vec Ideal S1x1x1x256 .f32}
    (e1 : f1 = v.writes (Elt Ideal) f [⟨Rect.unit (s := S1x1x8x4096) off S1x1x1x256.size inb, w⟩])
    (e2 : f2 = v.writes (Elt Ideal) f1 [⟨Rect.unit (s := S1x1x8x4096) off' S1x1x1x256.size inb', w'⟩])
    (n : ℕ) (ho : off = ![0, 0, 0, n]) (ho' : off' = ![0, 0, 1, n]) (hn : n + 256 ≤ 4096)
    {g c : Fin 8 → Fin 4096 → ℝ} (hc : ∀ a j, a ≠ 0 → a ≠ 1 → c a j = 0) (hx : Is4 (v.read (Elt Ideal) f) fun _ _ a j => g a j - if j.val < n then c a j else 0)
    (P P' : Vec Ideal S1x1x1x256 .f32 → Vec Ideal S1x1x1x256 .f32)
    (hP : ∀ y : Vec Ideal S1x1x1x256 .f32, Is4 y (fun _ _ _ j => g 0 (pos n hn j)) → Is4 (P y) fun _ _ _ j => g 0 (pos n hn j) - c 0 (pos n hn j))
    (hP' : ∀ y : Vec Ideal S1x1x1x256 .f32, Is4 y (fun _ _ _ j => g 1 (pos n hn j)) → Is4 (P' y) fun _ _ _ j => g 1 (pos n hn j) - c 1 (pos n hn j))
    (hw : w = P (View.readAt (Elt Ideal) v (Rect.unit (s := S1x1x8x4096) off S1x1x1x256.size inb).toLoadRect f))
    (hw' : w' = P' (View.readAt (Elt Ideal) v (Rect.unit (s := S1x1x8x4096) off' S1x1x1x256.size inb').toLoadRect f1)) :
    Is4 (v.read (Elt Ideal) f2) fun _ _ a j => g a j - if j.val < n + 256 then c a j else 0 := by
  have h0 : Is4 w fun _ _ _ j => g 0 (pos n hn j) - c 0 (pos n hn j) := by
    rw [hw]
    refine hP _ ?_
    rw [View.readAt_unit v f inb ho (ho ▸ inb)]
    exact win4_old 0 n hn (le_refl _) hx _
  have h1 := put4 0 n hn hx h0
  have r1 := (congrArg (v.read (Elt Ideal)) e1).trans (View.read_writes_cons_put v (off := off) f inb w [] ho)
  rw [View.writes_nil] at r1
  have hm : Is4 w' fun _ _ _ j => g 1 (pos n hn j) - c 1 (pos n hn j) := by
    rw [hw']
    refine hP' _ ?_
    rw [View.readAt_unit v _ inb' ho' (ho' ▸ inb'), r1]
    refine (win4 1 n hn h1 _).congr fun _ _ _ j => ?_
    have hj : ¬ (pos n hn j).val < n := by show ¬ n + j.val < n; omega
    rw [dif_neg (fun h => absurd h.1 (by decide)), if_neg hj, sub_zero]
  rw [e2, View.read_writes_cons_put v (off := off') _ _ _ _ ho', View.writes_nil, r1]
  exact put4_next hc n hn hx h0 hm

end Put

/-! ## The masked blocks -/

section Blocks
variable {x : Pt} {v24 v36 : FVec Ideal S1024x128 .bf16} {v52 v55 v58 : FVec Ideal S1024x1 .f32}
variable {K V : Vec Ideal S1x256x128 .bf16} {A B : Vec Ideal S1x1x1x256 .f32} {b kb : BitVec 32}
variable (hq : Is2 v24 x.q) (hy : Is2 v36 x.y) (hde : Is2 v52 fun r _ => x.de r) (hle : Is2 v55 fun r _ => x.le r) (hfq : Is2 v58 fun r _ => x.fq r)
variable (hqi : x.qi < 8) (hb : b = BitVec.ofNat 32 x.qi) {w : ℕ} (hw : w < 16) (hkb : kb = BitVec.ofNat 32 w) {n : ℕ} (hn : n + 256 ≤ 4096) (hnw : w * 256 = n)
variable (hK : Is3 K fun _ j l => x.k (pos n hn j) l) (hV : Is3 V fun _ j l => x.v (pos n hn j) l)
variable (hA : Is4 A fun _ _ _ j => x.fa (pos n hn j)) (hB : Is4 B fun _ _ _ j => x.fb (pos n hn j))

include hq hle hfq hqi hb hw hkb hnw hK hA hB in
theorem first_w : Is2 (k0_pay69 b v24 v55 v58 k0_pay59 kb (k0_pay68 K) A B) fun r j => x.w r (pos n hn j) := by
  subst hb hkb hnw
  exact pay69_is hw hqi hq hle hfq (pay68_is hK) hA hB

include hq hy hde hle hfq hqi hb hw hkb hnw hK hV hA hB in
theorem first_d : Is2 (k0_pay70 b v24 v36 v52 v55 v58 k0_pay59 kb (k0_pay68 K) V A B) fun r j => x.d r (pos n hn j) :=
  pay70_is hy hde hV (first_w hq hle hfq hqi hb hw hkb hn hnw hK hA hB)

include hq hle hfq hqi hb hw hkb hnw hK hA hB in
theorem second_w : Is2 (k0_pay83 b kb (k0_pay82 v24 v55 v58 k0_pay59 K A B)) fun r j => x.w r (pos n hn j) := by
  subst hb hkb hnw
  exact pay83_is hw hqi (pay82_is hq hle hfq hK hA hB)

include hq hy hde hle hfq hqi hb hw hkb hnw hK hV hA hB in
theorem second_d : Is2 (k0_pay84 b v36 v52 kb (k0_pay81 V) (k0_pay82 v24 v55 v58 k0_pay59 K A B)) fun r j => x.d r (pos n hn j) :=
  pay84_is hy hde (pay81_is hV) (second_w hq hle hfq hqi hb hw hkb hn hnw hK hA hB)

end Blocks

/-! ## Beyond the diagonal nothing is added -/

namespace Pt
variable (x : Pt)

theorem w_far (r : Fin 1024) (j : Fin 4096) (h : ¬ j.val < x.qi * 512 + 256 + 256) : x.w r j = 0 := if_neg (by omega)
theorem d_far (r : Fin 1024) (j : Fin 4096) (h : ¬ j.val < x.qi * 512 + 256 + 256) : x.d r j = 0 := by rw [d, w_far x r j h, zero_mul]

theorem dk_all (j : Fin 4096) (l : Fin 128) : (if j.val < x.qi * 512 + 256 + 256 then x.dk j l else 0) = x.dk j l := by
  split
  · rfl
  · rename_i h
    exact (Finset.sum_eq_zero fun r _ => by rw [d_far x r j h, zero_mul, zero_mul]).symm
theorem dv_all (j : Fin 4096) (l : Fin 128) : (if j.val < x.qi * 512 + 256 + 256 then x.dv j l else 0) = x.dv j l := by
  split
  · rfl
  · rename_i h
    exact (Finset.sum_eq_zero fun r _ => by rw [w_far x r j h, zero_mul]).symm
theorem dr_all (a : Fin 8) (j : Fin 4096) : (if j.val < x.qi * 512 + 256 + 256 then x.dr a j else 0) = x.dr a j := by
  split
  · rfl
  · rename_i h
    rw [dr, Finset.sum_eq_zero (fun i _ => d_far x _ j h), Finset.sum_eq_zero (fun i _ => d_far x _ j h)]
    simp
theorem dq_all (r : Fin 1024) (l : Fin 128) : x.dq (x.qi * 512 + 256 + 256) r l = ∑ j : Fin 4096, x.d r j * (1 / 8) * x.k j l :=
  Finset.sum_congr rfl fun j _ => by
    split
    · rfl
    · rename_i h
      rw [d_far x r j h, zero_mul, zero_mul]
theorem rs_all (r : Fin 1024) : x.rs (x.qi * 512 + 256 + 256) r = ∑ j : Fin 4096, x.d r j :=
  Finset.sum_congr rfl fun j _ => by
    split
    · rfl
    · rename_i h
      rw [d_far x r j h]

end Pt

end Fox

end
-- ==== Proof.Join.lean ====
/- What a grid point computes, set beside the gradients it is a part of: the stacked rows are the queries of two heads, and the points of a
   pair of heads share its queries out. -/
module

public import proofs.«01_k».proof.Proof.Spec
public import proofs.«01_k».proof.Proof.Tail

@[expose] public section

set_option maxRecDepth 16384

noncomputable section

namespace Fox

open Idealize.ShloMosaic Cert.KernelIdeal Cert.KernelIdeal.Gen

/-- Row `r` of query block `q`. -/
def gi (q : Fin 8) (r : Fin 512) : Fin 4096 := ⟨512 * q.val + r.val, by omega⟩
/-- Lane `l` of pair `p`. -/
def lane (p : Fin 2) (l : Fin 128) : Fin 256 := ⟨128 * p.val + l.val, by omega⟩
/-- A stacked row's head. -/
def rh (p : Fin 2) (r : Fin 1024) : Fin 4 := ⟨2 * p.val + r.val / 512, by omega⟩
/-- A stacked row's number in its query block. -/
def rr (r : Fin 1024) : Fin 512 := ⟨r.val % 512, by omega⟩
def lo (i : Fin 512) : Fin 1024 := ⟨i.val, by omega⟩
def hi (i : Fin 512) : Fin 1024 := ⟨512 + i.val, by omega⟩

theorem col_hd (L : Fin 256) : col (hd L) (ln L) = L := Fin.ext (by show 64 * (L.val / 64) + L.val % 64 = L.val; omega)

/-- A sum over 128 lanes, by the halves. -/
theorem sum_halves (f : Fin 128 → ℝ) : ∑ l, f l = (∑ d : Fin 64, f ⟨d.val, by omega⟩) + ∑ d : Fin 64, f ⟨64 + d.val, by omega⟩ :=
  Fin.sum_univ_add (a := 64) (b := 64) f
/-- A sum over the stacked rows, by the heads. -/
theorem sum_stacked (f : Fin 1024 → ℝ) : ∑ r, f r = (∑ i, f (lo i)) + ∑ i, f (hi i) :=
  Fin.sum_univ_add (a := 512) (b := 512) f

theorem stk_lo (f : Fin 512 → Fin 128 → ℝ) (i : Fin 512) (l : Fin 128) : stk f (lo i) l = if l.val < 64 then f i l else 0 := by
  unfold stk; rw [dif_pos (show (lo i).val < 512 from i.isLt)]; rfl
theorem stk_hi (f : Fin 512 → Fin 128 → ℝ) (i : Fin 512) (l : Fin 128) : stk f (hi i) l = if l.val < 64 then 0 else f i l := by
  have h : ¬ (hi i).val < 512 := by show ¬ 512 + i.val < 512; omega
  unfold stk; rw [dif_neg h]
  have e : (⟨(hi i).val - 512, by have := (hi i).isLt; omega⟩ : Fin 512) = i := Fin.ext (by show 512 + i.val - 512 = i.val; omega)
  rw [e]
theorem stc_lo (f g : Fin 512 → ℝ) (i : Fin 512) : stc f g (lo i) = f i := by
  unfold stc; rw [dif_pos (show (lo i).val < 512 from i.isLt)]; rfl
theorem stc_hi (f g : Fin 512 → ℝ) (i : Fin 512) : stc f g (hi i) = g i := by
  have h : ¬ (hi i).val < 512 := by show ¬ 512 + i.val < 512; omega
  unfold stc; rw [dif_neg h]
  exact congrArg g (Fin.ext (by show 512 + i.val - 512 = i.val; omega))

/-- A statement about every stacked row, by the heads. -/
theorem rows_cases {P : Fin 1024 → Prop} (h0 : ∀ i, P (lo i)) (h1 : ∀ i, P (hi i)) (r : Fin 1024) : P r := by
  by_cases h : r.val < 512
  · exact h0 ⟨r.val, h⟩
  · have e : hi ⟨r.val - 512, by omega⟩ = r := Fin.ext (by show 512 + (r.val - 512) = r.val; omega)
    rw [← e]; exact h1 _

namespace In
variable (n : In) (b : Fin 2) (p : Fin 2) (q : Fin 8)

/-- What the point of query block `q` of pair `p` of sequence `b` reads. -/
def pt : Pt where
  q := stk fun r l => n.Q b (gi q r) (lane p l)
  y := stk fun r l => n.DY (row b (gi q r)) (lane p l)
  fq := stc (fun i => n.F (row b (gi q i)) (hp p 0 (by decide))) fun i => n.F (row b (gi q i)) (hp p 1 (by decide))
  le := stc (fun i => Real.log (n.L b (hp p 0 (by decide)) (gi q i))) fun i => Real.log (n.L b (hp p 1 (by decide)) (gi q i))
  de := stc (fun i => ∑ l : Fin 128, if l.val < 64 then n.DY (row b (gi q i)) (lane p l) * n.y b (hd (lane p l)) (gi q i) (ln (lane p l)) else 0)
    fun i => ∑ l : Fin 128, if l.val < 64 then 0 else n.DY (row b (gi q i)) (lane p l) * n.y b (hd (lane p l)) (gi q i) (ln (lane p l))
  k := fun j l => n.K b j (lane p l)
  v := fun j l => n.V b j (lane p l)
  fa := fun j => n.F (row b j) (hp p 0 (by decide))
  fb := fun j => n.F (row b j) (hp p 1 (by decide))
  qi := q.val

theorem lane_lo (d : Fin 64) : lane p ⟨d.val, by omega⟩ = col (hp p 0 (by decide)) d :=
  Fin.ext (by show 128 * p.val + d.val = 64 * (2 * p.val + 0) + d.val; omega)
theorem lane_hi (d : Fin 64) : lane p ⟨64 + d.val, by omega⟩ = col (hp p 1 (by decide)) d :=
  Fin.ext (by show 128 * p.val + (64 + d.val) = 64 * (2 * p.val + 1) + d.val; omega)
theorem hd_col (h : Fin 4) (d : Fin 64) : hd (col h d) = h := Fin.ext (by show (64 * h.val + d.val) / 64 = h.val; omega)
theorem ln_col (h : Fin 4) (d : Fin 64) : ln (col h d) = d := Fin.ext (by show (64 * h.val + d.val) % 64 = d.val; omega)

theorem dot_lo (f : Fin 512 → Fin 128 → ℝ) (g : Fin 128 → ℝ) (i : Fin 512) :
    ∑ l, stk f (lo i) l * g l = ∑ d : Fin 64, f i ⟨d.val, by omega⟩ * g ⟨d.val, by omega⟩ := by
  rw [sum_halves, Finset.sum_congr rfl (fun d _ => by rw [stk_lo, if_pos (show d.val < 64 from d.isLt)]),
    Finset.sum_eq_zero (s := Finset.univ) (f := fun d : Fin 64 => stk f (lo i) ⟨64 + d.val, by omega⟩ * g ⟨64 + d.val, by omega⟩), add_zero]
  intro d _
  rw [stk_lo, if_neg (by show ¬ 64 + d.val < 64; omega), zero_mul]
theorem dot_hi (f : Fin 512 → Fin 128 → ℝ) (g : Fin 128 → ℝ) (i : Fin 512) :
    ∑ l, stk f (hi i) l * g l = ∑ d : Fin 64, f i ⟨64 + d.val, by omega⟩ * g ⟨64 + d.val, by omega⟩ := by
  rw [sum_halves, Finset.sum_eq_zero (s := Finset.univ) (f := fun d : Fin 64 => stk f (hi i) ⟨d.val, by omega⟩ * g ⟨d.val, by omega⟩), zero_add]
  · exact Finset.sum_congr rfl fun d _ => by rw [stk_hi, if_neg (by show ¬ 64 + d.val < 64; omega)]
  · intro d _
    rw [stk_hi, if_pos (show d.val < 64 from d.isLt), zero_mul]

theorem rh_lo (i : Fin 512) : rh p (lo i) = hp p 0 (by decide) := Fin.ext (by show 2 * p.val + i.val / 512 = 2 * p.val + 0; omega)
theorem rh_hi (i : Fin 512) : rh p (hi i) = hp p 1 (by decide) := Fin.ext (by show 2 * p.val + (512 + i.val) / 512 = 2 * p.val + 1; omega)
theorem rr_lo (i : Fin 512) : rr (lo i) = i := Fin.ext (by show i.val % 512 = i.val; omega)
theorem rr_hi (i : Fin 512) : rr (hi i) = i := Fin.ext (by show (512 + i.val) % 512 = i.val; omega)

theorem pt_qk (r : Fin 1024) (j : Fin 4096) :
    ∑ l, (n.pt b p q).q r l * (n.pt b p q).k j l = ∑ d, n.Q b (gi q (rr r)) (col (rh p r) d) * n.K b j (col (rh p r) d) := by
  refine rows_cases (P := fun r => ∑ l, (n.pt b p q).q r l * (n.pt b p q).k j l = ∑ d, n.Q b (gi q (rr r)) (col (rh p r) d) * n.K b j (col (rh p r) d)) (fun i => ?_) (fun i => ?_) r
  · rw [rr_lo, rh_lo]
    refine (dot_lo (fun r l => n.Q b (gi q r) (lane p l)) (fun l => n.K b j (lane p l)) i).trans (Finset.sum_congr rfl fun d _ => ?_)
    show n.Q b (gi q i) (lane p ⟨d.val, _⟩) * n.K b j (lane p ⟨d.val, _⟩) = _
    rw [lane_lo]
  · rw [rr_hi, rh_hi]
    refine (dot_hi (fun r l => n.Q b (gi q r) (lane p l)) (fun l => n.K b j (lane p l)) i).trans (Finset.sum_congr rfl fun d _ => ?_)
    show n.Q b (gi q i) (lane p ⟨64 + d.val, _⟩) * n.K b j (lane p ⟨64 + d.val, _⟩) = _
    rw [lane_hi]

theorem pt_yv (r : Fin 1024) (j : Fin 4096) : ∑ l, (n.pt b p q).y r l * (n.pt b p q).v j l = n.dp b (rh p r) (gi q (rr r)) j := by
  refine rows_cases (P := fun r => ∑ l, (n.pt b p q).y r l * (n.pt b p q).v j l = n.dp b (rh p r) (gi q (rr r)) j) (fun i => ?_) (fun i => ?_) r
  · rw [rr_lo, rh_lo]
    refine (dot_lo (fun r l => n.DY (row b (gi q r)) (lane p l)) (fun l => n.V b j (lane p l)) i).trans (Finset.sum_congr rfl fun d _ => ?_)
    show n.DY (row b (gi q i)) (lane p ⟨d.val, _⟩) * n.V b j (lane p ⟨d.val, _⟩) = _
    rw [lane_lo]
  · rw [rr_hi, rh_hi]
    refine (dot_hi (fun r l => n.DY (row b (gi q r)) (lane p l)) (fun l => n.V b j (lane p l)) i).trans (Finset.sum_congr rfl fun d _ => ?_)
    show n.DY (row b (gi q i)) (lane p ⟨64 + d.val, _⟩) * n.V b j (lane p ⟨64 + d.val, _⟩) = _
    rw [lane_hi]

theorem pt_de (r : Fin 1024) : (n.pt b p q).de r = n.de b (rh p r) (gi q (rr r)) := by
  refine rows_cases (P := fun r => (n.pt b p q).de r = n.de b (rh p r) (gi q (rr r))) (fun i => ?_) (fun i => ?_) r
  · rw [rr_lo, rh_lo, ← n.de_eq]
    refine (stc_lo (fun i => ∑ l : Fin 128, if l.val < 64 then n.DY (row b (gi q i)) (lane p l) * n.y b (hd (lane p l)) (gi q i) (ln (lane p l)) else 0)
      (fun i => ∑ l : Fin 128, if l.val < 64 then 0 else n.DY (row b (gi q i)) (lane p l) * n.y b (hd (lane p l)) (gi q i) (ln (lane p l))) i).trans ?_
    rw [sum_halves, Finset.sum_eq_zero (s := Finset.univ) (f := fun d : Fin 64 => if 64 + d.val < 64 then _ else (0 : ℝ)), add_zero]
    · exact Finset.sum_congr rfl fun d _ => by rw [if_pos (show d.val < 64 from d.isLt), lane_lo, hd_col, ln_col]
    · intro d _
      rw [if_neg (by omega)]
  · rw [rr_hi, rh_hi, ← n.de_eq]
    refine (stc_hi (fun i => ∑ l : Fin 128, if l.val < 64 then n.DY (row b (gi q i)) (lane p l) * n.y b (hd (lane p l)) (gi q i) (ln (lane p l)) else 0)
      (fun i => ∑ l : Fin 128, if l.val < 64 then 0 else n.DY (row b (gi q i)) (lane p l) * n.y b (hd (lane p l)) (gi q i) (ln (lane p l))) i).trans ?_
    rw [sum_halves, Finset.sum_eq_zero (s := Finset.univ) (f := fun d : Fin 64 => if d.val < 64 then (0 : ℝ) else _), zero_add]
    · exact Finset.sum_congr rfl fun d _ => by rw [if_neg (by show ¬ 64 + d.val < 64; omega), lane_hi, hd_col, ln_col]
    · intro d _
      rw [if_pos d.isLt]

theorem pt_fq (r : Fin 1024) : (n.pt b p q).fq r = n.F (row b (gi q (rr r))) (rh p r) := by
  refine rows_cases (P := fun r => (n.pt b p q).fq r = n.F (row b (gi q (rr r))) (rh p r)) (fun i => ?_) (fun i => ?_) r
  · rw [rr_lo, rh_lo]; exact stc_lo (fun i => n.F (row b (gi q i)) (hp p 0 (by decide))) (fun i => n.F (row b (gi q i)) (hp p 1 (by decide))) i
  · rw [rr_hi, rh_hi]; exact stc_hi (fun i => n.F (row b (gi q i)) (hp p 0 (by decide))) (fun i => n.F (row b (gi q i)) (hp p 1 (by decide))) i
theorem pt_le (r : Fin 1024) : (n.pt b p q).le r = Real.log (n.L b (rh p r) (gi q (rr r))) := by
  refine rows_cases (P := fun r => (n.pt b p q).le r = Real.log (n.L b (rh p r) (gi q (rr r)))) (fun i => ?_) (fun i => ?_) r
  · rw [rr_lo, rh_lo]; exact stc_lo (fun i => Real.log (n.L b (hp p 0 (by decide)) (gi q i))) (fun i => Real.log (n.L b (hp p 1 (by decide)) (gi q i))) i
  · rw [rr_hi, rh_hi]; exact stc_hi (fun i => Real.log (n.L b (hp p 0 (by decide)) (gi q i))) (fun i => Real.log (n.L b (hp p 1 (by decide)) (gi q i))) i
theorem pt_fk (r : Fin 1024) (j : Fin 4096) : (if r.val < 512 then (n.pt b p q).fa j else (n.pt b p q).fb j) = n.F (row b j) (rh p r) := by
  refine rows_cases (P := fun r => (if r.val < 512 then (n.pt b p q).fa j else (n.pt b p q).fb j) = n.F (row b j) (rh p r)) (fun i => ?_) (fun i => ?_) r
  · rw [rh_lo, if_pos (show (lo i).val < 512 from i.isLt)]; rfl
  · rw [rh_hi, if_neg (by show ¬ 512 + i.val < 512; omega)]; rfl

/-- A point's weights are the softmax's. -/
theorem pt_w (r : Fin 1024) (j : Fin 4096) : (n.pt b p q).w r j = n.pr b (rh p r) (gi q (rr r)) j := by
  have hm : (j.val ≤ (n.pt b p q).qi * 512 + r.val % 512) ↔ j.val ≤ (gi q (rr r)).val := by
    show (j.val ≤ q.val * 512 + r.val % 512) ↔ j.val ≤ 512 * q.val + r.val % 512
    omega
  unfold Pt.w Pt.p In.pr In.w
  rw [n.pt_qk, n.pt_fq, n.pt_fk, n.pt_le]
  by_cases h : j.val ≤ (gi q (rr r)).val
  · rw [if_pos (hm.mpr h), if_pos h, Real.exp_sub, Real.exp_log (n.L_pos _ _ _)]; rfl
  · rw [if_neg (fun h' => h (hm.mp h')), if_neg h, zero_div]

/-- A point's gradient of the logits is the attention's. -/
theorem pt_d (r : Fin 1024) (j : Fin 4096) : (n.pt b p q).d r j = n.ds b (rh p r) (gi q (rr r)) j := by
  unfold Pt.d In.ds
  rw [n.pt_w, n.pt_yv, n.pt_de]

/-- A lane's head, of a pair: the first half of the lanes is the first head. -/
theorem hd_lane_lt (l : Fin 128) (h : l.val < 64) : hd (lane p l) = hp p 0 (by decide) :=
  Fin.ext (by show (128 * p.val + l.val) / 64 = 2 * p.val + 0; omega)
theorem hd_lane_ge (l : Fin 128) (h : ¬ l.val < 64) : hd (lane p l) = hp p 1 (by decide) :=
  Fin.ext (by show (128 * p.val + l.val) / 64 = 2 * p.val + 1; omega)

/-- A point's part of a sum over the queries: the head's own rows. -/
theorem sum_head (f : Fin 4 → Fin 512 → ℝ) (g : Fin 512 → Fin 128 → ℝ) (l : Fin 128) :
    ∑ r, f (rh p r) (rr r) * stk g r l = ∑ i, f (hd (lane p l)) i * g i l := by
  rw [sum_stacked]
  by_cases h : l.val < 64
  · rw [Finset.sum_eq_zero (s := Finset.univ) (f := fun i : Fin 512 => f (rh p (hi i)) (rr (hi i)) * stk g (hi i) l), add_zero]
    · exact Finset.sum_congr rfl fun i _ => by rw [stk_lo, if_pos h, rh_lo, rr_lo, hd_lane_lt p l h]
    · intro i _; rw [stk_hi, if_pos h, mul_zero]
  · rw [Finset.sum_eq_zero (s := Finset.univ) (f := fun i : Fin 512 => f (rh p (lo i)) (rr (lo i)) * stk g (lo i) l), zero_add]
    · exact Finset.sum_congr rfl fun i _ => by rw [stk_hi, if_neg h, rh_hi, rr_hi, hd_lane_ge p l h]
    · intro i _; rw [stk_lo, if_neg h, mul_zero]

theorem pt_dk (j : Fin 4096) (l : Fin 128) : (n.pt b p q).dk j l
    = ∑ r, n.ds b (hd (lane p l)) (gi q r) j * (1 / 8) * n.Q b (gi q r) (lane p l) := by
  unfold Pt.dk
  rw [Finset.sum_congr rfl fun r _ => by rw [n.pt_d]]
  exact sum_head p (fun h i => n.ds b h (gi q i) j * (1 / 8)) (fun i l => n.Q b (gi q i) (lane p l)) l
theorem pt_dv (j : Fin 4096) (l : Fin 128) : (n.pt b p q).dv j l
    = ∑ r, n.DY (row b (gi q r)) (lane p l) * n.pr b (hd (lane p l)) (gi q r) j := by
  unfold Pt.dv
  rw [Finset.sum_congr rfl fun r _ => by rw [n.pt_w]]
  exact (sum_head p (fun h i => n.pr b h (gi q i) j) (fun i l => n.DY (row b (gi q i)) (lane p l)) l).trans
    (Finset.sum_congr rfl fun i _ => mul_comm _ _)
theorem pt_dr (a : Fin 8) (j : Fin 4096) : (n.pt b p q).dr a j
    = ∑ r, if h : a.val < 2 then n.ds b (hp p a.val h) (gi q r) j else 0 := by
  unfold Pt.dr
  by_cases h0 : a = 0
  · subst h0
    rw [if_pos rfl]
    refine Finset.sum_congr rfl fun i _ => ?_
    rw [dif_pos (by decide)]
    refine (n.pt_d b p q (lo i) j).trans ?_
    rw [rh_lo, rr_lo]; rfl
  · by_cases h1 : a = 1
    · subst h1
      rw [if_neg h0, if_pos rfl]
      refine Finset.sum_congr rfl fun i _ => ?_
      rw [dif_pos (by decide)]
      refine (n.pt_d b p q (hi i) j).trans ?_
      rw [rh_hi, rr_hi]; rfl
    · have h2 : ¬ a.val < 2 := fun h => by
        have : a.val ≠ 0 := fun e => h0 (Fin.ext e)
        have : a.val ≠ 1 := fun e => h1 (Fin.ext e)
        omega
      rw [if_neg h0, if_neg h1]
      exact (Finset.sum_eq_zero fun i _ => dif_neg h2).symm

theorem pt_dq (r : Fin 512) (l : Fin 128) : unst (fun r l => ∑ j : Fin 4096, (n.pt b p q).d r j * (1 / 8) * (n.pt b p q).k j l) r l
    = n.dq b (hd (lane p l)) (gi q r) (ln (lane p l)) := by
  unfold unst In.dq
  rw [col_hd]
  by_cases h : l.val < 64
  · rw [if_pos h, hd_lane_lt p l h]
    refine Finset.sum_congr rfl fun j _ => ?_
    rw [show (⟨r.val, by omega⟩ : Fin 1024) = lo r from rfl, n.pt_d, rh_lo, rr_lo]; rfl
  · rw [if_neg h, hd_lane_ge p l h]
    refine Finset.sum_congr rfl fun j _ => ?_
    rw [show (⟨512 + r.val, by omega⟩ : Fin 1024) = hi r from rfl, n.pt_d, rh_hi, rr_hi]; rfl

theorem pt_dc (r : Fin 512) (l : Fin 128) : lanes (fun r => ∑ j : Fin 4096, (n.pt b p q).d r j) r l
    = if h : l.val < 2 then n.dc b (hp p l.val h) (gi q r) else 0 := by
  unfold lanes In.dc
  by_cases h0 : l.val = 0
  · rw [if_pos h0, dif_pos (by omega)]
    refine Finset.sum_congr rfl fun j _ => ?_
    rw [show (⟨r.val, by omega⟩ : Fin 1024) = lo r from rfl, n.pt_d, rh_lo, rr_lo]
    exact congrArg (fun h => n.ds b h (gi q r) j) (Fin.ext (by show 2 * p.val + 0 = 2 * p.val + l.val; omega))
  · by_cases h1 : l.val = 1
    · rw [if_neg h0, if_pos h1, dif_pos (by omega)]
      refine Finset.sum_congr rfl fun j _ => ?_
      rw [show (⟨512 + r.val, by omega⟩ : Fin 1024) = hi r from rfl, n.pt_d, rh_hi, rr_hi]
      exact congrArg (fun h => n.ds b h (gi q r) j) (Fin.ext (by show 2 * p.val + 1 = 2 * p.val + l.val; omega))
    · rw [if_neg h0, if_neg h1, dif_neg (by omega)]

end In

/-- The sum of the first `m` query blocks. -/
def part (f : Fin 4096 → ℝ) (m : ℕ) : ℝ := ∑ i : Fin 4096, if i.val < 512 * m then f i else 0

theorem part_zero (f : Fin 4096 → ℝ) : part f 0 = 0 :=
  Finset.sum_eq_zero fun i _ => if_neg (by omega)
theorem part_all (f : Fin 4096 → ℝ) : part f 8 = ∑ i, f i :=
  Finset.sum_congr rfl fun i _ => if_pos (by omega)
theorem part_next (f : Fin 4096 → ℝ) (q : Fin 8) : part f (q.val + 1) = part f q.val + ∑ r, f (gi q r) := by
  unfold part
  have e : ∀ j : Fin 4096, (if j.val < 512 * (q.val + 1) then f j else 0)
      = (if j.val < 512 * q.val then f j else 0) + (if 512 * q.val ≤ j.val ∧ j.val < 512 * (q.val + 1) then f j else 0) := by
    intro j
    by_cases h1 : j.val < 512 * q.val
    · rw [if_pos (by omega), if_pos h1, if_neg (by omega), add_zero]
    · by_cases h2 : j.val < 512 * (q.val + 1)
      · rw [if_pos h2, if_neg h1, if_pos ⟨by omega, h2⟩, zero_add]
      · rw [if_neg h2, if_neg h1, if_neg (by omega), zero_add]
  rw [Finset.sum_congr rfl fun j _ => e j, Finset.sum_add_distrib, ← Finset.sum_filter (fun j : Fin 4096 => 512 * q.val ≤ j.val ∧ j.val < 512 * (q.val + 1))]
  congr 1
  symm
  refine Finset.sum_bij (fun r _ => gi q r) (fun r _ => ?_) (fun a _ b _ h => ?_) (fun b hb => ?_) (fun _ _ => rfl)
  · exact Finset.mem_filter.mpr ⟨Finset.mem_univ _, by show 512 * q.val ≤ 512 * q.val + r.val; omega, by show 512 * q.val + r.val < _; omega⟩
  · have : 512 * q.val + a.val = 512 * q.val + b.val := congrArg Fin.val h
    exact Fin.ext (by omega)
  · have hb := (Finset.mem_filter.mp hb).2
    exact ⟨⟨b.val - 512 * q.val, by omega⟩, Finset.mem_univ _, Fin.ext (by show 512 * q.val + (b.val - 512 * q.val) = b.val; omega)⟩

end Fox

end
-- ==== Proof.Entry.lean ====
/- The arrays the call reads: what the host prepares of the arguments, and each block of it that a grid point is handed. -/
module

public import proofs.«01_k».proof.Proof.Ref
public import proofs.«01_k».proof.Proof.Join
public import proofs.«01_k».proof.Proof.Gen.KernelIdeal.Frame
public import Idealize.ShloMosaic.Lib.Pipeline.ValueKit

@[expose] public section

set_option maxRecDepth 16384

noncomputable section

namespace Fox

open Idealize.ShloMosaic Idealize.ShloMosaic.TcCoe Cert.KernelIdeal Cert.KernelIdeal.Gen Cert.ReferenceIdeal.Read

/-- The sums of the exponentials over what is taken off the logits, as the host computes them. -/
def sumOf (a : FVec Ideal S2x4x4096x4096 .f32) (t : FVec Ideal S2x4x4096 .f32) : FVec Ideal S2x4x4096 .f32 :=
  Host.reduceAdd (Host.exp (subf a (broadcastInDim S2x4x4096x4096 ![0, 1, 2, 3] bcast_S2x4x4096x1_S2x4x4096x4096_0_1_2_3
    (broadcastInDim S2x4x4096x1 ![0, 1, 2] bcast_S2x4x4096_S2x4x4096x1_0_1_2 t)))) (constant (F := Ideal) S_ .f32 0x00000000#32)
    reducesTo_S2x4x4096x4096_S2x4x4096_d3 h_S_
/-- What was taken off the logits and the logarithm of the sums. -/
def logSum (a s : FVec Ideal S2x4x4096 .f32) : FVec Ideal S2x4x4096 .f32 := addf a (Host.log s)
/-- The logarithms of the normalisers, as the host computes them. -/
def lseOf (x1 x2 : (⟨S2x4096x256, .bf16⟩ : BufTy).Contents (Elt Ideal)) (x4 : (⟨S8192x128, .f32⟩ : BufTy).Contents (Elt Ideal)) : FVec Ideal S2x4x4096 .f32 :=
  logSum (val_main_v28 (F := Ideal) x1 x2 x4) (sumOf (val_main_v27_0 (F := Ideal) x1 x2 x4) (val_main_v28 (F := Ideal) x1 x2 x4))

variable (m : (ℓ : Loc nD τ sig) → Buf (Elt Ideal) ℓ) (c : Dev nD)

set_option maxHeartbeats 3200000 in
theorem entry_y : V m c main_v76 = shapeCast _ (val_main_v60 (F := Ideal) (m ((c : Thread nD τ).loc main_arg1)) (m ((c : Thread nD τ).loc main_arg2)) (m ((c : Thread nD τ).loc main_arg3)) (m ((c : Thread nD τ).loc main_arg4))) shapeCasts_S2x4096x256_S8192x256 := by
  unfold V
  simp only [hostOps0, hostOps0_1, hostOps0_2, hostOps0_3, hostOps0_4, List.flatten_cons, List.flatten_nil, List.append_nil, List.cons_append, List.nil_append]
  entry_read
  rfl

set_option maxHeartbeats 3200000 in
theorem entry_fcol : V m c main_v91 = transpose S2x2x4096x2 [0, 2, 1, 3] (shapeCast _ (val_main_v4 (F := Ideal) (m ((c : Thread nD τ).loc main_arg4))) shapeCasts_S8192x4_S2x4096x2x2) transposes_S2x4096x2x2_S2x2x4096x2_0_2_1_3 := by
  unfold V
  simp only [hostOps0, hostOps0_1, hostOps0_2, hostOps0_3, hostOps0_4, List.flatten_cons, List.flatten_nil, List.append_nil, List.cons_append, List.nil_append]
  entry_read
  rfl

set_option maxHeartbeats 3200000 in
theorem entry_frow : V m c main_v92 = transpose S2x2x2x4096 [0, 2, 3, 1] (shapeCast _ (val_main_v4 (F := Ideal) (m ((c : Thread nD τ).loc main_arg4))) shapeCasts_S8192x4_S2x4096x2x2) transposes_S2x4096x2x2_S2x2x2x4096_0_2_3_1 := by
  unfold V
  simp only [hostOps0, hostOps0_1, hostOps0_2, hostOps0_3, hostOps0_4, List.flatten_cons, List.flatten_nil, List.append_nil, List.cons_append, List.nil_append]
  entry_read
  rfl

set_option maxHeartbeats 3200000 in
theorem entry_stat : V m c main_v93 = shapeCast S2x8192x128 (broadcastInDim S2x2x4096x2x64 ![0, 1, 2, 3, 4] bcast_S2x2x4096x2x1_S2x2x4096x2x64_0_1_2_3_4 (broadcastInDim S2x2x4096x2x1 ![0, 1, 2, 3] bcast_S2x2x4096x2_S2x2x4096x2x1_0_1_2_3
      (transpose S2x2x4096x2 [1, 0, 3, 2] (shapeCast S2x2x2x4096 (lseOf (m ((c : Thread nD τ).loc main_arg1)) (m ((c : Thread nD τ).loc main_arg2)) (m ((c : Thread nD τ).loc main_arg4))) shapeCasts_S2x4x4096_S2x2x2x4096) transposes_S2x2x2x4096_S2x2x4096x2_1_0_3_2))) shapeCasts_S2x2x4096x2x64_S2x8192x128 := by
  unfold V
  simp only [hostOps0, hostOps0_1, hostOps0_2, hostOps0_3, hostOps0_4, List.flatten_cons, List.flatten_nil, List.append_nil, List.cons_append, List.nil_append]
  entry_read
  rfl

end Fox

end
-- ==== Proof.Blocks.lean ====
/- The blocks a grid point reads and writes, at coordinates. -/
module

public import proofs.«01_k».proof.Proof.Join
public import proofs.«01_k».proof.Proof.Gen.KernelIdeal.Frame
public import Idealize.ShloMosaic.Lib.Pipeline.ValueKit

@[expose] public section

set_option maxRecDepth 16384

noncomputable section

namespace Fox

open Idealize.ShloMosaic Idealize.ShloMosaic.TcCoe Cert.KernelIdeal Cert.KernelIdeal.Gen

/-! Where each block lies, with `t = 16 b + 8 p + q`. -/

theorem N32 : cfg0.N = 32 := N_0
def tb (t : Fin cfg0.N) : Fin 2 := ⟨t.val / 16, by have := t.isLt; have := N32; omega⟩
def tp (t : Fin cfg0.N) : Fin 2 := ⟨t.val / 8 % 2, by omega⟩
def tq (t : Fin cfg0.N) : Fin 8 := ⟨t.val % 8, by omega⟩

theorem idx_0 : ∀ t : Fin cfg0.N, win0_0.index t = ![t.val / 16 * 8 + t.val % 8, t.val / 8 % 2] :=
  (by decide +kernel : ∀ t : Fin grid0.N, win0_0.index t = ![t.val / 16 * 8 + t.val % 8, t.val / 8 % 2])
theorem idx_1 : ∀ t : Fin cfg0.N, win0_1.index t = ![t.val / 16 * 8 + t.val % 8, t.val / 8 % 2] :=
  (by decide +kernel : ∀ t : Fin grid0.N, win0_1.index t = ![t.val / 16 * 8 + t.val % 8, t.val / 8 % 2])
theorem idx_2 : ∀ t : Fin cfg0.N, win0_2.index t = ![t.val / 8 % 2, t.val / 16 * 8 + t.val % 8, 0] :=
  (by decide +kernel : ∀ t : Fin grid0.N, win0_2.index t = ![t.val / 8 % 2, t.val / 16 * 8 + t.val % 8, 0])
theorem idx_3 : ∀ t : Fin cfg0.N, win0_3.index t = ![t.val / 16, t.val % 8, t.val / 8 % 2] :=
  (by decide +kernel : ∀ t : Fin grid0.N, win0_3.index t = ![t.val / 16, t.val % 8, t.val / 8 % 2])
theorem idx_4 : ∀ t : Fin cfg0.N, win0_4.index t = ![t.val / 16, 0, t.val / 8 % 2] :=
  (by decide +kernel : ∀ t : Fin grid0.N, win0_4.index t = ![t.val / 16, 0, t.val / 8 % 2])
theorem idx_5 : ∀ t : Fin cfg0.N, win0_5.index t = ![t.val / 16, 0, 18 + t.val / 8 % 2] :=
  (by decide +kernel : ∀ t : Fin grid0.N, win0_5.index t = ![t.val / 16, 0, 18 + t.val / 8 % 2])
theorem idx_6 : ∀ t : Fin cfg0.N, win0_6.index t = ![t.val / 16, t.val / 8 % 2, t.val % 8, 0] :=
  (by decide +kernel : ∀ t : Fin grid0.N, win0_6.index t = ![t.val / 16, t.val / 8 % 2, t.val % 8, 0])
theorem idx_7 : ∀ t : Fin cfg0.N, win0_7.index t = ![t.val / 16, t.val / 8 % 2, 0, 0] :=
  (by decide +kernel : ∀ t : Fin grid0.N, win0_7.index t = ![t.val / 16, t.val / 8 % 2, 0, 0])
theorem idx_8 : ∀ t : Fin cfg0.N, win0_8.index t = ![t.val / 16 * 8 + t.val % 8, t.val / 8 % 2] :=
  (by decide +kernel : ∀ t : Fin grid0.N, win0_8.index t = ![t.val / 16 * 8 + t.val % 8, t.val / 8 % 2])
theorem idx_9 : ∀ t : Fin cfg0.N, win0_9.index t = ![t.val / 16, 0, t.val / 8 % 2] :=
  (by decide +kernel : ∀ t : Fin grid0.N, win0_9.index t = ![t.val / 16, 0, t.val / 8 % 2])
theorem idx_10 : ∀ t : Fin cfg0.N, win0_10.index t = ![t.val / 16, 0, t.val / 8 % 2] :=
  (by decide +kernel : ∀ t : Fin grid0.N, win0_10.index t = ![t.val / 16, 0, t.val / 8 % 2])
theorem idx_11 : ∀ t : Fin cfg0.N, win0_11.index t = ![t.val / 16, t.val / 8 % 2, 0, 0] :=
  (by decide +kernel : ∀ t : Fin grid0.N, win0_11.index t = ![t.val / 16, t.val / 8 % 2, 0, 0])
theorem idx_12 : ∀ t : Fin cfg0.N, win0_12.index t = ![t.val / 8 % 2, t.val / 16 * 8 + t.val % 8, 0] :=
  (by decide +kernel : ∀ t : Fin grid0.N, win0_12.index t = ![t.val / 8 % 2, t.val / 16 * 8 + t.val % 8, 0])

/-! The blocks, at coordinates. -/

theorem rd_0 (X : FVec Ideal S8192x256 .f32) (t : Fin cfg0.N) (r : Fin 512) (l : Fin 128) :
    (((cfg0.win 0).blk t).view.read (Elt Ideal) X : FVec Ideal S512x128 .f32) (ix2 r l) = X (ix2 (row (tb t) (gi (tq t) r)) (lane (tp t) l)) := by
  unfold tb tp tq gi lane row
  blk_ext [idx_0 t]
theorem rd_1 (X : FVec Ideal S8192x256 .f32) (t : Fin cfg0.N) (r : Fin 512) (l : Fin 128) :
    (((cfg0.win 1).blk t).view.read (Elt Ideal) X : FVec Ideal S512x128 .f32) (ix2 r l) = X (ix2 (row (tb t) (gi (tq t) r)) (lane (tp t) l)) := by
  unfold tb tp tq gi lane row
  blk_ext [idx_1 t]
theorem rd_2 (X : FVec Ideal S2x8192x128 .f32) (t : Fin cfg0.N) (r : Fin 512) (l : Fin 128) :
    (((cfg0.win 2).blk t).view.read (Elt Ideal) X : FVec Ideal S1x512x128 .f32) (ix3 0 r l) = X (ix3 (tp t) (row (tb t) (gi (tq t) r)) l) := by
  unfold tb tp tq gi row
  blk_ext [idx_2 t]
theorem rd_3 (X : FVec Ideal S2x4096x256 .bf16) (t : Fin cfg0.N) (r : Fin 512) (l : Fin 128) :
    (((cfg0.win 3).blk t).view.read (Elt Ideal) X : FVec Ideal S1x512x128 .bf16) (ix3 0 r l) = X (ix3 (tb t) (gi (tq t) r) (lane (tp t) l)) := by
  unfold tb tp tq gi lane
  blk_ext [idx_3 t]
theorem rd_4 (X : FVec Ideal S2x4096x256 .bf16) (t : Fin cfg0.N) (j : Fin 4096) (l : Fin 128) :
    (((cfg0.win 4).blk t).view.read (Elt Ideal) X : FVec Ideal S1x4096x128 .bf16) (ix3 0 j l) = X (ix3 (tb t) j (lane (tp t) l)) := by
  unfold tb tp lane
  blk_ext [idx_4 t]
theorem rd_5 (X : FVec Ideal S2x4096x2688 .bf16) (t : Fin cfg0.N) (j : Fin 4096) (l : Fin 128) :
    (((cfg0.win 5).blk t).view.read (Elt Ideal) X : FVec Ideal S1x4096x128 .bf16) (ix3 0 j l) = X (ix3 (tb t) j ⟨2304 + (lane (tp t) l).val, by have := (lane (tp t) l).isLt; omega⟩) := by
  unfold tb tp lane
  blk_ext [idx_5 t]
theorem rd_6 (X : FVec Ideal S2x2x4096x2 .f32) (t : Fin cfg0.N) (r : Fin 512) (a : Fin 2) :
    (((cfg0.win 6).blk t).view.read (Elt Ideal) X : FVec Ideal S1x1x512x2 .f32) (ix4 0 0 r a) = X (ix4 (tb t) (tp t) (gi (tq t) r) a) := by
  unfold tb tp tq gi
  blk_ext [idx_6 t]
theorem rd_7 (X : FVec Ideal S2x2x2x4096 .f32) (t : Fin cfg0.N) (a : Fin 2) (j : Fin 4096) :
    (((cfg0.win 7).blk t).view.read (Elt Ideal) X : FVec Ideal S1x1x2x4096 .f32) (ix4 0 0 a j) = X (ix4 (tb t) (tp t) a j) := by
  unfold tb tp
  blk_ext [idx_7 t]

end Fox

end
-- ==== Proof.Loop.lean ====
/- The loop over the blocks before the diagonal, by induction on its trips; and the loop after it, which has none. -/
module

public import proofs.«01_k».proof.Proof.Trip

@[expose] public section

set_option maxRecDepth 16384

noncomputable section

namespace Fox

open Idealize.ShloMosaic Idealize.ShloMosaic.TcCoe Cert.KernelIdeal Cert.KernelIdeal.Gen

variable {𝒱 : Variants} {c : Dev nD} {bd : Option 𝒱.V} {i : grid0.Coords} {arg3 : Memref sig .tc .vmem S512x128 .f32} {harg3 : arg3.IsWhole} {arg4 : Memref sig .tc .vmem S512x128 .f32} {harg4 : arg4.IsWhole} {arg5 : Memref sig .tc .vmem S1x512x128 .f32} {harg5 : arg5.IsWhole} {arg6 : Memref sig .tc .vmem S1x512x128 .bf16} {harg6 : arg6.IsWhole} {arg7 : Memref sig .tc .vmem S1x4096x128 .bf16} {harg7 : arg7.IsWhole} {arg8 : Memref sig .tc .vmem S1x4096x128 .bf16} {harg8 : arg8.IsWhole} {arg9 : Memref sig .tc .vmem S1x1x512x2 .f32} {harg9 : arg9.IsWhole} {arg10 : Memref sig .tc .vmem S1x1x2x4096 .f32} {harg10 : arg10.IsWhole} {arg11 : Memref sig .tc .vmem S512x128 .f32} {harg11 : arg11.IsWhole} {arg12 : Memref sig .tc .vmem S1x4096x128 .f32} {harg12 : arg12.IsWhole} {arg13 : Memref sig .tc .vmem S1x4096x128 .f32} {harg13 : arg13.IsWhole} {arg14 : Memref sig .tc .vmem S1x1x8x4096 .f32} {harg14 : arg14.IsWhole} {arg15 : Memref sig .tc .vmem S1x512x128 .f32} {harg15 : arg15.IsWhole} {arg2 : BitVec 32} {v5 : IVec S1x128 1} {v7 : Vec Ideal S512x128 .f32} {v9 : FVec Ideal S512x128 .f32} {v11 : FVec Ideal S512x2 .f32} {v24 : FVec Ideal S1024x128 .bf16} {v36 : FVec Ideal S1024x128 .bf16} {v37 : Vec Ideal S512x128 .f32} {X_arg7 : BufTy.Contents (Elt Ideal) arg7.view.ty} {X_arg8 : BufTy.Contents (Elt Ideal) arg8.view.ty} {X_arg10 : BufTy.Contents (Elt Ideal) arg10.view.ty}
variable {G12 : BufTy.Contents (Elt Ideal) arg12.view.ty} {G13 : BufTy.Contents (Elt Ideal) arg13.view.ty} {G14 : BufTy.Contents (Elt Ideal) arg14.view.ty}
variable {v69 : BitVec 32} {init : FVec Ideal S1024x128 .f32 × FVec Ideal S1024x1 .f32}

/-- The second loop makes no trip. -/
theorem second_none : (st_k0_t2 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 v69 X_arg7 X_arg8 X_arg10 G12 G13 G14 init (Scf.trips (k0_t2_loop i).lb (k0_t2_loop i).ub (k0_t2_loop i).st)) = (init, [], [], []) := by
  rw [show Scf.trips (k0_t2_loop i).lb (k0_t2_loop i).ub (k0_t2_loop i).st = 0 from trips2 i]
  rfl

variable {x : Pt} (hR : Reads x (arg7.view.read (Elt Ideal) X_arg7) (arg8.view.read (Elt Ideal) X_arg8) (arg10.view.read (Elt Ideal) X_arg10) v24 v36 (k0_pay56 v5 v7 v37) (k0_pay57 v9) (k0_pay58 v11)) (hqi : x.qi = (i 2).val)
variable {g2 g3 : Fin 4096 → Fin 128 → ℝ} {g4 : Fin 8 → Fin 4096 → ℝ}

include hR hqi in
/-- THE LOOP: before trip `n` the state holds the blocks of the trips before it. -/
theorem loop_is (h0 : St x 0 g2 g3 g4 init.1 init.2 (arg12.view.read (Elt Ideal) G12) (arg13.view.read (Elt Ideal) G13) (arg14.view.read (Elt Ideal) G14)) (n : ℕ) (hn : n ≤ (k0_t1_loop i).trips) :
    St x (n * 512) g2 g3 g4 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init n).1.1 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init n).1.2
      (arg12.view.read (Elt Ideal) (arg12.view.writes (Elt Ideal) G12 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init n).2.1))
      (arg13.view.read (Elt Ideal) (arg13.view.writes (Elt Ideal) G13 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init n).2.2.1))
      (arg14.view.read (Elt Ideal) (arg14.view.writes (Elt Ideal) G14 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init n).2.2.2)) := by
  induction n with
  | zero => rw [Nat.zero_mul]; exact h0
  | succ n ih =>
    have e := st_k0_t1_succ (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init ⟨n, hn⟩
    rw [show (n + 1) * 512 = n * 512 + 256 + 256 by omega]
    have e' : (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init (n + 1)) = _ := e
    rw [e']
    dsimp only
    rw [View.writes_append, View.writes_append, View.writes_append]
    exact trip_next hR hqi ⟨n, hn⟩ (ih (Nat.le_of_succ_le hn))

include hR hqi in
/-- The state at the diagonal. -/
theorem loop_done (h0 : St x 0 g2 g3 g4 init.1 init.2 (arg12.view.read (Elt Ideal) G12) (arg13.view.read (Elt Ideal) G13) (arg14.view.read (Elt Ideal) G14)) :
    St x ((i 2).val * 512) g2 g3 g4 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init (k0_t1_loop i).trips).1.1 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init (k0_t1_loop i).trips).1.2
      (arg12.view.read (Elt Ideal) (arg12.view.writes (Elt Ideal) G12 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init (k0_t1_loop i).trips).2.1))
      (arg13.view.read (Elt Ideal) (arg13.view.writes (Elt Ideal) G13 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init (k0_t1_loop i).trips).2.2.1))
      (arg14.view.read (Elt Ideal) (arg14.view.writes (Elt Ideal) G14 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg2 v5 v7 v9 v11 v24 v36 v37 X_arg7 X_arg8 X_arg10 G12 G13 G14 init (k0_t1_loop i).trips).2.2.2)) := by
  rw [← trips1 i]
  exact loop_is hR hqi h0 _ (le_refl _)

end Fox

end
-- ==== Proof.Diag.lean ====
/- The end of a grid point: the two blocks on the diagonal added to the point's sums and buffers, and what it then writes. -/
module

public import proofs.«01_k».proof.Proof.Tail

@[expose] public section

set_option maxRecDepth 16384

noncomputable section

namespace Fox

open Idealize.ShloMosaic Idealize.ShloMosaic.TcCoe Cert.KernelIdeal Cert.KernelIdeal.Gen

variable (i : grid0.Coords) (arg7 arg8 : Memref sig .tc .vmem S1x4096x128 .bf16) (arg10 : Memref sig .tc .vmem S1x1x2x4096 .f32)
variable (arg12 arg13 : Memref sig .tc .vmem S1x4096x128 .f32) (arg14 : Memref sig .tc .vmem S1x1x8x4096 .f32)
variable (v24 v36 : FVec Ideal S1024x128 .bf16) (v52 v55 v58 : FVec Ideal S1024x1 .f32)
variable (X7 : BufTy.Contents (Elt Ideal) arg7.view.ty) (X8 : BufTy.Contents (Elt Ideal) arg8.view.ty) (X10 : BufTy.Contents (Elt Ideal) arg10.view.ty)
variable (F12 : BufTy.Contents (Elt Ideal) arg12.view.ty) (F13 : BufTy.Contents (Elt Ideal) arg13.view.ty) (F14 : BufTy.Contents (Elt Ideal) arg14.view.ty)
variable (a : FVec Ideal S1024x128 .f32) (s : FVec Ideal S1024x1 .f32)

/-- The first diagonal block's weights. -/
abbrev diagP : FVec Ideal S1024x256 .f32 := k0_pay69 (BitVec.ofNat 32 (i 2).val) v24 v55 v58 k0_pay59 (Scalar.addi (Scalar.muli (BitVec.ofNat 32 (i 2).val) 2#32) 0#32) (k0_pay68 (View.readAt (Elt Ideal) arg7.view (Rect.unit (s := S1x4096x128) (k0_off11 i 0#32) S1x256x128.size (k0_off11_inb i 0)).toLoadRect X7)) (View.readAt (Elt Ideal) arg10.view (Rect.unit (s := S1x1x2x4096) (k0_off12 i 0#32) S1x1x1x256.size (k0_off12_inb i 0)).toLoadRect X10) (View.readAt (Elt Ideal) arg10.view (Rect.unit (s := S1x1x2x4096) (k0_off13 i 0#32) S1x1x1x256.size (k0_off13_inb i 0)).toLoadRect X10)
/-- The gradients of its logits. -/
abbrev diagD : FVec Ideal S1024x256 .f32 := k0_pay70 (BitVec.ofNat 32 (i 2).val) v24 v36 v52 v55 v58 k0_pay59 (Scalar.addi (Scalar.muli (BitVec.ofNat 32 (i 2).val) 2#32) 0#32) (k0_pay68 (View.readAt (Elt Ideal) arg7.view (Rect.unit (s := S1x4096x128) (k0_off11 i 0#32) S1x256x128.size (k0_off11_inb i 0)).toLoadRect X7)) (View.readAt (Elt Ideal) arg8.view (Rect.unit (s := S1x4096x128) (k0_off11 i 0#32) S1x256x128.size (k0_off11_inb i 0)).toLoadRect X8) (View.readAt (Elt Ideal) arg10.view (Rect.unit (s := S1x1x2x4096) (k0_off12 i 0#32) S1x1x1x256.size (k0_off12_inb i 0)).toLoadRect X10) (View.readAt (Elt Ideal) arg10.view (Rect.unit (s := S1x1x2x4096) (k0_off13 i 0#32) S1x1x1x256.size (k0_off13_inb i 0)).toLoadRect X10)
/-- The same, scaled. -/
abbrev diagW : FVec Ideal S1024x256 .bf16 := k0_pay71 (BitVec.ofNat 32 (i 2).val) v24 v36 v52 v55 v58 k0_pay59 (Scalar.addi (Scalar.muli (BitVec.ofNat 32 (i 2).val) 2#32) 0#32) (k0_pay68 (View.readAt (Elt Ideal) arg7.view (Rect.unit (s := S1x4096x128) (k0_off11 i 0#32) S1x256x128.size (k0_off11_inb i 0)).toLoadRect X7)) (View.readAt (Elt Ideal) arg8.view (Rect.unit (s := S1x4096x128) (k0_off11 i 0#32) S1x256x128.size (k0_off11_inb i 0)).toLoadRect X8) (View.readAt (Elt Ideal) arg10.view (Rect.unit (s := S1x1x2x4096) (k0_off12 i 0#32) S1x1x1x256.size (k0_off12_inb i 0)).toLoadRect X10) (View.readAt (Elt Ideal) arg10.view (Rect.unit (s := S1x1x2x4096) (k0_off13 i 0#32) S1x1x1x256.size (k0_off13_inb i 0)).toLoadRect X10)
/-- The second diagonal block's logits less the rows' normalisers. -/
abbrev lastL : FVec Ideal S1024x256 .f32 := k0_pay82 v24 v55 v58 k0_pay59 (View.readAt (Elt Ideal) arg7.view (Rect.unit (s := S1x4096x128) (k0_off11 i 1#32) S1x256x128.size (k0_off11_inb i 1)).toLoadRect X7) (View.readAt (Elt Ideal) arg10.view (Rect.unit (s := S1x1x2x4096) (k0_off12 i 1#32) S1x1x1x256.size (k0_off12_inb i 1)).toLoadRect X10) (View.readAt (Elt Ideal) arg10.view (Rect.unit (s := S1x1x2x4096) (k0_off13 i 1#32) S1x1x1x256.size (k0_off13_inb i 1)).toLoadRect X10)
/-- The gradients of its logits. -/
abbrev lastD : FVec Ideal S1024x256 .f32 := k0_pay84 (BitVec.ofNat 32 (i 2).val) v36 v52 (Scalar.addi (Scalar.muli (BitVec.ofNat 32 (i 2).val) 2#32) 1#32) (k0_pay81 (View.readAt (Elt Ideal) arg8.view (Rect.unit (s := S1x4096x128) (k0_off11 i 1#32) S1x256x128.size (k0_off11_inb i 1)).toLoadRect X8)) (lastL i arg7 arg10 v24 v55 v58 X7 X10)

variable {x : Pt} {i} {arg7 arg8 arg10 arg12 arg13 arg14 v24 v36 v52 v55 v58 X7 X8 X10 F12 F13 F14 a s}
variable (hR : Reads x (arg7.view.read (Elt Ideal) X7) (arg8.view.read (Elt Ideal) X8) (arg10.view.read (Elt Ideal) X10) v24 v36 v52 v55 v58)
variable (hqi : x.qi = (i 2).val)

include hR in
theorem read7 (n : ℕ) (hn : n + 256 ≤ 4096) {off : Fin 3 → ℕ} (inb) (ho : off = ![0, n, 0]) :
    Is3 (a := 1) (b := 256) (c := 128) (View.readAt (Elt Ideal) arg7.view (Rect.unit (s := S1x4096x128) off S1x256x128.size inb).toLoadRect X7) fun _ j l => x.k (pos n hn j) l := by
  rw [View.readAt_unit arg7.view X7 inb ho (ho ▸ inb)]
  exact win3 n hn hR.k _
include hR in
theorem read8 (n : ℕ) (hn : n + 256 ≤ 4096) {off : Fin 3 → ℕ} (inb) (ho : off = ![0, n, 0]) :
    Is3 (a := 1) (b := 256) (c := 128) (View.readAt (Elt Ideal) arg8.view (Rect.unit (s := S1x4096x128) off S1x256x128.size inb).toLoadRect X8) fun _ j l => x.v (pos n hn j) l := by
  rw [View.readAt_unit arg8.view X8 inb ho (ho ▸ inb)]
  exact win3 n hn hR.v _
include hR in
theorem read10a (n : ℕ) (hn : n + 256 ≤ 4096) {off : Fin 4 → ℕ} (inb) (ho : off = ![0, 0, 0, n]) :
    Is4 (a := 1) (b := 1) (c := 1) (d := 256) (View.readAt (Elt Ideal) arg10.view (Rect.unit (s := S1x1x2x4096) off S1x1x1x256.size inb).toLoadRect X10) fun _ _ _ j => x.fa (pos n hn j) := by
  rw [View.readAt_unit arg10.view X10 inb ho (ho ▸ inb)]
  exact win4 (A := 2) 0 n hn hR.f _
include hR in
theorem read10b (n : ℕ) (hn : n + 256 ≤ 4096) {off : Fin 4 → ℕ} (inb) (ho : off = ![0, 0, 1, n]) :
    Is4 (a := 1) (b := 1) (c := 1) (d := 256) (View.readAt (Elt Ideal) arg10.view (Rect.unit (s := S1x1x2x4096) off S1x1x1x256.size inb).toLoadRect X10) fun _ _ _ j => x.fb (pos n hn j) := by
  rw [View.readAt_unit arg10.view X10 inb ho (ho ▸ inb)]
  exact win4 (A := 2) 1 n hn hR.f _

theorem lt4096 (c : Fin 2) : (i 2).val * 512 + c.val * 256 + 256 ≤ 4096 := by have := qi_lt i; omega

include hR hqi in
theorem diagP_is : Is2 (diagP i arg7 arg10 v24 v55 v58 X7 X10) fun r j => x.w r (pos _ (lt4096 (i := i) 0) j) :=
  first_w hR.q hR.le hR.fq (hqi ▸ qi_lt i) (by rw [hqi]) (w := (i 2).val * 2 + 0) (by have := qi_lt i; omega) (word_kb (i 2) 0) _ (by show _ = (i 2).val * 512 + 0 * 256; omega)
    (read7 hR _ _ _ (off11 i 0)) (read10a hR _ _ _ (off12 i 0)) (read10b hR _ _ _ (off13 i 0))
include hR hqi in
theorem diagD_is : Is2 (diagD i arg7 arg8 arg10 v24 v36 v52 v55 v58 X7 X8 X10) fun r j => x.d r (pos _ (lt4096 (i := i) 0) j) :=
  first_d hR.q hR.y hR.de hR.le hR.fq (hqi ▸ qi_lt i) (by rw [hqi]) (w := (i 2).val * 2 + 0) (by have := qi_lt i; omega) (word_kb (i 2) 0) _ (by show _ = (i 2).val * 512 + 0 * 256; omega)
    (read7 hR _ _ _ (off11 i 0)) (read8 hR _ _ _ (off11 i 0)) (read10a hR _ _ _ (off12 i 0)) (read10b hR _ _ _ (off13 i 0))
include hR hqi in
theorem diagW_is : Is2 (diagW i arg7 arg8 arg10 v24 v36 v52 v55 v58 X7 X8 X10) fun r j => x.d r (pos _ (lt4096 (i := i) 0) j) * (1 / 8) := pay71_is (diagD_is hR hqi)
include hR hqi in
theorem lastP_is : Is2 (k0_pay83 (BitVec.ofNat 32 (i 2).val) (Scalar.addi (Scalar.muli (BitVec.ofNat 32 (i 2).val) 2#32) 1#32) (lastL i arg7 arg10 v24 v55 v58 X7 X10)) fun r j => x.w r (pos _ (lt4096 (i := i) 1) j) :=
  second_w hR.q hR.le hR.fq (hqi ▸ qi_lt i) (by rw [hqi]) (w := (i 2).val * 2 + 1) (by have := qi_lt i; omega) (word_kb (i 2) 1) _ (by show _ = (i 2).val * 512 + 1 * 256; omega)
    (read7 hR _ _ _ (off11 i 1)) (read10a hR _ _ _ (off12 i 1)) (read10b hR _ _ _ (off13 i 1))
include hR hqi in
theorem lastD_is : Is2 (lastD i arg7 arg8 arg10 v24 v36 v52 v55 v58 X7 X8 X10) fun r j => x.d r (pos _ (lt4096 (i := i) 1) j) :=
  second_d hR.q hR.y hR.de hR.le hR.fq (hqi ▸ qi_lt i) (by rw [hqi]) (w := (i 2).val * 2 + 1) (by have := qi_lt i; omega) (word_kb (i 2) 1) _ (by show _ = (i 2).val * 512 + 1 * 256; omega)
    (read7 hR _ _ _ (off11 i 1)) (read8 hR _ _ _ (off11 i 1)) (read10a hR _ _ _ (off12 i 1)) (read10b hR _ _ _ (off13 i 1))
include hR hqi in
theorem lastW_is : Is2 (k0_pay85 (BitVec.ofNat 32 (i 2).val) v36 v52 (Scalar.addi (Scalar.muli (BitVec.ofNat 32 (i 2).val) 2#32) 1#32) (k0_pay81 (View.readAt (Elt Ideal) arg8.view (Rect.unit (s := S1x4096x128) (k0_off11 i 1#32) S1x256x128.size (k0_off11_inb i 1)).toLoadRect X8)) (lastL i arg7 arg10 v24 v55 v58 X7 X10)) fun r j => x.d r (pos _ (lt4096 (i := i) 1) j) * (1 / 8) := pay85_is (lastD_is hR hqi)

variable {g2 g3 : Fin 4096 → Fin 128 → ℝ} {g4 : Fin 8 → Fin 4096 → ℝ}
variable (hS : St x ((i 2).val * 512) g2 g3 g4 a s (arg12.view.read (Elt Ideal) F12) (arg13.view.read (Elt Ideal) F13) (arg14.view.read (Elt Ideal) F14))

theorem bound (x : Pt) (hqi : x.qi = (i 2).val) : (i 2).val * 512 + (1 : Fin 2).val * 256 + 256 = x.qi * 512 + 256 + 256 := by rw [hqi]; rfl

include hR hqi hS in
/-- The queries' gradients. -/
theorem out8_is : Is2 (k0_pay91 (k0_pay78 a (k0_pay68 (View.readAt (Elt Ideal) arg7.view (Rect.unit (s := S1x4096x128) (k0_off11 i 0#32) S1x256x128.size (k0_off11_inb i 0)).toLoadRect X7)) (diagW i arg7 arg8 arg10 v24 v36 v52 v55 v58 X7 X8 X10)) (k0_pay80 (View.readAt (Elt Ideal) arg7.view (Rect.unit (s := S1x4096x128) (k0_off11 i 1#32) S1x256x128.size (k0_off11_inb i 1)).toLoadRect X7)) (k0_pay85 (BitVec.ofNat 32 (i 2).val) v36 v52 (Scalar.addi (Scalar.muli (BitVec.ofNat 32 (i 2).val) 2#32) 1#32) (k0_pay81 (View.readAt (Elt Ideal) arg8.view (Rect.unit (s := S1x4096x128) (k0_off11 i 1#32) S1x256x128.size (k0_off11_inb i 1)).toLoadRect X8)) (lastL i arg7 arg10 v24 v55 v58 X7 X10))) (unst fun r l => ∑ j : Fin 4096, x.d r j * (1 / 8) * x.k j l) := by
  refine Is2.congr (pay91_is (pay80_is (read7 hR _ (lt4096 1) _ (off11 i 1))) (pay78_is (pay68_is (read7 hR _ (lt4096 0) _ (off11 i 0))) hS.a (diagW_is hR hqi)) (lastW_is hR hqi)) fun r l => ?_
  refine congrArg (fun f => unst f r l) (funext fun r => funext fun l => ?_)
  rw [← x.dq_all, ← bound x hqi, x.dq_next _ (lt4096 1)]
  refine congrArg (· + _) ?_
  exact (x.dq_next _ (lt4096 (i := i) 0) r l).symm

include hR hqi hS in
/-- The sums of the logits' gradients over the keys. -/
theorem out12_is : Is3 (k0_pay1 (iota Kind.tc S1x128 32 [1] iota_S1x128_d1_w32) (k0_pay90 (k0_pay79 s (diagD i arg7 arg8 arg10 v24 v36 v52 v55 v58 X7 X8 X10)) (lastD i arg7 arg8 arg10 v24 v36 v52 v55 v58 X7 X8 X10)) (k0_pay92 (iota Kind.tc S1x128 32 [1] iota_S1x128_d1_w32)) (k0_pay93 (k0_pay79 s (diagD i arg7 arg8 arg10 v24 v36 v52 v55 v58 X7 X8 X10)) (lastD i arg7 arg8 arg10 v24 v36 v52 v55 v58 X7 X8 X10)))
    fun _ => lanes fun r => ∑ j : Fin 4096, x.d r j := by
  refine pay1_is (Is2.congr (pay90_is (pay79_is hS.s (diagD_is hR hqi)) (lastD_is hR hqi)) fun r _ => ?_)
  rw [← x.rs_all, ← bound x hqi, x.rs_next _ (lt4096 1)]
  refine congrArg (· + _) ?_
  exact (x.rs_next _ (lt4096 (i := i) 0) r).symm

include hR hqi hS in
/-- The keys' gradients. -/
theorem out9_is : Is3 (arg12.view.read (Elt Ideal) (arg12.view.writes (Elt Ideal) (arg12.view.writes (Elt Ideal) F12 [⟨Rect.unit (s := S1x4096x128) (k0_off11 i 0#32) S1x256x128.size (k0_off11_inb i 0), (k0_pay72 v24 (diagW i arg7 arg8 arg10 v24 v36 v52 v55 v58 X7 X8 X10) (View.readAt (Elt Ideal) arg12.view (Rect.unit (s := S1x4096x128) (k0_off11 i 0#32) S1x256x128.size (k0_off11_inb i 0)).toLoadRect F12))⟩]) [⟨Rect.unit (s := S1x4096x128) (k0_off11 i 1#32) S1x256x128.size (k0_off11_inb i 1), (k0_pay86 (BitVec.ofNat 32 (i 2).val) v24 v36 v52 (Scalar.addi (Scalar.muli (BitVec.ofNat 32 (i 2).val) 2#32) 1#32) (k0_pay81 (View.readAt (Elt Ideal) arg8.view (Rect.unit (s := S1x4096x128) (k0_off11 i 1#32) S1x256x128.size (k0_off11_inb i 1)).toLoadRect X8)) (lastL i arg7 arg10 v24 v55 v58 X7 X10) (View.readAt (Elt Ideal) arg12.view (Rect.unit (s := S1x4096x128) (k0_off11 i 1#32) S1x256x128.size (k0_off11_inb i 1)).toLoadRect (arg12.view.writes (Elt Ideal) F12 [⟨Rect.unit (s := S1x4096x128) (k0_off11 i 0#32) S1x256x128.size (k0_off11_inb i 0), (k0_pay72 v24 (diagW i arg7 arg8 arg10 v24 v36 v52 v55 v58 X7 X8 X10) (View.readAt (Elt Ideal) arg12.view (Rect.unit (s := S1x4096x128) (k0_off11 i 0#32) S1x256x128.size (k0_off11_inb i 0)).toLoadRect F12))⟩])))⟩])) fun _ j l => g2 j l + x.dk j l := by
  refine Is3.congr (put3_step arg12.view (arg12.view.writes (Elt Ideal) F12 [⟨Rect.unit (s := S1x4096x128) (k0_off11 i 0#32) S1x256x128.size (k0_off11_inb i 0), (k0_pay72 v24 (diagW i arg7 arg8 arg10 v24 v36 v52 v55 v58 X7 X8 X10) (View.readAt (Elt Ideal) arg12.view (Rect.unit (s := S1x4096x128) (k0_off11 i 0#32) S1x256x128.size (k0_off11_inb i 0)).toLoadRect F12))⟩]) (k0_off11_inb i 1) (k0_off11_inb i 1) _ (off11 i 1) (lt4096 1) (c := x.dk)
    (put3_step arg12.view F12 (k0_off11_inb i 0) (k0_off11_inb i 0) _ (off11 i 0) (lt4096 0) (c := x.dk) hS.k (fun y => (k0_pay72 v24 (diagW i arg7 arg8 arg10 v24 v36 v52 v55 v58 X7 X8 X10) y)) (fun y hy => pay72_is hR.q (diagW_is hR hqi) hy) rfl)
    (fun y => (k0_pay86 (BitVec.ofNat 32 (i 2).val) v24 v36 v52 (Scalar.addi (Scalar.muli (BitVec.ofNat 32 (i 2).val) 2#32) 1#32) (k0_pay81 (View.readAt (Elt Ideal) arg8.view (Rect.unit (s := S1x4096x128) (k0_off11 i 1#32) S1x256x128.size (k0_off11_inb i 1)).toLoadRect X8)) (lastL i arg7 arg10 v24 v55 v58 X7 X10) y)) (fun y hy => pay86_is hR.q (lastW_is hR hqi) hy) rfl) fun _ j l => ?_
  rw [bound x hqi, x.dk_all]

include hR hqi hS in
/-- The values' gradients. -/
theorem out10_is : Is3 (arg13.view.read (Elt Ideal) (arg13.view.writes (Elt Ideal) (arg13.view.writes (Elt Ideal) F13 [⟨Rect.unit (s := S1x4096x128) (k0_off11 i 0#32) S1x256x128.size (k0_off11_inb i 0), (k0_pay73 v36 (diagP i arg7 arg10 v24 v55 v58 X7 X10) (View.readAt (Elt Ideal) arg13.view (Rect.unit (s := S1x4096x128) (k0_off11 i 0#32) S1x256x128.size (k0_off11_inb i 0)).toLoadRect F13))⟩]) [⟨Rect.unit (s := S1x4096x128) (k0_off11 i 1#32) S1x256x128.size (k0_off11_inb i 1), (k0_pay87 (BitVec.ofNat 32 (i 2).val) v36 (Scalar.addi (Scalar.muli (BitVec.ofNat 32 (i 2).val) 2#32) 1#32) (lastL i arg7 arg10 v24 v55 v58 X7 X10) (View.readAt (Elt Ideal) arg13.view (Rect.unit (s := S1x4096x128) (k0_off11 i 1#32) S1x256x128.size (k0_off11_inb i 1)).toLoadRect (arg13.view.writes (Elt Ideal) F13 [⟨Rect.unit (s := S1x4096x128) (k0_off11 i 0#32) S1x256x128.size (k0_off11_inb i 0), (k0_pay73 v36 (diagP i arg7 arg10 v24 v55 v58 X7 X10) (View.readAt (Elt Ideal) arg13.view (Rect.unit (s := S1x4096x128) (k0_off11 i 0#32) S1x256x128.size (k0_off11_inb i 0)).toLoadRect F13))⟩])))⟩])) fun _ j l => g3 j l + x.dv j l := by
  refine Is3.congr (put3_step arg13.view (arg13.view.writes (Elt Ideal) F13 [⟨Rect.unit (s := S1x4096x128) (k0_off11 i 0#32) S1x256x128.size (k0_off11_inb i 0), (k0_pay73 v36 (diagP i arg7 arg10 v24 v55 v58 X7 X10) (View.readAt (Elt Ideal) arg13.view (Rect.unit (s := S1x4096x128) (k0_off11 i 0#32) S1x256x128.size (k0_off11_inb i 0)).toLoadRect F13))⟩]) (k0_off11_inb i 1) (k0_off11_inb i 1) _ (off11 i 1) (lt4096 1) (c := x.dv)
    (put3_step arg13.view F13 (k0_off11_inb i 0) (k0_off11_inb i 0) _ (off11 i 0) (lt4096 0) (c := x.dv) hS.v (fun y => (k0_pay73 v36 (diagP i arg7 arg10 v24 v55 v58 X7 X10) y)) (fun y hy => pay73_is hR.y (diagP_is hR hqi) hy) rfl)
    (fun y => (k0_pay87 (BitVec.ofNat 32 (i 2).val) v36 (Scalar.addi (Scalar.muli (BitVec.ofNat 32 (i 2).val) 2#32) 1#32) (lastL i arg7 arg10 v24 v55 v58 X7 X10) y)) (fun y hy => pay87_is hR.y (lastP_is hR hqi) hy) rfl) fun _ j l => ?_
  rw [bound x hqi, x.dv_all]

include hR hqi hS in
/-- The gradients of the keys' decays: four writes, each over the one before. -/
theorem out11_is {f1 f2 f3 f4 : BufTy.Contents (Elt Ideal) arg14.view.ty}
    (e1 : f1 = arg14.view.writes (Elt Ideal) F14 [⟨Rect.unit (s := S1x1x8x4096) (k0_off14 i 0#32) S1x1x1x256.size (k0_off14_inb i 0), k0_pay74 (diagD i arg7 arg8 arg10 v24 v36 v52 v55 v58 X7 X8 X10) (View.readAt (Elt Ideal) arg14.view (Rect.unit (s := S1x1x8x4096) (k0_off14 i 0#32) S1x1x1x256.size (k0_off14_inb i 0)).toLoadRect F14)⟩])
    (e2 : f2 = arg14.view.writes (Elt Ideal) f1 [⟨Rect.unit (s := S1x1x8x4096) (k0_off15 i 0#32) S1x1x1x256.size (k0_off15_inb i 0), k0_pay77 (k0_pay75 (View.readAt (Elt Ideal) arg14.view (Rect.unit (s := S1x1x8x4096) (k0_off15 i 0#32) S1x1x1x256.size (k0_off15_inb i 0)).toLoadRect f1)) (k0_pay76 (diagD i arg7 arg8 arg10 v24 v36 v52 v55 v58 X7 X8 X10))⟩])
    (e3 : f3 = arg14.view.writes (Elt Ideal) f2 [⟨Rect.unit (s := S1x1x8x4096) (k0_off14 i 1#32) S1x1x1x256.size (k0_off14_inb i 1), k0_pay88 (lastD i arg7 arg8 arg10 v24 v36 v52 v55 v58 X7 X8 X10) (View.readAt (Elt Ideal) arg14.view (Rect.unit (s := S1x1x8x4096) (k0_off14 i 1#32) S1x1x1x256.size (k0_off14_inb i 1)).toLoadRect f2)⟩])
    (e4 : f4 = arg14.view.writes (Elt Ideal) f3 [⟨Rect.unit (s := S1x1x8x4096) (k0_off15 i 1#32) S1x1x1x256.size (k0_off15_inb i 1), k0_pay89 (lastD i arg7 arg8 arg10 v24 v36 v52 v55 v58 X7 X8 X10) (View.readAt (Elt Ideal) arg14.view (Rect.unit (s := S1x1x8x4096) (k0_off15 i 1#32) S1x1x1x256.size (k0_off15_inb i 1)).toLoadRect f3)⟩]) :
    Is4 (arg14.view.read (Elt Ideal) f4) fun _ _ a j => g4 a j - x.dr a j := by
  have hc : ∀ (a : Fin 8) (j : Fin 4096), a ≠ 0 → a ≠ 1 → x.dr a j = 0 := fun a j h0 h1 => (if_neg h0).trans (if_neg h1)
  refine Is4.congr (put4_two e3 e4 _ (off14 i 1) (off15 i 1) (lt4096 1) hc
    (put4_two e1 e2 _ (off14 i 0) (off15 i 0) (lt4096 0) hc hS.f
      (fun y => k0_pay74 (diagD i arg7 arg8 arg10 v24 v36 v52 v55 v58 X7 X8 X10) y) (fun y => k0_pay77 (k0_pay75 y) (k0_pay76 (diagD i arg7 arg8 arg10 v24 v36 v52 v55 v58 X7 X8 X10))) (fun y hy => pay74_is (diagD_is hR hqi) hy) (fun y hy => pay77_is (diagD_is hR hqi) hy) rfl rfl)
    (fun y => k0_pay88 (lastD i arg7 arg8 arg10 v24 v36 v52 v55 v58 X7 X8 X10) y) (fun y => k0_pay89 (lastD i arg7 arg8 arg10 v24 v36 v52 v55 v58 X7 X8 X10) y) (fun y hy => pay88_is (lastD_is hR hqi) hy) (fun y hy => pay89_is (lastD_is hR hqi) hy) rfl rfl) fun _ _ a j => ?_
  rw [bound x hqi, x.dr_all]

end Fox

end
-- ==== Proof.Body.lean ====
/- What one grid point leaves in the output windows, over the reals: at a first query block over zeros, at a later one over what the
   point before left. -/
module

public import proofs.«01_k».proof.Proof.Loop
public import proofs.«01_k».proof.Proof.Diag
public import proofs.«01_k».proof.Proof.Gen.KernelIdeal.Frame

@[expose] public section

set_option maxRecDepth 16384

noncomputable section

namespace Fox

open Idealize.ShloMosaic Idealize.ShloMosaic.TcCoe Cert.KernelIdeal Cert.KernelIdeal.Gen

variable (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x512x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x1x512x2 .f32) (harg9 : arg9.IsWhole) (arg10 : Memref sig .tc .vmem S1x1x2x4096 .f32) (harg10 : arg10.IsWhole) (arg11 : Memref sig .tc .vmem S512x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x1x8x4096 .f32) (harg14 : arg14.IsWhole) (arg15 : Memref sig .tc .vmem S1x512x128 .f32) (harg15 : arg15.IsWhole)
  (x0 : Vec Ideal S512x128 .f32) (x1 : Vec Ideal S512x128 .f32) (x2 : Vec Ideal S1x512x128 .f32) (x3 : Vec Ideal S1x512x128 .bf16) (x4 : Vec Ideal S1x4096x128 .bf16) (x5 : Vec Ideal S1x4096x128 .bf16) (x6 : Vec Ideal S1x1x512x2 .f32) (x7 : Vec Ideal S1x1x2x4096 .f32)

/-- The first loop's state at its end. -/
abbrev loop1 (G12 : BufTy.Contents (Elt Ideal) arg12.view.ty) (G13 : BufTy.Contents (Elt Ideal) arg13.view.ty) (G14 : BufTy.Contents (Elt Ideal) arg14.view.ty) : (FVec Ideal S1024x128 .f32 × FVec Ideal S1024x1 .f32) × List (View.Piece (Elt Ideal) S1x4096x128 .f32) × List (View.Piece (Elt Ideal) S1x4096x128 .f32) × List (View.Piece (Elt Ideal) S1x1x8x4096 .f32) :=
  st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) k0_pay51 (View.readAt (Elt Ideal) arg3.view (Rect.unit (s := S512x128) ![0, 0] S512x128.size inb_S512x128_S512x128_0_0).toLoadRect (harg3.unread x0)) (k0_pay52 (View.readAt (Elt Ideal) arg5.view (Rect.unit (s := S1x512x128) ![0, 0, 0] S1x512x128.size inb_S1x512x128_S1x512x128_0_0_0).toLoadRect (harg5.unread x2))) (k0_pay53 (View.readAt (Elt Ideal) arg9.view (Rect.unit (s := S1x1x512x2) ![0, 0, 0, 0] S1x1x512x2.size inb_S1x1x512x2_S1x1x512x2_0_0_0_0).toLoadRect (harg9.unread x6))) (k0_pay54 (View.readAt (Elt Ideal) arg6.view (Rect.unit (s := S1x512x128) ![0, 0, 0] S1x512x128.size inb_S1x512x128_S1x512x128_0_0_0).toLoadRect (harg6.unread x3))) (k0_pay55 (View.readAt (Elt Ideal) arg3.view (Rect.unit (s := S512x128) ![0, 0] S512x128.size inb_S512x128_S512x128_0_0).toLoadRect (harg3.unread x0))) (View.readAt (Elt Ideal) arg4.view (Rect.unit (s := S512x128) ![0, 0] S512x128.size inb_S512x128_S512x128_0_0).toLoadRect (harg4.unread x1)) (harg7.unread x4) (harg8.unread x5) (harg10.unread x7) G12 G13 G14 (k0_pay60, k0_pay61) (Scf.trips (k0_t1_loop i).lb (k0_t1_loop i).ub (k0_t1_loop i).st)

/-- The second loop's state at its end. -/
abbrev loop2 (G12 : BufTy.Contents (Elt Ideal) arg12.view.ty) (G13 : BufTy.Contents (Elt Ideal) arg13.view.ty) (G14 : BufTy.Contents (Elt Ideal) arg14.view.ty) (w : BitVec 32) (H12 : BufTy.Contents (Elt Ideal) arg12.view.ty) (H13 : BufTy.Contents (Elt Ideal) arg13.view.ty) (H14 : BufTy.Contents (Elt Ideal) arg14.view.ty) : (FVec Ideal S1024x128 .f32 × FVec Ideal S1024x1 .f32) × List (View.Piece (Elt Ideal) S1x4096x128 .f32) × List (View.Piece (Elt Ideal) S1x4096x128 .f32) × List (View.Piece (Elt Ideal) S1x1x8x4096 .f32) :=
  st_k0_t2 (F := Ideal) Variants.none c none i arg3 harg3 arg4 harg4 arg5 harg5 arg6 harg6 arg7 harg7 arg8 harg8 arg9 harg9 arg10 harg10 arg11 harg11 arg12 harg12 arg13 harg13 arg14 harg14 arg15 harg15 (BitVec.ofNat 32 (i 2).val) k0_pay51 (View.readAt (Elt Ideal) arg3.view (Rect.unit (s := S512x128) ![0, 0] S512x128.size inb_S512x128_S512x128_0_0).toLoadRect (harg3.unread x0)) (k0_pay52 (View.readAt (Elt Ideal) arg5.view (Rect.unit (s := S1x512x128) ![0, 0, 0] S1x512x128.size inb_S1x512x128_S1x512x128_0_0_0).toLoadRect (harg5.unread x2))) (k0_pay53 (View.readAt (Elt Ideal) arg9.view (Rect.unit (s := S1x1x512x2) ![0, 0, 0, 0] S1x1x512x2.size inb_S1x1x512x2_S1x1x512x2_0_0_0_0).toLoadRect (harg9.unread x6))) (k0_pay54 (View.readAt (Elt Ideal) arg6.view (Rect.unit (s := S1x512x128) ![0, 0, 0] S1x512x128.size inb_S1x512x128_S1x512x128_0_0_0).toLoadRect (harg6.unread x3))) (k0_pay55 (View.readAt (Elt Ideal) arg3.view (Rect.unit (s := S512x128) ![0, 0] S512x128.size inb_S512x128_S512x128_0_0).toLoadRect (harg3.unread x0))) (View.readAt (Elt Ideal) arg4.view (Rect.unit (s := S512x128) ![0, 0] S512x128.size inb_S512x128_S512x128_0_0).toLoadRect (harg4.unread x1)) w (harg7.unread x4) (harg8.unread x5) (harg10.unread x7) H12 H13 H14 ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 G12 G13 G14).1.1, (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 G12 G13 G14).1.2) (Scf.trips (k0_t2_loop i).lb (k0_t2_loop i).ub (k0_t2_loop i).st)

theorem loop2_eq (G12 : BufTy.Contents (Elt Ideal) arg12.view.ty) (G13 : BufTy.Contents (Elt Ideal) arg13.view.ty) (G14 : BufTy.Contents (Elt Ideal) arg14.view.ty) (w : BitVec 32) (H12 : BufTy.Contents (Elt Ideal) arg12.view.ty) (H13 : BufTy.Contents (Elt Ideal) arg13.view.ty) (H14 : BufTy.Contents (Elt Ideal) arg14.view.ty) : (loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 G12 G13 G14 w H12 H13 H14) = (((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 G12 G13 G14).1.1, (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 G12 G13 G14).1.2), [], [], []) :=
  second_none

variable {x : Pt} (hqi : x.qi = (i 2).val)
variable (hR : Reads x x4 x5 x7 (k0_pay54 x3) (k0_pay55 x0) (k0_pay56 k0_pay51 x0 x1) (k0_pay57 (k0_pay52 x2)) (k0_pay58 (k0_pay53 x6)))

include hR in
/-- What the point reads is its blocks. -/
theorem reads_of : Reads x (arg7.view.read (Elt Ideal) (harg7.unread x4)) (arg8.view.read (Elt Ideal) (harg8.unread x5)) (arg10.view.read (Elt Ideal) (harg10.unread x7)) (k0_pay54 (View.readAt (Elt Ideal) arg6.view (Rect.unit (s := S1x512x128) ![0, 0, 0] S1x512x128.size inb_S1x512x128_S1x512x128_0_0_0).toLoadRect (harg6.unread x3))) (k0_pay55 (View.readAt (Elt Ideal) arg3.view (Rect.unit (s := S512x128) ![0, 0] S512x128.size inb_S512x128_S512x128_0_0).toLoadRect (harg3.unread x0))) (k0_pay56 k0_pay51 (View.readAt (Elt Ideal) arg3.view (Rect.unit (s := S512x128) ![0, 0] S512x128.size inb_S512x128_S512x128_0_0).toLoadRect (harg3.unread x0)) (View.readAt (Elt Ideal) arg4.view (Rect.unit (s := S512x128) ![0, 0] S512x128.size inb_S512x128_S512x128_0_0).toLoadRect (harg4.unread x1))) (k0_pay57 (k0_pay52 (View.readAt (Elt Ideal) arg5.view (Rect.unit (s := S1x512x128) ![0, 0, 0] S1x512x128.size inb_S1x512x128_S1x512x128_0_0_0).toLoadRect (harg5.unread x2)))) (k0_pay58 (k0_pay53 (View.readAt (Elt Ideal) arg9.view (Rect.unit (s := S1x1x512x2) ![0, 0, 0, 0] S1x1x512x2.size inb_S1x1x512x2_S1x1x512x2_0_0_0_0).toLoadRect (harg9.unread x6)))) := by
  rw [View.readAt_full, View.readAt_full, View.readAt_full, View.readAt_full, View.readAt_full, harg3.read_unread, harg4.read_unread, harg5.read_unread, harg6.read_unread,
    harg7.read_unread, harg8.read_unread, harg9.read_unread, harg10.read_unread]
  exact hR

variable {g2 g3 : Fin 4096 → Fin 128 → ℝ} {g4 : Fin 8 → Fin 4096 → ℝ}

/-- A point's state at its start: sums of nothing. -/
theorem start_is {b12 b13 : Vec Ideal S1x4096x128 .f32} {b14 : Vec Ideal S1x1x8x4096 .f32} (h2 : Is3 b12 fun _ => g2) (h3 : Is3 b13 fun _ => g3) (h4 : Is4 b14 fun _ _ => g4) :
    St x 0 g2 g3 g4 (k0_pay60 (F := Ideal)) (k0_pay61 (F := Ideal)) b12 b13 b14 where
  a := pay60_is.congr fun r l => (Finset.sum_eq_zero fun j _ => if_neg (Nat.not_lt_zero _)).symm
  s := pay61_is.congr fun r _ => (Finset.sum_eq_zero fun j _ => if_neg (Nat.not_lt_zero _)).symm
  k := h2.congr fun _ j l => by rw [if_neg (Nat.not_lt_zero _), add_zero]
  v := h3.congr fun _ j l => by rw [if_neg (Nat.not_lt_zero _), add_zero]
  f := h4.congr fun _ _ a j => by rw [if_neg (Nat.not_lt_zero _), sub_zero]

section B
variable (hc0 : ¬cond0_0 i) (xo9 : Vec Ideal S1x4096x128 .f32) (xo10 : Vec Ideal S1x4096x128 .f32) (xo11 : Vec Ideal S1x1x8x4096 .f32)
variable (h2 : Is3 xo9 fun _ => g2) (h3 : Is3 xo10 fun _ => g3) (h4 : Is4 xo11 fun _ _ => g4)

include hqi hR h2 h3 h4 in
theorem stateB : St x ((i 2).val * 512) g2 g3 g4 (loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11) (kernelRun0_B.sl.v69 i) (arg12.view.writes (Elt Ideal) (harg12.unread xo9) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.1) (arg13.view.writes (Elt Ideal) (harg13.unread xo10) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.1) (arg14.view.writes (Elt Ideal) (harg14.unread xo11) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.2)).1.1 (loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11) (kernelRun0_B.sl.v69 i) (arg12.view.writes (Elt Ideal) (harg12.unread xo9) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.1) (arg13.view.writes (Elt Ideal) (harg13.unread xo10) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.1) (arg14.view.writes (Elt Ideal) (harg14.unread xo11) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.2)).1.2 (arg12.view.read (Elt Ideal) (arg12.view.writes (Elt Ideal) (harg12.unread xo9) ((loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11) (kernelRun0_B.sl.v69 i) (arg12.view.writes (Elt Ideal) (harg12.unread xo9) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.1) (arg13.view.writes (Elt Ideal) (harg13.unread xo10) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.1) (arg14.view.writes (Elt Ideal) (harg14.unread xo11) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.2)).2.1 ++ (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.1))) (arg13.view.read (Elt Ideal) (arg13.view.writes (Elt Ideal) (harg13.unread xo10) ((loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11) (kernelRun0_B.sl.v69 i) (arg12.view.writes (Elt Ideal) (harg12.unread xo9) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.1) (arg13.view.writes (Elt Ideal) (harg13.unread xo10) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.1) (arg14.view.writes (Elt Ideal) (harg14.unread xo11) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.2)).2.2.1 ++ (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.1))) (arg14.view.read (Elt Ideal) (arg14.view.writes (Elt Ideal) (harg14.unread xo11) ((loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11) (kernelRun0_B.sl.v69 i) (arg12.view.writes (Elt Ideal) (harg12.unread xo9) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.1) (arg13.view.writes (Elt Ideal) (harg13.unread xo10) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.1) (arg14.view.writes (Elt Ideal) (harg14.unread xo11) (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.2)).2.2.2 ++ (loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (harg12.unread xo9) (harg13.unread xo10) (harg14.unread xo11)).2.2.2))) := by
  rw [loop2_eq]
  exact loop_done (reads_of arg3 harg3 arg4 harg4 arg5 harg5 arg6 harg6 arg7 harg7 arg8 harg8 arg9 harg9 arg10 harg10 x0 x1 x2 x3 x4 x5 x6 x7 hR) hqi (start_is (by rw [harg12.read_unread]; exact h2) (by rw [harg13.read_unread]; exact h3) (by rw [harg14.read_unread]; exact h4))

end B

section A
variable (hc0 : cond0_0 i)

/-- The zeros a first query block starts from. -/
abbrev zero9 : List (View.Piece (Elt Ideal) S1x4096x128 .f32) := [⟨Rect.unit (s := S1x4096x128) ![0, 0, 0] S1x4096x128.size inb_S1x4096x128_S1x4096x128_0_0_0, k0_pay48 (F := Ideal)⟩]
abbrev zero10 : List (View.Piece (Elt Ideal) S1x4096x128 .f32) := [⟨Rect.unit (s := S1x4096x128) ![0, 0, 0] S1x4096x128.size inb_S1x4096x128_S1x4096x128_0_0_0, k0_pay49 (F := Ideal)⟩]
abbrev zero11 : List (View.Piece (Elt Ideal) S1x1x8x4096 .f32) := [⟨Rect.unit (s := S1x1x8x4096) ![0, 0, 0, 0] S1x1x8x4096.size inb_S1x1x8x4096_S1x1x8x4096_0_0_0_0, k0_pay50 (F := Ideal)⟩]

include hqi hR in
theorem stateA : St x ((i 2).val * 512) (fun _ _ => 0) (fun _ _ => 0) (fun _ _ => 0) (loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11) (kernelRun0_A.sl.v69 i) (arg12.view.writes (Elt Ideal) arg12.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.1 ++ zero9)) (arg13.view.writes (Elt Ideal) arg13.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.1 ++ zero10)) (arg14.view.writes (Elt Ideal) arg14.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.2 ++ zero11))).1.1 (loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11) (kernelRun0_A.sl.v69 i) (arg12.view.writes (Elt Ideal) arg12.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.1 ++ zero9)) (arg13.view.writes (Elt Ideal) arg13.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.1 ++ zero10)) (arg14.view.writes (Elt Ideal) arg14.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.2 ++ zero11))).1.2 (arg12.view.read (Elt Ideal) (arg12.view.writes (Elt Ideal) arg12.view.junk ((loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11) (kernelRun0_A.sl.v69 i) (arg12.view.writes (Elt Ideal) arg12.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.1 ++ zero9)) (arg13.view.writes (Elt Ideal) arg13.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.1 ++ zero10)) (arg14.view.writes (Elt Ideal) arg14.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.2 ++ zero11))).2.1 ++ ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.1 ++ zero9)))) (arg13.view.read (Elt Ideal) (arg13.view.writes (Elt Ideal) arg13.view.junk ((loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11) (kernelRun0_A.sl.v69 i) (arg12.view.writes (Elt Ideal) arg12.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.1 ++ zero9)) (arg13.view.writes (Elt Ideal) arg13.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.1 ++ zero10)) (arg14.view.writes (Elt Ideal) arg14.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.2 ++ zero11))).2.2.1 ++ ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.1 ++ zero10)))) (arg14.view.read (Elt Ideal) (arg14.view.writes (Elt Ideal) arg14.view.junk ((loop2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11) (kernelRun0_A.sl.v69 i) (arg12.view.writes (Elt Ideal) arg12.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.1 ++ zero9)) (arg13.view.writes (Elt Ideal) arg13.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.1 ++ zero10)) (arg14.view.writes (Elt Ideal) arg14.view.junk ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.2 ++ zero11))).2.2.2 ++ ((loop1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 (arg12.view.writes (Elt Ideal) arg12.view.junk zero9) (arg13.view.writes (Elt Ideal) arg13.view.junk zero10) (arg14.view.writes (Elt Ideal) arg14.view.junk zero11)).2.2.2 ++ zero11)))) := by
  rw [loop2_eq]
  dsimp only
  rw [List.nil_append, List.nil_append, List.nil_append, View.writes_append, View.writes_append, View.writes_append]
  exact loop_done (reads_of arg3 harg3 arg4 harg4 arg5 harg5 arg6 harg6 arg7 harg7 arg8 harg8 arg9 harg9 arg10 harg10 x0 x1 x2 x3 x4 x5 x6 x7 hR) hqi (start_is (by rw [View.read_writes_full]; exact pay48_is) (by rw [View.read_writes_full]; exact pay49_is) (by rw [View.read_writes_full]; exact pay50_is))

end A

end Fox

end
-- ==== Proof.Vals.lean ====
/- What a grid point reads, over the reals: the arrays the host prepares, and from them everything the point's formulas name. -/
module

public import proofs.«01_k».proof.Proof.Entry
public import proofs.«01_k».proof.Proof.Blocks
public import proofs.«01_k».proof.Proof.Body

@[expose] public section

set_option maxRecDepth 16384

noncomputable section

namespace Fox

open Idealize.ShloMosaic Idealize.ShloMosaic.TcCoe Cert.KernelIdeal Cert.KernelIdeal.Gen Cert.ReferenceIdeal.Read

theorem logSum_apply (a s : FVec Ideal S2x4x4096 .f32) (i : S2x4x4096.Idx) : logSum a s i = (a i : EReal) + Ideal.log (s i) := rfl

theorem v49_sumOf (x1 x2 : (⟨S2x4096x256, .bf16⟩ : BufTy).Contents (Elt Ideal)) (x4 : (⟨S8192x128, .f32⟩ : BufTy).Contents (Elt Ideal)) :
    val_main_v49 (F := Ideal) x1 x2 x4 = sumOf (val_main_v27_0 (F := Ideal) x1 x2 x4) (val_main_v35 (F := Ideal) x1 x2 x4) := by
  unfold val_main_v49 val_main_v48 val_main_v47 val_main_v46 val_main_v45 val_main_cst_9 sumOf
  generalize val_main_v27_0 (F := Ideal) x1 x2 x4 = A
  generalize val_main_v35 (F := Ideal) x1 x2 x4 = B
  rfl

theorem v35_eq (x1 x2 : (⟨S2x4096x256, .bf16⟩ : BufTy).Contents (Elt Ideal)) (x4 : (⟨S8192x128, .f32⟩ : BufTy).Contents (Elt Ideal)) :
    val_main_v35 (F := Ideal) x1 x2 x4 = val_main_v28 (F := Ideal) x1 x2 x4 := funext fun i => by
  rw [val_main_v35_apply, val_main_v34_apply]
  generalize val_main_v28 (F := Ideal) x1 x2 x4 i = A
  show max (Ideal.ofBits .f32 0xFF800000#32) A = _
  rw [negInf, max_bot_left]

section Host
variable {n : In} {x0 : (⟨S8192x256, .f32⟩ : BufTy).Contents (Elt Ideal)} {x1 x2 : (⟨S2x4096x256, .bf16⟩ : BufTy).Contents (Elt Ideal)}
  {x3 : (⟨S2x4096x2688, .bf16⟩ : BufTy).Contents (Elt Ideal)} {x4 : (⟨S8192x128, .f32⟩ : BufTy).Contents (Elt Ideal)} (H : Holds n x0 x1 x2 x3 x4)
include H

/-- The row maxima and the logarithms of the sums give the logarithm of the normaliser. -/
theorem lseOf_is : Is3 (a := 2) (b := 4) (c := 4096) (lseOf x1 x2 x4) fun b h i => Real.log (n.L b h i) := by
  obtain ⟨M, hM⟩ := v28_real H
  have hs : sumOf (val_main_v27_0 (F := Ideal) x1 x2 x4) (val_main_v28 (F := Ideal) x1 x2 x4) = val_main_v49 (F := Ideal) x1 x2 x4 :=
    (congrArg (sumOf (val_main_v27_0 (F := Ideal) x1 x2 x4)) (v35_eq x1 x2 x4).symm).trans (v49_sumOf x1 x2 x4).symm
  intro b h i
  refine (logSum_apply (val_main_v28 (F := Ideal) x1 x2 x4) (sumOf (val_main_v27_0 (F := Ideal) x1 x2 x4) (val_main_v28 (F := Ideal) x1 x2 x4)) (ix3 b h i)).trans ?_
  rw [hs, hM b h i, v49_is H hM b h i, logR (n.S_pos M b h i), addR, n.log_eq]

theorem yHost (b : Fin 2) (i : Fin 4096) (l : Fin 256) :
    (shapeCast S8192x256 (val_main_v60 (F := Ideal) x1 x2 x3 x4) shapeCasts_S2x4096x256_S8192x256) (ix2 (row b i) l) = ((n.y b (hd l) i (ln l) : ℝ) : EReal) := by
  obtain ⟨M, hM⟩ := v28_real H
  refine (shapeCast_apply _ _ (ix2 (row b i) l) (ix3 b i l) ?_).trans (v60_is H hM b i l)
  rewrite [Shape.rowMajor_val_three, Shape.rowMajor_val_two]
  show (b.val * 4096 + i.val) * 256 + l.val = (4096 * b.val + i.val) * 256 + l.val
  omega

theorem fHost (b : Fin 2) (i : Fin 4096) (p a : Fin 2) :
    (shapeCast S2x4096x2x2 (val_main_v4 (F := Ideal) x4) shapeCasts_S8192x4_S2x4096x2x2) (ix4 b i p a) = ((n.F (row b i) (hp p a.val a.isLt) : ℝ) : EReal) := by
  refine (shapeCast_apply _ _ (ix4 b i p a) (ix2 (row b i) (hp p a.val a.isLt)) ?_).trans (v4_is H _ _)
  rewrite [Shape.rowMajor_val_four, Shape.rowMajor_val_two]
  show (4096 * b.val + i.val) * 4 + (2 * p.val + a.val) = ((b.val * 4096 + i.val) * 2 + p.val) * 2 + a.val
  omega

theorem fcolHost (b p : Fin 2) (i : Fin 4096) (a : Fin 2) :
    (transpose S2x2x4096x2 [0, 2, 1, 3] (shapeCast S2x4096x2x2 (val_main_v4 (F := Ideal) x4) shapeCasts_S8192x4_S2x4096x2x2)
      transposes_S2x4096x2x2_S2x2x4096x2_0_2_1_3) (ix4 b p i a) = ((n.F (row b i) (hp p a.val a.isLt) : ℝ) : EReal) :=
  (transpose_apply [0, 2, 1, 3] _ transposes_S2x4096x2x2_S2x2x4096x2_0_2_1_3 (ix4 b p i a) (ix4 b i p a)
    (fun x => match x with | ⟨0, _⟩ => rfl | ⟨1, _⟩ => rfl | ⟨2, _⟩ => rfl | ⟨3, _⟩ => rfl)).trans (fHost H b i p a)

theorem frowHost (b p a : Fin 2) (i : Fin 4096) :
    (transpose S2x2x2x4096 [0, 2, 3, 1] (shapeCast S2x4096x2x2 (val_main_v4 (F := Ideal) x4) shapeCasts_S8192x4_S2x4096x2x2)
      transposes_S2x4096x2x2_S2x2x2x4096_0_2_3_1) (ix4 b p a i) = ((n.F (row b i) (hp p a.val a.isLt) : ℝ) : EReal) :=
  (transpose_apply [0, 2, 3, 1] _ transposes_S2x4096x2x2_S2x2x2x4096_0_2_3_1 (ix4 b p a i) (ix4 b i p a)
    (fun x => match x with | ⟨0, _⟩ => rfl | ⟨1, _⟩ => rfl | ⟨2, _⟩ => rfl | ⟨3, _⟩ => rfl)).trans (fHost H b i p a)

theorem statHost (p b : Fin 2) (i : Fin 4096) (l : Fin 128) :
    (shapeCast S2x8192x128 (broadcastInDim S2x2x4096x2x64 ![0, 1, 2, 3, 4] bcast_S2x2x4096x2x1_S2x2x4096x2x64_0_1_2_3_4
      (broadcastInDim S2x2x4096x2x1 ![0, 1, 2, 3] bcast_S2x2x4096x2_S2x2x4096x2x1_0_1_2_3
        (transpose S2x2x4096x2 [1, 0, 3, 2] (shapeCast S2x2x2x4096 (lseOf x1 x2 x4) shapeCasts_S2x4x4096_S2x2x2x4096)
          transposes_S2x2x2x4096_S2x2x4096x2_1_0_3_2))) shapeCasts_S2x2x4096x2x64_S2x8192x128) (ix3 p (row b i) l)
      = ((Real.log (n.L b (hp p (l.val / 64) (by omega)) i) : ℝ) : EReal) := by
  have ha : l.val / 64 < 2 := by omega
  refine (shapeCast_apply _ _ (ix3 p (row b i) l) (ix5 p b i ⟨l.val / 64, ha⟩ (⟨l.val % 64, by omega⟩ : Fin 64)) ?_).trans ?_
  · rewrite [Shape.rowMajor_val_three, Shape.rowMajor_val_five]
    show (((p.val * 2 + b.val) * 4096 + i.val) * 2 + l.val / 64) * 64 + l.val % 64 = (p.val * 8192 + (4096 * b.val + i.val)) * 128 + l.val
    omega
  refine (broadcastInDim_apply _ bcast_S2x2x4096x2x1_S2x2x4096x2x64_0_1_2_3_4 _ _ (ix5 p b i ⟨l.val / 64, ha⟩ (0 : Fin 1)) (fun x => match x with
    | ⟨0, _⟩ => rfl | ⟨1, _⟩ => rfl | ⟨2, _⟩ => rfl | ⟨3, _⟩ => rfl | ⟨4, _⟩ => rfl)).trans ?_
  refine (broadcastInDim_apply _ bcast_S2x2x4096x2_S2x2x4096x2x1_0_1_2_3 _ _ (ix4 p b i ⟨l.val / 64, ha⟩) (fun x => match x with
    | ⟨0, _⟩ => rfl | ⟨1, _⟩ => rfl | ⟨2, _⟩ => rfl | ⟨3, _⟩ => rfl)).trans ?_
  refine (transpose_apply [1, 0, 3, 2] _ transposes_S2x2x2x4096_S2x2x4096x2_1_0_3_2 _ (ix4 b p ⟨l.val / 64, ha⟩ i) (fun x => match x with
    | ⟨0, _⟩ => rfl | ⟨1, _⟩ => rfl | ⟨2, _⟩ => rfl | ⟨3, _⟩ => rfl)).trans ?_
  refine (shapeCast_apply _ _ (ix4 b p ⟨l.val / 64, ha⟩ i) (ix3 b (hp p (l.val / 64) ha) i) ?_).trans (lseOf_is H _ _ _)
  rewrite [Shape.rowMajor_val_four, Shape.rowMajor_val_three]
  show (b.val * 4 + (2 * p.val + l.val / 64)) * 4096 + i.val = ((b.val * 2 + p.val) * 2 + l.val / 64) * 4096 + i.val
  omega

end Host

section Point
variable {m : (ℓ : Loc nD τ sig) → Buf (Elt Ideal) ℓ} {c : Dev nD} {n : In}
  (H : Holds n (m ((c : Thread nD τ).loc main_arg0)) (m ((c : Thread nD τ).loc main_arg1)) (m ((c : Thread nD τ).loc main_arg2))
    (m ((c : Thread nD τ).loc main_arg3)) (m ((c : Thread nD τ).loc main_arg4)))
include H

theorem i0 (t : Fin cfg0.N) : Is2 (a := 512) (b := 128) (iblk m c 0 t) fun r l => n.DY (row (tb t) (gi (tq t) r)) (lane (tp t) l) := fun r l =>
  (rd_0 (V m c main_arg0) t r l).trans ((congrFun (V_main_arg0 m c) _).trans (H.dy _ _))
theorem i1 (t : Fin cfg0.N) : Is2 (a := 512) (b := 128) (iblk m c 1 t)
    fun r l => n.y (tb t) (hd (lane (tp t) l)) (gi (tq t) r) (ln (lane (tp t) l)) := fun r l =>
  (rd_1 (V m c main_v76) t r l).trans ((congrFun (entry_y m c) _).trans (yHost H _ _ _))
theorem i2 (t : Fin cfg0.N) : Is3 (a := 1) (b := 512) (c := 128) (iblk m c 2 t)
    fun _ r l => Real.log (n.L (tb t) (hp (tp t) (l.val / 64) (by omega)) (gi (tq t) r)) := fun z r l => by
  rw [Subsingleton.elim z 0]
  exact (rd_2 (V m c main_v93) t r l).trans ((congrFun (entry_stat m c) _).trans (statHost H _ _ _ _))
theorem i3 (t : Fin cfg0.N) : Is3 (a := 1) (b := 512) (c := 128) (iblk m c 3 t) fun _ r l => n.Q (tb t) (gi (tq t) r) (lane (tp t) l) := fun z r l => by
  rw [Subsingleton.elim z 0]
  exact (rd_3 (V m c main_arg1) t r l).trans ((congrFun (V_main_arg1 m c) _).trans (H.q _ _ _))
theorem i4 (t : Fin cfg0.N) : Is3 (a := 1) (b := 4096) (c := 128) (iblk m c 4 t) fun _ j l => n.K (tb t) j (lane (tp t) l) := fun z j l => by
  rw [Subsingleton.elim z 0]
  exact (rd_4 (V m c main_arg2) t j l).trans ((congrFun (V_main_arg2 m c) _).trans (H.k _ _ _))
theorem i5 (t : Fin cfg0.N) : Is3 (a := 1) (b := 4096) (c := 128) (iblk m c 5 t) fun _ j l => n.V (tb t) j (lane (tp t) l) := fun z j l => by
  rw [Subsingleton.elim z 0]
  exact (rd_5 (V m c main_arg3) t j l).trans ((congrFun (V_main_arg3 m c) _).trans (H.v _ _ _))
theorem i6 (t : Fin cfg0.N) : Is4 (a := 1) (b := 1) (c := 512) (d := 2) (iblk m c 6 t)
    fun _ _ r a => n.F (row (tb t) (gi (tq t) r)) (hp (tp t) a.val a.isLt) := fun z z' r a => by
  rw [Subsingleton.elim z 0, Subsingleton.elim z' 0]
  exact (rd_6 (V m c main_v91) t r a).trans ((congrFun (entry_fcol m c) _).trans (fcolHost H _ _ _ _))
theorem i7 (t : Fin cfg0.N) : Is4 (a := 1) (b := 1) (c := 2) (d := 4096) (iblk m c 7 t)
    fun _ _ a j => n.F (row (tb t) j) (hp (tp t) a.val a.isLt) := fun z z' a j => by
  rw [Subsingleton.elim z 0, Subsingleton.elim z' 0]
  exact (rd_7 (V m c main_v92) t a j).trans ((congrFun (entry_frow m c) _).trans (frowHost H _ _ _ _))

end Point

end Fox

end
-- ==== Proof.Given.lean ====
/- Everything a grid point's formulas name, from the blocks it reads. -/
module

public import proofs.«01_k».proof.Proof.Join
public import proofs.«01_k».proof.Proof.Body

@[expose] public section

set_option maxRecDepth 16384

noncomputable section

namespace Fox

open Idealize.ShloMosaic Idealize.ShloMosaic.TcCoe Cert.KernelIdeal Cert.KernelIdeal.Gen

section Parts
variable (n : In) (b p : Fin 2) (q : Fin 8)

theorem pt_f (x7 : Vec Ideal S1x1x2x4096 .f32) (h7 : Is4 (a := 1) (b := 1) (c := 2) (d := 4096) x7 fun _ _ a j => n.F (row b j) (hp p a.val a.isLt)) :
    Is4 (a := 1) (b := 1) (c := 2) (d := 4096) x7 fun _ _ a => if a = 0 then (n.pt b p q).fa else (n.pt b p q).fb := fun z z' a j => by
  refine (h7 z z' a j).trans ?_
  by_cases h : a = 0
  · subst h; beta_reduce; rw [if_pos rfl]; rfl
  · have h1 : a = 1 := Fin.ext (by have : a.val ≠ 0 := fun e => h (Fin.ext e); have := a.isLt; show a.val = 1; omega)
    subst h1; beta_reduce; rw [if_neg h]; rfl
theorem pt_qs (x3 : Vec Ideal S1x512x128 .bf16) (h3 : Is3 (a := 1) (b := 512) (c := 128) x3 fun _ r l => n.Q b (gi q r) (lane p l)) :
    Is2 (a := 1024) (b := 128) (k0_pay54 x3) (n.pt b p q).q :=
  pay54_is (f := fun r l => n.Q b (gi q r) (lane p l)) h3
theorem pt_ys (x0 : Vec Ideal S512x128 .f32) (h0 : Is2 (a := 512) (b := 128) x0 fun r l => n.DY (row b (gi q r)) (lane p l)) :
    Is2 (a := 1024) (b := 128) (k0_pay55 x0) (n.pt b p q).y :=
  pay55_is (f := fun r l => n.DY (row b (gi q r)) (lane p l)) h0
theorem pt_des (x0 x1 : Vec Ideal S512x128 .f32) (h0 : Is2 (a := 512) (b := 128) x0 fun r l => n.DY (row b (gi q r)) (lane p l))
    (h1 : Is2 (a := 512) (b := 128) x1 fun r l => n.y b (hd (lane p l)) (gi q r) (ln (lane p l))) :
    Is2 (a := 1024) (b := 1) (k0_pay56 k0_pay51 x0 x1) fun r _ => (n.pt b p q).de r :=
  pay56_is (f := fun r l => n.DY (row b (gi q r)) (lane p l)) (g := fun r l => n.y b (hd (lane p l)) (gi q r) (ln (lane p l))) h0 h1
theorem pt_les (x2 : Vec Ideal S1x512x128 .f32) (h2 : Is3 (a := 1) (b := 512) (c := 128) x2 fun _ r l => Real.log (n.L b (hp p (l.val / 64) (by omega)) (gi q r))) :
    Is2 (a := 1024) (b := 1) (k0_pay57 (k0_pay52 x2)) fun r _ => (n.pt b p q).le r :=
  fun r z => (pay57_is (f := fun r l => Real.log (n.L b (hp p (l.val / 64) (by omega)) (gi q r))) h2 r z).trans
    (congrArg (fun f : Fin 1024 → ℝ => ((f r : ℝ) : EReal)) (congrArg₂ stc
      (funext fun i => congrArg (fun h => Real.log (n.L b h (gi q i))) (Fin.ext (show 2 * p.val + 0 / 64 = 2 * p.val + 0 from rfl)))
      (funext fun i => congrArg (fun h => Real.log (n.L b h (gi q i))) (Fin.ext (show 2 * p.val + 64 / 64 = 2 * p.val + 1 from rfl)))))
theorem pt_fqs (x6 : Vec Ideal S1x1x512x2 .f32) (h6 : Is4 (a := 1) (b := 1) (c := 512) (d := 2) x6 fun _ _ r a => n.F (row b (gi q r)) (hp p a.val a.isLt)) :
    Is2 (a := 1024) (b := 1) (k0_pay58 (k0_pay53 x6)) fun r _ => (n.pt b p q).fq r :=
  pay58_is (f := fun r a => n.F (row b (gi q r)) (hp p a.val a.isLt)) h6

end Parts

/-- What a point reads, from its blocks. -/
theorem reads_of_blocks (n : In) (b p : Fin 2) (q : Fin 8) (x0 x1 : Vec Ideal S512x128 .f32) (x2 : Vec Ideal S1x512x128 .f32) (x3 : Vec Ideal S1x512x128 .bf16)
    (x4 x5 : Vec Ideal S1x4096x128 .bf16) (x6 : Vec Ideal S1x1x512x2 .f32) (x7 : Vec Ideal S1x1x2x4096 .f32)
    (h0 : Is2 (a := 512) (b := 128) x0 fun r l => n.DY (row b (gi q r)) (lane p l))
    (h1 : Is2 (a := 512) (b := 128) x1 fun r l => n.y b (hd (lane p l)) (gi q r) (ln (lane p l)))
    (h2 : Is3 (a := 1) (b := 512) (c := 128) x2 fun _ r l => Real.log (n.L b (hp p (l.val / 64) (by omega)) (gi q r)))
    (h3 : Is3 (a := 1) (b := 512) (c := 128) x3 fun _ r l => n.Q b (gi q r) (lane p l))
    (h4 : Is3 (a := 1) (b := 4096) (c := 128) x4 fun _ j l => n.K b j (lane p l))
    (h5 : Is3 (a := 1) (b := 4096) (c := 128) x5 fun _ j l => n.V b j (lane p l))
    (h6 : Is4 (a := 1) (b := 1) (c := 512) (d := 2) x6 fun _ _ r a => n.F (row b (gi q r)) (hp p a.val a.isLt))
    (h7 : Is4 (a := 1) (b := 1) (c := 2) (d := 4096) x7 fun _ _ a j => n.F (row b j) (hp p a.val a.isLt)) :
    Reads (n.pt b p q) x4 x5 x7 (k0_pay54 x3) (k0_pay55 x0) (k0_pay56 k0_pay51 x0 x1) (k0_pay57 (k0_pay52 x2)) (k0_pay58 (k0_pay53 x6)) where
  k := h4
  v := h5
  f := pt_f n b p q x7 h7
  q := pt_qs n b p q x3 h3
  y := pt_ys n b p q x0 h0
  de := pt_des n b p q x0 x1 h0 h1
  le := pt_les n b p q x2 h2
  fq := pt_fqs n b p q x6 h6

end Fox

end
-- ==== Proof.BodyA.lean ====
/- What a first query block leaves in the output windows. -/
module

public import proofs.«01_k».proof.Proof.Body

@[expose] public section

set_option maxRecDepth 16384

noncomputable section

namespace Fox

open Idealize.ShloMosaic Idealize.ShloMosaic.TcCoe Cert.KernelIdeal Cert.KernelIdeal.Gen

variable (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x512x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x1x512x2 .f32) (harg9 : arg9.IsWhole) (arg10 : Memref sig .tc .vmem S1x1x2x4096 .f32) (harg10 : arg10.IsWhole) (arg11 : Memref sig .tc .vmem S512x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x1x8x4096 .f32) (harg14 : arg14.IsWhole) (arg15 : Memref sig .tc .vmem S1x512x128 .f32) (harg15 : arg15.IsWhole)
  (x0 : Vec Ideal S512x128 .f32) (x1 : Vec Ideal S512x128 .f32) (x2 : Vec Ideal S1x512x128 .f32) (x3 : Vec Ideal S1x512x128 .bf16) (x4 : Vec Ideal S1x4096x128 .bf16) (x5 : Vec Ideal S1x4096x128 .bf16) (x6 : Vec Ideal S1x1x512x2 .f32) (x7 : Vec Ideal S1x1x2x4096 .f32)

variable {x : Pt} (hqi : x.qi = (i 2).val)
variable (hR : Reads x x4 x5 x7 (k0_pay54 x3) (k0_pay55 x0) (k0_pay56 k0_pay51 x0 x1) (k0_pay57 (k0_pay52 x2)) (k0_pay58 (k0_pay53 x6)))

section A
variable (hc0 : cond0_0 i)

include hqi hR in
set_option maxHeartbeats 1000000 in
theorem outA8 : Is2 (out0_A_8 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (unst fun r l => ∑ j : Fin 4096, x.d r j * (1 / 8) * x.k j l) := by
  unfold out0_A_8
  refine Eq.mpr (congrArg (fun y => Is2 y _) (View.read_writes_full _ _ _ _ _)) ?_
  exact out8_is (reads_of arg3 harg3 arg4 harg4 arg5 harg5 arg6 harg6 arg7 harg7 arg8 harg8 arg9 harg9 arg10 harg10 x0 x1 x2 x3 x4 x5 x6 x7 hR) hqi (stateA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR)

include hqi hR in
set_option maxHeartbeats 1000000 in
theorem outA9 : Is3 (out0_A_9 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (fun _ j l => x.dk j l) := by
  unfold out0_A_9
  refine Eq.mpr (congrArg (fun y => Is3 y _) (View.read_writes_of_cover (v := VO0_9) VO0_9.junk arg12.view arg12.view.junk _ (cover0_A_9 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7))) ?_
  refine Is3.congr (out9_is (reads_of arg3 harg3 arg4 harg4 arg5 harg5 arg6 harg6 arg7 harg7 arg8 harg8 arg9 harg9 arg10 harg10 x0 x1 x2 x3 x4 x5 x6 x7 hR) hqi (stateA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR)) fun _ j l => ?_
  exact zero_add _

include hqi hR in
set_option maxHeartbeats 1000000 in
theorem outA10 : Is3 (out0_A_10 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (fun _ j l => x.dv j l) := by
  unfold out0_A_10
  refine Eq.mpr (congrArg (fun y => Is3 y _) (View.read_writes_of_cover (v := VO0_10) VO0_10.junk arg13.view arg13.view.junk _ (cover0_A_10 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7))) ?_
  refine Is3.congr (out10_is (reads_of arg3 harg3 arg4 harg4 arg5 harg5 arg6 harg6 arg7 harg7 arg8 harg8 arg9 harg9 arg10 harg10 x0 x1 x2 x3 x4 x5 x6 x7 hR) hqi (stateA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR)) fun _ j l => ?_
  exact zero_add _

include hqi hR in
set_option maxHeartbeats 1000000 in
theorem outA11 : Is4 (out0_A_11 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (fun _ _ a j => -x.dr a j) := by
  unfold out0_A_11
  refine Eq.mpr (congrArg (fun y => Is4 y _) (View.read_writes_of_cover (v := VO0_11) VO0_11.junk arg14.view arg14.view.junk _ (cover0_A_11 c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7))) ?_
  refine Is4.congr (out11_is (reads_of arg3 harg3 arg4 harg4 arg5 harg5 arg6 harg6 arg7 harg7 arg8 harg8 arg9 harg9 arg10 harg10 x0 x1 x2 x3 x4 x5 x6 x7 hR) hqi (stateA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR)
    (f1 := arg14.view.writes (Elt Ideal) arg14.view.junk (kernelRun0_A.sl.H11_1_1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)) (f2 := arg14.view.writes (Elt Ideal) arg14.view.junk (kernelRun0_A.sl.H11_2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)) (f3 := arg14.view.writes (Elt Ideal) arg14.view.junk (kernelRun0_A.sl.H11_3 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)) (writes_last _ _ _ _) (writes_last _ _ _ _) (writes_last _ _ _ _) (writes_last _ _ _ _)) fun _ _ a j => ?_
  exact zero_sub _

include hqi hR in
set_option maxHeartbeats 1000000 in
theorem outA12 : Is3 (out0_A_12 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7) (fun _ => lanes fun r => ∑ j : Fin 4096, x.d r j) := by
  unfold out0_A_12
  refine Eq.mpr (congrArg (fun y => Is3 y _) (View.read_writes_full _ _ _ _ _)) ?_
  exact out12_is (reads_of arg3 harg3 arg4 harg4 arg5 harg5 arg6 harg6 arg7 harg7 arg8 harg8 arg9 harg9 arg10 harg10 x0 x1 x2 x3 x4 x5 x6 x7 hR) hqi (stateA c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR)

end A

end Fox

end
-- ==== Proof.BodyB.lean ====
/- What a later query block leaves in the output windows, over what the point before left. -/
module

public import proofs.«01_k».proof.Proof.Body

@[expose] public section

set_option maxRecDepth 16384

noncomputable section

namespace Fox

open Idealize.ShloMosaic Idealize.ShloMosaic.TcCoe Cert.KernelIdeal Cert.KernelIdeal.Gen

variable (c : Dev nD) (i : grid0.Coords) (arg3 : Memref sig .tc .vmem S512x128 .f32) (harg3 : arg3.IsWhole) (arg4 : Memref sig .tc .vmem S512x128 .f32) (harg4 : arg4.IsWhole) (arg5 : Memref sig .tc .vmem S1x512x128 .f32) (harg5 : arg5.IsWhole) (arg6 : Memref sig .tc .vmem S1x512x128 .bf16) (harg6 : arg6.IsWhole) (arg7 : Memref sig .tc .vmem S1x4096x128 .bf16) (harg7 : arg7.IsWhole) (arg8 : Memref sig .tc .vmem S1x4096x128 .bf16) (harg8 : arg8.IsWhole) (arg9 : Memref sig .tc .vmem S1x1x512x2 .f32) (harg9 : arg9.IsWhole) (arg10 : Memref sig .tc .vmem S1x1x2x4096 .f32) (harg10 : arg10.IsWhole) (arg11 : Memref sig .tc .vmem S512x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x1x8x4096 .f32) (harg14 : arg14.IsWhole) (arg15 : Memref sig .tc .vmem S1x512x128 .f32) (harg15 : arg15.IsWhole)
  (x0 : Vec Ideal S512x128 .f32) (x1 : Vec Ideal S512x128 .f32) (x2 : Vec Ideal S1x512x128 .f32) (x3 : Vec Ideal S1x512x128 .bf16) (x4 : Vec Ideal S1x4096x128 .bf16) (x5 : Vec Ideal S1x4096x128 .bf16) (x6 : Vec Ideal S1x1x512x2 .f32) (x7 : Vec Ideal S1x1x2x4096 .f32)

variable {x : Pt} (hqi : x.qi = (i 2).val)
variable (hR : Reads x x4 x5 x7 (k0_pay54 x3) (k0_pay55 x0) (k0_pay56 k0_pay51 x0 x1) (k0_pay57 (k0_pay52 x2)) (k0_pay58 (k0_pay53 x6)))

variable {g2 g3 : Fin 4096 → Fin 128 → ℝ} {g4 : Fin 8 → Fin 4096 → ℝ}

section B
variable (hc0 : ¬cond0_0 i) (xo9 : Vec Ideal S1x4096x128 .f32) (xo10 : Vec Ideal S1x4096x128 .f32) (xo11 : Vec Ideal S1x1x8x4096 .f32)
variable (h2 : Is3 xo9 fun _ => g2) (h3 : Is3 xo10 fun _ => g3) (h4 : Is4 xo11 fun _ _ => g4)

include hqi hR h2 h3 h4 in
set_option maxHeartbeats 1000000 in
theorem outB8 : Is2 (out0_B_8 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11) (unst fun r l => ∑ j : Fin 4096, x.d r j * (1 / 8) * x.k j l) := by
  unfold out0_B_8
  refine Eq.mpr (congrArg (fun y => Is2 y _) (View.read_writes_full _ _ _ _ _)) ?_
  exact out8_is (reads_of arg3 harg3 arg4 harg4 arg5 harg5 arg6 harg6 arg7 harg7 arg8 harg8 arg9 harg9 arg10 harg10 x0 x1 x2 x3 x4 x5 x6 x7 hR) hqi (stateB c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR xo9 xo10 xo11 h2 h3 h4)

include hqi hR h2 h3 h4 in
set_option maxHeartbeats 1000000 in
theorem outB9 : Is3 (out0_B_9 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11) (fun _ j l => g2 j l + x.dk j l) := by
  unfold out0_B_9
  exact out9_is (reads_of arg3 harg3 arg4 harg4 arg5 harg5 arg6 harg6 arg7 harg7 arg8 harg8 arg9 harg9 arg10 harg10 x0 x1 x2 x3 x4 x5 x6 x7 hR) hqi (stateB c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR xo9 xo10 xo11 h2 h3 h4)

include hqi hR h2 h3 h4 in
set_option maxHeartbeats 1000000 in
theorem outB10 : Is3 (out0_B_10 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11) (fun _ j l => g3 j l + x.dv j l) := by
  unfold out0_B_10
  exact out10_is (reads_of arg3 harg3 arg4 harg4 arg5 harg5 arg6 harg6 arg7 harg7 arg8 harg8 arg9 harg9 arg10 harg10 x0 x1 x2 x3 x4 x5 x6 x7 hR) hqi (stateB c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR xo9 xo10 xo11 h2 h3 h4)

include hqi hR h2 h3 h4 in
set_option maxHeartbeats 1000000 in
theorem outB11 : Is4 (out0_B_11 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11) (fun _ _ a j => g4 a j - x.dr a j) := by
  unfold out0_B_11
  exact out11_is (reads_of arg3 harg3 arg4 harg4 arg5 harg5 arg6 harg6 arg7 harg7 arg8 harg8 arg9 harg9 arg10 harg10 x0 x1 x2 x3 x4 x5 x6 x7 hR) hqi (stateB c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR xo9 xo10 xo11 h2 h3 h4)
    (f1 := arg14.view.writes (Elt Ideal) (harg14.unread xo11) (kernelRun0_B.sl.H11_1 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo9 xo10 xo11)) (f2 := arg14.view.writes (Elt Ideal) (harg14.unread xo11) (kernelRun0_B.sl.H11_2 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo9 xo10 xo11)) (f3 := arg14.view.writes (Elt Ideal) (harg14.unread xo11) (kernelRun0_B.sl.H11_3 c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xo9 xo10 xo11)) (writes_last _ _ _ _) (writes_last _ _ _ _) (writes_last _ _ _ _) (writes_last _ _ _ _)

include hqi hR h2 h3 h4 in
set_option maxHeartbeats 1000000 in
theorem outB12 : Is3 (out0_B_12 (F := Ideal) c i arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xo9 xo10 xo11) (fun _ => lanes fun r => ∑ j : Fin 4096, x.d r j) := by
  unfold out0_B_12
  refine Eq.mpr (congrArg (fun y => Is3 y _) (View.read_writes_full _ _ _ _ _)) ?_
  exact out12_is (reads_of arg3 harg3 arg4 harg4 arg5 harg5 arg6 harg6 arg7 harg7 arg8 harg8 arg9 harg9 arg10 harg10 x0 x1 x2 x3 x4 x5 x6 x7 hR) hqi (stateB c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 hqi hR xo9 xo10 xo11 h2 h3 h4)

end B

end Fox

end
-- ==== Proof.Accum.lean ====
/- What the output windows hold after each grid point: the gradients of the queries whole, those of the keys and values up to the
   queries already seen. -/
module

public import proofs.«01_k».proof.Proof.Vals
public import proofs.«01_k».proof.Proof.Given
public import proofs.«01_k».proof.Proof.BodyA
public import proofs.«01_k».proof.Proof.BodyB

@[expose] public section

set_option maxRecDepth 16384

noncomputable section

namespace Fox

open Idealize.ShloMosaic Idealize.ShloMosaic.TcCoe Cert.KernelIdeal Cert.KernelIdeal.Gen

variable {m : (ℓ : Loc nD τ sig) → Buf (Elt Ideal) ℓ} {c : Dev nD} {n : In}

/-- What the windows hold after the point `t`. -/
structure Acc (m : (ℓ : Loc nD τ sig) → Buf (Elt Ideal) ℓ) (c : Dev nD) (n : In) (t : Fin cfg0.N) : Prop where
  s8 : Is2 (a := 512) (b := 128) (outsAt0 m c t.val t.isLt).1 fun r l => n.dq (tb t) (hd (lane (tp t) l)) (gi (tq t) r) (ln (lane (tp t) l))
  s9 : Is3 (a := 1) (b := 4096) (c := 128) (outsAt0 m c t.val t.isLt).2.1 fun _ j l => part (fun i => n.ds (tb t) (hd (lane (tp t) l)) i j * (1 / 8) * n.Q (tb t) i (lane (tp t) l)) ((tq t).val + 1)
  s10 : Is3 (a := 1) (b := 4096) (c := 128) (outsAt0 m c t.val t.isLt).2.2.1 fun _ j l => part (fun i => n.DY (row (tb t) i) (lane (tp t) l) * n.pr (tb t) (hd (lane (tp t) l)) i j) ((tq t).val + 1)
  s11 : Is4 (a := 1) (b := 1) (c := 8) (d := 4096) (outsAt0 m c t.val t.isLt).2.2.2.1 fun _ _ a j => -part (fun i => if h : a.val < 2 then n.ds (tb t) (hp (tp t) a.val h) i j else 0) ((tq t).val + 1)
  s12 : Is3 (a := 1) (b := 512) (c := 128) (outsAt0 m c t.val t.isLt).2.2.2.2 fun _ r l => if h : l.val < 2 then n.dc (tb t) (hp (tp t) l.val h) (gi (tq t) r) else 0

theorem qi_eq (t : Fin cfg0.N) : (n.pt (tb t) (tp t) (tq t)).qi = (grid0.coords t 2).val := by
  rw [Pipeline.Grid.coords_val (G := grid0) t 2 (S := 1) (B := 8) (by decide) rfl, Nat.div_one]
  rfl

variable (H : Holds n (m ((c : Thread nD τ).loc main_arg0)) (m ((c : Thread nD τ).loc main_arg1)) (m ((c : Thread nD τ).loc main_arg2))
    (m ((c : Thread nD τ).loc main_arg3)) (m ((c : Thread nD τ).loc main_arg4)))
include H

theorem readsAt (t : Fin cfg0.N) : Reads (n.pt (tb t) (tp t) (tq t)) (iblk m c 4 t) (iblk m c 5 t) (iblk m c 7 t) (k0_pay54 (iblk m c 3 t))
    (k0_pay55 (iblk m c 0 t)) (k0_pay56 k0_pay51 (iblk m c 0 t) (iblk m c 1 t)) (k0_pay57 (k0_pay52 (iblk m c 2 t))) (k0_pay58 (k0_pay53 (iblk m c 6 t))) :=
  reads_of_blocks n (tb t) (tp t) (tq t) (iblk m c 0 t) (iblk m c 1 t) (iblk m c 2 t) (iblk m c 3 t) (iblk m c 4 t) (iblk m c 5 t) (iblk m c 6 t) (iblk m c 7 t)
    (i0 H t) (i1 H t) (i2 H t) (i3 H t) (i4 H t) (i5 H t) (i6 H t) (i7 H t)

set_option maxHeartbeats 1000000 in
theorem accA8 (t : Fin cfg0.N) (h0 : t.val % 8 = 0) : Is2 (a := 512) (b := 128) (outsAt0 m c t.val t.isLt).1 (fun r l => n.dq (tb t) (hd (lane (tp t) l)) (gi (tq t) r) (ln (lane (tp t) l))) := by
  rw [outsAt0_A m c t h0]
  have ho := outA8 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) ((hcond0_0 t).mpr h0)
  dsimp only
  refine Is2.congr ho fun r l => n.pt_dq (tb t) (tp t) (tq t) r l

set_option maxHeartbeats 1000000 in
theorem accA9 (t : Fin cfg0.N) (h0 : t.val % 8 = 0) : Is3 (a := 1) (b := 4096) (c := 128) (outsAt0 m c t.val t.isLt).2.1 (fun _ j l => part (fun i => n.ds (tb t) (hd (lane (tp t) l)) i j * (1 / 8) * n.Q (tb t) i (lane (tp t) l)) ((tq t).val + 1)) := by
  rw [outsAt0_A m c t h0]
  have ho := outA9 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) ((hcond0_0 t).mpr h0)
  dsimp only
  refine Is3.congr ho fun _ j l => ?_
  have hq : tq t = 0 := Fin.ext h0
  refine (n.pt_dk (tb t) (tp t) (tq t) j l).trans ?_
  rw [part_next, hq]
  exact (zero_add _).symm.trans (congrArg (· + _) (part_zero _).symm)

set_option maxHeartbeats 1000000 in
theorem accA10 (t : Fin cfg0.N) (h0 : t.val % 8 = 0) : Is3 (a := 1) (b := 4096) (c := 128) (outsAt0 m c t.val t.isLt).2.2.1 (fun _ j l => part (fun i => n.DY (row (tb t) i) (lane (tp t) l) * n.pr (tb t) (hd (lane (tp t) l)) i j) ((tq t).val + 1)) := by
  rw [outsAt0_A m c t h0]
  have ho := outA10 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) ((hcond0_0 t).mpr h0)
  dsimp only
  refine Is3.congr ho fun _ j l => ?_
  have hq : tq t = 0 := Fin.ext h0
  refine (n.pt_dv (tb t) (tp t) (tq t) j l).trans ?_
  rw [part_next, hq]
  exact (zero_add _).symm.trans (congrArg (· + _) (part_zero _).symm)

set_option maxHeartbeats 1000000 in
theorem accA11 (t : Fin cfg0.N) (h0 : t.val % 8 = 0) : Is4 (a := 1) (b := 1) (c := 8) (d := 4096) (outsAt0 m c t.val t.isLt).2.2.2.1 (fun _ _ a j => -part (fun i => if h : a.val < 2 then n.ds (tb t) (hp (tp t) a.val h) i j else 0) ((tq t).val + 1)) := by
  rw [outsAt0_A m c t h0]
  have ho := outA11 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) ((hcond0_0 t).mpr h0)
  dsimp only
  refine Is4.congr ho fun _ _ a j => ?_
  have hq : tq t = 0 := Fin.ext h0
  refine congrArg Neg.neg ((n.pt_dr (tb t) (tp t) (tq t) a j).trans ?_)
  rw [part_next, hq]
  exact (zero_add _).symm.trans (congrArg (· + _) (part_zero _).symm)

set_option maxHeartbeats 1000000 in
theorem accA12 (t : Fin cfg0.N) (h0 : t.val % 8 = 0) : Is3 (a := 1) (b := 512) (c := 128) (outsAt0 m c t.val t.isLt).2.2.2.2 (fun _ r l => if h : l.val < 2 then n.dc (tb t) (hp (tp t) l.val h) (gi (tq t) r) else 0) := by
  rw [outsAt0_A m c t h0]
  have ho := outA12 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) ((hcond0_0 t).mpr h0)
  dsimp only
  refine Is3.congr ho fun _ r l => n.pt_dc (tb t) (tp t) (tq t) r l

section Later
variable (t : Fin cfg0.N) (h0 : ¬t.val % 8 = 0)
  (h9 : Is3 (a := 1) (b := 4096) (c := 128) (outsAt0 m c (t.val - 1) (Nat.lt_of_le_of_lt (Nat.sub_le _ _) t.isLt)).2.1 fun _ => fun j l => part (fun i => n.ds (tb t) (hd (lane (tp t) l)) i j * (1 / 8) * n.Q (tb t) i (lane (tp t) l)) (tq t).val)
  (h10 : Is3 (a := 1) (b := 4096) (c := 128) (outsAt0 m c (t.val - 1) (Nat.lt_of_le_of_lt (Nat.sub_le _ _) t.isLt)).2.2.1 fun _ => fun j l => part (fun i => n.DY (row (tb t) i) (lane (tp t) l) * n.pr (tb t) (hd (lane (tp t) l)) i j) (tq t).val)
  (h11 : Is4 (a := 1) (b := 1) (c := 8) (d := 4096) (outsAt0 m c (t.val - 1) (Nat.lt_of_le_of_lt (Nat.sub_le _ _) t.isLt)).2.2.2.1 fun _ _ => fun a j => -part (fun i => if h : a.val < 2 then n.ds (tb t) (hp (tp t) a.val h) i j else 0) (tq t).val)
include h0 h9 h10 h11

set_option maxHeartbeats 1000000 in
theorem accB8 : Is2 (a := 512) (b := 128) (outsAt0 m c t.val t.isLt).1 (fun r l => n.dq (tb t) (hd (lane (tp t) l)) (gi (tq t) r) (ln (lane (tp t) l))) := by
  rw [outsAt0_B m c t h0]
  have ho := outB8 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 h9 h10 h11
  dsimp only
  refine Is2.congr ho fun r l => n.pt_dq (tb t) (tp t) (tq t) r l

set_option maxHeartbeats 1000000 in
theorem accB9 : Is3 (a := 1) (b := 4096) (c := 128) (outsAt0 m c t.val t.isLt).2.1 (fun _ j l => part (fun i => n.ds (tb t) (hd (lane (tp t) l)) i j * (1 / 8) * n.Q (tb t) i (lane (tp t) l)) ((tq t).val + 1)) := by
  rw [outsAt0_B m c t h0]
  have ho := outB9 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 h9 h10 h11
  dsimp only
  refine Is3.congr ho fun _ j l => ?_
  exact (congrArg (_ + ·) (n.pt_dk (tb t) (tp t) (tq t) j l)).trans (part_next _ _).symm

set_option maxHeartbeats 1000000 in
theorem accB10 : Is3 (a := 1) (b := 4096) (c := 128) (outsAt0 m c t.val t.isLt).2.2.1 (fun _ j l => part (fun i => n.DY (row (tb t) i) (lane (tp t) l) * n.pr (tb t) (hd (lane (tp t) l)) i j) ((tq t).val + 1)) := by
  rw [outsAt0_B m c t h0]
  have ho := outB10 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 h9 h10 h11
  dsimp only
  refine Is3.congr ho fun _ j l => ?_
  exact (congrArg (_ + ·) (n.pt_dv (tb t) (tp t) (tq t) j l)).trans (part_next _ _).symm

set_option maxHeartbeats 1000000 in
theorem accB11 : Is4 (a := 1) (b := 1) (c := 8) (d := 4096) (outsAt0 m c t.val t.isLt).2.2.2.1 (fun _ _ a j => -part (fun i => if h : a.val < 2 then n.ds (tb t) (hp (tp t) a.val h) i j else 0) ((tq t).val + 1)) := by
  rw [outsAt0_B m c t h0]
  have ho := outB11 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 h9 h10 h11
  dsimp only
  refine Is4.congr ho fun _ _ a j => ?_
  refine (congrArg (_ - ·) (n.pt_dr (tb t) (tp t) (tq t) a j)).trans ?_
  rw [part_next]
  exact (neg_add' _ _).symm

set_option maxHeartbeats 1000000 in
theorem accB12 : Is3 (a := 1) (b := 512) (c := 128) (outsAt0 m c t.val t.isLt).2.2.2.2 (fun _ r l => if h : l.val < 2 then n.dc (tb t) (hp (tp t) l.val h) (gi (tq t) r) else 0) := by
  rw [outsAt0_B m c t h0]
  have ho := outB12 (x := n.pt (tb t) (tp t) (tq t)) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (iblk m c 0 t) (iblk m c 1 t) (iblk m c 2 t) (iblk m c 3 t) (iblk m c 4 t) (iblk m c 5 t) (iblk m c 6 t) (iblk m c 7 t) (qi_eq t) (readsAt H t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 h9 h10 h11
  dsimp only
  refine Is3.congr ho fun _ r l => n.pt_dc (tb t) (tp t) (tq t) r l

end Later

/-- After every point. -/
theorem acc : ∀ (k : ℕ) (hk : k < cfg0.N), Acc m c n ⟨k, hk⟩
  | 0, hk => ⟨accA8 H ⟨0, hk⟩ rfl, accA9 H ⟨0, hk⟩ rfl, accA10 H ⟨0, hk⟩ rfl, accA11 H ⟨0, hk⟩ rfl, accA12 H ⟨0, hk⟩ rfl⟩
  | k + 1, hk => by
    by_cases h0 : (k + 1) % 8 = 0
    · exact ⟨accA8 H ⟨k + 1, hk⟩ h0, accA9 H ⟨k + 1, hk⟩ h0, accA10 H ⟨k + 1, hk⟩ h0, accA11 H ⟨k + 1, hk⟩ h0, accA12 H ⟨k + 1, hk⟩ h0⟩
    · have ih := acc k (by omega)
      have eb : tb ⟨k, by omega⟩ = tb ⟨k + 1, hk⟩ := Fin.ext (by show k / 16 = (k + 1) / 16; omega)
      have ep : tp ⟨k, by omega⟩ = tp ⟨k + 1, hk⟩ := Fin.ext (by show k / 8 % 2 = (k + 1) / 8 % 2; omega)
      have eq : (tq ⟨k, by omega⟩).val + 1 = (tq ⟨k + 1, hk⟩).val := by show k % 8 + 1 = (k + 1) % 8; omega
      have i9 := ih.s9
      have i10 := ih.s10
      have i11 := ih.s11
      rw [eb, ep, eq] at i9 i10 i11
      exact ⟨accB8 H ⟨k + 1, hk⟩ h0 i9 i10 i11, accB9 H ⟨k + 1, hk⟩ h0 i9 i10 i11, accB10 H ⟨k + 1, hk⟩ h0 i9 i10 i11,
        accB11 H ⟨k + 1, hk⟩ h0 i9 i10 i11, accB12 H ⟨k + 1, hk⟩ h0 i9 i10 i11⟩

end Fox

end
-- ==== Proof.Arrays.lean ====
/- The output arrays after the run: each is what the blocks written back make of it. -/
module

public import proofs.«01_k».proof.Proof.Accum

@[expose] public section

set_option maxRecDepth 16384

noncomputable section

namespace Fox

open Idealize.ShloMosaic Idealize.ShloMosaic.TcCoe Cert.KernelIdeal Cert.KernelIdeal.Gen

/-! Where a block written back goes. -/

theorem wr_8 (X : FVec Ideal S8192x256 .f32) (t : Fin cfg0.N) (r : Fin 512) (l : Fin 128) :
    X (((cfg0.win 8).blk t).view.emb (ix2 r l : S512x128.Idx)) = X (ix2 (row (tb t) (gi (tq t) r)) (lane (tp t) l)) := by
  unfold tb tp tq gi lane row
  blk_ext [idx_8 t]
theorem wr_9 (X : FVec Ideal S2x4096x256 .f32) (t : Fin cfg0.N) (j : Fin 4096) (l : Fin 128) :
    X (((cfg0.win 9).blk t).view.emb (ix3 0 j l : S1x4096x128.Idx)) = X (ix3 (tb t) j (lane (tp t) l)) := by
  unfold tb tp lane
  blk_ext [idx_9 t]
theorem wr_10 (X : FVec Ideal S2x4096x256 .f32) (t : Fin cfg0.N) (j : Fin 4096) (l : Fin 128) :
    X (((cfg0.win 10).blk t).view.emb (ix3 0 j l : S1x4096x128.Idx)) = X (ix3 (tb t) j (lane (tp t) l)) := by
  unfold tb tp lane
  blk_ext [idx_10 t]
theorem wr_11 (X : FVec Ideal S2x2x8x4096 .f32) (t : Fin cfg0.N) (a : Fin 8) (j : Fin 4096) :
    X (((cfg0.win 11).blk t).view.emb (ix4 0 0 a j : S1x1x8x4096.Idx)) = X (ix4 (tb t) (tp t) a j) := by
  unfold tb tp
  blk_ext [idx_11 t]
theorem wr_12 (X : FVec Ideal S2x8192x128 .f32) (t : Fin cfg0.N) (r : Fin 512) (l : Fin 128) :
    X (((cfg0.win 12).blk t).view.emb (ix3 0 r l : S1x512x128.Idx)) = X (ix3 (tp t) (row (tb t) (gi (tq t) r)) l) := by
  unfold tb tp tq gi row
  blk_ext [idx_12 t]

theorem bt_row (b : Fin 2) (i : Fin 4096) : bt (row b i) = b := Fin.ext (by show (4096 * b.val + i.val) / 4096 = b.val; omega)
theorem ps_row (b : Fin 2) (i : Fin 4096) : ps (row b i) = i := Fin.ext (by show (4096 * b.val + i.val) % 4096 = i.val; omega)

section Arrays
variable {m : (ℓ : Loc nD τ sig) → Buf (Elt Ideal) ℓ} {c : Dev nD} {n : In}
  (H : Holds n (m ((c : Thread nD τ).loc main_arg0)) (m ((c : Thread nD τ).loc main_arg1)) (m ((c : Thread nD τ).loc main_arg2))
    (m ((c : Thread nD τ).loc main_arg3)) (m ((c : Thread nD τ).loc main_arg4)))
include H

theorem put8 {X : FVec Ideal S8192x256 .f32} (hX : Is2 (a := 8192) (b := 256) X (fun r l => n.dq (bt r) (hd l) (ps r) (ln l))) (t : Fin cfg0.N) (r : Fin 512) (l : Fin 128) :
    (outsAt0 m c t.val t.isLt).1 (ix2 r l) = X (((cfg0.win 8).blk t).view.emb (ix2 r l : S512x128.Idx)) := by
  have e : n.dq (bt (row (tb t) (gi (tq t) r))) (hd (lane (tp t) l)) (ps (row (tb t) (gi (tq t) r))) (ln (lane (tp t) l)) = n.dq (tb t) (hd (lane (tp t) l)) (gi (tq t) r) (ln (lane (tp t) l)) := by
    show n.dq (bt (row (tb t) (gi (tq t) r))) _ (ps (row (tb t) (gi (tq t) r))) _ = _
    rw [bt_row, ps_row]
  exact ((acc H t.val t.isLt).s8 r l).trans ((congrArg (fun z : ℝ => (z : EReal)) e).symm.trans ((wr_8 X t r l).trans (hX _ _)).symm)
theorem arr8 {X : FVec Ideal S8192x256 .f32} (hX : Is2 (a := 8192) (b := 256) X (fun r l => n.dq (bt r) (hd l) (ps r) (ln l))) : (dats m 0 c).arrAt 8 cfg0.N = X := by
  refine (dats m 0 c).arrAt_eq_of_covers 8 X (by decide +kernel) fun t hf y => ?_
  rw [after0_8]
  have hy : (y : S512x128.Idx) = ix2 (y 0) (y 1) := idx2 rfl rfl
  rw [hy]
  exact put8 H hX t (y 0) (y 1)

theorem put9 {X : FVec Ideal S2x4096x256 .f32} (hX : Is3 (a := 2) (b := 4096) (c := 256) X (fun b j l => n.dk b (hd l) j (ln l))) (t : Fin cfg0.N) (h7 : (tq t).val + 1 = 8) (j : Fin 4096) (l : Fin 128) :
    (outsAt0 m c t.val t.isLt).2.1 (ix3 0 j l) = X (((cfg0.win 9).blk t).view.emb (ix3 0 j l : S1x4096x128.Idx)) := by
  have e : n.dk (tb t) (hd (lane (tp t) l)) j (ln (lane (tp t) l)) = part (fun i => n.ds (tb t) (hd (lane (tp t) l)) i j * (1 / 8) * n.Q (tb t) i (lane (tp t) l)) ((tq t).val + 1) := by
    rw [h7, part_all]
    show ∑ i, n.ds (tb t) (hd (lane (tp t) l)) i j * (1 / 8) * n.Q (tb t) i (col (hd (lane (tp t) l)) (ln (lane (tp t) l))) = _
    rw [col_hd]
  exact ((acc H t.val t.isLt).s9 0 j l).trans ((congrArg (fun z : ℝ => (z : EReal)) e).symm.trans ((wr_9 X t j l).trans (hX _ _ _)).symm)
theorem arr9 {X : FVec Ideal S2x4096x256 .f32} (hX : Is3 (a := 2) (b := 4096) (c := 256) X (fun b j l => n.dk b (hd l) j (ln l))) : (dats m 0 c).arrAt 9 cfg0.N = X := by
  refine (dats m 0 c).arrAt_eq_of_covers 9 X (by decide +kernel) fun t hf y => ?_
  rw [after0_9]
  have h7 : (tq t).val + 1 = 8 := by have := (flush0_9 t).mp hf; show t.val % 8 + 1 = 8; omega
  have hy : (y : S1x4096x128.Idx) = ix3 0 (y 1) (y 2) := idx3 (Nat.lt_one_iff.mp (y 0).isLt) rfl rfl
  rw [hy]
  exact put9 H hX t h7 (y 1) (y 2)

theorem put10 {X : FVec Ideal S2x4096x256 .f32} (hX : Is3 (a := 2) (b := 4096) (c := 256) X (fun b j l => n.dv b (hd l) j (ln l))) (t : Fin cfg0.N) (h7 : (tq t).val + 1 = 8) (j : Fin 4096) (l : Fin 128) :
    (outsAt0 m c t.val t.isLt).2.2.1 (ix3 0 j l) = X (((cfg0.win 10).blk t).view.emb (ix3 0 j l : S1x4096x128.Idx)) := by
  have e : n.dv (tb t) (hd (lane (tp t) l)) j (ln (lane (tp t) l)) = part (fun i => n.DY (row (tb t) i) (lane (tp t) l) * n.pr (tb t) (hd (lane (tp t) l)) i j) ((tq t).val + 1) := by
    rw [h7, part_all]
    show ∑ i, n.DY (row (tb t) i) (col (hd (lane (tp t) l)) (ln (lane (tp t) l))) * n.pr (tb t) (hd (lane (tp t) l)) i j = _
    rw [col_hd]
  exact ((acc H t.val t.isLt).s10 0 j l).trans ((congrArg (fun z : ℝ => (z : EReal)) e).symm.trans ((wr_10 X t j l).trans (hX _ _ _)).symm)
theorem arr10 {X : FVec Ideal S2x4096x256 .f32} (hX : Is3 (a := 2) (b := 4096) (c := 256) X (fun b j l => n.dv b (hd l) j (ln l))) : (dats m 0 c).arrAt 10 cfg0.N = X := by
  refine (dats m 0 c).arrAt_eq_of_covers 10 X (by decide +kernel) fun t hf y => ?_
  rw [after0_10]
  have h7 : (tq t).val + 1 = 8 := by have := (flush0_10 t).mp hf; show t.val % 8 + 1 = 8; omega
  have hy : (y : S1x4096x128.Idx) = ix3 0 (y 1) (y 2) := idx3 (Nat.lt_one_iff.mp (y 0).isLt) rfl rfl
  rw [hy]
  exact put10 H hX t h7 (y 1) (y 2)

theorem put11 {X : FVec Ideal S2x2x8x4096 .f32} (hX : Is4 (a := 2) (b := 2) (c := 8) (d := 4096) X (fun b p a j => if h : a.val < 2 then n.dr b (hp p a.val h) j else 0)) (t : Fin cfg0.N) (h7 : (tq t).val + 1 = 8) (a : Fin 8) (j : Fin 4096) :
    (outsAt0 m c t.val t.isLt).2.2.2.1 (ix4 0 0 a j) = X (((cfg0.win 11).blk t).view.emb (ix4 0 0 a j : S1x1x8x4096.Idx)) := by
  have e : (if h : a.val < 2 then n.dr (tb t) (hp (tp t) a.val h) j else 0) = -part (fun i => if h : a.val < 2 then n.ds (tb t) (hp (tp t) a.val h) i j else 0) ((tq t).val + 1) := by
    rw [h7, part_all]
    by_cases h : a.val < 2
    · rw [dif_pos h]
      show ∑ i, -n.ds (tb t) (hp (tp t) a.val h) i j = _
      rw [Finset.sum_neg_distrib]
      exact congrArg Neg.neg (Finset.sum_congr rfl fun i _ => by rw [dif_pos h])
    · rw [dif_neg h, Finset.sum_eq_zero fun i _ => dif_neg h, neg_zero]
  exact ((acc H t.val t.isLt).s11 0 0 a j).trans ((congrArg (fun z : ℝ => (z : EReal)) e).symm.trans ((wr_11 X t a j).trans (hX _ _ _ _)).symm)
theorem arr11 {X : FVec Ideal S2x2x8x4096 .f32} (hX : Is4 (a := 2) (b := 2) (c := 8) (d := 4096) X (fun b p a j => if h : a.val < 2 then n.dr b (hp p a.val h) j else 0)) : (dats m 0 c).arrAt 11 cfg0.N = X := by
  refine (dats m 0 c).arrAt_eq_of_covers 11 X (by decide +kernel) fun t hf y => ?_
  rw [after0_11]
  have h7 : (tq t).val + 1 = 8 := by have := (flush0_11 t).mp hf; show t.val % 8 + 1 = 8; omega
  have hy : (y : S1x1x8x4096.Idx) = ix4 0 0 (y 2) (y 3) := idx4 (Nat.lt_one_iff.mp (y 0).isLt) (Nat.lt_one_iff.mp (y 1).isLt) rfl rfl
  rw [hy]
  exact put11 H hX t h7 (y 2) (y 3)

theorem put12 {X : FVec Ideal S2x8192x128 .f32} (hX : Is3 (a := 2) (b := 8192) (c := 128) X (fun p r l => if h : l.val < 2 then n.dc (bt r) (hp p l.val h) (ps r) else 0)) (t : Fin cfg0.N) (r : Fin 512) (l : Fin 128) :
    (outsAt0 m c t.val t.isLt).2.2.2.2 (ix3 0 r l) = X (((cfg0.win 12).blk t).view.emb (ix3 0 r l : S1x512x128.Idx)) := by
  have e : (if h : l.val < 2 then n.dc (bt (row (tb t) (gi (tq t) r))) (hp (tp t) l.val h) (ps (row (tb t) (gi (tq t) r))) else 0) = (if h : l.val < 2 then n.dc (tb t) (hp (tp t) l.val h) (gi (tq t) r) else 0) := by
    rw [bt_row, ps_row]
  exact ((acc H t.val t.isLt).s12 0 r l).trans ((congrArg (fun z : ℝ => (z : EReal)) e).symm.trans ((wr_12 X t r l).trans (hX _ _ _)).symm)
theorem arr12 {X : FVec Ideal S2x8192x128 .f32} (hX : Is3 (a := 2) (b := 8192) (c := 128) X (fun p r l => if h : l.val < 2 then n.dc (bt r) (hp p l.val h) (ps r) else 0)) : (dats m 0 c).arrAt 12 cfg0.N = X := by
  refine (dats m 0 c).arrAt_eq_of_covers 12 X (by decide +kernel) fun t hf y => ?_
  rw [after0_12]
  have hy : (y : S1x512x128.Idx) = ix3 0 (y 1) (y 2) := idx3 (Nat.lt_one_iff.mp (y 0).isLt) rfl rfl
  rw [hy]
  exact put12 H hX t (y 1) (y 2)

end Arrays

end Fox

end
-- ==== Proof.Finite.lean ====
/- What the precondition says: the numbers read are real numbers. -/
module

public import proofs.«01_k».proof.Defs
public import proofs.«01_k».proof.Proof.Ref

@[expose] public section

set_option maxRecDepth 16384

noncomputable section

namespace Fox

open Idealize.ShloMosaic Cert.Pre_finite

/-- The shape facts the precondition is stated with. -/
theorem preFacts : Cert.Pre_finite.Facts where
  slices_S2x4096x2688_S2x4096x256_0_0_2304 := by decide +kernel
  slices_S8192x128_S8192x4_0_0 := by decide +kernel
  bcast_S_S8192x256 := by decide +kernel
  bitsLt_bf16_f32 := by decide +kernel
  bcast_S_S2x4096x256 := by decide +kernel
  bcast_S_S8192x4 := by decide +kernel

/-- A number below plus infinity in absolute value is real. -/
theorem real_of_lt {x : EReal} (h : Ideal.cmp .olt (max x (-x)) ⊤ = 1#1) : x = (x.toReal : EReal) := by
  have hlt : max x (-x) < ⊤ := by
    by_contra hn
    have : Ideal.cmp .olt (max x (-x)) ⊤ = 0#1 := by simp only [Ideal.cmp, decide_eq_false hn]; rfl
    rw [this] at h
    exact absurd h (by decide)
  have h1 : x ≠ ⊤ := (lt_of_le_of_lt (le_max_left _ _) hlt).ne
  have h2 : x ≠ ⊥ := fun e => by
    rw [e] at hlt
    exact absurd hlt (by simp)
  exact (EReal.coe_toReal h1 h2).symm

/-- An array that passes the test holds real numbers. -/
theorem real_of_test {s : Shape} (hb : S_.BroadcastsInDim s (![] : Fin 0 → Fin s.rank)) {x : FVec Ideal s .f32}
    (h : cmpf .olt (Host.absf x) (broadcastInDim s ![] hb (constant S_ .f32 0x7F800000#32)) = fun _ => 1#1) (i : s.Idx) :
    (x i : EReal) = ((x i : EReal).toReal : EReal) := by
  refine real_of_lt ?_
  rw [← posInf]
  exact congrFun h i

/-- Under the precondition the arguments hold real numbers. -/
theorem holds_of_finite [Cert.Pre_finite.Facts] {x0 : FVec Ideal S8192x256 .f32} {x1 x2 : FVec Ideal S2x4096x256 .bf16} {x3 : FVec Ideal S2x4096x2688 .bf16}
    {x4 : FVec Ideal S8192x128 .f32}
    (h : (Cert.Pre_finite.fn (F := Ideal) x0 x1 x2 x3 x4).1 = (fun _ => 1#1) ∧ (Cert.Pre_finite.fn (F := Ideal) x0 x1 x2 x3 x4).2.1 = (fun _ => 1#1)
      ∧ (Cert.Pre_finite.fn (F := Ideal) x0 x1 x2 x3 x4).2.2.1 = (fun _ => 1#1) ∧ (Cert.Pre_finite.fn (F := Ideal) x0 x1 x2 x3 x4).2.2.2.1 = (fun _ => 1#1)
      ∧ (Cert.Pre_finite.fn (F := Ideal) x0 x1 x2 x3 x4).2.2.2.2 = (fun _ => 1#1)) : ∃ n, Holds n x0 x1 x2 x3 x4 := by
  obtain ⟨h0, h1, h2, h3, h4⟩ := h
  have r0 := real_of_test Facts.bcast_S_S8192x256 (x := x0) h0
  have r1 := real_of_test Facts.bcast_S_S2x4096x256 (x := (extf .f32 · Facts.bitsLt_bf16_f32) x1) h1
  have r2 := real_of_test Facts.bcast_S_S2x4096x256 (x := (extf .f32 · Facts.bitsLt_bf16_f32) x2) h2
  have r3 := real_of_test Facts.bcast_S_S2x4096x256 (x := (extf .f32 · Facts.bitsLt_bf16_f32)
    (extractStridedSlice S2x4096x256 ![0, 0, 2304] x3 Facts.slices_S2x4096x2688_S2x4096x256_0_0_2304)) (by exact h3)
  have r4 := real_of_test Facts.bcast_S_S8192x4 (x := extractStridedSlice S8192x4 ![0, 0] x4 Facts.slices_S8192x128_S8192x4_0_0) (by exact h4)
  clear h0 h1 h2 h3 h4
  have e3 (i : Fin 2) (j : Fin 4096) (k : Fin 256) : extractStridedSlice S2x4096x256 ![0, 0, 2304] x3
      Facts.slices_S2x4096x2688_S2x4096x256_0_0_2304 (ix3 i j k : S2x4096x256.Idx) = x3 (ix3 i j ⟨2304 + k.val, by omega⟩) :=
    extractStridedSlice_apply _ _ _ _ _ fun a => by
      fin_cases a
      · exact (Nat.zero_add _).symm
      · exact (Nat.zero_add _).symm
      · rfl
  have e4 (i : Fin 8192) (j : Fin 4) : extractStridedSlice S8192x4 ![0, 0] x4
      Facts.slices_S8192x128_S8192x4_0_0 (ix2 i j : S8192x4.Idx) = x4 (ix2 i ⟨j.val, by omega⟩) :=
    extractStridedSlice_apply _ _ _ _ _ fun a => by
      fin_cases a
      · exact (Nat.zero_add _).symm
      · exact (Nat.zero_add _).symm
  exact ⟨{ Q := fun i j k => (x1 (ix3 i j k) : EReal).toReal
           K := fun i j k => (x2 (ix3 i j k) : EReal).toReal
           V := fun i j k => (x3 (ix3 i j ⟨2304 + k.val, by omega⟩) : EReal).toReal
           DY := fun i j => (x0 (ix2 i j) : EReal).toReal
           F := fun i j => (x4 (ix2 i ⟨j.val, by omega⟩) : EReal).toReal },
    { dy := fun i j => r0 (ix2 i j)
      q := fun i j k => r1 (ix3 i j k)
      k := fun i j k => r2 (ix3 i j k)
      v := fun i j k => by
        have h := r3 (ix3 i j k)
        change (extractStridedSlice S2x4096x256 ![0, 0, 2304] x3 Facts.slices_S2x4096x2688_S2x4096x256_0_0_2304 (ix3 i j k : S2x4096x256.Idx) : EReal)
          = ((extractStridedSlice S2x4096x256 ![0, 0, 2304] x3 Facts.slices_S2x4096x2688_S2x4096x256_0_0_2304 (ix3 i j k : S2x4096x256.Idx) : EReal).toReal : EReal) at h
        rw [e3] at h
        exact h
      f := fun i j => by
        have h := r4 (ix2 i j)
        rw [e4] at h
        exact h }⟩

end Fox

end
-- ==== Proof.Halves.lean ====
/- A sum over the tokens of both sequences, one sequence at a time, and the corner at which a whole array is read and written. -/
module

public import proofs.«01_k».proof.Proof.Ref

@[expose] public section

noncomputable section

namespace Fox

/-- The tokens of the two sequences, summed apart: addition is commutative and associative on all extended reals. -/
theorem sum_tokens (f : Fin 8192 → EReal) : ∑ k, f k = (∑ k : Fin 4096, f (row 0 k)) + ∑ k : Fin 4096, f (row 1 k) :=
  (Fin.sum_univ_add (a := 4096) (b := 4096) f).trans
    (congrArg₂ (· + ·) (Finset.sum_congr rfl fun k _ => congrArg f (Fin.ext (by show k.val = 4096 * 0 + k.val; omega)))
      (Finset.sum_congr rfl fun k _ => congrArg f (Fin.ext rfl)))

/-- A hidden unit of the FFN: unit `l` of shard `j`. -/
def unit (j : Fin 4) (l : Fin 704) : Fin 2816 := ⟨704 * j.val + l.val, by omega⟩

/-! The corner of a whole array. -/

theorem z2 : (![0, 0] : Fin 2 → ℕ) = fun _ => 0 := by funext b; fin_cases b <;> rfl
theorem z3 : (![0, 0, 0] : Fin 3 → ℕ) = fun _ => 0 := by funext b; fin_cases b <;> rfl

end Fox

end
-- ==== Proof.DwUp.lean ====
/- The weight gradient of the FFN's up projection: the kernel's sum over two blocks of tokens is the product over all of them. -/
module

public import proofs.«01_k».proof.Proof.Halves
public import proofs.«01_k».proof.Proof.Gen.Kernel2Ideal.Frame
public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Fox.DwUp

open Idealize.ShloMosaic Idealize.ShloMosaic.TcCoe Cert.Kernel2Ideal Cert.Kernel2Ideal.Gen

/-- One block's part of a gradient entry. -/
def blockSum (x : FVec Ideal S4096x1024 .bf16) (y : FVec Ideal S1x4096x704 .bf16) (i : Fin 1024) (l : Fin 704) : EReal :=
  ∑ k : Fin 4096, x (ix2 k i) * y (ix3 0 k l)

theorem pay1_at (x : FVec Ideal S4096x1024 .bf16) (y : FVec Ideal S1x4096x704 .bf16) (i : Fin 1024) (l : Fin 704) :
    k0_pay1 (F := Ideal) x y (ix2 i l) = blockSum x y i l := by
  pointwise [k0_pay1]
  rfl

theorem pay2_at (x : FVec Ideal S4096x1024 .bf16) (y : FVec Ideal S1x4096x704 .bf16) (i : Fin 1024) (l : Fin 704) :
    k0_pay2 (F := Ideal) x y (ix2 i l) = blockSum x y i l := by
  unfold k0_pay2
  rw [shapeCast_self]
  exact pay1_at x y i l

theorem pay4_at (x : FVec Ideal S4096x1024 .bf16) (y : FVec Ideal S1x4096x704 .bf16) (a : FVec Ideal S1024x704 .f32) (i : Fin 1024) (l : Fin 704) :
    k0_pay4 (F := Ideal) (k0_pay3 (F := Ideal) x y a) (ix3 0 i l) = a (ix2 i l) + blockSum x y i l := by
  have e : k0_pay3 (F := Ideal) x y a = addf (F := Ideal) a (k0_pay1 (F := Ideal) x y) := shapeCast_self _ _
  rw [e]
  refine Eq.trans ?_ (congrArg (a (ix2 i l) + ·) (pay1_at x y i l))
  generalize k0_pay1 (F := Ideal) x y = z
  pointwise [k0_pay4]

/-! What a grid point leaves: point `2 j` the first block's part in the scratch, point `2 j + 1` the sum of both in the output. -/

section Point
variable (c : Dev nD) (i : grid0.Coords) (a3 : Memref sig .tc .vmem S4096x1024 .bf16) (h3 : a3.IsWhole) (a4 : Memref sig .tc .vmem S1x4096x704 .bf16)
  (h4 : a4.IsWhole) (a5 : Memref sig .tc .vmem S1x1024x704 .bf16) (h5 : a5.IsWhole) (a6 : Memref sig .tc .vmem S1024x704 .f32) (h6 : a6.IsWhole)
  (x : Vec Ideal S4096x1024 .bf16) (y : Vec Ideal S1x4096x704 .bf16) (a : Vec Ideal S1024x704 .f32)

theorem first (hc0 : cond0_0 i) (hc1 : ¬cond0_1 i) (hc2 : ¬cond0_2 i) :
    sout0_A_0 (F := Ideal) c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero z2]
  simp only [View.readAt_eq_ld, h3.read_unread, h4.read_unread, View.ld_unit_zero (S := S4096x1024) z2, View.ld_unit_zero (S := S1x4096x704) z3]

theorem second (hc0 : ¬cond0_0 i) (hc1 : cond0_1 i) (hc2 : cond0_2 i) :
    out0_B_2 (F := Ideal) c i a3 h3 a4 h4 a5 h5 a6 h6 hc0 hc1 hc2 x y a = k0_pay4 (k0_pay3 x y a) := by
  unfold out0_B_2
  rw [View.read_writes_eq_canon _ _ _ (cover0_B_2 c i a3 h3 a4 h4 a5 h5 a6 h6 hc0 hc1 hc2 x y a)]
  unfold kernelRun0_B
  dsimp only
  sl_unfold_words
  rw [View.canon_unit_zero z3, View.readCov_unit_zero (S := S1024x704) _ z2]
  simp only [View.readAt_eq_ld, h3.read_unread, h4.read_unread, h6.read_unread, View.ld_unit_zero (S := S4096x1024) z2, View.ld_unit_zero (S := S1x4096x704) z3,
    View.ld_unit_zero (S := S1024x704) z2]

end Point

/-! Where the blocks lie, with `t = 2 j + k`. -/

def tj (t : Fin cfg0.N) : Fin 8 := ⟨t.val / 2, by have h : t.val < 16 := lt_of_lt_of_eq t.isLt N_0; omega⟩
def tk (t : Fin cfg0.N) : Fin 2 := ⟨t.val % 2, by omega⟩

theorem idx_0 : ∀ t : Fin cfg0.N, win0_0.index t = ![t.val % 2, 0] :=
  (by decide +kernel : ∀ t : Fin grid0.N, win0_0.index t = ![t.val % 2, 0])
theorem idx_1 : ∀ t : Fin cfg0.N, win0_1.index t = ![t.val / 2, t.val % 2, 0] :=
  (by decide +kernel : ∀ t : Fin grid0.N, win0_1.index t = ![t.val / 2, t.val % 2, 0])
theorem idx_2 : ∀ t : Fin cfg0.N, win0_2.index t = ![t.val / 2, 0, 0] :=
  (by decide +kernel : ∀ t : Fin grid0.N, win0_2.index t = ![t.val / 2, 0, 0])

theorem rd_0 (X : FVec Ideal S8192x1024 .bf16) (t : Fin cfg0.N) (k : Fin 4096) (i : Fin 1024) :
    (((cfg0.win 0).blk t).view.read (Elt Ideal) X : FVec Ideal S4096x1024 .bf16) (ix2 k i) = X (ix2 (row (tk t) k) i) := by
  unfold tk row
  blk_ext [idx_0 t]
theorem rd_1 (X : FVec Ideal S8x8192x704 .bf16) (t : Fin cfg0.N) (k : Fin 4096) (l : Fin 704) :
    (((cfg0.win 1).blk t).view.read (Elt Ideal) X : FVec Ideal S1x4096x704 .bf16) (ix3 0 k l) = X (ix3 (tj t) (row (tk t) k) l) := by
  unfold tj tk row
  blk_ext [idx_1 t]
theorem wr_2 (X : FVec Ideal S8x1024x704 .bf16) (t : Fin cfg0.N) (i : Fin 1024) (l : Fin 704) :
    X (((cfg0.win 2).blk t).view.emb (ix3 0 i l : S1x1024x704.Idx)) = X (ix3 (tj t) i l) := by
  unfold tj
  blk_ext [idx_2 t]

theorem blockSum_at (X : FVec Ideal S8192x1024 .bf16) (Y : FVec Ideal S8x8192x704 .bf16) (t : Fin cfg0.N) (i : Fin 1024) (l : Fin 704) :
    blockSum (((cfg0.win 0).blk t).view.read (Elt Ideal) X) (((cfg0.win 1).blk t).view.read (Elt Ideal) Y) i l
      = ∑ k : Fin 4096, X (ix2 (row (tk t) k) i) * Y (ix3 (tj t) (row (tk t) k) l) :=
  Finset.sum_congr rfl fun k _ => congrArg₂ (· * ·) (rd_0 X t k i) (rd_1 Y t k l)

/-! The reference. -/

theorem ref_at (X : FVec Ideal S8192x1024 .bf16) (Y : FVec Ideal S8x8192x704 .bf16) (j : Fin 8) (i : Fin 1024) (l : Fin 704) :
    Cert.Reference2Ideal.Read.val_main_v10 (F := Ideal) X Y (ix3 j i l) = ∑ k : Fin 8192, X (ix2 k i) * Y (ix3 j k l) := by
  rw [Cert.Reference2Ideal.Read.val_main_v10_apply, Cert.Reference2Ideal.Read.val_main_v9_apply, Cert.Reference2Ideal.Read.val_main_v8_apply,
    Cert.Reference2Ideal.Read.val_main_v7_apply]
  show Cert.Reference2Ideal.Read.val_main_v6 (F := Ideal) X Y _ = _
  rw [Cert.Reference2Ideal.Read.val_main_v6_apply]
  refine Finset.sum_congr rfl fun k _ => ?_
  rw [Cert.Reference2Ideal.Read.val_main_v5_apply, Cert.Reference2Ideal.Read.val_main_v4_apply, Cert.Reference2Ideal.Read.val_main_v3_apply,
    Cert.Reference2Ideal.Read.val_main_v1_apply]
  refine (mul_comm _ _).trans (congrArg₂ (· * ·) (congrArg X (idx2 rfl ?_)) (congrArg Y (idx3 ?_ ?_ ?_)))
  · show ((i.val * 8 + j.val) * 704 + l.val) / 5632 = i.val; omega
  · show (k.val * 5632 + ((i.val * 8 + j.val) * 704 + l.val) % 5632) / 704 % 8 = j.val; omega
  · show (k.val * 5632 + ((i.val * 8 + j.val) * 704 + l.val) % 5632) / 5632 = k.val; omega
  · show (k.val * 5632 + ((i.val * 8 + j.val) * 704 + l.val) % 5632) % 704 = l.val; omega

/-! The kernel's array. -/

section Arrays
variable (m : (ℓ : Loc nD τ sig) → Buf (Elt Ideal) ℓ) (c : Dev nD)

theorem blk (X : FVec Ideal S8192x1024 .bf16) (Y : FVec Ideal S8x8192x704 .bf16) (hX : V m c main_arg0 = X) (hY : V m c main_arg1 = Y)
    (t : Fin cfg0.N) (i : Fin 1024) (l : Fin 704) :
    blockSum (iblk m c 0 t) (iblk m c 1 t) i l = ∑ k : Fin 4096, X (ix2 (row (tk t) k) i) * Y (ix3 (tj t) (row (tk t) k) l) := by
  have e0 : iblk m c 0 t = ((cfg0.win 0).blk t).view.read (Elt Ideal) X := congrArg (((cfg0.win 0).blk t).view.read (Elt Ideal)) hX
  have e1 : iblk m c 1 t = ((cfg0.win 1).blk t).view.read (Elt Ideal) Y := congrArg (((cfg0.win 1).blk t).view.read (Elt Ideal)) hY
  rw [e0, e1]
  exact blockSum_at X Y t i l

/-- After an even point the scratch holds the first sequence's part. -/
theorem scratch (X : FVec Ideal S8192x1024 .bf16) (Y : FVec Ideal S8x8192x704 .bf16) (hX : V m c main_arg0 = X) (hY : V m c main_arg1 = Y)
    (t : Fin cfg0.N) (h : t.val % 2 = 0) (i : Fin 1024) (l : Fin 704) :
    (outsAt0 m c t.val t.isLt).2 (ix2 i l) = ∑ k : Fin 4096, X (ix2 (row (tk t) k) i) * Y (ix3 (tj t) (row (tk t) k) l) := by
  rw [outsAt0_A m c t h (by omega) (by omega)]
  dsimp only
  rw [first, pay2_at]
  exact blk m c X Y hX hY t i l

theorem put (X : FVec Ideal S8192x1024 .bf16) (Y : FVec Ideal S8x8192x704 .bf16) (hX : V m c main_arg0 = X) (hY : V m c main_arg1 = Y)
    (t : Fin cfg0.N) (h : t.val % 2 = 1) (i : Fin 1024) (l : Fin 704) :
    (outsAt0 m c t.val t.isLt).1 (ix3 0 i l) = ∑ k : Fin 8192, X (ix2 k i) * Y (ix3 (tj t) k l) := by
  have hk : tk t = 1 := Fin.ext h
  have hlt : t.val - 1 < cfg0.N := Nat.lt_of_le_of_lt (Nat.sub_le _ _) t.isLt
  have hk' : tk ⟨t.val - 1, hlt⟩ = 0 := Fin.ext (by show (t.val - 1) % 2 = 0; omega)
  have hj' : tj ⟨t.val - 1, hlt⟩ = tj t := Fin.ext (by show (t.val - 1) / 2 = t.val / 2; omega)
  have s := scratch m c X Y hX hY ⟨t.val - 1, hlt⟩ (by show (t.val - 1) % 2 = 0; omega) i l
  rw [hk', hj'] at s
  rw [outsAt0_B m c t (by omega) h h]
  dsimp only
  rw [second, pay4_at, sum_tokens, blk m c X Y hX hY t i l, hk]
  exact congrArg (· + _) s

theorem arr (X : FVec Ideal S8192x1024 .bf16) (Y : FVec Ideal S8x8192x704 .bf16) (hX : V m c main_arg0 = X) (hY : V m c main_arg1 = Y) :
    (dats m 0 c).arrAt 2 cfg0.N = Cert.Reference2Ideal.Read.val_main_v10 (F := Ideal) X Y := by
  refine (dats m 0 c).arrAt_eq_of_covers 2 _ (by decide +kernel) fun t hf y => ?_
  rw [after0_2]
  have hy : (y : S1x1024x704.Idx) = ix3 0 (y 1) (y 2) := idx3 (Nat.lt_one_iff.mp (y 0).isLt) rfl rfl
  rw [hy]
  exact (put m c X Y hX hY t ((flush0_2 t).mp hf) (y 1) (y 2)).trans ((wr_2 _ t (y 1) (y 2)).trans (ref_at X Y (tj t) (y 1) (y 2))).symm

end Arrays

end Fox.DwUp

end
-- ==== Proof.DwDown.lean ====
/- The weight gradient of the FFN's down projection: the kernel's sum over two blocks of tokens is the product over all of them. -/
module

public import proofs.«01_k».proof.Proof.Halves
public import proofs.«01_k».proof.Proof.Gen.Kernel3Ideal.Frame
public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Fox.DwDown

open Idealize.ShloMosaic Idealize.ShloMosaic.TcCoe Cert.Kernel3Ideal Cert.Kernel3Ideal.Gen

/-- One block's part of a gradient entry. -/
def blockSum (x : FVec Ideal S1x4096x704 .bf16) (y : FVec Ideal S4096x1024 .bf16) (l : Fin 704) (i : Fin 1024) : EReal :=
  ∑ k : Fin 4096, x (ix3 0 k l) * y (ix2 k i)

theorem pay1_at (x : FVec Ideal S1x4096x704 .bf16) (y : FVec Ideal S4096x1024 .bf16) (l : Fin 704) (i : Fin 1024) :
    k0_pay1 (F := Ideal) x y (ix2 l i) = blockSum x y l i := by
  pointwise [k0_pay1]
  rfl

theorem pay2_at (x : FVec Ideal S1x4096x704 .bf16) (y : FVec Ideal S4096x1024 .bf16) (l : Fin 704) (i : Fin 1024) :
    k0_pay2 (F := Ideal) x y (ix2 l i) = blockSum x y l i := by
  unfold k0_pay2
  rw [shapeCast_self]
  exact pay1_at x y l i

theorem pay4_at (x : FVec Ideal S1x4096x704 .bf16) (y : FVec Ideal S4096x1024 .bf16) (a : FVec Ideal S704x1024 .f32) (l : Fin 704) (i : Fin 1024) :
    k0_pay4 (F := Ideal) (k0_pay3 (F := Ideal) x y a) (ix2 l i) = a (ix2 l i) + blockSum x y l i := by
  have e : k0_pay3 (F := Ideal) x y a = addf (F := Ideal) a (k0_pay1 (F := Ideal) x y) := shapeCast_self _ _
  rw [e]
  exact congrArg (a (ix2 l i) + ·) (pay1_at x y l i)

/-! What a grid point leaves: point `2 j` the first block's part in the scratch, point `2 j + 1` the sum of both in the output. -/

section Point
variable (c : Dev nD) (i : grid0.Coords) (a3 : Memref sig .tc .vmem S1x4096x704 .bf16) (h3 : a3.IsWhole) (a4 : Memref sig .tc .vmem S4096x1024 .bf16)
  (h4 : a4.IsWhole) (a5 : Memref sig .tc .vmem S704x1024 .bf16) (h5 : a5.IsWhole) (a6 : Memref sig .tc .vmem S704x1024 .f32) (h6 : a6.IsWhole)
  (x : Vec Ideal S1x4096x704 .bf16) (y : Vec Ideal S4096x1024 .bf16) (a : Vec Ideal S704x1024 .f32)

theorem first (hc0 : cond0_0 i) (hc1 : ¬cond0_1 i) (hc2 : ¬cond0_2 i) :
    sout0_A_0 (F := Ideal) c i a3 h3 a4 h4 a5 h5 a6 h6 hc0 hc1 hc2 x y = k0_pay2 x y := by
  unfold sout0_A_0
  rw [View.read_writes_eq_canon _ _ _ (scover0_A_0 c i a3 h3 a4 h4 a5 h5 a6 h6 hc0 hc1 hc2 x y)]
  unfold kernelRun0_A
  dsimp only
  sl_unfold_words
  rw [View.canon_unit_zero z2]
  simp only [View.readAt_eq_ld, h3.read_unread, h4.read_unread, View.ld_unit_zero (S := S4096x1024) z2, View.ld_unit_zero (S := S1x4096x704) z3]

theorem second (hc0 : ¬cond0_0 i) (hc1 : cond0_1 i) (hc2 : cond0_2 i) :
    out0_B_2 (F := Ideal) c i a3 h3 a4 h4 a5 h5 a6 h6 hc0 hc1 hc2 x y a = k0_pay4 (k0_pay3 x y a) := by
  unfold out0_B_2
  rw [View.read_writes_eq_canon _ _ _ (cover0_B_2 c i a3 h3 a4 h4 a5 h5 a6 h6 hc0 hc1 hc2 x y a)]
  unfold kernelRun0_B
  dsimp only
  sl_unfold_words
  rw [View.canon_unit_zero z2, View.readCov_unit_zero (S := S704x1024) _ z2]
  simp only [View.readAt_eq_ld, h3.read_unread, h4.read_unread, h6.read_unread, View.ld_unit_zero (S := S4096x1024) z2, View.ld_unit_zero (S := S1x4096x704) z3,
    View.ld_unit_zero (S := S704x1024) z2]

end Point

/-! Where the blocks lie, with `t = 2 j + k`. -/

def tj (t : Fin cfg0.N) : Fin 4 := ⟨t.val / 2, by have h : t.val < 8 := lt_of_lt_of_eq t.isLt N_0; omega⟩
def tk (t : Fin cfg0.N) : Fin 2 := ⟨t.val % 2, by omega⟩

theorem idx_0 : ∀ t : Fin cfg0.N, win0_0.index t = ![t.val / 2, t.val % 2, 0] :=
  (by decide +kernel : ∀ t : Fin grid0.N, win0_0.index t = ![t.val / 2, t.val % 2, 0])
theorem idx_1 : ∀ t : Fin cfg0.N, win0_1.index t = ![t.val % 2, 0] :=
  (by decide +kernel : ∀ t : Fin grid0.N, win0_1.index t = ![t.val % 2, 0])
theorem idx_2 : ∀ t : Fin cfg0.N, win0_2.index t = ![t.val / 2, 0] :=
  (by decide +kernel : ∀ t : Fin grid0.N, win0_2.index t = ![t.val / 2, 0])

theorem rd_0 (X : FVec Ideal S4x8192x704 .bf16) (t : Fin cfg0.N) (k : Fin 4096) (l : Fin 704) :
    (((cfg0.win 0).blk t).view.read (Elt Ideal) X : FVec Ideal S1x4096x704 .bf16) (ix3 0 k l) = X (ix3 (tj t) (row (tk t) k) l) := by
  unfold tj tk row
  blk_ext [idx_0 t]
theorem rd_1 (X : FVec Ideal S8192x1024 .bf16) (t : Fin cfg0.N) (k : Fin 4096) (i : Fin 1024) :
    (((cfg0.win 1).blk t).view.read (Elt Ideal) X : FVec Ideal S4096x1024 .bf16) (ix2 k i) = X (ix2 (row (tk t) k) i) := by
  unfold tk row
  blk_ext [idx_1 t]
theorem wr_2 (X : FVec Ideal S2816x1024 .bf16) (t : Fin cfg0.N) (l : Fin 704) (i : Fin 1024) :
    X (((cfg0.win 2).blk t).view.emb (ix2 l i : S704x1024.Idx)) = X (ix2 (unit (tj t) l) i) := by
  unfold tj unit
  blk_ext [idx_2 t]

theorem blockSum_at (X : FVec Ideal S4x8192x704 .bf16) (Y : FVec Ideal S8192x1024 .bf16) (t : Fin cfg0.N) (l : Fin 704) (i : Fin 1024) :
    blockSum (((cfg0.win 0).blk t).view.read (Elt Ideal) X) (((cfg0.win 1).blk t).view.read (Elt Ideal) Y) l i
      = ∑ k : Fin 4096, X (ix3 (tj t) (row (tk t) k) l) * Y (ix2 (row (tk t) k) i) :=
  Finset.sum_congr rfl fun k _ => congrArg₂ (· * ·) (rd_0 X t k l) (rd_1 Y t k i)

/-! The reference. -/

theorem ref_at (X : FVec Ideal S4x8192x704 .bf16) (Y : FVec Ideal S8192x1024 .bf16) (j : Fin 4) (l : Fin 704) (i : Fin 1024) :
    Cert.Reference3Ideal.Read.val_main_v8 (F := Ideal) X Y (ix2 (unit j l) i) = ∑ k : Fin 8192, X (ix3 j k l) * Y (ix2 k i) := by
  rw [Cert.Reference3Ideal.Read.val_main_v8_apply, Cert.Reference3Ideal.Read.val_main_v7_apply]
  show Cert.Reference3Ideal.Read.val_main_v6 (F := Ideal) X Y _ = _
  rw [Cert.Reference3Ideal.Read.val_main_v6_apply]
  refine Finset.sum_congr rfl fun k _ => ?_
  rw [Cert.Reference3Ideal.Read.val_main_v3_apply, Cert.Reference3Ideal.Read.val_main_v2_apply, Cert.Reference3Ideal.Read.val_main_v1_apply,
    Cert.Reference3Ideal.Read.val_main_v5_apply]
  refine (mul_comm _ _).trans (congrArg₂ (· * ·) (congrArg X (idx3 ?_ ?_ ?_)) (congrArg Y (idx2 rfl rfl)))
  · show (k.val * 2816 + (704 * j.val + l.val)) / 704 % 4 = j.val; omega
  · show (k.val * 2816 + (704 * j.val + l.val)) / 2816 = k.val; omega
  · show (k.val * 2816 + (704 * j.val + l.val)) % 704 = l.val; omega

/-! The kernel's array. -/

section Arrays
variable (m : (ℓ : Loc nD τ sig) → Buf (Elt Ideal) ℓ) (c : Dev nD)

theorem blk (X : FVec Ideal S4x8192x704 .bf16) (Y : FVec Ideal S8192x1024 .bf16) (hX : V m c main_arg0 = X) (hY : V m c main_arg1 = Y)
    (t : Fin cfg0.N) (l : Fin 704) (i : Fin 1024) :
    blockSum (iblk m c 0 t) (iblk m c 1 t) l i = ∑ k : Fin 4096, X (ix3 (tj t) (row (tk t) k) l) * Y (ix2 (row (tk t) k) i) := by
  have e0 : iblk m c 0 t = ((cfg0.win 0).blk t).view.read (Elt Ideal) X := congrArg (((cfg0.win 0).blk t).view.read (Elt Ideal)) hX
  have e1 : iblk m c 1 t = ((cfg0.win 1).blk t).view.read (Elt Ideal) Y := congrArg (((cfg0.win 1).blk t).view.read (Elt Ideal)) hY
  rw [e0, e1]
  exact blockSum_at X Y t l i

/-- After an even point the scratch holds the first sequence's part. -/
theorem scratch (X : FVec Ideal S4x8192x704 .bf16) (Y : FVec Ideal S8192x1024 .bf16) (hX : V m c main_arg0 = X) (hY : V m c main_arg1 = Y)
    (t : Fin cfg0.N) (h : t.val % 2 = 0) (l : Fin 704) (i : Fin 1024) :
    (outsAt0 m c t.val t.isLt).2 (ix2 l i) = ∑ k : Fin 4096, X (ix3 (tj t) (row (tk t) k) l) * Y (ix2 (row (tk t) k) i) := by
  rw [outsAt0_A m c t h (by omega) (by omega)]
  dsimp only
  rw [first, pay2_at]
  exact blk m c X Y hX hY t l i

theorem put (X : FVec Ideal S4x8192x704 .bf16) (Y : FVec Ideal S8192x1024 .bf16) (hX : V m c main_arg0 = X) (hY : V m c main_arg1 = Y)
    (t : Fin cfg0.N) (h : t.val % 2 = 1) (l : Fin 704) (i : Fin 1024) :
    (outsAt0 m c t.val t.isLt).1 (ix2 l i) = ∑ k : Fin 8192, X (ix3 (tj t) k l) * Y (ix2 k i) := by
  have hk : tk t = 1 := Fin.ext h
  have hlt : t.val - 1 < cfg0.N := Nat.lt_of_le_of_lt (Nat.sub_le _ _) t.isLt
  have hk' : tk ⟨t.val - 1, hlt⟩ = 0 := Fin.ext (by show (t.val - 1) % 2 = 0; omega)
  have hj' : tj ⟨t.val - 1, hlt⟩ = tj t := Fin.ext (by show (t.val - 1) / 2 = t.val / 2; omega)
  have s := scratch m c X Y hX hY ⟨t.val - 1, hlt⟩ (by show (t.val - 1) % 2 = 0; omega) l i
  rw [hk', hj'] at s
  rw [outsAt0_B m c t (by omega) h h]
  dsimp only
  rw [second, pay4_at, sum_tokens, blk m c X Y hX hY t l i, hk]
  exact congrArg (· + _) s

theorem arr (X : FVec Ideal S4x8192x704 .bf16) (Y : FVec Ideal S8192x1024 .bf16) (hX : V m c main_arg0 = X) (hY : V m c main_arg1 = Y) :
    (dats m 0 c).arrAt 2 cfg0.N = Cert.Reference3Ideal.Read.val_main_v8 (F := Ideal) X Y := by
  refine (dats m 0 c).arrAt_eq_of_covers 2 _ (by decide +kernel) fun t hf y => ?_
  rw [after0_2]
  have hy : (y : S704x1024.Idx) = ix2 (y 0) (y 1) := idx2 rfl rfl
  rw [hy]
  exact (put m c X Y hX hY t ((flush0_2 t).mp hf) (y 0) (y 1)).trans ((wr_2 _ t (y 0) (y 1)).trans (ref_at X Y (tj t) (y 0) (y 1))).symm

end Arrays

end Fox.DwDown

end
-- ==== Proof.DxDown.lean ====
/- The gradient of the FFN's hidden pair: the gradient of the activation times the down projection's product, as the kernel and the
   reference write it. -/
module

public import proofs.«01_k».proof.Proof.Halves
public import proofs.«01_k».proof.Proof.Point
public import proofs.«01_k».proof.Proof.Gen.Kernel4Ideal.Frame
public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Fox.DxDown

open Idealize.ShloMosaic Idealize.ShloMosaic.TcCoe Cert.Kernel4Ideal Cert.Kernel4Ideal.Gen Cert.Reference4Ideal.Read

/-- The arguments as real numbers: the gradient of the output, the two halves of the hidden pair and the weight. -/
structure Nums where
  df : Fin 8192 → Fin 1024 → ℝ
  g : Fin 8192 → Fin 2816 → ℝ
  u : Fin 8192 → Fin 2816 → ℝ
  w : Fin 2816 → Fin 1024 → ℝ

/-- Column `q` of the half `s` of the hidden pair. -/
def pairCol (s : Fin 2) (q : Fin 2816) : Fin 5632 := ⟨2816 * s.val + q.val, by omega⟩

/-- The arrays hold the numbers. -/
structure Hold (n : Nums) (X0 : FVec Ideal S8192x1024 .bf16) (X1 : FVec Ideal S8192x5632 .f32) (X2 : FVec Ideal S2816x1024 .bf16) : Prop where
  df : Is2 X0 n.df
  g : ∀ r q, X1 (ix2 r (pairCol 0 q)) = ((n.g r q : ℝ) : EReal)
  u : ∀ r q, X1 (ix2 r (pairCol 1 q)) = ((n.u r q : ℝ) : EReal)
  w : Is2 X2 n.w

namespace Nums
variable (n : Nums)
/-- The product with the weight. -/
def p (r : Fin 8192) (q : Fin 2816) : ℝ := ∑ d, n.df r d * n.w q d
/-- The logistic function of the gate. -/
def sg (r : Fin 8192) (q : Fin 2816) : ℝ := 1 / (1 + Real.exp (-n.g r q))
/-- The factor the forward pass saves for either half. -/
def fac (s : Fin 2) (r : Fin 8192) (q : Fin 2816) : ℝ :=
  if s = 0 then n.u r q * (n.sg r q * (1 + n.g r q * (1 - n.sg r q))) else n.g r q * n.sg r q
end Nums

variable {n : Nums} {X0 : FVec Ideal S8192x1024 .bf16} {X1 : FVec Ideal S8192x5632 .f32} {X2 : FVec Ideal S2816x1024 .bf16}

/-! What the host and the reference take of the hidden pair. -/

theorem gate_is (H : Hold n X0 X1 X2) : Is2 (a := 8192) (b := 2816) (val_main_v0 (F := Ideal) X1) n.g := fun r q => by
  rw [val_main_v0_apply]
  exact (congrArg X1 (idx2 rfl (by show q.val = 2816 * 0 + q.val; omega))).trans (H.g r q)
theorem lin_is (H : Hold n X0 X1 X2) : Is2 (a := 8192) (b := 2816) (val_main_v1 (F := Ideal) X1) n.u := fun r q => by
  rw [val_main_v1_apply]
  exact (congrArg X1 (idx2 rfl (by show 2816 + q.val = 2816 * 1 + q.val; omega))).trans (H.u r q)
theorem ones_at (r : Fin 8192) (q : Fin 2816) : val_main_call0_v2 (F := Ideal) (ix2 r q) = ((1 : ℝ) : EReal) := by
  rw [val_main_call0_v2_apply]
  exact oneBits
theorem sg_is (H : Hold n X0 X1 X2) : Is2 (a := 8192) (b := 2816) (val_main_v2_2 (F := Ideal) X1) n.sg := fun r q => by
  rw [val_main_v2_2_apply, val_main_call0_v3_apply, val_main_call0_v1_apply, val_main_call0_v0_apply, gate_is H r q]
  show Ideal.div (val_main_call0_v2 (F := Ideal) (ix2 r q)) (val_main_call0_v2 (F := Ideal) (ix2 r q) + Ideal.exp (-((n.g r q : ℝ) : EReal))) = _
  rw [ones_at, negR, expR, addR, divR _ (by positivity)]
  rfl

/-! The factors the forward pass saves. -/

def facG (X : FVec Ideal S8192x5632 .f32) : FVec Ideal S8192x2816 .f32 :=
  mulf (val_main_v1 (F := Ideal) X) (mulf (val_main_v2_2 (F := Ideal) X)
    (addf (val_main_call0_v2 (F := Ideal)) (mulf (val_main_v0 (F := Ideal) X) (subf (val_main_call0_v2 (F := Ideal)) (val_main_v2_2 (F := Ideal) X)))))
def facU (X : FVec Ideal S8192x5632 .f32) : FVec Ideal S8192x2816 .f32 := mulf (val_main_v0 (F := Ideal) X) (val_main_v2_2 (F := Ideal) X)

theorem facG_is (H : Hold n X0 X1 X2) : Is2 (a := 8192) (b := 2816) (facG X1) (n.fac 0) := fun r q => by
  show (val_main_v1 (F := Ideal) X1 (ix2 r q) : EReal) * (val_main_v2_2 (F := Ideal) X1 (ix2 r q)
    * (val_main_call0_v2 (F := Ideal) (ix2 r q) + val_main_v0 (F := Ideal) X1 (ix2 r q) * (val_main_call0_v2 (F := Ideal) (ix2 r q) - val_main_v2_2 (F := Ideal) X1 (ix2 r q)))) = _
  rw [lin_is H r q, sg_is H r q, gate_is H r q, ones_at, subR, mulR, addR, mulR, mulR]
  rfl
theorem facU_is (H : Hold n X0 X1 X2) : Is2 (a := 8192) (b := 2816) (facU X1) (n.fac 1) := fun r q => by
  show (val_main_v0 (F := Ideal) X1 (ix2 r q) : EReal) * val_main_v2_2 (F := Ideal) X1 (ix2 r q) = _
  rw [sg_is H r q, gate_is H r q, mulR]
  rfl

/-- Both factors, cut into shards: what the call reads. -/
def saved (X : FVec Ideal S8192x5632 .f32) : FVec Ideal S2x4x8192x704 .bf16 :=
  transpose S2x4x8192x704 [0, 2, 1, 3] (shapeCast S2x8192x4x704 (truncf .bf16 (concatenate S2x8192x2816 0
    [⟨S1x8192x2816, broadcastInDim S1x8192x2816 ![1, 2] bcast_S8192x2816_S1x8192x2816_1_2 (facG X)⟩,
     ⟨S1x8192x2816, broadcastInDim S1x8192x2816 ![1, 2] bcast_S8192x2816_S1x8192x2816_1_2 (facU X)⟩]
    concatenates_S1x8192x2816_S1x8192x2816_S2x8192x2816_d0) bitsLt_bf16_f32) shapeCasts_S2x8192x2816_S2x8192x4x704) transposes_S2x8192x4x704_S2x4x8192x704_0_2_1_3

theorem stack_at (a b : FVec Ideal S8192x2816 .f32) (s : Fin 2) (r : Fin 8192) (q : Fin 2816) :
    concatenate S2x8192x2816 0
      [⟨S1x8192x2816, broadcastInDim S1x8192x2816 ![1, 2] bcast_S8192x2816_S1x8192x2816_1_2 a⟩,
       ⟨S1x8192x2816, broadcastInDim S1x8192x2816 ![1, 2] bcast_S8192x2816_S1x8192x2816_1_2 b⟩]
      concatenates_S1x8192x2816_S1x8192x2816_S2x8192x2816_d0 (ix3 s r q : S2x8192x2816.Idx) = if s = 0 then a (ix2 r q) else b (ix2 r q) := by
  fin_cases s
  · refine (concatenate_pair_apply_left (t := S2x8192x2816) (s₁ := S1x8192x2816) (s₂ := S1x8192x2816) 0 _ _ _ _ rfl (ix3 0 r q) ?_).trans ?_
    · intro z; fin_cases z <;> rfl
    · exact broadcastInDim_apply _ _ _ _ (ix2 r q) fun z => by fin_cases z <;> rfl
  · refine (concatenate_pair_apply_right (t := S2x8192x2816) (s₁ := S1x8192x2816) (s₂ := S1x8192x2816) 0 _ _ _ _ rfl rfl (ix3 0 r q) ?_ ?_).trans ?_
    · intro z hz; fin_cases z
      · exact absurd rfl hz
      · rfl
      · rfl
    · rfl
    · exact broadcastInDim_apply _ _ _ _ (ix2 r q) fun z => by fin_cases z <;> rfl

theorem saved_is (H : Hold n X0 X1 X2) : Is4 (a := 2) (b := 4) (c := 8192) (d := 704) (saved X1) fun s j r l => n.fac s r (unit j l) := by
  intro s j r l
  have e := stack_at (facG X1) (facU X1) s r (unit j l)
  have hG := facG_is H r (unit j l)
  have hU := facU_is H r (unit j l)
  unfold saved
  generalize hz : concatenate S2x8192x2816 0
      [⟨S1x8192x2816, broadcastInDim S1x8192x2816 ![1, 2] bcast_S8192x2816_S1x8192x2816_1_2 (facG X1)⟩,
       ⟨S1x8192x2816, broadcastInDim S1x8192x2816 ![1, 2] bcast_S8192x2816_S1x8192x2816_1_2 (facU X1)⟩]
      concatenates_S1x8192x2816_S1x8192x2816_S2x8192x2816_d0 = z at e ⊢
  refine (transpose_apply _ _ _ _ (ix4 s r j l : S2x8192x4x704.Idx) (fun b => by fin_cases b <;> rfl)).trans ?_
  refine (shapeCast_apply _ _ _ (ix3 s r (unit j l) : S2x8192x2816.Idx) ?_).trans ?_
  · rewrite [Shape.rowMajor_val_three, Shape.rowMajor_val_four]
    show (s.val * 8192 + r.val) * 2816 + (704 * j.val + l.val) = ((s.val * 8192 + r.val) * 4 + j.val) * 704 + l.val
    omega
  · refine e.trans ?_
    fin_cases s
    · exact hG
    · exact hU

/-! The reference. -/

theorem p_is (H : Hold n X0 X1 X2) : Is2 (a := 8192) (b := 2816) (val_main_v7 (F := Ideal) X0 X2) n.p := fun r q => by
  rw [val_main_v7_apply]
  exact sum_mulR (fun k => (val_main_v6_apply (F := Ideal) X0 _).trans (H.df.get _ rfl rfl)) (fun k => (val_main_v4_apply (F := Ideal) X2 _).trans (H.w.get _ rfl rfl))

theorem refG_is (H : Hold n X0 X1 X2) : Is2 (a := 8192) (b := 2816) (val_main_v10 (F := Ideal) X0 X1 X2) fun r q => n.p r q * n.fac 0 r q := fun r q => by
  rw [val_main_v10_apply, val_main_call1_v1_apply, val_main_call1_v2_apply, val_main_call1_v0_apply, val_main_v9_apply, val_main_v2_1_apply, val_main_call0_v7_apply]
  show ((val_main_v7 (F := Ideal) X0 X2 (ix2 r q) : EReal) * val_main_v1 (F := Ideal) X1 (ix2 r q)) * val_main_v2_2 (F := Ideal) X1 (ix2 r q)
    + (val_main_v0 (F := Ideal) X1 (ix2 r q) * (val_main_v7 (F := Ideal) X0 X2 (ix2 r q) * val_main_v1 (F := Ideal) X1 (ix2 r q)))
      * (val_main_v2_2 (F := Ideal) X1 (ix2 r q) * (val_main_call0_v2 (F := Ideal) (ix2 r q) - val_main_v2_2 (F := Ideal) X1 (ix2 r q))) = _
  rw [p_is H r q, lin_is H r q, sg_is H r q, gate_is H r q, ones_at]
  simp only [subR, mulR, addR]
  refine congrArg _ ?_
  show _ = n.p r q * (n.u r q * (n.sg r q * (1 + n.g r q * (1 - n.sg r q))))
  ring

theorem refU_is (H : Hold n X0 X1 X2) : Is2 (a := 8192) (b := 2816) (val_main_v8 (F := Ideal) X0 X1 X2) fun r q => n.p r q * n.fac 1 r q := fun r q => by
  rw [val_main_v8_apply, val_main_v2_0_apply]
  show ((val_main_v0 (F := Ideal) X1 (ix2 r q) : EReal) * val_main_v2_2 (F := Ideal) X1 (ix2 r q)) * val_main_v7 (F := Ideal) X0 X2 (ix2 r q) = _
  rw [p_is H r q, sg_is H r q, gate_is H r q, mulR, mulR]
  exact congrArg _ (mul_comm _ _)

theorem pair_at (a b : FVec Ideal S8192x2816 .f32) (h : Shape.Concatenates [S8192x2816, S8192x2816] S8192x5632 1) (s : Fin 2) (r : Fin 8192) (q : Fin 2816) :
    concatenate S8192x5632 1 [⟨S8192x2816, a⟩, ⟨S8192x2816, b⟩] h
      (ix2 r (pairCol s q) : S8192x5632.Idx) = if s = 0 then a (ix2 r q) else b (ix2 r q) := by
  fin_cases s
  · refine concatenate_pair_apply_left (t := S8192x5632) (s₁ := S8192x2816) (s₂ := S8192x2816) 1 _ _ _ _ rfl (ix2 r q) ?_
    intro z; fin_cases z
    · rfl
    · show q.val = 2816 * 0 + q.val; omega
  · refine concatenate_pair_apply_right (t := S8192x5632) (s₁ := S8192x2816) (s₂ := S8192x2816) 1 _ _ _ _ rfl rfl (ix2 r q) ?_ ?_
    · intro z hz; fin_cases z
      · rfl
      · exact absurd rfl hz
    · show q.val + 2816 = 2816 * 1 + q.val; omega

theorem ref_is (H : Hold n X0 X1 X2) : Is4 (a := 2) (b := 4) (c := 8192) (d := 704) (val_main_v14 (F := Ideal) X0 X1 X2)
    fun s j r l => n.p r (unit j l) * n.fac s r (unit j l) := fun s j r l => by
  rw [val_main_v14_apply, val_main_v13_apply, val_main_v12_apply]
  show (val_main_v11 (F := Ideal) X0 X1 X2 _ : EReal) = _
  have hi : idx_main_v12 (idx_main_v13 (ix4 s j r l : S2x4x8192x704.Idx)) = ix2 r (pairCol s (unit j l)) := idx2
    (by show (((r.val * 2 + s.val) * 4 + j.val) * 704 + l.val) / 5632 = r.val; omega)
    (by show (((r.val * 2 + s.val) * 4 + j.val) * 704 + l.val) % 5632 = 2816 * s.val + (704 * j.val + l.val); omega)
  rw [hi]
  refine (pair_at (val_main_v10 (F := Ideal) X0 X1 X2) (val_main_v8 (F := Ideal) X0 X1 X2) _ s r (unit j l)).trans ?_
  fin_cases s
  · exact refG_is H r (unit j l)
  · exact refU_is H r (unit j l)

/-! A grid point. -/

theorem pay1_at (x : FVec Ideal S512x1024 .bf16) (w : FVec Ideal S704x1024 .bf16) (r : Fin 512) (l : Fin 704) :
    k0_pay1 (F := Ideal) x w (ix2 r l) = ∑ d : Fin 1024, (x (ix2 r d) : EReal) * w (ix2 l d) := by
  pointwise [k0_pay1]
theorem pay2_at (x : FVec Ideal S512x1024 .bf16) (w : FVec Ideal S704x1024 .bf16) (e : FVec Ideal S1x1x512x704 .bf16) (r : Fin 512) (l : Fin 704) :
    k0_pay2 (F := Ideal) x w e (ix4 0 0 r l) = (k0_pay1 (F := Ideal) x w (ix2 r l) : EReal) * e (ix4 0 0 r l) := by
  unfold k0_pay2
  generalize k0_pay1 (F := Ideal) x w = z
  pointwise
theorem pay3_at (x : FVec Ideal S512x1024 .bf16) (w : FVec Ideal S704x1024 .bf16) (e : FVec Ideal S1x1x512x704 .bf16) (r : Fin 512) (l : Fin 704) :
    k0_pay3 (F := Ideal) x w e (ix4 0 0 r l) = (k0_pay1 (F := Ideal) x w (ix2 r l) : EReal) * e (ix4 0 0 r l) := pay2_at x w e r l

theorem out_is {x : FVec Ideal S512x1024 .bf16} {w : FVec Ideal S704x1024 .bf16} {e : FVec Ideal S2x1x512x704 .bf16} {fx : Fin 512 → Fin 1024 → ℝ}
    {fw : Fin 704 → Fin 1024 → ℝ} {fe : Fin 2 → Fin 1 → Fin 512 → Fin 704 → ℝ} (hx : Is2 x fx) (hw : Is2 w fw) (he : Is4 e fe) :
    Is4 (out0_3 (F := Ideal) x w e) fun s z r l => (∑ d, fx r d * fw l d) * fe s z r l := by
  intro s z r l
  obtain rfl : z = 0 := Subsingleton.elim _ _
  have hp : (k0_pay1 (F := Ideal) x w (ix2 r l) : EReal) = ((∑ d, fx r d * fw l d : ℝ) : EReal) :=
    (pay1_at x w r l).trans (sum_mulR (fun d => hx r d) (fun d => hw l d))
  unfold out0_3
  rw [View.ld_unit_zero (S := S512x1024) z2, View.ld_unit_zero (S := S704x1024) z2]
  have e0 (i : Fin 512) (k : Fin 704) : r0_2.emb (ix4 0 0 i k : S1x1x512x704.Idx) = (ix4 0 0 i k : S2x1x512x704.Idx) :=
    idx4 rfl rfl (by show 0 + 1 * i.val = i.val; omega) (by show 0 + 1 * k.val = k.val; omega)
  have e1 (i : Fin 512) (k : Fin 704) : r0_3.emb (ix4 0 0 i k : S1x1x512x704.Idx) = (ix4 1 0 i k : S2x1x512x704.Idx) :=
    idx4 rfl rfl (by show 0 + 1 * i.val = i.val; omega) (by show 0 + 1 * k.val = k.val; omega)
  fin_cases s
  · refine (View.canon_cons_of_not_mem _ _ ?_).trans ?_
    · intro h
      have h' : (ix4 0 0 r l : S2x1x512x704.Idx) ∈ r0_3.set := h
      unfold r0_3 at h'
      rw [Rect.mem_set_unit] at h'
      have h1 : 1 ≤ 0 := (h' 0).1
      omega
    · refine (congrArg (View.canon _) (e0 r l).symm).trans ((View.canon_cons_emb _ _ _ _).trans ((pay2_at x w _ r l).trans ?_))
      rw [hp]
      refine (congrArg (_ * ·) ((congrArg e (e0 r l)).trans (he 0 0 r l))).trans (mulR _ _)
  · refine (congrArg (View.canon _) (e1 r l).symm).trans ((View.canon_cons_emb _ _ _ _).trans ((pay3_at x w _ r l).trans ?_))
    rw [hp]
    refine (congrArg (_ * ·) ((congrArg e (e1 r l)).trans (he 1 0 r l))).trans (mulR _ _)

/-! Where the blocks lie, with `t = 4 i + j`. -/

def tr (t : Fin cfg0.N) (r : Fin 512) : Fin 8192 := ⟨512 * (t.val / 4) + r.val, by have h : t.val < 64 := lt_of_lt_of_eq t.isLt N_0; omega⟩
def tj (t : Fin cfg0.N) : Fin 4 := ⟨t.val % 4, by omega⟩

theorem idx_0 : ∀ t : Fin cfg0.N, win0_0.index t = ![t.val / 4, 0] :=
  (by decide +kernel : ∀ t : Fin grid0.N, win0_0.index t = ![t.val / 4, 0])
theorem idx_1 : ∀ t : Fin cfg0.N, win0_1.index t = ![t.val % 4, 0] :=
  (by decide +kernel : ∀ t : Fin grid0.N, win0_1.index t = ![t.val % 4, 0])
theorem idx_2 : ∀ t : Fin cfg0.N, win0_2.index t = ![0, t.val % 4, t.val / 4, 0] :=
  (by decide +kernel : ∀ t : Fin grid0.N, win0_2.index t = ![0, t.val % 4, t.val / 4, 0])
theorem idx_3 : ∀ t : Fin cfg0.N, win0_3.index t = ![0, t.val % 4, t.val / 4, 0] :=
  (by decide +kernel : ∀ t : Fin grid0.N, win0_3.index t = ![0, t.val % 4, t.val / 4, 0])

theorem rd_0 (X : FVec Ideal S8192x1024 .bf16) (t : Fin cfg0.N) (r : Fin 512) (d : Fin 1024) :
    (((cfg0.win 0).blk t).view.read (Elt Ideal) X : FVec Ideal S512x1024 .bf16) (ix2 r d) = X (ix2 (tr t r) d) := by
  unfold tr
  blk_ext [idx_0 t]
theorem rd_1 (X : FVec Ideal S2816x1024 .bf16) (t : Fin cfg0.N) (l : Fin 704) (d : Fin 1024) :
    (((cfg0.win 1).blk t).view.read (Elt Ideal) X : FVec Ideal S704x1024 .bf16) (ix2 l d) = X (ix2 (unit (tj t) l) d) := by
  unfold tj unit
  blk_ext [idx_1 t]
theorem rd_2 (X : FVec Ideal S2x4x8192x704 .bf16) (t : Fin cfg0.N) (s : Fin 2) (r : Fin 512) (l : Fin 704) :
    (((cfg0.win 2).blk t).view.read (Elt Ideal) X : FVec Ideal S2x1x512x704 .bf16) (ix4 s 0 r l) = X (ix4 s (tj t) (tr t r) l) := by
  unfold tj tr
  blk_ext [idx_2 t]
theorem wr_3 (X : FVec Ideal S2x4x8192x704 .bf16) (t : Fin cfg0.N) (s : Fin 2) (r : Fin 512) (l : Fin 704) :
    X (((cfg0.win 3).blk t).view.emb (ix4 s 0 r l : S2x1x512x704.Idx)) = X (ix4 s (tj t) (tr t r) l) := by
  unfold tj tr
  blk_ext [idx_3 t]

section Entry
variable (m : (ℓ : Loc nD τ sig) → Buf (Elt Ideal) ℓ) (c : Dev nD)

set_option maxHeartbeats 1600000 in
theorem entry : V m c main_v21 = saved (m ((c : Thread nD τ).loc main_arg1)) := by
  unfold V
  simp only [hostOps0, List.flatten_cons, List.flatten_nil, List.append_nil, List.cons_append, List.nil_append]
  entry_read
  rfl

variable {m c}

theorem put {X : FVec Ideal S2x4x8192x704 .bf16} (hX : Is4 X fun s j r l => n.p r (unit j l) * n.fac s r (unit j l)) (h0 : V m c main_arg0 = X0) (h2 : V m c main_arg2 = X2)
    (hs : V m c main_v21 = saved X1) (H : Hold n X0 X1 X2) (t : Fin cfg0.N) (s : Fin 2) (r : Fin 512) (l : Fin 704) :
    out0_3 (F := Ideal) (iblk m c 0 t) (iblk m c 1 t) (iblk m c 2 t) (ix4 s 0 r l) = X (((cfg0.win 3).blk t).view.emb (ix4 s 0 r l : S2x1x512x704.Idx)) := by
  have hS := saved_is H
  generalize saved X1 = Y at hs hS
  have e0 : iblk m c 0 t = ((cfg0.win 0).blk t).view.read (Elt Ideal) X0 := congrArg (((cfg0.win 0).blk t).view.read (Elt Ideal)) h0
  have e1 : iblk m c 1 t = ((cfg0.win 1).blk t).view.read (Elt Ideal) X2 := congrArg (((cfg0.win 1).blk t).view.read (Elt Ideal)) h2
  have e2 : iblk m c 2 t = ((cfg0.win 2).blk t).view.read (Elt Ideal) Y := congrArg (((cfg0.win 2).blk t).view.read (Elt Ideal)) hs
  rw [e0, e1, e2]
  refine (out_is (fx := fun r d => n.df (tr t r) d) (fw := fun l d => n.w (unit (tj t) l) d) (fe := fun s _ r l => n.fac s (tr t r) (unit (tj t) l))
    (fun r d => (rd_0 X0 t r d).trans (H.df _ _)) (fun l d => (rd_1 X2 t l d).trans (H.w _ _))
    (fun s z r l => by obtain rfl : z = 0 := Subsingleton.elim _ _; exact (rd_2 Y t s r l).trans (hS _ _ _ _)) s 0 r l).trans ?_
  exact ((wr_3 X t s r l).trans (hX _ _ _ _)).symm

theorem split4 (y : S2x1x512x704.Idx) : ∃ s r l, y = ix4 s 0 r l :=
  ⟨y 0, y 2, y 3, idx4 rfl (Nat.lt_one_iff.mp (y 1).isLt) rfl rfl⟩

theorem covers : (cfg0.win 3).Covers := by decide +kernel

theorem arr {X : FVec Ideal S2x4x8192x704 .bf16} (hX : Is4 X fun s j r l => n.p r (unit j l) * n.fac s r (unit j l)) (h0 : V m c main_arg0 = X0)
    (h2 : V m c main_arg2 = X2) (hs : V m c main_v21 = saved X1) (H : Hold n X0 X1 X2) : (dats m 0 c).arrAt 3 cfg0.N = X := by
  refine (dats m 0 c).arrAt_eq_of_covers 3 X covers fun t hf y => ?_
  rw [after0_3]
  have hp := fun s r l => put hX h0 h2 hs H t s r l
  generalize out0_3 (F := Ideal) (iblk m c 0 t) (iblk m c 1 t) (iblk m c 2 t) = O at hp ⊢
  obtain ⟨s, r, l, hy⟩ := split4 y
  rw [hy]
  exact hp s r l

theorem final (H : Hold n (m ((c : Thread nD τ).loc main_arg0)) (m ((c : Thread nD τ).loc main_arg1)) (m ((c : Thread nD τ).loc main_arg2))) :
    (dats m 0 c).arrAt 3 cfg0.N = val_main_v14 (F := Ideal) (m ((c : Thread nD τ).loc main_arg0)) (m ((c : Thread nD τ).loc main_arg1)) (m ((c : Thread nD τ).loc main_arg2)) :=
  arr (ref_is H) (V_main_arg0 m c) (V_main_arg2 m c) (entry m c) H

end Entry

end Fox.DxDown

end
-- ==== Proof.FiniteDown.lean ====
/- What the precondition of the hidden pair's gradient says: its arguments are real numbers. -/
module

public import proofs.«01_k».proof.Proof.Finite
public import proofs.«01_k».proof.Proof.DxDown

@[expose] public section

set_option maxRecDepth 16384

noncomputable section

namespace Fox.DxDown

open Idealize.ShloMosaic Cert.Pre_finite4

/-- The shape facts this precondition is stated with. -/
theorem preFacts : Cert.Pre_finite4.Facts where
  bitsLt_bf16_f32 := by decide +kernel
  bcast_S_S8192x1024 := by decide +kernel
  bcast_S_S8192x5632 := by decide +kernel
  bcast_S_S2816x1024 := by decide +kernel

/-- Under the precondition the arguments hold real numbers. -/
theorem hold_of_finite [Cert.Pre_finite4.Facts] {x0 : FVec Ideal S8192x1024 .bf16} {x1 : FVec Ideal S8192x5632 .f32} {x2 : FVec Ideal S2816x1024 .bf16}
    (h : (Cert.Pre_finite4.fn (F := Ideal) x0 x1 x2).1 = (fun _ => 1#1) ∧ (Cert.Pre_finite4.fn (F := Ideal) x0 x1 x2).2.1 = (fun _ => 1#1)
      ∧ (Cert.Pre_finite4.fn (F := Ideal) x0 x1 x2).2.2 = (fun _ => 1#1)) : ∃ n, Hold n x0 x1 x2 := by
  obtain ⟨h0, h1, h2⟩ := h
  have r0 := real_of_test Facts.bcast_S_S8192x1024 (x := (extf .f32 · Facts.bitsLt_bf16_f32) x0) (by exact h0)
  have r1 := real_of_test Facts.bcast_S_S8192x5632 (x := x1) (by exact h1)
  have r2 := real_of_test Facts.bcast_S_S2816x1024 (x := (extf .f32 · Facts.bitsLt_bf16_f32) x2) (by exact h2)
  exact ⟨{ df := fun r d => (x0 (ix2 r d) : EReal).toReal
           g := fun r q => (x1 (ix2 r (pairCol 0 q)) : EReal).toReal
           u := fun r q => (x1 (ix2 r (pairCol 1 q)) : EReal).toReal
           w := fun q d => (x2 (ix2 q d) : EReal).toReal },
    { df := fun r d => r0 (ix2 r d), g := fun r q => r1 (ix2 r (pairCol 0 q)), u := fun r q => r1 (ix2 r (pairCol 1 q)), w := fun q d => r2 (ix2 q d) }⟩

end Fox.DxDown

end
-- ==== Proof.UpFwd.lean ====
/- The forward product of the FFN's up projection: the gated activation and the two factors the backward pass multiplies by, as the
   kernel and the reference write them. -/
module

public import proofs.«01_k».proof.Proof.DxDown
public import proofs.«01_k».proof.Proof.Gen.Kernel5Ideal.Frame
public import proofs.«01_k».proof.Proof.Gen.Kernel5Ideal.Value
public import proofs.«01_k».proof.Proof.Gen.Reference5Ideal.Read

@[expose] public section

set_option maxRecDepth 16384

noncomputable section

namespace Fox.UpFwd

open Idealize.ShloMosaic Idealize.ShloMosaic.TcCoe Cert.Kernel5Ideal Cert.Kernel5Ideal.Gen Cert.Reference5Ideal.Read
open Fox.DxDown (pairCol pair_at)

/-- The arguments as real numbers: the normed activations and the weight in shards. -/
structure Nums where
  h : Fin 8192 → Fin 1024 → ℝ
  w : Fin 8 → Fin 1024 → Fin 704 → ℝ

/-- The shard of the weight that makes shard `j` of the half `s`. -/
def shard (s : Fin 2) (j : Fin 4) : Fin 8 := ⟨4 * s.val + j.val, by omega⟩

/-- The arrays hold the numbers. -/
structure Hold (n : Nums) (X0 : FVec Ideal S8192x1024 .bf16) (X1 : FVec Ideal S8x1024x704 .bf16) : Prop where
  h : Is2 X0 n.h
  w : Is3 X1 n.w

/-- The logistic function. -/
def lgt (x : ℝ) : ℝ := 1 / (1 + Real.exp (-x))
/-- The gated activation of a gate and a linear value. -/
def act (g u : ℝ) : ℝ := g * lgt g * u
/-- Its derivatives: by the gate at 0, by the linear value at 1. -/
def slope (g u : ℝ) (s : Fin 2) : ℝ := if s = 0 then u * (lgt g * (1 + g * (1 - lgt g))) else g * lgt g

namespace Nums
variable (n : Nums)
/-- The product with the weight: the half `s` at unit `l` of shard `j`. -/
def pre (s : Fin 2) (r : Fin 8192) (j : Fin 4) (l : Fin 704) : ℝ := ∑ d, n.h r d * n.w (shard s j) d l
end Nums

variable {n : Nums} {X0 : FVec Ideal S8192x1024 .bf16} {X1 : FVec Ideal S8x1024x704 .bf16}

/-! The reference. -/

theorem prod_is (H : Hold n X0 X1) (s : Fin 2) (r : Fin 8192) (j : Fin 4) (l : Fin 704) :
    val_main_v4 (F := Ideal) X0 X1 (ix2 r (pairCol s (unit j l))) = ((n.pre s r j l : ℝ) : EReal) := by
  rw [val_main_v4_apply]
  refine sum_mulR (fun k => (val_main_v0_apply (F := Ideal) X0 _).trans (H.h.get _ rfl rfl)) (fun k => ?_)
  rw [val_main_v3_apply, val_main_v2_apply, val_main_v1_apply]
  refine H.w.get _ ?_ ?_ ?_
  · show (k.val * 5632 + (2816 * s.val + (704 * j.val + l.val))) / 704 % 8 = 4 * s.val + j.val; omega
  · show (k.val * 5632 + (2816 * s.val + (704 * j.val + l.val))) / 5632 = k.val; omega
  · show (k.val * 5632 + (2816 * s.val + (704 * j.val + l.val))) % 704 = l.val; omega

theorem gate_is (H : Hold n X0 X1) (r : Fin 8192) (j : Fin 4) (l : Fin 704) :
    val_main_v5 (F := Ideal) X0 X1 (ix2 r (unit j l)) = ((n.pre 0 r j l : ℝ) : EReal) := by
  rw [val_main_v5_apply]
  exact (congrArg _ (idx2 rfl (by show 704 * j.val + l.val = 2816 * 0 + (704 * j.val + l.val); omega))).trans (prod_is H 0 r j l)
theorem lin_is (H : Hold n X0 X1) (r : Fin 8192) (j : Fin 4) (l : Fin 704) :
    val_main_v6 (F := Ideal) X0 X1 (ix2 r (unit j l)) = ((n.pre 1 r j l : ℝ) : EReal) := by
  rw [val_main_v6_apply]
  exact (congrArg _ (idx2 rfl (by show 2816 + (704 * j.val + l.val) = 2816 * 1 + (704 * j.val + l.val); omega))).trans (prod_is H 1 r j l)
theorem ones_2 (i : Cert.Reference5Ideal.S8192x2816.Idx) : val_main_call0_v2 (F := Ideal) i = ((1 : ℝ) : EReal) := by
  rw [val_main_call0_v2_apply]
  exact oneBits
theorem ones_4 (i : Cert.Reference5Ideal.S8192x2816.Idx) : val_main_call0_v4 (F := Ideal) i = ((1 : ℝ) : EReal) := by
  rw [val_main_call0_v4_apply]
  exact oneBits
theorem ones_6 (i : Cert.Reference5Ideal.S8192x2816.Idx) : val_main_call0_v6 (F := Ideal) i = ((1 : ℝ) : EReal) := by
  rw [val_main_call0_v6_apply]
  exact oneBits
theorem ones_9 (i : Cert.Reference5Ideal.S8192x2816.Idx) : val_main_v9 (F := Ideal) i = ((1 : ℝ) : EReal) := by
  rw [val_main_v9_apply]
  exact oneBits
theorem sg_is (H : Hold n X0 X1) (r : Fin 8192) (j : Fin 4) (l : Fin 704) :
    val_main_v7_2 (F := Ideal) X0 X1 (ix2 r (unit j l)) = ((lgt (n.pre 0 r j l) : ℝ) : EReal) := by
  rw [val_main_v7_2_apply, val_main_call0_v3_apply, val_main_call0_v1_apply, val_main_call0_v0_apply, gate_is H r j l, ones_2, ones_4]
  show Ideal.div ((1 : ℝ) : EReal) (((1 : ℝ) : EReal) + Ideal.exp (-((n.pre 0 r j l : ℝ) : EReal))) = _
  rw [negR, expR, addR, divR _ (by positivity)]
  rfl
theorem swish_is (H : Hold n X0 X1) (r : Fin 8192) (j : Fin 4) (l : Fin 704) :
    val_main_v7_0 (F := Ideal) X0 X1 (ix2 r (unit j l)) = ((n.pre 0 r j l * lgt (n.pre 0 r j l) : ℝ) : EReal) := by
  rw [val_main_v7_0_apply, gate_is H r j l, sg_is H r j l]
  exact mulR _ _

theorem refA_is (H : Hold n X0 X1) : Is3 (a := 4) (b := 8192) (c := 704) (val_main_v16 (F := Ideal) X0 X1)
    fun j r l => act (n.pre 0 r j l) (n.pre 1 r j l) := fun j r l => by
  rw [val_main_v16_apply, val_main_v15_apply, val_main_v14_apply]
  show (val_main_v8 (F := Ideal) X0 X1 _ : EReal) = _
  have hi : idx_main_v14 (idx_main_v15 (ix3 j r l : S4x8192x704.Idx)) = ix2 r (unit j l) := idx2
    (by show ((r.val * 4 + j.val) * 704 + l.val) / 2816 = r.val; omega)
    (by show ((r.val * 4 + j.val) * 704 + l.val) % 2816 = 704 * j.val + l.val; omega)
  rw [hi, val_main_v8_apply, swish_is H r j l, lin_is H r j l]
  exact mulR _ _

theorem refG_is (H : Hold n X0 X1) (r : Fin 8192) (j : Fin 4) (l : Fin 704) :
    val_main_v12 (F := Ideal) X0 X1 (ix2 r (unit j l)) = ((slope (n.pre 0 r j l) (n.pre 1 r j l) 0 : ℝ) : EReal) := by
  rw [val_main_v12_apply, val_main_call1_v2_apply, val_main_call1_v1_apply, val_main_call1_v0_apply, val_main_v11_apply, val_main_v7_1_apply,
    val_main_call0_v7_apply, sg_is H r j l, gate_is H r j l, lin_is H r j l, ones_6, ones_9]
  generalize n.pre 0 r j l = g
  generalize n.pre 1 r j l = u
  show (((1 : ℝ) : EReal) * (u : EReal)) * (lgt g : EReal) + ((g : EReal) * (((1 : ℝ) : EReal) * (u : EReal))) * ((lgt g : EReal) * (((1 : ℝ) : EReal) - (lgt g : EReal))) = _
  simp only [subR, mulR, addR]
  refine congrArg _ ?_
  show _ = u * (lgt g * (1 + g * (1 - lgt g)))
  ring
theorem refU_is (H : Hold n X0 X1) (r : Fin 8192) (j : Fin 4) (l : Fin 704) :
    val_main_v10 (F := Ideal) X0 X1 (ix2 r (unit j l)) = ((slope (n.pre 0 r j l) (n.pre 1 r j l) 1 : ℝ) : EReal) := by
  rw [val_main_v10_apply, swish_is H r j l, ones_9]
  refine (mulR _ _).trans (congrArg _ (mul_one _))

theorem refS_is (H : Hold n X0 X1) : Is4 (a := 2) (b := 4) (c := 8192) (d := 704) (val_main_v19 (F := Ideal) X0 X1)
    fun s j r l => slope (n.pre 0 r j l) (n.pre 1 r j l) s := fun s j r l => by
  rw [val_main_v19_apply, val_main_v18_apply, val_main_v17_apply]
  show (val_main_v13 (F := Ideal) X0 X1 _ : EReal) = _
  have hi : idx_main_v17 (idx_main_v18 (ix4 s j r l : S2x4x8192x704.Idx)) = ix2 r (pairCol s (unit j l)) := idx2
    (by show (((r.val * 2 + s.val) * 4 + j.val) * 704 + l.val) / 5632 = r.val; omega)
    (by show (((r.val * 2 + s.val) * 4 + j.val) * 704 + l.val) % 5632 = 2816 * s.val + (704 * j.val + l.val); omega)
  rw [hi]
  refine (pair_at (val_main_v12 (F := Ideal) X0 X1) (val_main_v10 (F := Ideal) X0 X1) _ s r (unit j l)).trans ?_
  fin_cases s
  · exact refG_is H r j l
  · exact refU_is H r j l

/-! A grid point. -/

variable {x : FVec Ideal S512x1024 .bf16} {wg wu : FVec Ideal S1x1024x704 .bf16} {fx : Fin 512 → Fin 1024 → ℝ} {fg fu : Fin 1 → Fin 1024 → Fin 704 → ℝ}

/-- The product of a block of rows with one shard. -/
def dotR (fx : Fin 512 → Fin 1024 → ℝ) (fw : Fin 1 → Fin 1024 → Fin 704 → ℝ) (r : Fin 512) (l : Fin 704) : ℝ := ∑ d, fx r d * fw 0 d l

theorem pay2_at (x : FVec Ideal S512x1024 .bf16) (w : FVec Ideal S1x1024x704 .bf16) (r : Fin 512) (l : Fin 704) :
    k0_pay2 (F := Ideal) x w (ix2 r l) = ∑ d : Fin 1024, (x (ix2 r d) : EReal) * w (ix3 0 d l) := by
  pointwise [k0_pay2]
theorem pay2_is (hx : Is2 x fx) (hg : Is3 wg fg) : Is2 (a := 512) (b := 704) (k0_pay2 (F := Ideal) x wg) (dotR fx fg) := fun r l =>
  (pay2_at x wg r l).trans (sum_mulR (fun d => hx r d) (fun d => hg 0 d l))
theorem pay3_is (hx : Is2 x fx) (hu : Is3 wu fu) : Is2 (a := 512) (b := 704) (k0_pay3 (F := Ideal) x wu) (dotR fx fu) := pay2_is hx hu
theorem pay4_is (hx : Is2 x fx) (hg : Is3 wg fg) : Is2 (a := 512) (b := 704) (k0_pay4 (F := Ideal) x wg) fun r l => lgt (dotR fx fg r l) := fun r l => by
  have hp := pay2_is hx hg r l
  unfold k0_pay4
  generalize k0_pay2 (F := Ideal) x wg = z at hp ⊢
  show Ideal.div (Ideal.ofBits .f32 0x3F800000#32) (Ideal.ofBits .f32 0x3F800000#32 + Ideal.exp (Ideal.ofBits .f32 0x00000000#32 - (z (ix2 r l) : EReal))) = _
  rw [hp, oneBits, zeroBits, zero_sub, negR, expR, addR, divR _ (by positivity)]
  rfl
theorem pay5_is (hx : Is2 x fx) (hg : Is3 wg fg) : Is2 (a := 512) (b := 704) (k0_pay5 (F := Ideal) x wg) fun r l => dotR fx fg r l * lgt (dotR fx fg r l) := fun r l => by
  show (k0_pay2 (F := Ideal) x wg (ix2 r l) : EReal) * k0_pay4 (F := Ideal) x wg (ix2 r l) = _
  rw [pay2_is hx hg r l, pay4_is hx hg r l]
  exact mulR _ _

theorem pay6_is (hx : Is2 x fx) (hg : Is3 wg fg) (hu : Is3 wu fu) (r : Fin 512) (l : Fin 704) :
    k0_pay6 (F := Ideal) x wg wu (ix3 0 r l) = ((act (dotR fx fg r l) (dotR fx fu r l) : ℝ) : EReal) := by
  have h5 := pay5_is hx hg r l
  have h3 := pay3_is hx hu r l
  unfold k0_pay6
  generalize k0_pay5 (F := Ideal) x wg = a at h5 ⊢
  generalize k0_pay3 (F := Ideal) x wu = b at h3 ⊢
  have e : (a (ix2 r l) : EReal) * b (ix2 r l) = ((act (dotR fx fg r l) (dotR fx fu r l) : ℝ) : EReal) := by rw [h5, h3]; exact mulR _ _
  refine Eq.trans ?_ e
  pointwise
theorem pay7_is (hx : Is2 x fx) (hg : Is3 wg fg) (hu : Is3 wu fu) (r : Fin 512) (l : Fin 704) :
    k0_pay7 (F := Ideal) x wg wu (ix4 0 0 r l) = ((slope (dotR fx fg r l) (dotR fx fu r l) 0 : ℝ) : EReal) := by
  have h2 := pay2_is hx hg r l
  have h4 := pay4_is hx hg r l
  have h3 := pay3_is hx hu r l
  unfold k0_pay7
  generalize k0_pay2 (F := Ideal) x wg = a at h2 ⊢
  generalize k0_pay4 (F := Ideal) x wg = s at h4 ⊢
  generalize k0_pay3 (F := Ideal) x wu = b at h3 ⊢
  have e : (b (ix2 r l) : EReal) * (s (ix2 r l) * (Ideal.ofBits .f32 0x3F800000#32 + a (ix2 r l) * (Ideal.ofBits .f32 0x3F800000#32 - s (ix2 r l))))
      = ((slope (dotR fx fg r l) (dotR fx fu r l) 0 : ℝ) : EReal) := by
    rw [h2, h3, h4, oneBits]
    simp only [subR, mulR, addR]
    rfl
  refine Eq.trans ?_ e
  refine (shapeCast_apply _ _ _ (ix2 r l : S512x704.Idx) ?_).trans rfl
  rewrite [Shape.rowMajor_val_two, Shape.rowMajor_val_four]
  show r.val * 704 + l.val = ((0 * 1 + 0) * 512 + r.val) * 704 + l.val
  omega
theorem pay8_is (hx : Is2 x fx) (hg : Is3 wg fg) (r : Fin 512) (l : Fin 704) (u : ℝ) :
    k0_pay1 (F := Ideal) (k0_pay8 (F := Ideal) x wg) (ix4 0 0 r l) = ((slope (dotR fx fg r l) u 1 : ℝ) : EReal) := by
  have h5 := pay5_is hx hg r l
  unfold k0_pay8
  generalize k0_pay5 (F := Ideal) x wg = a at h5 ⊢
  refine Eq.trans ?_ h5
  refine (shapeCast_apply _ _ _ (ix2 r l : S512x704.Idx) ?_).trans rfl
  rewrite [Shape.rowMajor_val_two, Shape.rowMajor_val_four]
  show r.val * 704 + l.val = ((0 * 1 + 0) * 512 + r.val) * 704 + l.val
  omega

theorem outA_is (hx : Is2 x fx) (hg : Is3 wg fg) (hu : Is3 wu fu) (r : Fin 512) (l : Fin 704) :
    out0_3 (F := Ideal) x wg wu (ix3 0 r l) = ((act (dotR fx fg r l) (dotR fx fu r l) : ℝ) : EReal) := by
  unfold out0_3
  rw [View.canon_unit_zero z3, View.ld_unit_zero (S := S512x1024) z2, View.ld_unit_zero (S := S1x1024x704) z3, View.ld_unit_zero (S := S1x1024x704) z3]
  exact pay6_is hx hg hu r l

theorem outS_is (hx : Is2 x fx) (hg : Is3 wg fg) (hu : Is3 wu fu) (s : Fin 2) (r : Fin 512) (l : Fin 704) :
    out0_4 (F := Ideal) x wg wu (ix4 s 0 r l) = ((slope (dotR fx fg r l) (dotR fx fu r l) s : ℝ) : EReal) := by
  unfold out0_4
  rw [View.ld_unit_zero (S := S512x1024) z2, View.ld_unit_zero (S := S1x1024x704) z3, View.ld_unit_zero (S := S1x1024x704) z3]
  have e0 : r0_3.emb (ix4 0 0 r l : S1x1x512x704.Idx) = (ix4 0 0 r l : S2x1x512x704.Idx) :=
    idx4 rfl rfl (by show 0 + 1 * r.val = r.val; omega) (by show 0 + 1 * l.val = l.val; omega)
  have e1 : r0_4.emb (ix4 0 0 r l : S1x1x512x704.Idx) = (ix4 1 0 r l : S2x1x512x704.Idx) :=
    idx4 rfl rfl (by show 0 + 1 * r.val = r.val; omega) (by show 0 + 1 * l.val = l.val; omega)
  fin_cases s
  · refine (View.canon_cons_of_not_mem _ _ ?_).trans ?_
    · intro h
      have h' : (ix4 0 0 r l : S2x1x512x704.Idx) ∈ r0_4.set := h
      unfold r0_4 at h'
      rw [Rect.mem_set_unit] at h'
      have h1 : 1 ≤ 0 := (h' 0).1
      omega
    · exact (congrArg (View.canon _) e0.symm).trans ((View.canon_cons_emb _ _ _ _).trans (pay7_is hx hg hu r l))
  · exact (congrArg (View.canon _) e1.symm).trans ((View.canon_cons_emb _ _ _ _).trans (pay8_is hx hg r l _))

/-! Where the blocks lie, with `t = 16 j + i`. -/

def tr (t : Fin cfg0.N) (r : Fin 512) : Fin 8192 := ⟨512 * (t.val % 16) + r.val, by omega⟩
def tj (t : Fin cfg0.N) : Fin 4 := ⟨t.val / 16, by have h : t.val < 64 := lt_of_lt_of_eq t.isLt N_0; omega⟩

theorem idx_0 : ∀ t : Fin cfg0.N, win0_0.index t = ![t.val % 16, 0] :=
  (by decide +kernel : ∀ t : Fin grid0.N, win0_0.index t = ![t.val % 16, 0])
theorem idx_1 : ∀ t : Fin cfg0.N, win0_1.index t = ![t.val / 16, 0, 0] :=
  (by decide +kernel : ∀ t : Fin grid0.N, win0_1.index t = ![t.val / 16, 0, 0])
theorem idx_2 : ∀ t : Fin cfg0.N, win0_2.index t = ![4 + t.val / 16, 0, 0] :=
  (by decide +kernel : ∀ t : Fin grid0.N, win0_2.index t = ![4 + t.val / 16, 0, 0])
theorem idx_3 : ∀ t : Fin cfg0.N, win0_3.index t = ![t.val / 16, t.val % 16, 0] :=
  (by decide +kernel : ∀ t : Fin grid0.N, win0_3.index t = ![t.val / 16, t.val % 16, 0])
theorem idx_4 : ∀ t : Fin cfg0.N, win0_4.index t = ![0, t.val / 16, t.val % 16, 0] :=
  (by decide +kernel : ∀ t : Fin grid0.N, win0_4.index t = ![0, t.val / 16, t.val % 16, 0])

theorem rd_0 (X : FVec Ideal S8192x1024 .bf16) (t : Fin cfg0.N) (r : Fin 512) (d : Fin 1024) :
    (((cfg0.win 0).blk t).view.read (Elt Ideal) X : FVec Ideal S512x1024 .bf16) (ix2 r d) = X (ix2 (tr t r) d) := by
  unfold tr
  blk_ext [idx_0 t]
theorem rd_1 (X : FVec Ideal S8x1024x704 .bf16) (t : Fin cfg0.N) (d : Fin 1024) (l : Fin 704) :
    (((cfg0.win 1).blk t).view.read (Elt Ideal) X : FVec Ideal S1x1024x704 .bf16) (ix3 0 d l) = X (ix3 (shard 0 (tj t)) d l) := by
  unfold tj shard
  blk_ext [idx_1 t]
theorem rd_2 (X : FVec Ideal S8x1024x704 .bf16) (t : Fin cfg0.N) (d : Fin 1024) (l : Fin 704) :
    (((cfg0.win 2).blk t).view.read (Elt Ideal) X : FVec Ideal S1x1024x704 .bf16) (ix3 0 d l) = X (ix3 (shard 1 (tj t)) d l) := by
  unfold tj shard
  blk_ext [idx_2 t]
theorem wr_3 (X : FVec Ideal S4x8192x704 .bf16) (t : Fin cfg0.N) (r : Fin 512) (l : Fin 704) :
    X (((cfg0.win 3).blk t).view.emb (ix3 0 r l : S1x512x704.Idx)) = X (ix3 (tj t) (tr t r) l) := by
  unfold tj tr
  blk_ext [idx_3 t]
theorem wr_4 (X : FVec Ideal S2x4x8192x704 .bf16) (t : Fin cfg0.N) (s : Fin 2) (r : Fin 512) (l : Fin 704) :
    X (((cfg0.win 4).blk t).view.emb (ix4 s 0 r l : S2x1x512x704.Idx)) = X (ix4 s (tj t) (tr t r) l) := by
  unfold tj tr
  blk_ext [idx_4 t]

section Arrays
variable {m : (ℓ : Loc nD τ sig) → Buf (Elt Ideal) ℓ} {c : Dev nD}

/-- The blocks a grid point reads hold the numbers. -/
theorem blocks (h0 : V m c main_arg0 = X0) (h1 : V m c main_arg1 = X1) (H : Hold n X0 X1) (t : Fin cfg0.N) :
    Is2 (a := 512) (b := 1024) (iblk m c 0 t) (fun r d => n.h (tr t r) d)
      ∧ Is3 (a := 1) (b := 1024) (c := 704) (iblk m c 1 t) (fun _ d l => n.w (shard 0 (tj t)) d l)
      ∧ Is3 (a := 1) (b := 1024) (c := 704) (iblk m c 2 t) (fun _ d l => n.w (shard 1 (tj t)) d l) := by
  have e0 : iblk m c 0 t = ((cfg0.win 0).blk t).view.read (Elt Ideal) X0 := congrArg (((cfg0.win 0).blk t).view.read (Elt Ideal)) h0
  have e1 : iblk m c 1 t = ((cfg0.win 1).blk t).view.read (Elt Ideal) X1 := congrArg (((cfg0.win 1).blk t).view.read (Elt Ideal)) h1
  have e2 : iblk m c 2 t = ((cfg0.win 2).blk t).view.read (Elt Ideal) X1 := congrArg (((cfg0.win 2).blk t).view.read (Elt Ideal)) h1
  rw [e0, e1, e2]
  refine ⟨fun r d => (rd_0 X0 t r d).trans (H.h _ _), fun z d l => ?_, fun z d l => ?_⟩
  · obtain rfl : z = 0 := Subsingleton.elim _ _
    exact (rd_1 X1 t d l).trans (H.w _ _ _)
  · obtain rfl : z = 0 := Subsingleton.elim _ _
    exact (rd_2 X1 t d l).trans (H.w _ _ _)

theorem putA {X : FVec Ideal S4x8192x704 .bf16} (hX : Is3 X fun j r l => act (n.pre 0 r j l) (n.pre 1 r j l)) (h0 : V m c main_arg0 = X0)
    (h1 : V m c main_arg1 = X1) (H : Hold n X0 X1) (t : Fin cfg0.N) (r : Fin 512) (l : Fin 704) :
    out0_3 (F := Ideal) (iblk m c 0 t) (iblk m c 1 t) (iblk m c 2 t) (ix3 0 r l) = X (((cfg0.win 3).blk t).view.emb (ix3 0 r l : S1x512x704.Idx)) := by
  obtain ⟨b0, b1, b2⟩ := blocks h0 h1 H t
  exact (outA_is b0 b1 b2 r l).trans ((wr_3 X t r l).trans (hX _ _ _)).symm
theorem putS {X : FVec Ideal S2x4x8192x704 .bf16} (hX : Is4 X fun s j r l => slope (n.pre 0 r j l) (n.pre 1 r j l) s) (h0 : V m c main_arg0 = X0)
    (h1 : V m c main_arg1 = X1) (H : Hold n X0 X1) (t : Fin cfg0.N) (s : Fin 2) (r : Fin 512) (l : Fin 704) :
    out0_4 (F := Ideal) (iblk m c 0 t) (iblk m c 1 t) (iblk m c 2 t) (ix4 s 0 r l) = X (((cfg0.win 4).blk t).view.emb (ix4 s 0 r l : S2x1x512x704.Idx)) := by
  obtain ⟨b0, b1, b2⟩ := blocks h0 h1 H t
  exact (outS_is b0 b1 b2 s r l).trans ((wr_4 X t s r l).trans (hX _ _ _ _)).symm

theorem split3 (y : S1x512x704.Idx) : ∃ r l, y = ix3 0 r l := ⟨y 1, y 2, idx3 (Nat.lt_one_iff.mp (y 0).isLt) rfl rfl⟩
theorem split4 (y : S2x1x512x704.Idx) : ∃ s r l, y = ix4 s 0 r l := ⟨y 0, y 2, y 3, idx4 rfl (Nat.lt_one_iff.mp (y 1).isLt) rfl rfl⟩

theorem coversA : (cfg0.win 3).Covers := by decide +kernel
theorem coversS : (cfg0.win 4).Covers := by decide +kernel

theorem arrA {X : FVec Ideal S4x8192x704 .bf16} (hX : Is3 X fun j r l => act (n.pre 0 r j l) (n.pre 1 r j l)) (h0 : V m c main_arg0 = X0)
    (h1 : V m c main_arg1 = X1) (H : Hold n X0 X1) : (dats m 0 c).arrAt 3 cfg0.N = X := by
  refine (dats m 0 c).arrAt_eq_of_covers 3 X coversA fun t hf y => ?_
  rw [after0_3]
  have hp := fun r l => putA hX h0 h1 H t r l
  generalize out0_3 (F := Ideal) (iblk m c 0 t) (iblk m c 1 t) (iblk m c 2 t) = O at hp ⊢
  obtain ⟨r, l, hy⟩ := split3 y
  rw [hy]
  exact hp r l
theorem arrS {X : FVec Ideal S2x4x8192x704 .bf16} (hX : Is4 X fun s j r l => slope (n.pre 0 r j l) (n.pre 1 r j l) s) (h0 : V m c main_arg0 = X0)
    (h1 : V m c main_arg1 = X1) (H : Hold n X0 X1) : (dats m 0 c).arrAt 4 cfg0.N = X := by
  refine (dats m 0 c).arrAt_eq_of_covers 4 X coversS fun t hf y => ?_
  rw [after0_4]
  have hp := fun s r l => putS hX h0 h1 H t s r l
  generalize out0_4 (F := Ideal) (iblk m c 0 t) (iblk m c 1 t) (iblk m c 2 t) = O at hp ⊢
  obtain ⟨s, r, l, hy⟩ := split4 y
  rw [hy]
  exact hp s r l

theorem finalA (H : Hold n (m ((c : Thread nD τ).loc main_arg0)) (m ((c : Thread nD τ).loc main_arg1))) :
    (dats m 0 c).arrAt 3 cfg0.N = val_main_v16 (F := Ideal) (m ((c : Thread nD τ).loc main_arg0)) (m ((c : Thread nD τ).loc main_arg1)) :=
  arrA (refA_is H) (V_main_arg0 m c) (V_main_arg1 m c) H
theorem finalS (H : Hold n (m ((c : Thread nD τ).loc main_arg0)) (m ((c : Thread nD τ).loc main_arg1))) :
    (dats m 0 c).arrAt 4 cfg0.N = val_main_v19 (F := Ideal) (m ((c : Thread nD τ).loc main_arg0)) (m ((c : Thread nD τ).loc main_arg1)) :=
  arrS (refS_is H) (V_main_arg0 m c) (V_main_arg1 m c) H

end Arrays

end Fox.UpFwd

end
-- ==== Proof.FiniteUp.lean ====
/- What the precondition of the up projection's forward product says: its arguments are real numbers. -/
module

public import proofs.«01_k».proof.Proof.Finite
public import proofs.«01_k».proof.Proof.UpFwd

@[expose] public section

set_option maxRecDepth 16384

noncomputable section

namespace Fox.UpFwd

open Idealize.ShloMosaic Cert.Pre_finite5

/-- The shape facts this precondition is stated with. -/
theorem preFacts : Cert.Pre_finite5.Facts where
  bitsLt_bf16_f32 := by decide +kernel
  bcast_S_S8192x1024 := by decide +kernel
  bcast_S_S8x1024x704 := by decide +kernel

/-- Under the precondition the arguments hold real numbers. -/
theorem hold_of_finite [Cert.Pre_finite5.Facts] {x0 : FVec Ideal S8192x1024 .bf16} {x1 : FVec Ideal S8x1024x704 .bf16}
    (h : (Cert.Pre_finite5.fn (F := Ideal) x0 x1).1 = (fun _ => 1#1) ∧ (Cert.Pre_finite5.fn (F := Ideal) x0 x1).2 = (fun _ => 1#1)) :
    ∃ n, Hold n x0 x1 := by
  obtain ⟨h0, h1⟩ := h
  have r0 := real_of_test Facts.bcast_S_S8192x1024 (x := (extf .f32 · Facts.bitsLt_bf16_f32) x0) (by exact h0)
  have r1 := real_of_test Facts.bcast_S_S8x1024x704 (x := (extf .f32 · Facts.bitsLt_bf16_f32) x1) (by exact h1)
  exact ⟨{ h := fun r d => (x0 (ix2 r d) : EReal).toReal, w := fun j d l => (x1 (ix3 j d l) : EReal).toReal },
    { h := fun r d => r0 (ix2 r d), w := fun j d l => r1 (ix3 j d l) }⟩

end Fox.UpFwd

end
-- ==== Proof.DownFwd.lean ====
/- The forward product of the FFN's down projection with its residual and the next layer's norm, as the kernel and the reference write
   them: the kernel adds the four shards' products, the reference sums over all hidden units at once. -/
module

public import proofs.«01_k».proof.Proof.Halves
public import proofs.«01_k».proof.Proof.Point
public import proofs.«01_k».proof.Proof.Gen.Kernel6Ideal.Frame
public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Fox.DownFwd

open Cert.Reference6Ideal (S2x4096x1024 S2x4096 S2x4096x1)
open Idealize.ShloMosaic Idealize.ShloMosaic.TcCoe Cert.Kernel6Ideal Cert.Kernel6Ideal.Gen Cert.Reference6Ideal.Read

/-- The hidden units shard by shard: addition is commutative and associative on all extended reals. -/
theorem sum_units (f : Fin 2816 → EReal) :
    ∑ k, f k = (∑ l, f (unit 0 l)) + (∑ l, f (unit 1 l)) + (∑ l, f (unit 2 l)) + ∑ l, f (unit 3 l) := by
  refine (Fin.sum_univ_add (a := 2112) (b := 704) f).trans (congrArg₂ (· + ·) ?_ ?_)
  · refine (Fin.sum_univ_add (a := 1408) (b := 704) _).trans (congrArg₂ (· + ·) ?_ ?_)
    · refine (Fin.sum_univ_add (a := 704) (b := 704) _).trans (congrArg₂ (· + ·) ?_ ?_)
      · exact Finset.sum_congr rfl fun l _ => congrArg f (Fin.ext (by show l.val = 704 * 0 + l.val; omega))
      · exact Finset.sum_congr rfl fun l _ => congrArg f (Fin.ext rfl)
    · exact Finset.sum_congr rfl fun l _ => congrArg f (Fin.ext rfl)
  · exact Finset.sum_congr rfl fun l _ => congrArg f (Fin.ext rfl)

/-! The values both sides come to. -/

/-- The product of the activations with the weight. -/
def prod (a : Fin 4 → Fin 704 → EReal) (w : Fin 2816 → EReal) : EReal :=
  (∑ l, a 0 l * w (unit 0 l)) + (∑ l, a 1 l * w (unit 1 l)) + (∑ l, a 2 l * w (unit 2 l)) + ∑ l, a 3 l * w (unit 3 l)
/-- The residual: the product scaled by the gate, added to the stream. -/
def res (x g p : EReal) : EReal := x + Ideal.ofBits .f32 0x3F000000#32 * (Ideal.ofBits .f32 0x3F800000#32 + g) * p
/-- The norm of a row, scaled and shifted. -/
def norm (y : Fin 1024 → EReal) (d : Fin 1024) (gn sc sh : EReal) : EReal :=
  y d * Ideal.rsqrt (Ideal.div (∑ k, y k * y k) (Ideal.ofBits .f32 0x44800000#32) + Ideal.ofBits .f32 0x358637BD#32) * gn
    * (Ideal.ofBits .f32 0x3F800000#32 + sc) + sh

/-- The sequence a row belongs to, and its place there. -/
def seq (r : Fin 8192) : Fin 2 := ⟨r.val / 4096, by omega⟩
def tok (r : Fin 8192) : Fin 4096 := ⟨r.val % 4096, by omega⟩

section Values
variable (X0 : FVec Ideal S4x8192x704 .bf16) (X1 : FVec Ideal S2816x1024 .bf16) (X2 : FVec Ideal S8192x1024 .f32) (X3 : FVec Ideal S2x1x1024 .f32)
  (X4 : FVec Ideal S1x1024 .f32) (X5 X6 : FVec Ideal S2x1x1024 .f32)

def F (r : Fin 8192) (d : Fin 1024) : EReal := prod (fun j l => X0 (ix3 j r l)) (fun q => X1 (ix2 q d))
def R (r : Fin 8192) (d : Fin 1024) : EReal := res (X2 (ix2 r d)) (X3 (ix3 (seq r) 0 d)) (F X0 X1 r d)
def N (r : Fin 8192) (d : Fin 1024) : EReal := norm (R X0 X1 X2 X3 r) d (X4 (ix2 0 d)) (X5 (ix3 (seq r) 0 d)) (X6 (ix3 (seq r) 0 d))

/-! The reference. -/

theorem ref4 (r : Fin 8192) (d : Fin 1024) : (val_main_v4 (F := Ideal) X0 X1 (ix2 r d) : EReal) = F X0 X1 r d := by
  rw [val_main_v4_apply, sum_units]
  have h (j : Fin 4) (l : Fin 704) : (val_main_v2 (F := Ideal) X0 (lidx_main_v4 (ix2 r d : S8192x1024.Idx) (unit j l)) : EReal)
      * val_main_v3 (F := Ideal) X1 (ridx_main_v4 (ix2 r d : S8192x1024.Idx) (unit j l)) = X0 (ix3 j r l) * X1 (ix2 (unit j l) d) := by
    rw [val_main_v2_apply, val_main_v1_apply, val_main_v0_apply, val_main_v3_apply]
    refine congrArg₂ (fun a b : EReal => a * b) (congrArg X0 (idx3 ?_ ?_ ?_)) (congrArg X1 (idx2 rfl rfl))
    · show (r.val * 2816 + (704 * j.val + l.val)) / 704 % 4 = j.val; omega
    · show (r.val * 2816 + (704 * j.val + l.val)) / 2816 = r.val; omega
    · show (r.val * 2816 + (704 * j.val + l.val)) % 704 = l.val; omega
  simp only [h]
  rfl

theorem ref5 (b : Fin 2) (i : Fin 4096) (d : Fin 1024) : (val_main_v5 (F := Ideal) X0 X1 (ix3 b i d) : EReal) = F X0 X1 (row b i) d := by
  rw [val_main_v5_apply]
  refine (congrArg (val_main_v4 (F := Ideal) X0 X1) (idx2 ?_ ?_)).trans (ref4 X0 X1 (row b i) d)
  · show ((b.val * 4096 + i.val) * 1024 + d.val) / 1024 = 4096 * b.val + i.val; omega
  · show ((b.val * 4096 + i.val) * 1024 + d.val) % 1024 = d.val; omega

theorem seq_row (b : Fin 2) (i : Fin 4096) : seq (row b i) = b := Fin.ext (by show (4096 * b.val + i.val) / 4096 = b.val; omega)

theorem ref13 (b : Fin 2) (i : Fin 4096) (d : Fin 1024) : (val_main_v13 (F := Ideal) X0 X1 X2 X3 (ix3 b i d) : EReal) = R X0 X1 X2 X3 (row b i) d := by
  rw [val_main_v13_apply, val_main_v12_apply, val_main_v11_apply, val_main_v10_apply, val_main_v9_apply, val_main_v8_apply, val_main_v7_apply,
    val_main_v6_apply, ref5]
  unfold R
  rw [seq_row]
  have e2 : idx_main_v6 (ix3 b i d : S2x4096x1024.Idx) = ix2 (row b i) d := idx2
    (by show ((b.val * 4096 + i.val) * 1024 + d.val) / 1024 = 4096 * b.val + i.val; omega)
    (by show ((b.val * 4096 + i.val) * 1024 + d.val) % 1024 = d.val; omega)
  have e3 : idx_main_v11 (ix3 b i d : S2x4096x1024.Idx) = ix3 b 0 d := idx3 rfl rfl rfl
  rw [e2, e3]
  rfl

theorem ref21 (b : Fin 2) (i : Fin 4096) (z : Fin 1) : (val_main_v21 (F := Ideal) X0 X1 X2 X3 (ix3 b i z) : EReal)
    = Ideal.rsqrt (Ideal.div (∑ k, R X0 X1 X2 X3 (row b i) k * R X0 X1 X2 X3 (row b i) k) (Ideal.ofBits .f32 0x44800000#32) + Ideal.ofBits .f32 0x358637BD#32) := by
  have h15 : (val_main_v15 (F := Ideal) X0 X1 X2 X3 (ix2 b i) : EReal) = ∑ k, R X0 X1 X2 X3 (row b i) k * R X0 X1 X2 X3 (row b i) k := by
    rw [val_main_v15_apply]
    refine (congrArg (· + _) (zeroBits : _)).trans ((zero_add _).trans (Finset.sum_congr rfl fun k _ => ?_))
    have e : idx_main_v15 (ix2 b i : S2x4096.Idx) k = (ix3 b i k : S2x4096x1024.Idx) := idx3 rfl rfl rfl
    rw [val_main_v14_apply, e, ref13]
    rfl
  rw [val_main_v21_apply, val_main_v20_apply, val_main_v19_apply, val_main_v18_apply, val_main_v17_apply, val_main_v16_apply]
  have e : idx_main_v16 (ix3 b i z : S2x4096x1.Idx) = ix2 b i := idx2 rfl rfl
  rw [e, h15]
  rfl

theorem ref32 (b : Fin 2) (i : Fin 4096) (d : Fin 1024) :
    (val_main_v32 (F := Ideal) X0 X1 X2 X3 X4 X5 X6 (ix3 b i d) : EReal) = N X0 X1 X2 X3 X4 X5 X6 (row b i) d := by
  rw [val_main_v32_apply, val_main_v31_apply, val_main_v30_apply, val_main_v29_apply, val_main_v28_apply, val_main_v27_apply, val_main_v26_apply,
    val_main_v25_apply, val_main_v24_apply, val_main_v23_apply, val_main_v22_apply, ref13]
  have e22 : idx_main_v22 (ix3 b i d : S2x4096x1024.Idx) = ix3 b i 0 := idx3 rfl rfl rfl
  have e25 : idx_main_v24 (idx_main_v25 (ix3 b i d : S2x4096x1024.Idx)) = ix2 0 d := idx2 rfl rfl
  have e29 : idx_main_v29 (ix3 b i d : S2x4096x1024.Idx) = ix3 b 0 d := idx3 rfl rfl rfl
  have e31 : idx_main_v31 (ix3 b i d : S2x4096x1024.Idx) = ix3 b 0 d := idx3 rfl rfl rfl
  rw [e22, e25, e29, e31, ref21]
  unfold N norm
  rw [seq_row]
  rfl

theorem row_eq (r : Fin 8192) : row (seq r) (tok r) = r := Fin.ext (by show 4096 * (r.val / 4096) + r.val % 4096 = r.val; omega)

/-- Where the reshape back to rows reads. -/
theorem back {i : S2x4096x1024.Idx} (r : Fin 8192) (d : Fin 1024) (h0 : (i 0).val = (r.val * 1024 + d.val) / 4194304)
    (h1 : (i 1).val = (r.val * 1024 + d.val) / 1024 % 4096) (h2 : (i 2).val = (r.val * 1024 + d.val) % 1024) : i = ix3 (seq r) (tok r) d :=
  idx3 (h0.trans (by show (r.val * 1024 + d.val) / 4194304 = r.val / 4096; omega))
    (h1.trans (by show (r.val * 1024 + d.val) / 1024 % 4096 = r.val % 4096; omega)) (h2.trans (by omega))

theorem ref33 (r : Fin 8192) (d : Fin 1024) : (val_main_v33 (F := Ideal) X0 X1 X2 X3 (ix2 r d) : EReal) = R X0 X1 X2 X3 r d := by
  rw [val_main_v33_apply, back (i := idx_main_v33 (ix2 r d : S8192x1024.Idx)) r d rfl rfl rfl, ref13, row_eq]
theorem ref35 (r : Fin 8192) (d : Fin 1024) : (val_main_v35 (F := Ideal) X0 X1 (ix2 r d) : EReal) = F X0 X1 r d := by
  rw [val_main_v35_apply]
  show (val_main_v34 (F := Ideal) X0 X1 (ix2 r d) : EReal) = _
  rw [val_main_v34_apply, back (i := idx_main_v34 (ix2 r d : S8192x1024.Idx)) r d rfl rfl rfl, ref5, row_eq]
theorem ref37 (r : Fin 8192) (d : Fin 1024) : (val_main_v37 (F := Ideal) X0 X1 X2 X3 X4 X5 X6 (ix2 r d) : EReal) = N X0 X1 X2 X3 X4 X5 X6 r d := by
  rw [val_main_v37_apply]
  show (val_main_v36 (F := Ideal) X0 X1 X2 X3 X4 X5 X6 (ix2 r d) : EReal) = _
  rw [val_main_v36_apply, back (i := idx_main_v36 (ix2 r d : S8192x1024.Idx)) r d rfl rfl rfl, ref32, row_eq]

end Values

/-! A grid point. -/

section Point
variable (x0 : FVec Ideal S4x512x704 .bf16) (x1 : FVec Ideal S4x704x1024 .bf16) (x2 : FVec Ideal S512x1024 .f32) (x3 : FVec Ideal S1x1x1024 .f32)
  (x4 : FVec Ideal S1x1024 .f32) (x5 x6 : FVec Ideal S1x1x1024 .f32)

/-- One shard's product. -/
def part (a : FVec Ideal S1x512x704 .bf16) (w : FVec Ideal S1x704x1024 .bf16) (r : Fin 512) (d : Fin 1024) : EReal :=
  ∑ l : Fin 704, (a (ix3 0 r l) : EReal) * w (ix3 0 l d)

theorem pay1_at (a0 a1 a2 a3 : FVec Ideal S1x512x704 .bf16) (w0 w1 w2 w3 : FVec Ideal S1x704x1024 .bf16) (r : Fin 512) (d : Fin 1024) :
    (k0_pay1 (F := Ideal) a0 w0 a1 w1 a2 w2 a3 w3 (ix2 r d) : EReal) = part a0 w0 r d + part a1 w1 r d + part a2 w2 r d + part a3 w3 r d := by
  unfold part
  pointwise [k0_pay1]

theorem ld_a {o : Fin 3 → ℕ} (h : ∀ a, o a + S1x512x704.size a ≤ S4x512x704.size a) (j : Fin 4) (h0 : o 0 = j.val) (h1 : o 1 = 0) (h2 : o 2 = 0) (r : Fin 512) (l : Fin 704) :
    View.ld (Val := Elt Ideal) (e' := .bf16) x0 (Rect.unit (s := S4x512x704) o S1x512x704.size h) (ix3 0 r l : S1x512x704.Idx) = x0 (ix3 j r l) :=
  congrArg x0 (idx3 (by show o 0 + 1 * 0 = j.val; omega) (by show o 1 + 1 * r.val = r.val; omega) (by show o 2 + 1 * l.val = l.val; omega))
theorem ld_w {o : Fin 3 → ℕ} (h : ∀ a, o a + S1x704x1024.size a ≤ S4x704x1024.size a) (j : Fin 4) (h0 : o 0 = j.val) (h1 : o 1 = 0) (h2 : o 2 = 0) (l : Fin 704) (d : Fin 1024) :
    View.ld (Val := Elt Ideal) (e' := .bf16) x1 (Rect.unit (s := S4x704x1024) o S1x704x1024.size h) (ix3 0 l d : S1x704x1024.Idx) = x1 (ix3 j l d) :=
  congrArg x1 (idx3 (by show o 0 + 1 * 0 = j.val; omega) (by show o 1 + 1 * l.val = l.val; omega) (by show o 2 + 1 * d.val = d.val; omega))

theorem pay5_at (r : Fin 512) (d : Fin 1024) : (k0_pay5 (F := Ideal) x0 x1 x2 x3 x4 x5 x6 (ix2 r d) : EReal)
    = (∑ l, (x0 (ix3 0 r l) : EReal) * x1 (ix3 0 l d)) + (∑ l, (x0 (ix3 1 r l) : EReal) * x1 (ix3 1 l d)) + (∑ l, (x0 (ix3 2 r l) : EReal) * x1 (ix3 2 l d))
      + ∑ l, (x0 (ix3 3 r l) : EReal) * x1 (ix3 3 l d) := by
  unfold k0_pay5
  rw [pay1_at]
  unfold part
  refine congrArg₂ (· + ·) (congrArg₂ (· + ·) (congrArg₂ (· + ·) ?_ ?_) ?_) ?_
  · exact Finset.sum_congr rfl fun l _ => congrArg₂ (· * ·) (ld_a x0 _ 0 rfl rfl rfl r l) (ld_w x1 _ 0 rfl rfl rfl l d)
  · exact Finset.sum_congr rfl fun l _ => congrArg₂ (· * ·) (ld_a x0 _ 1 rfl rfl rfl r l) (ld_w x1 _ 1 rfl rfl rfl l d)
  · exact Finset.sum_congr rfl fun l _ => congrArg₂ (· * ·) (ld_a x0 _ 2 rfl rfl rfl r l) (ld_w x1 _ 2 rfl rfl rfl l d)
  · exact Finset.sum_congr rfl fun l _ => congrArg₂ (· * ·) (ld_a x0 _ 3 rfl rfl rfl r l) (ld_w x1 _ 3 rfl rfl rfl l d)

theorem pay2_at (p x : FVec Ideal S512x1024 .f32) (g : FVec Ideal S1x1x1024 .f32) (r : Fin 512) (d : Fin 1024) :
    (k0_pay2 (F := Ideal) p x g (ix2 r d) : EReal) = res (x (ix2 r d)) (g (ix3 0 0 d)) (p (ix2 r d)) := by
  unfold res
  pointwise [k0_pay2]

theorem pay4_at (p x : FVec Ideal S512x1024 .f32) (g : FVec Ideal S1x1x1024 .f32) (gn : FVec Ideal S1x1024 .f32) (sc sh : FVec Ideal S1x1x1024 .f32)
    (r : Fin 512) (d : Fin 1024) : (k0_pay4 (F := Ideal) p x g gn sc sh (ix2 r d) : EReal)
      = norm (fun k => k0_pay2 (F := Ideal) p x g (ix2 r k)) d (gn (ix2 0 d)) (sc (ix3 0 0 d)) (sh (ix3 0 0 d)) := by
  unfold k0_pay4 norm
  generalize k0_pay2 (F := Ideal) p x g = y
  pointwise

/-- What a grid point reads: the rows `ρ` of the arrays and the scales of their sequence. -/
structure At (X0 : FVec Ideal S4x8192x704 .bf16) (X1 : FVec Ideal S2816x1024 .bf16) (X2 : FVec Ideal S8192x1024 .f32) (X3 : FVec Ideal S2x1x1024 .f32)
    (X4 : FVec Ideal S1x1024 .f32) (X5 X6 : FVec Ideal S2x1x1024 .f32) (ρ : Fin 512 → Fin 8192) : Prop where
  a : ∀ j r l, x0 (ix3 j r l) = X0 (ix3 j (ρ r) l)
  w : ∀ j l d, x1 (ix3 j l d) = X1 (ix2 (unit j l) d)
  x : ∀ r d, x2 (ix2 r d) = X2 (ix2 (ρ r) d)
  g : ∀ r d, x3 (ix3 0 0 d) = X3 (ix3 (seq (ρ r)) 0 d)
  n : ∀ d, x4 (ix2 0 d) = X4 (ix2 0 d)
  sc : ∀ r d, x5 (ix3 0 0 d) = X5 (ix3 (seq (ρ r)) 0 d)
  sh : ∀ r d, x6 (ix3 0 0 d) = X6 (ix3 (seq (ρ r)) 0 d)

variable {x0 x1 x2 x3 x4 x5 x6} {X0 : FVec Ideal S4x8192x704 .bf16} {X1 : FVec Ideal S2816x1024 .bf16} {X2 : FVec Ideal S8192x1024 .f32}
  {X3 : FVec Ideal S2x1x1024 .f32} {X4 : FVec Ideal S1x1024 .f32} {X5 X6 : FVec Ideal S2x1x1024 .f32} {ρ : Fin 512 → Fin 8192}

theorem prod_at (H : At x0 x1 x2 x3 x4 x5 x6 X0 X1 X2 X3 X4 X5 X6 ρ) (r : Fin 512) (d : Fin 1024) :
    (k0_pay5 (F := Ideal) x0 x1 x2 x3 x4 x5 x6 (ix2 r d) : EReal) = F X0 X1 (ρ r) d := by
  rw [pay5_at]
  simp only [H.a, H.w]
  rfl
theorem res_at (H : At x0 x1 x2 x3 x4 x5 x6 X0 X1 X2 X3 X4 X5 X6 ρ) (r : Fin 512) (d : Fin 1024) :
    (k0_pay2 (F := Ideal) (k0_pay5 (F := Ideal) x0 x1 x2 x3 x4 x5 x6) x2 x3 (ix2 r d) : EReal) = R X0 X1 X2 X3 (ρ r) d := by
  rw [pay2_at, prod_at H, H.x, H.g r]
  rfl
theorem out7_at (H : At x0 x1 x2 x3 x4 x5 x6 X0 X1 X2 X3 X4 X5 X6 ρ) (r : Fin 512) (d : Fin 1024) :
    (out0_7 (F := Ideal) x0 x1 x2 x3 x4 x5 x6 (ix2 r d) : EReal) = R X0 X1 X2 X3 (ρ r) d := by
  unfold out0_7
  rw [View.canon_unit_zero z2, View.ld_unit_zero (S := S512x1024) z2, View.ld_unit_zero (S := S1x1x1024) z3]
  exact res_at H r d
theorem out8_at (H : At x0 x1 x2 x3 x4 x5 x6 X0 X1 X2 X3 X4 X5 X6 ρ) (r : Fin 512) (d : Fin 1024) :
    (out0_8 (F := Ideal) x0 x1 x2 x3 x4 x5 x6 (ix2 r d) : EReal) = F X0 X1 (ρ r) d := by
  unfold out0_8
  rw [View.canon_unit_zero z2]
  exact prod_at H r d
theorem out9_at (H : At x0 x1 x2 x3 x4 x5 x6 X0 X1 X2 X3 X4 X5 X6 ρ) (r : Fin 512) (d : Fin 1024) :
    (out0_9 (F := Ideal) x0 x1 x2 x3 x4 x5 x6 (ix2 r d) : EReal) = N X0 X1 X2 X3 X4 X5 X6 (ρ r) d := by
  unfold out0_9
  rw [View.canon_unit_zero z2, View.ld_unit_zero (S := S512x1024) z2, View.ld_unit_zero (S := S1x1x1024) z3, View.ld_unit_zero (S := S1x1024) z2,
    View.ld_unit_zero (S := S1x1x1024) z3, View.ld_unit_zero (S := S1x1x1024) z3, pay4_at, H.n, H.sc r, H.sh r]
  exact congrArg (fun y => norm y d _ _ _) (funext fun k => res_at H r k)

end Point

/-! Where the blocks lie. -/

def tr (t : Fin cfg0.N) (r : Fin 512) : Fin 8192 := ⟨512 * t.val + r.val, by have h : t.val < 16 := lt_of_lt_of_eq t.isLt N_0; omega⟩

theorem idx_0 : ∀ t : Fin cfg0.N, win0_0.index t = ![0, t.val, 0] := (by decide +kernel : ∀ t : Fin grid0.N, win0_0.index t = ![0, t.val, 0])
theorem idx_1 : ∀ t : Fin cfg0.N, win0_1.index t = ![0, 0, 0] := (by decide +kernel : ∀ t : Fin grid0.N, win0_1.index t = ![0, 0, 0])
theorem idx_2 : ∀ t : Fin cfg0.N, win0_2.index t = ![t.val, 0] := (by decide +kernel : ∀ t : Fin grid0.N, win0_2.index t = ![t.val, 0])
theorem idx_3 : ∀ t : Fin cfg0.N, win0_3.index t = ![t.val / 8, 0, 0] := (by decide +kernel : ∀ t : Fin grid0.N, win0_3.index t = ![t.val / 8, 0, 0])
theorem idx_4 : ∀ t : Fin cfg0.N, win0_4.index t = ![0, 0] := (by decide +kernel : ∀ t : Fin grid0.N, win0_4.index t = ![0, 0])
theorem idx_5 : ∀ t : Fin cfg0.N, win0_5.index t = ![t.val / 8, 0, 0] := (by decide +kernel : ∀ t : Fin grid0.N, win0_5.index t = ![t.val / 8, 0, 0])
theorem idx_6 : ∀ t : Fin cfg0.N, win0_6.index t = ![t.val / 8, 0, 0] := (by decide +kernel : ∀ t : Fin grid0.N, win0_6.index t = ![t.val / 8, 0, 0])
theorem idx_7 : ∀ t : Fin cfg0.N, win0_7.index t = ![t.val, 0] := (by decide +kernel : ∀ t : Fin grid0.N, win0_7.index t = ![t.val, 0])
theorem idx_8 : ∀ t : Fin cfg0.N, win0_8.index t = ![t.val, 0] := (by decide +kernel : ∀ t : Fin grid0.N, win0_8.index t = ![t.val, 0])
theorem idx_9 : ∀ t : Fin cfg0.N, win0_9.index t = ![t.val, 0] := (by decide +kernel : ∀ t : Fin grid0.N, win0_9.index t = ![t.val, 0])

def ts (t : Fin cfg0.N) : Fin 2 := ⟨t.val / 8, by have h : t.val < 16 := lt_of_lt_of_eq t.isLt N_0; omega⟩
theorem seq_tr (t : Fin cfg0.N) (r : Fin 512) : seq (tr t r) = ts t := Fin.ext (by show (512 * t.val + r.val) / 4096 = t.val / 8; omega)

theorem rd_0 (X : FVec Ideal S4x8192x704 .bf16) (t : Fin cfg0.N) (j : Fin 4) (r : Fin 512) (l : Fin 704) :
    (((cfg0.win 0).blk t).view.read (Elt Ideal) X : FVec Ideal S4x512x704 .bf16) (ix3 j r l) = X (ix3 j (tr t r) l) := by
  unfold tr
  blk_ext [idx_0 t]
theorem rd_1 (X : FVec Ideal S4x704x1024 .bf16) (t : Fin cfg0.N) (j : Fin 4) (l : Fin 704) (d : Fin 1024) :
    (((cfg0.win 1).blk t).view.read (Elt Ideal) X : FVec Ideal S4x704x1024 .bf16) (ix3 j l d) = X (ix3 j l d) := by
  blk_ext [idx_1 t]
theorem rd_2 (X : FVec Ideal S8192x1024 .f32) (t : Fin cfg0.N) (r : Fin 512) (d : Fin 1024) :
    (((cfg0.win 2).blk t).view.read (Elt Ideal) X : FVec Ideal S512x1024 .f32) (ix2 r d) = X (ix2 (tr t r) d) := by
  unfold tr
  blk_ext [idx_2 t]
theorem rd_3 (X : FVec Ideal S2x1x1024 .f32) (t : Fin cfg0.N) (d : Fin 1024) :
    (((cfg0.win 3).blk t).view.read (Elt Ideal) X : FVec Ideal S1x1x1024 .f32) (ix3 0 0 d) = X (ix3 (ts t) 0 d) := by
  unfold ts
  blk_ext [idx_3 t]
theorem rd_4 (X : FVec Ideal S1x1024 .f32) (t : Fin cfg0.N) (d : Fin 1024) :
    (((cfg0.win 4).blk t).view.read (Elt Ideal) X : FVec Ideal S1x1024 .f32) (ix2 0 d) = X (ix2 0 d) := by
  blk_ext [idx_4 t]
theorem rd_5 (X : FVec Ideal S2x1x1024 .f32) (t : Fin cfg0.N) (d : Fin 1024) :
    (((cfg0.win 5).blk t).view.read (Elt Ideal) X : FVec Ideal S1x1x1024 .f32) (ix3 0 0 d) = X (ix3 (ts t) 0 d) := by
  unfold ts
  blk_ext [idx_5 t]
theorem rd_6 (X : FVec Ideal S2x1x1024 .f32) (t : Fin cfg0.N) (d : Fin 1024) :
    (((cfg0.win 6).blk t).view.read (Elt Ideal) X : FVec Ideal S1x1x1024 .f32) (ix3 0 0 d) = X (ix3 (ts t) 0 d) := by
  unfold ts
  blk_ext [idx_6 t]
theorem wr_7 (X : FVec Ideal S8192x1024 .f32) (t : Fin cfg0.N) (r : Fin 512) (d : Fin 1024) :
    X (((cfg0.win 7).blk t).view.emb (ix2 r d : S512x1024.Idx)) = X (ix2 (tr t r) d) := by
  unfold tr
  blk_ext [idx_7 t]
theorem wr_8 (X : FVec Ideal S8192x1024 .bf16) (t : Fin cfg0.N) (r : Fin 512) (d : Fin 1024) :
    X (((cfg0.win 8).blk t).view.emb (ix2 r d : S512x1024.Idx)) = X (ix2 (tr t r) d) := by
  unfold tr
  blk_ext [idx_8 t]
theorem wr_9 (X : FVec Ideal S8192x1024 .bf16) (t : Fin cfg0.N) (r : Fin 512) (d : Fin 1024) :
    X (((cfg0.win 9).blk t).view.emb (ix2 r d : S512x1024.Idx)) = X (ix2 (tr t r) d) := by
  unfold tr
  blk_ext [idx_9 t]

/-- The weight cut into shards, as the call reads it. -/
def cut (X : FVec Ideal S2816x1024 .bf16) : FVec Ideal S4x704x1024 .bf16 := shapeCast S4x704x1024 X shapeCasts_S2816x1024_S4x704x1024
theorem cut_at (X : FVec Ideal S2816x1024 .bf16) (j : Fin 4) (l : Fin 704) (d : Fin 1024) : cut X (ix3 j l d) = X (ix2 (unit j l) d) := by
  refine shapeCast_apply _ _ _ (ix2 (unit j l) d : S2816x1024.Idx) ?_
  rewrite [Shape.rowMajor_val_two, Shape.rowMajor_val_three]
  show (704 * j.val + l.val) * 1024 + d.val = (j.val * 704 + l.val) * 1024 + d.val
  omega

section Arrays
variable (m : (ℓ : Loc nD τ sig) → Buf (Elt Ideal) ℓ) (c : Dev nD)

set_option maxHeartbeats 1600000 in
theorem entry : V m c main_v0 = cut (m ((c : Thread nD τ).loc main_arg1)) := by
  unfold V
  simp only [hostOps0, List.flatten_cons, List.flatten_nil, List.append_nil, List.cons_append, List.nil_append]
  entry_read
  rfl

/-- The arrays as the call reads them. -/
structure Reads (X0 : FVec Ideal S4x8192x704 .bf16) (X1 : FVec Ideal S2816x1024 .bf16) (X2 : FVec Ideal S8192x1024 .f32) (X3 : FVec Ideal S2x1x1024 .f32)
    (X4 : FVec Ideal S1x1024 .f32) (X5 X6 : FVec Ideal S2x1x1024 .f32) : Prop where
  h0 : V m c main_arg0 = X0
  h1 : V m c main_v0 = cut X1
  h2 : V m c main_arg2 = X2
  h3 : V m c main_arg3 = X3
  h4 : V m c main_arg4 = X4
  h5 : V m c main_arg5 = X5
  h6 : V m c main_arg6 = X6

variable {m c} {X0 : FVec Ideal S4x8192x704 .bf16} {X1 : FVec Ideal S2816x1024 .bf16} {X2 : FVec Ideal S8192x1024 .f32}
  {X3 : FVec Ideal S2x1x1024 .f32} {X4 : FVec Ideal S1x1024 .f32} {X5 X6 : FVec Ideal S2x1x1024 .f32}

theorem at_point (H : Reads m c X0 X1 X2 X3 X4 X5 X6) (t : Fin cfg0.N) :
    At (iblk m c 0 t) (iblk m c 1 t) (iblk m c 2 t) (iblk m c 3 t) (iblk m c 4 t) (iblk m c 5 t) (iblk m c 6 t) X0 X1 X2 X3 X4 X5 X6 (tr t) := by
  have hc := cut_at X1
  have h1 := H.h1
  generalize cut X1 = Y at hc h1
  have e0 : iblk m c 0 t = ((cfg0.win 0).blk t).view.read (Elt Ideal) X0 := congrArg (((cfg0.win 0).blk t).view.read (Elt Ideal)) H.h0
  have e1 : iblk m c 1 t = ((cfg0.win 1).blk t).view.read (Elt Ideal) Y := congrArg (((cfg0.win 1).blk t).view.read (Elt Ideal)) h1
  have e2 : iblk m c 2 t = ((cfg0.win 2).blk t).view.read (Elt Ideal) X2 := congrArg (((cfg0.win 2).blk t).view.read (Elt Ideal)) H.h2
  have e3 : iblk m c 3 t = ((cfg0.win 3).blk t).view.read (Elt Ideal) X3 := congrArg (((cfg0.win 3).blk t).view.read (Elt Ideal)) H.h3
  have e4 : iblk m c 4 t = ((cfg0.win 4).blk t).view.read (Elt Ideal) X4 := congrArg (((cfg0.win 4).blk t).view.read (Elt Ideal)) H.h4
  have e5 : iblk m c 5 t = ((cfg0.win 5).blk t).view.read (Elt Ideal) X5 := congrArg (((cfg0.win 5).blk t).view.read (Elt Ideal)) H.h5
  have e6 : iblk m c 6 t = ((cfg0.win 6).blk t).view.read (Elt Ideal) X6 := congrArg (((cfg0.win 6).blk t).view.read (Elt Ideal)) H.h6
  rw [e0, e1, e2, e3, e4, e5, e6]
  exact { a := fun j r l => rd_0 X0 t j r l
          w := fun j l d => (rd_1 Y t j l d).trans (hc j l d)
          x := fun r d => rd_2 X2 t r d
          g := fun r d => (rd_3 X3 t d).trans (congrArg (fun s => X3 (ix3 s 0 d)) (seq_tr t r).symm)
          n := fun d => rd_4 X4 t d
          sc := fun r d => (rd_5 X5 t d).trans (congrArg (fun s => X5 (ix3 s 0 d)) (seq_tr t r).symm)
          sh := fun r d => (rd_6 X6 t d).trans (congrArg (fun s => X6 (ix3 s 0 d)) (seq_tr t r).symm) }

theorem split2 (y : S512x1024.Idx) : ∃ r d, y = ix2 r d := ⟨y 0, y 1, idx2 rfl rfl⟩

theorem covers7 : (cfg0.win 7).Covers := by decide +kernel
theorem covers8 : (cfg0.win 8).Covers := by decide +kernel
theorem covers9 : (cfg0.win 9).Covers := by decide +kernel

theorem arr7 {X : FVec Ideal S8192x1024 .f32} (hX : ∀ r d, (X (ix2 r d) : EReal) = R X0 X1 X2 X3 r d) (H : Reads m c X0 X1 X2 X3 X4 X5 X6) :
    (dats m 0 c).arrAt 7 cfg0.N = X := by
  refine (dats m 0 c).arrAt_eq_of_covers 7 X covers7 fun t hf y => ?_
  rw [after0_7]
  have hp := fun r d => (out7_at (at_point H t) r d).trans ((wr_7 X t r d).trans (hX _ _)).symm
  generalize out0_7 (F := Ideal) (iblk m c 0 t) (iblk m c 1 t) (iblk m c 2 t) (iblk m c 3 t) (iblk m c 4 t) (iblk m c 5 t) (iblk m c 6 t) = O at hp ⊢
  obtain ⟨r, d, hy⟩ := split2 y
  rw [hy]
  exact hp r d
theorem arr8 {X : FVec Ideal S8192x1024 .bf16} (hX : ∀ r d, (X (ix2 r d) : EReal) = F X0 X1 r d) (H : Reads m c X0 X1 X2 X3 X4 X5 X6) :
    (dats m 0 c).arrAt 8 cfg0.N = X := by
  refine (dats m 0 c).arrAt_eq_of_covers 8 X covers8 fun t hf y => ?_
  rw [after0_8]
  have hp := fun r d => (out8_at (at_point H t) r d).trans ((wr_8 X t r d).trans (hX _ _)).symm
  generalize out0_8 (F := Ideal) (iblk m c 0 t) (iblk m c 1 t) (iblk m c 2 t) (iblk m c 3 t) (iblk m c 4 t) (iblk m c 5 t) (iblk m c 6 t) = O at hp ⊢
  obtain ⟨r, d, hy⟩ := split2 y
  rw [hy]
  exact hp r d
theorem arr9 {X : FVec Ideal S8192x1024 .bf16} (hX : ∀ r d, (X (ix2 r d) : EReal) = N X0 X1 X2 X3 X4 X5 X6 r d) (H : Reads m c X0 X1 X2 X3 X4 X5 X6) :
    (dats m 0 c).arrAt 9 cfg0.N = X := by
  refine (dats m 0 c).arrAt_eq_of_covers 9 X covers9 fun t hf y => ?_
  rw [after0_9]
  have hp := fun r d => (out9_at (at_point H t) r d).trans ((wr_9 X t r d).trans (hX _ _)).symm
  generalize out0_9 (F := Ideal) (iblk m c 0 t) (iblk m c 1 t) (iblk m c 2 t) (iblk m c 3 t) (iblk m c 4 t) (iblk m c 5 t) (iblk m c 6 t) = O at hp ⊢
  obtain ⟨r, d, hy⟩ := split2 y
  rw [hy]
  exact hp r d

theorem reads (m : (ℓ : Loc nD τ sig) → Buf (Elt Ideal) ℓ) (c : Dev nD) : Reads m c (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) where
  h0 := V_main_arg0 m c
  h1 := entry m c
  h2 := V_main_arg2 m c
  h3 := V_main_arg3 m c
  h4 := V_main_arg4 m c
  h5 := V_main_arg5 m c
  h6 := V_main_arg6 m c

/-! The arrays the call leaves are the reference's, for any arguments that are the call's. -/

section Same
variable (h0 : X0 = m ((c : Thread nD τ).loc main_arg0)) (h1 : X1 = m ((c : Thread nD τ).loc main_arg1)) (h2 : X2 = m ((c : Thread nD τ).loc main_arg2))
  (h3 : X3 = m ((c : Thread nD τ).loc main_arg3)) (h4 : X4 = m ((c : Thread nD τ).loc main_arg4)) (h5 : X5 = m ((c : Thread nD τ).loc main_arg5))
  (h6 : X6 = m ((c : Thread nD τ).loc main_arg6))
include h0 h1 h2 h3 in
theorem same7 : val_main_v33 (F := Ideal) X0 X1 X2 X3 = (dats m 0 c).arrAt 7 cfg0.N := by
  subst h0 h1 h2 h3
  exact (arr7 (ref33 _ _ _ _) (reads m c)).symm
include h0 h1 in
theorem same8 : val_main_v35 (F := Ideal) X0 X1 = (dats m 0 c).arrAt 8 cfg0.N := by
  subst h0 h1
  exact (arr8 (ref35 _ _) (reads m c)).symm
include h0 h1 h2 h3 h4 h5 h6 in
theorem same9 : val_main_v37 (F := Ideal) X0 X1 X2 X3 X4 X5 X6 = (dats m 0 c).arrAt 9 cfg0.N := by
  subst h0 h1 h2 h3 h4 h5 h6
  exact (arr9 (ref37 _ _ _ _ _ _ _) (reads m c)).symm
end Same

end Arrays

end Fox.DownFwd

end
-- ==== Proof.Forward.lean ====
/- The forward feed-forward's two calls: each result the kernel leaves is its reference's. -/
module

public import proofs.«01_k».proof.Defs
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.UpFwd
public import proofs.«01_k».proof.Proof.FiniteUp
public import proofs.«01_k».proof.Proof.DownFwd
public import Idealize.ShloMosaic.Adequacy
public import Idealize.ShloMosaic.Init

@[expose] public section

noncomputable section

set_option maxRecDepth 16384

namespace Cert.Proof

open Idealize.ShloMosaic Idealize.ShloMosaic.TcCoe Idealize.SL.Sem Cert.Kernel5

attribute [local instance] Cert.Kernel5.Gen.facts Cert.Kernel5Ideal.Gen.facts Cert.Reference5Ideal.Gen.facts Fox.UpFwd.preFacts
  Cert.Kernel6.Gen.facts Cert.Kernel6Ideal.Gen.facts Cert.Reference6Ideal.Gen.facts

/-! The up projection with its activation and slopes. -/

theorem frame_R5 : Cert.quiescent_Reference5Ideal := fun m ρ _ =>
  (θ_run Cert.Reference5Ideal.defs _ _).mono (fun r h => ⟨fun c => (h c).2.2, sem_eq_zero_of_no_sems (by decide) r.2⟩) (Cert.Reference5Ideal.Value.run (F := Ideal) m ρ)

theorem hold5 {m : (ℓ : Loc Cert.Kernel5Ideal.nD Cert.Kernel5Ideal.τ Cert.Kernel5Ideal.sig) → Buf (Elt Ideal) ℓ} (hpre : Cert.Pre_Kernel5Ideal m) (c : Dev Cert.Kernel5Ideal.nD) :
    ∃ n, Fox.UpFwd.Hold n (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) := Fox.UpFwd.hold_of_finite (hpre c)

section
variable {m : (ℓ : Loc Cert.Kernel5Ideal.nD Cert.Kernel5Ideal.τ Cert.Kernel5Ideal.sig) → Buf (Elt Ideal) ℓ} {c : Dev Cert.Kernel5Ideal.nD}
  {x0 : FVec Ideal Cert.Reference5Ideal.S8192x1024 .bf16} {x1 : FVec Ideal Cert.Reference5Ideal.S8x1024x704 .bf16}
  (h0 : x0 = m ((c.tc : Thread Cert.Kernel5Ideal.nD Cert.Kernel5Ideal.τ).loc Cert.Kernel5Ideal.main_arg0)) (h1 : x1 = m ((c.tc : Thread Cert.Kernel5Ideal.nD Cert.Kernel5Ideal.τ).loc Cert.Kernel5Ideal.main_arg1)) {n : Fox.UpFwd.Nums}
  (H : Fox.UpFwd.Hold n (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)))
include h0 h1 H
theorem same5A : Cert.Reference5Ideal.Read.val_main_v16 (F := Ideal) x0 x1 = (Cert.Kernel5Ideal.Gen.dats m 0 c).arrAt 3 Cert.Kernel5Ideal.cfg0.N := by
  subst h0 h1
  exact (Fox.UpFwd.finalA H).symm
theorem same5S : Cert.Reference5Ideal.Read.val_main_v19 (F := Ideal) x0 x1 = (Cert.Kernel5Ideal.Gen.dats m 0 c).arrAt 4 Cert.Kernel5Ideal.cfg0.N := by
  subst h0 h1
  exact (Fox.UpFwd.finalS H).symm
end

theorem algebraic_5 : Cert.algebraic_Kernel5Ideal_Reference5Ideal := by
  pair_intro
  · run_from Cert.Kernel5Ideal.Value.run_blocks m g
  · have HH := fun c => hold5 hpre c
    run_from Cert.Reference5Ideal.Value.run m' g'
    · exact (HH c).elim fun _ H => (Cert.Reference5Ideal.Read.val_main_v16_eq _ _).trans
        (same5A (by first | rfl | exact (hagree c).1) (by first | rfl | exact (hagree c).2) H)
    · exact (HH c).elim fun _ H => (Cert.Reference5Ideal.Read.val_main_v19_eq m' c).trans (same5S (hagree c).1 (hagree c).2 H)

/-! The down projection with the residual and the norm after it. -/

theorem frame_R6 : Cert.quiescent_Reference6Ideal := fun m ρ _ =>
  (θ_run Cert.Reference6Ideal.defs _ _).mono (fun r h => ⟨fun c => (h c).2.2.2, sem_eq_zero_of_no_sems (by decide) r.2⟩) (Cert.Reference6Ideal.Value.run (F := Ideal) m ρ)

theorem algebraic_6 : Cert.algebraic_Kernel6Ideal_Reference6Ideal := by
  pair_intro
  · run_from Cert.Kernel6Ideal.Value.run_blocks m g
  · run_from Cert.Reference6Ideal.Value.run m' g'
    · exact (Cert.Reference6Ideal.Read.val_main_v33_eq _ _ _ _).trans
        (Fox.DownFwd.same7 (by first | rfl | exact (hagree c).1)
          (by first | rfl | exact (hagree c).2.1)
          (by first | rfl | exact (hagree c).2.2.1)
          (by first | rfl | exact (hagree c).2.2.2.1))
    · exact (Cert.Reference6Ideal.Read.val_main_v35_eq _ _).trans
        (Fox.DownFwd.same8 (by first | rfl | exact (hagree c).1)
          (by first | rfl | exact (hagree c).2.1))
    · exact (Cert.Reference6Ideal.Read.val_main_v37_eq _ _ _ _ _ _ _).trans
        (Fox.DownFwd.same9 (by first | rfl | exact (hagree c).1)
          (by first | rfl | exact (hagree c).2.1)
          (by first | rfl | exact (hagree c).2.2.1)
          (by first | rfl | exact (hagree c).2.2.2.1)
          (by first | rfl | exact (hagree c).2.2.2.2.1)
          (by first | rfl | exact (hagree c).2.2.2.2.2.1)
          (by first | rfl | exact (hagree c).2.2.2.2.2.2))

end Cert.Proof

end
-- ==== Proof.UpDxRef.lean ====
/- The gradient of the up projection's input through the norm before it over the extended reals, and the reference's way to it. -/
module

public import proofs.«01_k».proof.Proof.UpFwd
public import proofs.«01_k».proof.Proof.DownFwd
public import proofs.«01_k».proof.Proof.Gen.Reference7Ideal.Read

@[expose] public section

set_option maxRecDepth 16384

noncomputable section

namespace Fox.UpDx

open Idealize.ShloMosaic Idealize.ShloMosaic.TcCoe Cert.Reference7Ideal Cert.Reference7Ideal.Read
open Fox.DownFwd (seq tok seq_row row_eq back)
open Fox.UpFwd (shard)

/-! Constants. -/

/-- The norm's small number. -/
def eps : ℝ := 8796093 / 2 ^ 43

theorem kBits : Ideal.ofBits .f32 0x44800000#32 = ((1024 : ℝ) : EReal) := by
  simp [Ideal.ofBits, Ideal.ieee, -EReal.coe_mul]; norm_num
theorem epsBits : Ideal.ofBits .f32 0x358637BD#32 = ((eps : ℝ) : EReal) := by
  unfold eps
  simp [Ideal.ofBits, Ideal.ieee, -EReal.coe_mul]; norm_num
theorem halfBits : Ideal.ofBits .f32 0xBF000000#32 = ((-(1 / 2) : ℝ) : EReal) := by
  simp [Ideal.ofBits, Ideal.ieee, -EReal.coe_mul]; norm_num
theorem eps_pos : 0 < eps := by unfold eps; norm_num

theorem rsqrtR {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-- The columns of the hidden pair: column `l` of shard `j`. -/
def col (j : Fin 8) (l : Fin 704) : Fin 5632 := ⟨704 * j.val + l.val, by omega⟩

/-- A sum over the columns shard by shard. -/
theorem sum_cols (f : Fin 5632 → EReal) : ∑ q, f q = ∑ j : Fin 8, ∑ l : Fin 704, f (col j l) :=
  (Fintype.sum_equiv (finProdFinEquiv (m := 8) (n := 704)) (fun p => f (col p.1 p.2)) f
    (fun p => congrArg f (Fin.ext (by show 704 * p.1.val + p.2.val = p.2.val + 704 * p.1.val; omega)))).symm.trans (Fintype.sum_prod_type _)

theorem ms_pos (x : Fin 1024 → ℝ) : 0 < (∑ k, x k * x k) / 1024 + eps :=
  add_pos_of_nonneg_of_pos (div_nonneg (Finset.sum_nonneg fun k _ => mul_self_nonneg (x k)) (by norm_num)) eps_pos

/-! The norm's gradient over the extended reals. -/

/-- The mean square of a row. -/
def ms (x : Fin 1024 → EReal) : EReal := Ideal.div (∑ k, x k * x k) (Ideal.ofBits .f32 0x44800000#32) + Ideal.ofBits .f32 0x358637BD#32

/-- The gradient through the norm of a row: `x` the row, `q` the gradient at the normed row. -/
def back1 (x q : Fin 1024 → EReal) (d : Fin 1024) : EReal :=
  Ideal.rsqrt (ms x) * (q d - x d * Ideal.rsqrt (ms x) * Ideal.div (∑ k, q k * (x k * Ideal.rsqrt (ms x))) (Ideal.ofBits .f32 0x44800000#32))

/-- The factor of the row in its gradient. -/
def fac (x q : Fin 1024 → EReal) : EReal :=
  Ideal.div ((∑ k, x k * q k) * (Ideal.ofBits .f32 0xBF000000#32 * Ideal.div (Ideal.rsqrt (ms x)) (ms x))) (Ideal.ofBits .f32 0x44800000#32)

theorem div_real (a : EReal) {b : ℝ} (h : 0 < b) : Ideal.div a (b : EReal) = a * ((b⁻¹ : ℝ) : EReal) := by
  have h0 : (b : EReal) ≠ 0 := by exact_mod_cast h.ne'
  rw [Ideal.div, if_neg h0, EReal.coe_inv]

theorem mul_self_nonneg' (a : EReal) : 0 ≤ a * a := by
  rcases le_total 0 a with h | h
  · exact mul_nonneg h h
  · rw [← neg_mul_neg]
    exact mul_nonneg (EReal.neg_nonneg.mpr h) (EReal.neg_nonneg.mpr h)

/-- A row with an infinite entry: its mean square is infinite. -/
theorem ms_top {x : Fin 1024 → EReal} {k : Fin 1024} (h : x k = ⊤ ∨ x k = ⊥) : ms x = ⊤ := by
  have hk : x k * x k = ⊤ := by
    rcases h with h | h <;> rw [h]
    · exact EReal.top_mul_top
    · exact EReal.bot_mul_bot
  have hs : ∑ k, x k * x k = ⊤ :=
    top_le_iff.mp (hk ▸ Finset.single_le_sum (f := fun k => x k * x k) (fun k _ => mul_self_nonneg' (x k)) (Finset.mem_univ k))
  unfold ms
  rw [hs, kBits, epsBits, div_real _ (by norm_num), EReal.top_mul_coe_of_pos (by norm_num), EReal.top_add_coe]

theorem sum_mul_real (f : Fin 1024 → EReal) {r : ℝ} (h : 0 ≤ r) : ∑ k, f k * (r : EReal) = (∑ k, f k) * (r : EReal) := by
  have hr : (0 : EReal) ≤ (r : EReal) := by exact_mod_cast h
  generalize (Finset.univ : Finset (Fin 1024)) = s
  induction s using Finset.induction_on with
  | empty => simp
  | insert a s ha ih => rw [Finset.sum_insert ha, Finset.sum_insert ha, ih, EReal.right_distrib_of_nonneg_of_ne_top hr (EReal.coe_ne_top r)]

theorem add_self (a : EReal) : a + a = ((2 : ℝ) : EReal) * a := by
  have e : ((2 : ℝ) : EReal) = 1 + 1 := by rw [show (2 : ℝ) = 1 + 1 by norm_num, EReal.coe_add, EReal.coe_one]
  rw [e, EReal.right_distrib_of_nonneg zero_le_one zero_le_one, one_mul]

/-- The two ways to write the gradient. -/
theorem back1_eq (x q : Fin 1024 → EReal) (d : Fin 1024) : q d * Ideal.rsqrt (ms x) + x d * fac x q + fac x q * x d = back1 x q d := by
  by_cases h : ∃ k, x k = ⊤ ∨ x k = ⊥
  · obtain ⟨k, h⟩ := h
    have e : Ideal.rsqrt (⊤ : EReal) = 0 := rfl
    unfold back1 fac
    rw [ms_top h, e, kBits, div_real _ (by norm_num), div_real _ (by norm_num), show Ideal.div 0 (⊤ : EReal) = 0 by rw [Ideal.div, if_neg EReal.top_ne_zero, zero_mul]]
    simp only [mul_zero, zero_mul, add_zero]
  · have hx : ∀ k, x k = ((x k).toReal : EReal) := fun k => (EReal.coe_toReal (fun e => h ⟨k, Or.inl e⟩) (fun e => h ⟨k, Or.inr e⟩)).symm
    have hm : ms x = (((∑ k, (x k).toReal * (x k).toReal) / 1024 + eps : ℝ) : EReal) := by
      unfold ms
      rw [sum_mulR hx hx, kBits, epsBits, divR _ (by norm_num), addR]
    have hp := ms_pos fun k => (x k).toReal
    unfold back1 fac
    rw [hm, rsqrtR hp, kBits, halfBits, divR _ hp, div_real _ (by norm_num), div_real _ (by norm_num)]
    generalize (∑ k, (x k).toReal * (x k).toReal) / 1024 + eps = m at hp ⊢
    have hr : 0 < (Real.sqrt m)⁻¹ := inv_pos.mpr (Real.sqrt_pos.mpr hp)
    have e : (Real.sqrt m)⁻¹ / m = (Real.sqrt m)⁻¹ * ((Real.sqrt m)⁻¹ * (Real.sqrt m)⁻¹) := by
      rw [← mul_inv, Real.mul_self_sqrt hp.le, div_eq_mul_inv]
    rw [e]
    generalize (Real.sqrt m)⁻¹ = r at hr ⊢
    have hs : ∑ k, q k * (x k * (r : EReal)) = (∑ k, x k * q k) * (r : EReal) := by
      rw [← sum_mul_real _ hr.le]
      exact Finset.sum_congr rfl fun k _ => by rw [← mul_assoc, mul_comm (q k)]
    rw [hs, hx d]
    generalize ∑ k, x k * q k = S
    generalize (x d).toReal = u
    have h0 : (0 : EReal) ≤ (r : EReal) := by exact_mod_cast hr.le
    rw [sub_eq_add_neg, EReal.left_distrib_of_nonneg_of_ne_top h0 (EReal.coe_ne_top r), mul_comm (r : EReal) (q d), add_assoc,
      mul_comm _ (u : EReal), add_self]
    refine congrArg (fun v : EReal => q d * (r : EReal) + v) ?_
    have l : ((2 : ℝ) : EReal) * ((u : EReal) * (S * (((-(1 / 2) : ℝ) : EReal) * ((r * (r * r) : ℝ) : EReal)) * ((1024⁻¹ : ℝ) : EReal)))
        = S * ((-(u * r * r * r * 1024⁻¹) : ℝ) : EReal) := by
      rw [show ((2 : ℝ) : EReal) * ((u : EReal) * (S * (((-(1 / 2) : ℝ) : EReal) * ((r * (r * r) : ℝ) : EReal)) * ((1024⁻¹ : ℝ) : EReal)))
        = S * (((2 : ℝ) : EReal) * ((u : EReal) * ((((-(1 / 2) : ℝ) : EReal) * ((r * (r * r) : ℝ) : EReal)) * ((1024⁻¹ : ℝ) : EReal)))) by ac_rfl,
        mulR, mulR, mulR, mulR]
      exact congrArg (fun v : ℝ => S * (v : EReal)) (by ring)
    have r' : (r : EReal) * -((u : EReal) * (r : EReal) * (S * (r : EReal) * ((1024⁻¹ : ℝ) : EReal))) = S * ((-(u * r * r * r * 1024⁻¹) : ℝ) : EReal) := by
      rw [EReal.coe_neg, mul_neg, mul_neg,
        show (r : EReal) * ((u : EReal) * (r : EReal) * (S * (r : EReal) * ((1024⁻¹ : ℝ) : EReal)))
          = S * ((u : EReal) * (r : EReal) * (r : EReal) * (r : EReal) * ((1024⁻¹ : ℝ) : EReal)) by ac_rfl, mulR, mulR, mulR, mulR]
    exact l.trans r'.symm

/-! The gradient at the norm, from the arrays. -/

section Arrays
variable (X0 : FVec Ideal S8x8192x704 .bf16) (X1 : FVec Ideal S8x1024x704 .bf16) (X2 : FVec Ideal S8192x1024 .f32)
  (X3 : FVec Ideal S8192x1024 .f32) (X4 : FVec Ideal S1x1024 .f32) (X5 : FVec Ideal S2x1x1024 .f32)

/-- The product with one shard of the weight. -/
def dot (j : Fin 8) (r : Fin 8192) (d : Fin 1024) : EReal := ∑ l : Fin 704, (X0 (ix3 j r l) : EReal) * X1 (ix3 j d l)
/-- The product with four shards. -/
def half (k : Fin 2) (r : Fin 8192) (d : Fin 1024) : EReal :=
  dot X0 X1 (shard k 0) r d + dot X0 X1 (shard k 1) r d + dot X0 X1 (shard k 2) r d + dot X0 X1 (shard k 3) r d
/-- The gradient at the scaled norm. -/
def prod (r : Fin 8192) (d : Fin 1024) : EReal := half X0 X1 0 r d + half X0 X1 1 r d
/-- The gradient at the norm. -/
def grad (r : Fin 8192) (d : Fin 1024) : EReal :=
  prod X0 X1 r d * (X4 (ix2 0 d) * (Ideal.ofBits .f32 0x3F800000#32 + X5 (ix3 (seq r) 0 d)))
/-- The norm's input. -/
def inp (r : Fin 8192) (d : Fin 1024) : EReal := X2 (ix2 r d)
/-- The gradient of the norm's input, the last summand added. -/
def dx (r : Fin 8192) (d : Fin 1024) : EReal := X3 (ix2 r d) + back1 (inp X2 r) (grad X0 X1 X4 X5 r) d

theorem dot_sum (r : Fin 8192) (d : Fin 1024) : ∑ j, dot X0 X1 j r d = prod X0 X1 r d := by
  rw [Fin.sum_univ_eight]
  show _ = (dot X0 X1 0 r d + dot X0 X1 1 r d + dot X0 X1 2 r d + dot X0 X1 3 r d) + (dot X0 X1 4 r d + dot X0 X1 5 r d + dot X0 X1 6 r d + dot X0 X1 7 r d)
  simp only [add_assoc]

/-! The reference. -/

theorem r29 (r : Fin 8192) (d : Fin 1024) : (val_main_v29 (F := Ideal) X0 X1 (ix2 r d) : EReal) = prod X0 X1 r d := by
  rw [val_main_v29_apply, sum_cols, ← dot_sum]
  refine Finset.sum_congr rfl fun j _ => Finset.sum_congr rfl fun l _ => congrArg₂ (· * ·) ?_ ?_
  · rw [val_main_v28_apply, val_main_v27_apply, val_main_v26_apply]
    refine congrArg X0 (idx3 ?_ ?_ ?_)
    · show (r.val * 5632 + (704 * j.val + l.val)) / 704 % 8 = j.val; omega
    · show (r.val * 5632 + (704 * j.val + l.val)) / 5632 = r.val; omega
    · show (r.val * 5632 + (704 * j.val + l.val)) % 704 = l.val; omega
  · rw [val_main_v24_apply, val_main_v23_apply, val_main_v22_apply]
    refine congrArg X1 (idx3 ?_ ?_ ?_)
    · show (d.val * 5632 + (704 * j.val + l.val)) / 704 % 8 = j.val; omega
    · show (d.val * 5632 + (704 * j.val + l.val)) / 5632 = d.val; omega
    · show (d.val * 5632 + (704 * j.val + l.val)) % 704 = l.val; omega

theorem r30 (b : Fin 2) (i : Fin 4096) (d : Fin 1024) : (val_main_v30 (F := Ideal) X0 X1 (ix3 b i d) : EReal) = prod X0 X1 (row b i) d := by
  rw [val_main_v30_apply]
  refine (congrArg (val_main_v29 (F := Ideal) X0 X1) (idx2 ?_ ?_)).trans (r29 X0 X1 (row b i) d)
  · show ((b.val * 4096 + i.val) * 1024 + d.val) / 1024 = 4096 * b.val + i.val; omega
  · show ((b.val * 4096 + i.val) * 1024 + d.val) % 1024 = d.val; omega
theorem r0 (b : Fin 2) (i : Fin 4096) (d : Fin 1024) : (val_main_v0 (F := Ideal) X2 (ix3 b i d) : EReal) = inp X2 (row b i) d := by
  rw [val_main_v0_apply]
  refine congrArg X2 (idx2 ?_ ?_)
  · show ((b.val * 4096 + i.val) * 1024 + d.val) / 1024 = 4096 * b.val + i.val; omega
  · show ((b.val * 4096 + i.val) * 1024 + d.val) % 1024 = d.val; omega

/-- The gradient at the norm. -/
theorem r34 (b : Fin 2) (i : Fin 4096) (d : Fin 1024) : (val_main_v34 (F := Ideal) X0 X1 X4 X5 (ix3 b i d) : EReal) = grad X0 X1 X4 X5 (row b i) d := by
  rw [val_main_v34_apply, val_main_v33_apply, val_main_v32_apply, val_main_v31_apply, val_main_v18_apply, val_main_v17_apply, val_main_v14_apply, r30]
  have e4 : idx_main_v14 (idx_main_v33 (ix3 b i d : S2x4096x1024.Idx)) = ix2 0 d := idx2 rfl rfl
  have e5 : idx_main_v31 (ix3 b i d : S2x4096x1024.Idx) = ix3 b 0 d := idx3 rfl rfl rfl
  rw [e4, e5]
  show prod X0 X1 (row b i) d * (Ideal.ofBits .f32 0x3F800000#32 + X5 (ix3 b 0 d)) * X4 (ix2 0 d) = _
  unfold grad
  rw [seq_row, mul_assoc, mul_comm (X4 (ix2 0 d) : EReal)]

theorem r7 (b : Fin 2) (i : Fin 4096) (z : Fin 1) : (val_main_v7 (F := Ideal) X2 (ix3 b i z) : EReal) = ms (inp X2 (row b i)) := by
  have h2 : (val_main_v2 (F := Ideal) X2 (ix2 b i) : EReal) = ∑ k, inp X2 (row b i) k * inp X2 (row b i) k := by
    rw [val_main_v2_apply]
    refine (congrArg₂ (· + ·) zeroBits (Finset.sum_congr rfl fun k _ => ?_)).trans (zero_add _)
    have e : idx_main_v2 (ix2 b i : S2x4096.Idx) k = (ix3 b i k : S2x4096x1024.Idx) := idx3 rfl rfl rfl
    rw [val_main_v1_apply, e, r0]
    rfl
  rw [val_main_v7_apply, val_main_v6_apply, val_main_v5_apply, val_main_v4_apply, val_main_v3_apply]
  have e : idx_main_v3 (ix3 b i z : S2x4096x1.Idx) = ix2 b i := idx2 rfl rfl
  rw [e, h2]
  rfl

theorem r8 (b : Fin 2) (i : Fin 4096) (z : Fin 1) : (val_main_v8 (F := Ideal) X2 (ix3 b i z) : EReal) = Ideal.rsqrt (ms (inp X2 (row b i))) := by
  rw [val_main_v8_apply, r7]
  rfl
theorem r11 (b : Fin 2) (i : Fin 4096) (z : Fin 1) : (val_main_v11 (F := Ideal) X2 (ix3 b i z) : EReal)
    = Ideal.ofBits .f32 0xBF000000#32 * Ideal.div (Ideal.rsqrt (ms (inp X2 (row b i)))) (ms (inp X2 (row b i))) := by
  rw [val_main_v11_apply, val_main_v10_apply, val_main_v9_apply, r7, r8]
  rfl

/-- The factor of the row in its gradient. -/
theorem r44 (b : Fin 2) (i : Fin 4096) (d : Fin 1024) : (val_main_v44 (F := Ideal) X0 X1 X2 X4 X5 (ix3 b i d) : EReal)
    = fac (inp X2 (row b i)) (grad X0 X1 X4 X5 (row b i)) := by
  have h36 : (val_main_v36 (F := Ideal) X0 X1 X2 X4 X5 (ix2 b i) : EReal) = ∑ k, inp X2 (row b i) k * grad X0 X1 X4 X5 (row b i) k := by
    rw [val_main_v36_apply]
    refine (congrArg₂ (· + ·) zeroBits (Finset.sum_congr rfl fun k _ => ?_)).trans (zero_add _)
    have e : idx_main_v36 (ix2 b i : S2x4096.Idx) k = (ix3 b i k : S2x4096x1024.Idx) := idx3 rfl rfl rfl
    rw [val_main_v35_apply, e, r0, r34]
    rfl
  have h42 (z : Fin 1) : (val_main_v42 (F := Ideal) X0 X1 X2 X4 X5 (ix3 b i z) : EReal) = fac (inp X2 (row b i)) (grad X0 X1 X4 X5 (row b i)) := by
    rw [val_main_v42_apply, val_main_v41_apply, val_main_v40_apply, val_main_v37_apply, r11]
    have e : idx_main_v37 (ix3 b i z : S2x4096x1.Idx) = ix2 b i := idx2
      (by show ((b.val * 4096 + i.val) * 1 + z.val) / 4096 = b.val; omega)
      (by show ((b.val * 4096 + i.val) * 1 + z.val) % 4096 = i.val; omega)
    rw [e, h36]
    rfl
  rw [val_main_v44_apply]
  have e : idx_main_v44 (ix3 b i d : S2x4096x1024.Idx) = ix2 b i := idx2 rfl rfl
  rw [e, val_main_v43_apply]
  refine (congrArg₂ (· + ·) zeroBits (Fin.sum_univ_one _)).trans ((zero_add _).trans ?_)
  have e : idx_main_v43 (ix2 b i : S2x4096.Idx) 0 = (ix3 b i 0 : S2x4096x1.Idx) := idx3 rfl rfl rfl
  rw [e]
  exact h42 0

theorem r48 (b : Fin 2) (i : Fin 4096) (d : Fin 1024) : (val_main_v48 (F := Ideal) X0 X1 X2 X4 X5 (ix3 b i d) : EReal)
    = back1 (inp X2 (row b i)) (grad X0 X1 X4 X5 (row b i)) d := by
  rw [val_main_v48_apply, val_main_v47_apply, val_main_v46_apply, val_main_v45_apply, val_main_v39_apply, val_main_v38_apply, r44, r34, r0]
  have e : idx_main_v38 (ix3 b i d : S2x4096x1024.Idx) = ix3 b i 0 := idx3 rfl rfl rfl
  rw [e, r8]
  exact back1_eq (inp X2 (row b i)) (grad X0 X1 X4 X5 (row b i)) d

theorem ref_is (r : Fin 8192) (d : Fin 1024) : (val_main_v50 (F := Ideal) X0 X1 X2 X3 X4 X5 (ix2 r d) : EReal) = dx X0 X1 X2 X3 X4 X5 r d := by
  have h : (val_main_v49 (F := Ideal) X0 X1 X2 X4 X5 (ix2 r d) : EReal) = back1 (inp X2 r) (grad X0 X1 X4 X5 r) d := by
    rw [val_main_v49_apply, back (i := idx_main_v49 (ix2 r d : S8192x1024.Idx)) r d rfl rfl rfl, r48, row_eq]
  rw [val_main_v50_apply, h]
  rfl

end Arrays

end Fox.UpDx

end
-- ==== Proof.UpDx.lean ====
/- The gradient of the up projection's input through the norm before it, as the kernel computes it: four shards' products left in a
   scratch, the other four added, the norm's gradient at the end. -/
module

public import proofs.«01_k».proof.Proof.UpDxRef
public import proofs.«01_k».proof.Proof.Gen.Kernel7Ideal.Frame
public import proofs.«01_k».proof.Proof.Gen.Kernel7Ideal.Value
public import Idealize.ShloMosaic.Lib.Pipeline.ValueKit

@[expose] public section

set_option maxRecDepth 16384

noncomputable section

namespace Fox.UpDx

open Idealize.ShloMosaic Idealize.ShloMosaic.TcCoe Cert.Kernel7Ideal Cert.Kernel7Ideal.Gen
open Fox.DownFwd (seq tok seq_row row_eq)
open Fox.UpFwd (shard)

/-! The body's values. -/

section Payload

/-- One shard's product. -/
def part (a : FVec Ideal S1x512x704 .bf16) (w : FVec Ideal S1x1024x704 .bf16) (r : Fin 512) (d : Fin 1024) : EReal :=
  ∑ l : Fin 704, (a (ix3 0 r l) : EReal) * w (ix3 0 d l)

theorem pay10_at (a0 a1 a2 a3 : FVec Ideal S1x512x704 .bf16) (w0 w1 w2 w3 : FVec Ideal S1x1024x704 .bf16) (r : Fin 512) (d : Fin 1024) :
    (k0_pay10 (F := Ideal) a0 w0 a1 w1 a2 w2 a3 w3 (ix2 r d) : EReal) = part a0 w0 r d + part a1 w1 r d + part a2 w2 r d + part a3 w3 r d := by
  unfold part
  pointwise [k0_pay10]
theorem pay11_at (a0 a1 a2 a3 : FVec Ideal S1x512x704 .bf16) (w0 w1 w2 w3 : FVec Ideal S1x1024x704 .bf16) (r : Fin 512) (d : Fin 1024) :
    (k0_pay11 (F := Ideal) a0 w0 a1 w1 a2 w2 a3 w3 (ix2 r d) : EReal) = part a0 w0 r d + part a1 w1 r d + part a2 w2 r d + part a3 w3 r d := by
  unfold k0_pay11
  rw [shapeCast_self]
  exact pay10_at a0 a1 a2 a3 w0 w1 w2 w3 r d
theorem pay1_at (z a : FVec Ideal S512x1024 .f32) (r : Fin 512) (d : Fin 1024) :
    (k0_pay1 (F := Ideal) z a (ix2 r d) : EReal) = a (ix2 r d) + z (ix2 r d) := by
  unfold k0_pay1
  rw [shapeCast_self]
  rfl

theorem pay3_at (x : FVec Ideal S512x1024 .f32) (r : Fin 512) : (k0_pay3 (F := Ideal) x (ix2 r 0) : EReal) = Ideal.rsqrt (ms fun k => x (ix2 r k)) := by
  unfold ms
  pointwise [k0_pay3]
theorem pay4_at (x : FVec Ideal S512x1024 .f32) (r : Fin 512) (d : Fin 1024) : (k0_pay4 (F := Ideal) x (ix2 r d) : EReal) = x (ix2 r d) * Ideal.rsqrt (ms fun k => x (ix2 r k)) := by
  rw [← pay3_at]
  unfold k0_pay4
  generalize k0_pay3 (F := Ideal) x = y
  pointwise
theorem pay5_at (s : FVec Ideal S1x1x1024 .f32) (d : Fin 1024) :
    (k0_pay5 (F := Ideal) s (ix2 0 d) : EReal) = Ideal.ofBits .f32 0x3F800000#32 + s (ix3 0 0 d) := by
  pointwise [k0_pay5]

theorem pay6_at (p x : FVec Ideal S512x1024 .f32) (g : FVec Ideal S1x1024 .f32) (s : FVec Ideal S1x1x1024 .f32) (o : FVec Ideal S512x1024 .f32)
    (r : Fin 512) (d : Fin 1024) : (k0_pay6 (F := Ideal) p x g s o (ix2 r d) : EReal)
      = o (ix2 r d) + k0_pay3 (F := Ideal) x (ix2 r 0) * ((p (ix2 r d) : EReal) * (g (ix2 0 d) * k0_pay5 (F := Ideal) s (ix2 0 d))
        - k0_pay4 (F := Ideal) x (ix2 r d) * Ideal.div (∑ k, ((p (ix2 r k) : EReal) * (g (ix2 0 k) * k0_pay5 (F := Ideal) s (ix2 0 k)))
          * k0_pay4 (F := Ideal) x (ix2 r k)) (Ideal.ofBits .f32 0x44800000#32)) := by
  unfold k0_pay6
  generalize k0_pay3 (F := Ideal) x = a
  generalize k0_pay4 (F := Ideal) x = b
  generalize k0_pay5 (F := Ideal) s = c
  pointwise

theorem pay6_is (p x : FVec Ideal S512x1024 .f32) (g : FVec Ideal S1x1024 .f32) (s : FVec Ideal S1x1x1024 .f32) (o : FVec Ideal S512x1024 .f32)
    (r : Fin 512) (d : Fin 1024) : (k0_pay6 (F := Ideal) p x g s o (ix2 r d) : EReal) = o (ix2 r d)
      + back1 (fun k => x (ix2 r k)) (fun k => p (ix2 r k) * (g (ix2 0 k) * (Ideal.ofBits .f32 0x3F800000#32 + s (ix3 0 0 k)))) d := by
  rw [pay6_at]
  simp only [pay3_at, pay4_at, pay5_at]
  rfl

end Payload

/-! What a grid point leaves: point `2 j` the first four shards' product in the scratch, point `2 j + 1` the gradient in the output. -/

section Point
variable (x0 : FVec Ideal S4x512x704 .bf16) (x1 : FVec Ideal S4x1024x704 .bf16)

theorem ld_a {o : Fin 3 → ℕ} (h : ∀ a, o a + S1x512x704.size a ≤ S4x512x704.size a) (j : Fin 4) (h0 : o 0 = j.val) (h1 : o 1 = 0) (h2 : o 2 = 0) (r : Fin 512) (l : Fin 704) :
    View.ld (Val := Elt Ideal) (e' := .bf16) x0 (Rect.unit (s := S4x512x704) o S1x512x704.size h) (ix3 0 r l : S1x512x704.Idx) = x0 (ix3 j r l) :=
  congrArg x0 (idx3 (by show o 0 + 1 * 0 = j.val; omega) (by show o 1 + 1 * r.val = r.val; omega) (by show o 2 + 1 * l.val = l.val; omega))
theorem ld_w {o : Fin 3 → ℕ} (h : ∀ a, o a + S1x1024x704.size a ≤ S4x1024x704.size a) (j : Fin 4) (h0 : o 0 = j.val) (h1 : o 1 = 0) (h2 : o 2 = 0) (d : Fin 1024) (l : Fin 704) :
    View.ld (Val := Elt Ideal) (e' := .bf16) x1 (Rect.unit (s := S4x1024x704) o S1x1024x704.size h) (ix3 0 d l : S1x1024x704.Idx) = x1 (ix3 j d l) :=
  congrArg x1 (idx3 (by show o 0 + 1 * 0 = j.val; omega) (by show o 1 + 1 * d.val = d.val; omega) (by show o 2 + 1 * l.val = l.val; omega))

theorem part_ld {oa ow : Fin 3 → ℕ} (ha : ∀ a, oa a + S1x512x704.size a ≤ S4x512x704.size a) (hw : ∀ a, ow a + S1x1024x704.size a ≤ S4x1024x704.size a) (j : Fin 4)
    (a0 : oa 0 = j.val) (a1 : oa 1 = 0) (a2 : oa 2 = 0) (w0 : ow 0 = j.val) (w1 : ow 1 = 0) (w2 : ow 2 = 0) (r : Fin 512) (d : Fin 1024) :
    part (View.ld (Val := Elt Ideal) (e' := .bf16) x0 (Rect.unit (s := S4x512x704) oa S1x512x704.size ha))
      (View.ld (Val := Elt Ideal) (e' := .bf16) x1 (Rect.unit (s := S4x1024x704) ow S1x1024x704.size hw)) r d
      = ∑ l : Fin 704, (x0 (ix3 j r l) : EReal) * x1 (ix3 j d l) :=
  Finset.sum_congr rfl fun l _ => congrArg₂ (· * ·) (ld_a x0 ha j a0 a1 a2 r l) (ld_w x1 hw j w0 w1 w2 d l)

/-- The four shards' product of a point's blocks. -/
def four (r : Fin 512) (d : Fin 1024) : EReal :=
  (∑ l : Fin 704, (x0 (ix3 0 r l) : EReal) * x1 (ix3 0 d l)) + (∑ l : Fin 704, (x0 (ix3 1 r l) : EReal) * x1 (ix3 1 d l))
    + (∑ l : Fin 704, (x0 (ix3 2 r l) : EReal) * x1 (ix3 2 d l)) + ∑ l : Fin 704, (x0 (ix3 3 r l) : EReal) * x1 (ix3 3 d l)

variable (c : Dev nD) (i : grid0.Coords) (a3 : Memref sig .tc .vmem S4x512x704 .bf16) (h3 : a3.IsWhole) (a4 : Memref sig .tc .vmem S4x1024x704 .bf16)
  (h4 : a4.IsWhole) (a5 : Memref sig .tc .vmem S512x1024 .f32) (h5 : a5.IsWhole) (a6 : Memref sig .tc .vmem S512x1024 .f32) (h6 : a6.IsWhole)
  (a7 : Memref sig .tc .vmem S1x1024 .f32) (h7 : a7.IsWhole) (a8 : Memref sig .tc .vmem S1x1x1024 .f32) (h8 : a8.IsWhole)
  (a9 : Memref sig .tc .vmem S512x1024 .f32) (h9 : a9.IsWhole) (a10 : Memref sig .tc .vmem S1x8x1024 .f32) (h10 : a10.IsWhole)
  (a11 : Memref sig .tc .vmem S512x1024 .f32) (h11 : a11.IsWhole)
  (x2 x3 : Vec Ideal S512x1024 .f32) (x4 : Vec Ideal S1x1024 .f32) (x5 : Vec Ideal S1x1x1024 .f32) (xs : Vec Ideal S512x1024 .f32)

theorem first (hc0 : cond0_0 i) (hc1 : ¬cond0_1 i) (hc2 : ¬cond0_2 i) (r : Fin 512) (d : Fin 1024) :
    (sout0_A_0 (F := Ideal) c i a3 h3 a4 h4 a5 h5 a6 h6 a7 h7 a8 h8 a9 h9 a10 h10 a11 h11 hc0 hc1 hc2 x0 x1 x2 x3 x4 x5 (ix2 r d) : EReal) = four x0 x1 r d := by
  unfold sout0_A_0
  rw [View.read_writes_eq_canon _ _ _ (scover0_A_0 c i a3 h3 a4 h4 a5 h5 a6 h6 a7 h7 a8 h8 a9 h9 a10 h10 a11 h11 hc0 hc1 hc2 x0 x1 x2 x3 x4 x5)]
  unfold kernelRun0_A
  dsimp only
  sl_unfold_words
  rw [View.canon_unit_zero z2]
  simp only [View.readAt_eq_ld, h3.read_unread, h4.read_unread]
  refine (pay11_at _ _ _ _ _ _ _ _ r d).trans ?_
  unfold four
  refine congrArg₂ (· + ·) (congrArg₂ (· + ·) (congrArg₂ (· + ·) ?_ ?_) ?_) ?_
  · exact part_ld x0 x1 _ _ 0 rfl rfl rfl rfl rfl rfl r d
  · exact part_ld x0 x1 _ _ 1 rfl rfl rfl rfl rfl rfl r d
  · exact part_ld x0 x1 _ _ 2 rfl rfl rfl rfl rfl rfl r d
  · exact part_ld x0 x1 _ _ 3 rfl rfl rfl rfl rfl rfl r d

theorem second (hc0 : ¬cond0_0 i) (hc1 : cond0_1 i) (hc2 : cond0_2 i) : ∃ p : FVec Ideal S512x1024 .f32,
    (∀ r d, (p (ix2 r d) : EReal) = xs (ix2 r d) + four x0 x1 r d) ∧
    out0_B_6 (F := Ideal) c i a3 h3 a4 h4 a5 h5 a6 h6 a7 h7 a8 h8 a9 h9 a10 h10 a11 h11 hc0 hc1 hc2 x0 x1 x2 x3 x4 x5 xs = k0_pay6 (F := Ideal) p x2 x4 x5 x3 := by
  unfold out0_B_6
  rw [View.read_writes_eq_canon _ _ _ (cover0_B_6 c i a3 h3 a4 h4 a5 h5 a6 h6 a7 h7 a8 h8 a9 h9 a10 h10 a11 h11 hc0 hc1 hc2 x0 x1 x2 x3 x4 x5 xs)]
  unfold kernelRun0_B
  dsimp only
  sl_unfold_words
  rw [View.canon_unit_zero z2, View.readCov_unit_zero (S := S512x1024) _ z2]
  simp only [View.readAt_eq_ld, h3.read_unread, h4.read_unread, h5.read_unread, h6.read_unread, h7.read_unread, h8.read_unread, h11.read_unread,
    View.ld_unit_zero (S := S512x1024) z2, View.ld_unit_zero (S := S1x1024) z2, View.ld_unit_zero (S := S1x1x1024) z3]
  refine ⟨_, fun r d => ?_, rfl⟩
  refine (pay1_at _ _ r d).trans (congrArg (_ + ·) ((pay10_at _ _ _ _ _ _ _ _ r d).trans ?_))
  unfold four
  refine congrArg₂ (· + ·) (congrArg₂ (· + ·) (congrArg₂ (· + ·) ?_ ?_) ?_) ?_
  · exact part_ld x0 x1 _ _ 0 rfl rfl rfl rfl rfl rfl r d
  · exact part_ld x0 x1 _ _ 1 rfl rfl rfl rfl rfl rfl r d
  · exact part_ld x0 x1 _ _ 2 rfl rfl rfl rfl rfl rfl r d
  · exact part_ld x0 x1 _ _ 3 rfl rfl rfl rfl rfl rfl r d

end Point

/-! Where the blocks lie, with `t = 2 j + k`. -/

def tr (t : Fin cfg0.N) (r : Fin 512) : Fin 8192 := ⟨512 * (t.val / 2) + r.val, by have h : t.val < 32 := lt_of_lt_of_eq t.isLt N_0; omega⟩
def tk (t : Fin cfg0.N) : Fin 2 := ⟨t.val % 2, by omega⟩
def ts (t : Fin cfg0.N) : Fin 2 := ⟨t.val / 16, by have h : t.val < 32 := lt_of_lt_of_eq t.isLt N_0; omega⟩
theorem seq_tr (t : Fin cfg0.N) (r : Fin 512) : seq (tr t r) = ts t := Fin.ext (by show (512 * (t.val / 2) + r.val) / 4096 = t.val / 16; omega)

theorem idx_0 : ∀ t : Fin cfg0.N, win0_0.index t = ![t.val % 2, t.val / 2, 0] := (by decide +kernel : ∀ t : Fin grid0.N, win0_0.index t = ![t.val % 2, t.val / 2, 0])
theorem idx_1 : ∀ t : Fin cfg0.N, win0_1.index t = ![t.val % 2, 0, 0] := (by decide +kernel : ∀ t : Fin grid0.N, win0_1.index t = ![t.val % 2, 0, 0])
theorem idx_2 : ∀ t : Fin cfg0.N, win0_2.index t = ![t.val / 2, 0] := (by decide +kernel : ∀ t : Fin grid0.N, win0_2.index t = ![t.val / 2, 0])
theorem idx_3 : ∀ t : Fin cfg0.N, win0_3.index t = ![t.val / 2, 0] := (by decide +kernel : ∀ t : Fin grid0.N, win0_3.index t = ![t.val / 2, 0])
theorem idx_4 : ∀ t : Fin cfg0.N, win0_4.index t = ![0, 0] := (by decide +kernel : ∀ t : Fin grid0.N, win0_4.index t = ![0, 0])
theorem idx_5 : ∀ t : Fin cfg0.N, win0_5.index t = ![t.val / 16, 0, 0] := (by decide +kernel : ∀ t : Fin grid0.N, win0_5.index t = ![t.val / 16, 0, 0])
theorem idx_6 : ∀ t : Fin cfg0.N, win0_6.index t = ![t.val / 2, 0] := (by decide +kernel : ∀ t : Fin grid0.N, win0_6.index t = ![t.val / 2, 0])

theorem rd_0 (X : FVec Ideal S8x8192x704 .bf16) (t : Fin cfg0.N) (j : Fin 4) (r : Fin 512) (l : Fin 704) :
    (((cfg0.win 0).blk t).view.read (Elt Ideal) X : FVec Ideal S4x512x704 .bf16) (ix3 j r l) = X (ix3 (shard (tk t) j) (tr t r) l) := by
  unfold tr tk shard
  blk_ext [idx_0 t]
theorem rd_1 (X : FVec Ideal S8x1024x704 .bf16) (t : Fin cfg0.N) (j : Fin 4) (d : Fin 1024) (l : Fin 704) :
    (((cfg0.win 1).blk t).view.read (Elt Ideal) X : FVec Ideal S4x1024x704 .bf16) (ix3 j d l) = X (ix3 (shard (tk t) j) d l) := by
  unfold tk shard
  blk_ext [idx_1 t]
theorem rd_2 (X : FVec Ideal S8192x1024 .f32) (t : Fin cfg0.N) (r : Fin 512) (d : Fin 1024) :
    (((cfg0.win 2).blk t).view.read (Elt Ideal) X : FVec Ideal S512x1024 .f32) (ix2 r d) = X (ix2 (tr t r) d) := by
  unfold tr
  blk_ext [idx_2 t]
theorem rd_3 (X : FVec Ideal S8192x1024 .f32) (t : Fin cfg0.N) (r : Fin 512) (d : Fin 1024) :
    (((cfg0.win 3).blk t).view.read (Elt Ideal) X : FVec Ideal S512x1024 .f32) (ix2 r d) = X (ix2 (tr t r) d) := by
  unfold tr
  blk_ext [idx_3 t]
theorem rd_4 (X : FVec Ideal S1x1024 .f32) (t : Fin cfg0.N) (d : Fin 1024) :
    (((cfg0.win 4).blk t).view.read (Elt Ideal) X : FVec Ideal S1x1024 .f32) (ix2 0 d) = X (ix2 0 d) := by
  blk_ext [idx_4 t]
theorem rd_5 (X : FVec Ideal S2x1x1024 .f32) (t : Fin cfg0.N) (d : Fin 1024) :
    (((cfg0.win 5).blk t).view.read (Elt Ideal) X : FVec Ideal S1x1x1024 .f32) (ix3 0 0 d) = X (ix3 (ts t) 0 d) := by
  unfold ts
  blk_ext [idx_5 t]
theorem wr_6 (X : FVec Ideal S8192x1024 .f32) (t : Fin cfg0.N) (r : Fin 512) (d : Fin 1024) :
    X (((cfg0.win 6).blk t).view.emb (ix2 r d : S512x1024.Idx)) = X (ix2 (tr t r) d) := by
  unfold tr
  blk_ext [idx_6 t]

/-! The kernel's array. -/

section Arrays
variable {m : (ℓ : Loc nD τ sig) → Buf (Elt Ideal) ℓ} {c : Dev nD} {X0 : FVec Ideal S8x8192x704 .bf16} {X1 : FVec Ideal S8x1024x704 .bf16}
  {X2 X3 : FVec Ideal S8192x1024 .f32} {X4 : FVec Ideal S1x1024 .f32} {X5 : FVec Ideal S2x1x1024 .f32}

/-- What a grid point reads: rows of the arrays, four shards, and the scale of the rows' sequence. -/
structure At (X0 : FVec Ideal S8x8192x704 .bf16) (X1 : FVec Ideal S8x1024x704 .bf16) (X2 X3 : FVec Ideal S8192x1024 .f32) (X4 : FVec Ideal S1x1024 .f32)
    (X5 : FVec Ideal S2x1x1024 .f32) (t : Fin cfg0.N) (x0 : FVec Ideal S4x512x704 .bf16) (x1 : FVec Ideal S4x1024x704 .bf16)
    (x2 x3 : FVec Ideal S512x1024 .f32) (x4 : FVec Ideal S1x1024 .f32) (x5 : FVec Ideal S1x1x1024 .f32) : Prop where
  y : ∀ j r l, x0 (ix3 j r l) = X0 (ix3 (shard (tk t) j) (tr t r) l)
  w : ∀ j d l, x1 (ix3 j d l) = X1 (ix3 (shard (tk t) j) d l)
  x : ∀ r d, x2 (ix2 r d) = X2 (ix2 (tr t r) d)
  o : ∀ r d, x3 (ix2 r d) = X3 (ix2 (tr t r) d)
  g : ∀ d, x4 (ix2 0 d) = X4 (ix2 0 d)
  s : ∀ r d, x5 (ix3 0 0 d) = X5 (ix3 (seq (tr t r)) 0 d)

theorem four_is {t : Fin cfg0.N} {x0 : FVec Ideal S4x512x704 .bf16} {x1 : FVec Ideal S4x1024x704 .bf16} {x2 x3 : FVec Ideal S512x1024 .f32}
    {x4 : FVec Ideal S1x1024 .f32} {x5 : FVec Ideal S1x1x1024 .f32} (A : At X0 X1 X2 X3 X4 X5 t x0 x1 x2 x3 x4 x5)
    (r : Fin 512) (d : Fin 1024) : four x0 x1 r d = half X0 X1 (tk t) (tr t r) d := by
  have h (j : Fin 4) : ∑ l : Fin 704, (x0 (ix3 j r l) : EReal) * x1 (ix3 j d l) = dot X0 X1 (shard (tk t) j) (tr t r) d :=
    Finset.sum_congr rfl fun l _ => congrArg₂ (· * ·) (A.y j r l) (A.w j d l)
  unfold four
  rw [h, h, h, h]
  rfl

/-- The epilogue of the rows whose product is whole. -/
theorem epilogue {t : Fin cfg0.N} {x0 : FVec Ideal S4x512x704 .bf16} {x1 : FVec Ideal S4x1024x704 .bf16} {x2 x3 p : FVec Ideal S512x1024 .f32}
    {x4 : FVec Ideal S1x1024 .f32} {x5 : FVec Ideal S1x1x1024 .f32} (A : At X0 X1 X2 X3 X4 X5 t x0 x1 x2 x3 x4 x5) {r : Fin 512}
    (hp : ∀ d, (p (ix2 r d) : EReal) = prod X0 X1 (tr t r) d) (d : Fin 1024) :
    (k0_pay6 (F := Ideal) p x2 x4 x5 x3 (ix2 r d) : EReal) = dx X0 X1 X2 X3 X4 X5 (tr t r) d := by
  refine (pay6_is p x2 x4 x5 x3 r d).trans (congrArg₂ (· + ·) (A.o r d) ?_)
  have hx : (fun k => x2 (ix2 r k)) = inp X2 (tr t r) := funext fun k => A.x r k
  have hq : (fun k => (p (ix2 r k) : EReal) * (x4 (ix2 0 k) * (Ideal.ofBits .f32 0x3F800000#32 + x5 (ix3 0 0 k)))) = grad X0 X1 X4 X5 (tr t r) :=
    funext fun k => by rw [hp, A.g, A.s r]; rfl
  rw [hx, hq]

/-- Every grid point reads the arrays. -/
def Reads (m : (ℓ : Loc nD τ sig) → Buf (Elt Ideal) ℓ) (c : Dev nD) (X0 : FVec Ideal S8x8192x704 .bf16) (X1 : FVec Ideal S8x1024x704 .bf16)
    (X2 X3 : FVec Ideal S8192x1024 .f32) (X4 : FVec Ideal S1x1024 .f32) (X5 : FVec Ideal S2x1x1024 .f32) : Prop :=
  ∀ t, At X0 X1 X2 X3 X4 X5 t (iblk m c 0 t) (iblk m c 1 t) (iblk m c 2 t) (iblk m c 3 t) (iblk m c 4 t) (iblk m c 5 t)

theorem reads_of (h0 : V m c main_arg0 = X0) (h1 : V m c main_arg1 = X1) (h2 : V m c main_arg2 = X2) (h3 : V m c main_arg3 = X3)
    (h4 : V m c main_arg4 = X4) (h5 : V m c main_arg5 = X5) : Reads m c X0 X1 X2 X3 X4 X5 := fun t => by
  have e0 : iblk m c 0 t = ((cfg0.win 0).blk t).view.read (Elt Ideal) X0 := congrArg (((cfg0.win 0).blk t).view.read (Elt Ideal)) h0
  have e1 : iblk m c 1 t = ((cfg0.win 1).blk t).view.read (Elt Ideal) X1 := congrArg (((cfg0.win 1).blk t).view.read (Elt Ideal)) h1
  have e2 : iblk m c 2 t = ((cfg0.win 2).blk t).view.read (Elt Ideal) X2 := congrArg (((cfg0.win 2).blk t).view.read (Elt Ideal)) h2
  have e3 : iblk m c 3 t = ((cfg0.win 3).blk t).view.read (Elt Ideal) X3 := congrArg (((cfg0.win 3).blk t).view.read (Elt Ideal)) h3
  have e4 : iblk m c 4 t = ((cfg0.win 4).blk t).view.read (Elt Ideal) X4 := congrArg (((cfg0.win 4).blk t).view.read (Elt Ideal)) h4
  have e5 : iblk m c 5 t = ((cfg0.win 5).blk t).view.read (Elt Ideal) X5 := congrArg (((cfg0.win 5).blk t).view.read (Elt Ideal)) h5
  rw [e0, e1, e2, e3, e4, e5]
  exact { y := fun j r l => rd_0 X0 t j r l
          w := fun j d l => rd_1 X1 t j d l
          x := fun r d => rd_2 X2 t r d
          o := fun r d => rd_3 X3 t r d
          g := fun d => rd_4 X4 t d
          s := fun r d => (rd_5 X5 t d).trans (congrArg (fun s => X5 (ix3 s 0 d)) (seq_tr t r).symm) }

/-- After an even point the scratch holds the first four shards' product. -/
theorem scratch (R : Reads m c X0 X1 X2 X3 X4 X5) (t : Fin cfg0.N) (h : t.val % 2 = 0) (r : Fin 512) (d : Fin 1024) :
    ((outsAt0 m c t.val t.isLt).2.2 (ix2 r d) : EReal) = half X0 X1 (tk t) (tr t r) d := by
  rw [outsAt0_A m c t h (by omega) (by omega)]
  dsimp only
  rw [first]
  exact four_is (R t) r d

theorem put (R : Reads m c X0 X1 X2 X3 X4 X5) (t : Fin cfg0.N) (h : t.val % 2 = 1) (r : Fin 512) (d : Fin 1024) :
    ((outsAt0 m c t.val t.isLt).1 (ix2 r d) : EReal) = dx X0 X1 X2 X3 X4 X5 (tr t r) d := by
  have hk : tk t = 1 := Fin.ext h
  have hlt : t.val - 1 < cfg0.N := Nat.lt_of_le_of_lt (Nat.sub_le _ _) t.isLt
  have hk' : tk ⟨t.val - 1, hlt⟩ = 0 := Fin.ext (by show (t.val - 1) % 2 = 0; omega)
  have hr' : ∀ r, tr ⟨t.val - 1, hlt⟩ r = tr t r := fun r => Fin.ext (by show 512 * ((t.val - 1) / 2) + r.val = 512 * (t.val / 2) + r.val; omega)
  have s := scratch R ⟨t.val - 1, hlt⟩ (by show (t.val - 1) % 2 = 0; omega)
  rw [outsAt0_B m c t (by omega) h h]
  dsimp only at s ⊢
  generalize (outsAt0 m c (t.val - 1) _).2.2 = xs at s ⊢
  have A := R t
  generalize iblk m c 0 t = x0 at A ⊢
  generalize iblk m c 1 t = x1 at A ⊢
  generalize iblk m c 2 t = x2 at A ⊢
  generalize iblk m c 3 t = x3 at A ⊢
  generalize iblk m c 4 t = x4 at A ⊢
  generalize iblk m c 5 t = x5 at A ⊢
  obtain ⟨p, hp, e⟩ := second x0 x1 c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) scM0_0 (Memref.isWhole_whole _) x2 x3 x4 x5 xs
    (fun h0 => absurd ((hcond0_0 t).mp h0) (by omega)) ((hcond0_1 t).mpr h) ((hcond0_2 t).mpr h)
  rw [e]
  have hp' : ∀ d, (p (ix2 r d) : EReal) = prod X0 X1 (tr t r) d := fun d => by
    rw [hp, s, four_is A, hk, hk', hr']
    rfl
  exact epilogue A hp' d

theorem split2 (y : S512x1024.Idx) : ∃ r d, y = ix2 r d := ⟨y 0, y 1, idx2 rfl rfl⟩
theorem covers6 : (cfg0.win 6).Covers := by decide +kernel

theorem arr {X : FVec Ideal S8192x1024 .f32} (hX : ∀ r d, (X (ix2 r d) : EReal) = dx X0 X1 X2 X3 X4 X5 r d) (R : Reads m c X0 X1 X2 X3 X4 X5) :
    (dats m 0 c).arrAt 6 cfg0.N = X := by
  refine (dats m 0 c).arrAt_eq_of_covers 6 X covers6 fun t hf y => ?_
  rw [after0_6]
  have hp := fun r d => (put R t ((flush0_6 t).mp hf) r d).trans ((wr_6 X t r d).trans (hX _ _)).symm
  generalize (outsAt0 m c t.val t.isLt).1 = O at hp ⊢
  obtain ⟨r, d, hy⟩ := split2 y
  rw [hy]
  exact hp r d

theorem final (h0 : X0 = m ((c : Thread nD τ).loc main_arg0)) (h1 : X1 = m ((c : Thread nD τ).loc main_arg1)) (h2 : X2 = m ((c : Thread nD τ).loc main_arg2))
    (h3 : X3 = m ((c : Thread nD τ).loc main_arg3)) (h4 : X4 = m ((c : Thread nD τ).loc main_arg4)) (h5 : X5 = m ((c : Thread nD τ).loc main_arg5)) :
    Cert.Reference7Ideal.Read.val_main_v50 (F := Ideal) X0 X1 X2 X3 X4 X5 = (dats m 0 c).arrAt 6 cfg0.N :=
  (arr (ref_is X0 X1 X2 X3 X4 X5) (reads_of ((V_main_arg0 m c).trans h0.symm) ((V_main_arg1 m c).trans h1.symm) ((V_main_arg2 m c).trans h2.symm)
    ((V_main_arg3 m c).trans h3.symm) ((V_main_arg4 m c).trans h4.symm) ((V_main_arg5 m c).trans h5.symm))).symm

end Arrays

end Fox.UpDx

end
-- ==== Proof.BackwardDx.lean ====
/- The gradient of the up projection's input: the result the kernel leaves is its reference's. -/
module

public import proofs.«01_k».proof.Defs
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.UpDx
public import Idealize.ShloMosaic.Adequacy
public import Idealize.ShloMosaic.Init

@[expose] public section

noncomputable section

set_option maxRecDepth 16384

namespace Cert.Proof

open Idealize.ShloMosaic Idealize.ShloMosaic.TcCoe Idealize.SL.Sem Cert.Kernel7

attribute [local instance] Cert.Kernel7.Gen.facts Cert.Kernel7Ideal.Gen.facts Cert.Reference7Ideal.Gen.facts

theorem frame_R7 : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

theorem same7 {m : (ℓ : Loc Cert.Kernel7Ideal.nD Cert.Kernel7Ideal.τ Cert.Kernel7Ideal.sig) → Buf (Elt Ideal) ℓ} {c : Dev Cert.Kernel7Ideal.nD}
  {x0 : FVec Ideal Cert.Reference7Ideal.S8x8192x704 .bf16} (h0 : x0 = m ((c.tc : Thread Cert.Kernel7Ideal.nD Cert.Kernel7Ideal.τ).loc Cert.Kernel7Ideal.main_arg0))
  {x1 : FVec Ideal Cert.Reference7Ideal.S8x1024x704 .bf16} (h1 : x1 = m ((c.tc : Thread Cert.Kernel7Ideal.nD Cert.Kernel7Ideal.τ).loc Cert.Kernel7Ideal.main_arg1))
  {x2 : FVec Ideal Cert.Reference7Ideal.S8192x1024 .f32} (h2 : x2 = m ((c.tc : Thread Cert.Kernel7Ideal.nD Cert.Kernel7Ideal.τ).loc Cert.Kernel7Ideal.main_arg2))
  {x3 : FVec Ideal Cert.Reference7Ideal.S8192x1024 .f32} (h3 : x3 = m ((c.tc : Thread Cert.Kernel7Ideal.nD Cert.Kernel7Ideal.τ).loc Cert.Kernel7Ideal.main_arg3))
  {x4 : FVec Ideal Cert.Reference7Ideal.S1x1024 .f32} (h4 : x4 = m ((c.tc : Thread Cert.Kernel7Ideal.nD Cert.Kernel7Ideal.τ).loc Cert.Kernel7Ideal.main_arg4))
  {x5 : FVec Ideal Cert.Reference7Ideal.S2x1x1024 .f32} (h5 : x5 = m ((c.tc : Thread Cert.Kernel7Ideal.nD Cert.Kernel7Ideal.τ).loc Cert.Kernel7Ideal.main_arg5)) :
    Cert.Reference7Ideal.Read.val_main_v50 (F := Ideal) x0 x1 x2 x3 x4 x5 = (Cert.Kernel7Ideal.Gen.dats m 0 c).arrAt 6 Cert.Kernel7Ideal.cfg0.N := by
  exact Fox.UpDx.final h0 h1 h2 h3 h4 h5

/-- Over the extended reals the kernel's gradient is the reference's. -/
theorem algebraic_7 : Cert.algebraic_Kernel7Ideal_Reference7Ideal := by
  pair_intro
  · run_from Cert.Kernel7Ideal.Value.run_blocks m g
  · run_from Cert.Reference7Ideal.Value.run m' g'
    exact (Cert.Reference7Ideal.Read.val_main_v50_eq m' c).trans
      (same7 (by first | rfl | exact (hagree c).1) (by first | rfl | exact (hagree c).2.1) (by first | rfl | exact (hagree c).2.2.1) (by first | rfl | exact (hagree c).2.2.2.1) (by first | rfl | exact (hagree c).2.2.2.2.1) (by first | rfl | exact (hagree c).2.2.2.2.2))

end Cert.Proof

end
-- ==== Proof.lean ====
/- The proof of the claims: the frames of every program, and each kernel's results those of its reference. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Arrays
public import proofs.«01_k».proof.Proof.Finite
public import proofs.«01_k».proof.Proof.DwUp
public import proofs.«01_k».proof.Proof.DwDown
public import proofs.«01_k».proof.Proof.FiniteDown
public import proofs.«01_k».proof.Proof.Forward
public import proofs.«01_k».proof.Proof.BackwardDx
public import Idealize.ShloMosaic.Adequacy
public import Idealize.ShloMosaic.Init

@[expose] public section

noncomputable section

set_option maxRecDepth 16384

namespace Cert.Proof

open Idealize.ShloMosaic Idealize.ShloMosaic.TcCoe Idealize.SL.Sem Cert.Kernel

attribute [local instance] Cert.Kernel.Gen.facts Cert.KernelIdeal.Gen.facts Cert.ReferenceIdeal.Gen.facts Fox.preFacts
  Cert.Kernel2.Gen.facts Cert.Kernel2Ideal.Gen.facts Cert.Reference2Ideal.Gen.facts Cert.Kernel3.Gen.facts Cert.Kernel3Ideal.Gen.facts Cert.Reference3Ideal.Gen.facts
  Cert.Kernel4.Gen.facts Cert.Kernel4Ideal.Gen.facts Cert.Reference4Ideal.Gen.facts Fox.DxDown.preFacts
  Cert.Kernel5.Gen.facts Cert.Kernel5Ideal.Gen.facts Cert.Reference5Ideal.Gen.facts Fox.UpFwd.preFacts Cert.Kernel6.Gen.facts Cert.Kernel6Ideal.Gen.facts Cert.Reference6Ideal.Gen.facts
  Cert.Kernel7.Gen.facts Cert.Kernel7Ideal.Gen.facts Cert.Reference7Ideal.Gen.facts

/-- The reference leaves its arguments as they were; it has no counters. -/
theorem frame_R : Cert.quiescent_ReferenceIdeal := fun m ρ _ =>
  (θ_run Cert.ReferenceIdeal.defs _ _).mono
    (fun r h => ⟨fun c => (h c).2.2.2.2.2, sem_eq_zero_of_no_sems (by decide) r.2⟩)
    (Cert.ReferenceIdeal.Value.run (F := Ideal) m ρ)

/-- Under the precondition the kernel's arguments hold real numbers. -/
theorem holds {m : (ℓ : Loc Cert.KernelIdeal.nD Cert.KernelIdeal.τ Cert.KernelIdeal.sig) → Buf (Elt Ideal) ℓ} (hpre : Cert.Pre_KernelIdeal m) (c : Dev Cert.KernelIdeal.nD) :
    ∃ n, Fox.Holds n (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) := by
  have h := hpre c
  revert h
  generalize m ((c.tc : Thread Cert.KernelIdeal.nD Cert.KernelIdeal.τ).loc Cert.KernelIdeal.main_arg0) = x0
  generalize m ((c.tc : Thread Cert.KernelIdeal.nD Cert.KernelIdeal.τ).loc Cert.KernelIdeal.main_arg1) = x1
  generalize m ((c.tc : Thread Cert.KernelIdeal.nD Cert.KernelIdeal.τ).loc Cert.KernelIdeal.main_arg2) = x2
  generalize m ((c.tc : Thread Cert.KernelIdeal.nD Cert.KernelIdeal.τ).loc Cert.KernelIdeal.main_arg3) = x3
  generalize m ((c.tc : Thread Cert.KernelIdeal.nD Cert.KernelIdeal.τ).loc Cert.KernelIdeal.main_arg4) = x4
  exact fun h => Fox.holds_of_finite (x0 := x0) (x1 := x1) (x2 := x2) (x3 := x3) (x4 := x4) h

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}
  (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  {n : Fox.In} (H : Fox.Holds n (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
include H

/-! Each array of gradients the kernel leaves is the reference's. -/

include a0 a1 a2 a3 a4 in
theorem same8 : Cert.ReferenceIdeal.Value.res_main_v102 m' c = (Cert.KernelIdeal.Gen.dats m 0 c).arrAt 8 Cert.KernelIdeal.cfg0.N := by
  obtain ⟨M, hM⟩ := Fox.v28_real H
  rw [Cert.ReferenceIdeal.Read.val_main_v102_eq, a0, a1, a2, a3, a4]
  exact (Fox.arr8 H (Fox.v102_is H hM)).symm
include a0 a1 a2 a3 a4 in
theorem same9 : Cert.ReferenceIdeal.Value.res_main_v94 m' c = (Cert.KernelIdeal.Gen.dats m 0 c).arrAt 9 Cert.KernelIdeal.cfg0.N := by
  obtain ⟨M, hM⟩ := Fox.v28_real H
  rw [Cert.ReferenceIdeal.Read.val_main_v94_eq, a0, a1, a2, a3, a4]
  exact (Fox.arr9 H (Fox.v94_is H hM)).symm
include a0 a1 a2 a4 in
theorem same10 : Cert.ReferenceIdeal.Value.res_main_v68 m' c = (Cert.KernelIdeal.Gen.dats m 0 c).arrAt 10 Cert.KernelIdeal.cfg0.N := by
  obtain ⟨M, hM⟩ := Fox.v28_real H
  rw [Cert.ReferenceIdeal.Read.val_main_v68_eq, a0, a1, a2, a4]
  exact (Fox.arr10 H (Fox.v68_is H hM)).symm
include a0 a1 a2 a3 a4 in
theorem same11 : Cert.ReferenceIdeal.Value.res_main_v98 m' c = (Cert.KernelIdeal.Gen.dats m 0 c).arrAt 11 Cert.KernelIdeal.cfg0.N := by
  obtain ⟨M, hM⟩ := Fox.v28_real H
  rw [Cert.ReferenceIdeal.Read.val_main_v98_eq, a0, a1, a2, a3, a4]
  exact (Fox.arr11 H (Fox.v98_is H hM)).symm
include a0 a1 a2 a3 a4 in
theorem same12 : Cert.ReferenceIdeal.Value.res_main_v103 m' c = (Cert.KernelIdeal.Gen.dats m 0 c).arrAt 12 Cert.KernelIdeal.cfg0.N := by
  obtain ⟨M, hM⟩ := Fox.v28_real H
  rw [Cert.ReferenceIdeal.Read.val_main_v103_eq, a0, a1, a2, a3, a4]
  exact (Fox.arr12 H (Fox.v103_is H hM)).symm
end

/-- Over the reals the kernel's gradients are the reference's. -/
theorem algebraic : Cert.algebraic_KernelIdeal_ReferenceIdeal := by
  pair_intro
  · run_from Cert.KernelIdeal.Value.run_blocks m g
  · have HH := fun c => holds hpre c
    run_from Cert.ReferenceIdeal.Value.run m' g'
    · exact (HH c).elim fun _ H => same8 (hagree c).1 (hagree c).2.1 (hagree c).2.2.1 (hagree c).2.2.2.1 (hagree c).2.2.2.2 H
    · exact (HH c).elim fun _ H => same9 (hagree c).1 (hagree c).2.1 (hagree c).2.2.1 (hagree c).2.2.2.1 (hagree c).2.2.2.2 H
    · exact (HH c).elim fun _ H => same10 (hagree c).1 (hagree c).2.1 (hagree c).2.2.1 (hagree c).2.2.2.2 H
    · exact (HH c).elim fun _ H => same11 (hagree c).1 (hagree c).2.1 (hagree c).2.2.1 (hagree c).2.2.2.1 (hagree c).2.2.2.2 H
    · exact (HH c).elim fun _ H => same12 (hagree c).1 (hagree c).2.1 (hagree c).2.2.1 (hagree c).2.2.2.1 (hagree c).2.2.2.2 H

/-! The gradient of the up projection's weight. -/

theorem frame_R2 : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

theorem algebraic_2 : Cert.algebraic_Kernel2Ideal_Reference2Ideal := by
  pair_intro
  · run_from Cert.Kernel2Ideal.Value.run_blocks m g
  · run_from Cert.Reference2Ideal.Value.run m' g'
    exact (Cert.Reference2Ideal.Read.val_main_v10_eq _ _).trans (Fox.DwUp.arr m c _ _ rfl rfl).symm

/-! The gradient of the down projection's weight. -/

theorem frame_R3 : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem algebraic_3 : Cert.algebraic_Kernel3Ideal_Reference3Ideal := by
  pair_intro
  · run_from Cert.Kernel3Ideal.Value.run_blocks m g
  · run_from Cert.Reference3Ideal.Value.run m' g'
    exact (Cert.Reference3Ideal.Read.val_main_v8_eq _ _).trans (Fox.DwDown.arr m c _ _ rfl rfl).symm

/-! The gradient of the hidden pair. -/

theorem frame_R4 : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem hold {m : (ℓ : Loc Cert.Kernel4Ideal.nD Cert.Kernel4Ideal.τ Cert.Kernel4Ideal.sig) → Buf (Elt Ideal) ℓ} (hpre : Cert.Pre_Kernel4Ideal m) (c : Dev Cert.Kernel4Ideal.nD) :
    ∃ n, Fox.DxDown.Hold n (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) := Fox.DxDown.hold_of_finite (hpre c)

theorem same_4 {m : (ℓ : Loc Cert.Kernel4Ideal.nD Cert.Kernel4Ideal.τ Cert.Kernel4Ideal.sig) → Buf (Elt Ideal) ℓ} {c : Dev Cert.Kernel4Ideal.nD}
    {x : FVec Ideal Cert.Reference4Ideal.S2816x1024 .bf16} (h : x = m ((c.tc : Thread Cert.Kernel4Ideal.nD Cert.Kernel4Ideal.τ).loc Cert.Kernel4Ideal.main_arg2)) {n : Fox.DxDown.Nums}
    (H : Fox.DxDown.Hold n (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) :
    Cert.Reference4Ideal.Read.val_main_v14 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) x
      = (Cert.Kernel4Ideal.Gen.dats m 0 c).arrAt 3 Cert.Kernel4Ideal.cfg0.N := by
  subst h
  exact (Fox.DxDown.final H).symm

theorem algebraic_4 : Cert.algebraic_Kernel4Ideal_Reference4Ideal := by
  pair_intro
  · run_from Cert.Kernel4Ideal.Value.run_blocks m g
  · have HH := fun c => hold hpre c
    run_from Cert.Reference4Ideal.Value.run m' g'
    exact (HH c).elim fun _ H => (Cert.Reference4Ideal.Read.val_main_v14_eq _ _ _).trans (same_4 (hagree c).2.2 H)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Fox.preFacts, Fox.DxDown.preFacts, Fox.UpFwd.preFacts,
  fun m ρ _ => Cert.Kernel.Gen.frame m ρ, fun m ρ _ => Cert.Kernel.Gen.frame m ρ, fun m ρ _ => Cert.KernelIdeal.Gen.frame m ρ,
  frame_R, fun m ρ _ => frame_R m ρ trivial,
  fun m ρ _ => Cert.Kernel2.Gen.frame m ρ, fun m ρ _ => Cert.Kernel2Ideal.Gen.frame m ρ, frame_R2,
  fun m ρ _ => Cert.Kernel3.Gen.frame m ρ, fun m ρ _ => Cert.Kernel3Ideal.Gen.frame m ρ, frame_R3,
  fun m ρ _ => Cert.Kernel4.Gen.frame m ρ, fun m ρ _ => Cert.Kernel4.Gen.frame m ρ, fun m ρ _ => Cert.Kernel4Ideal.Gen.frame m ρ,
  frame_R4, fun m ρ _ => frame_R4 m ρ trivial,
  fun m ρ _ => Cert.Kernel5.Gen.frame m ρ, fun m ρ _ => Cert.Kernel5.Gen.frame m ρ, fun m ρ _ => Cert.Kernel5Ideal.Gen.frame m ρ,
  frame_R5, fun m ρ _ => frame_R5 m ρ trivial,
  fun m ρ _ => Cert.Kernel6.Gen.frame m ρ, fun m ρ _ => Cert.Kernel6Ideal.Gen.frame m ρ, frame_R6,
  fun m ρ _ => Cert.Kernel7.Gen.frame m ρ, fun m ρ _ => Cert.Kernel7Ideal.Gen.frame m ρ, frame_R7,
  trivial, algebraic, trivial, algebraic_2, trivial, algebraic_3, trivial, algebraic_4, trivial, algebraic_5, trivial, algebraic_6, trivial, algebraic_7⟩

end Cert.Proof

end
